-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 32, 128]⟩ ⟨4, ![1, 8192, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x32x128 : S_.BroadcastsInDim S1x2048x32x128 (![] : Fin 0 → Fin S1x2048x32x128.rank)
  reducesTo_S1x2048x32x128_S_d0_1_2_3 : S1x2048x32x128.ReducesTo [0, 1, 2, 3] S_

variable [Facts]

def fn {F : FTy → Type} [FloatOps F] (main_arg0 : FVec F S1x2048x1024 .f32) (main_arg1 : FVec F S1024x1024 .f32) (main_arg2 : FVec F S1x2048x32x128 .f32) (main_arg3 : FVec F S1x2048x32x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x32x128 .f32 := Host.absf main_arg2
  let main_cst_2 : FVec F S_ .f32 := constant S_ .f32 0x7F800000#32
  let main_v10 : FVec F S1x2048x32x128 .f32 := broadcastInDim S1x2048x32x128 ![] bcast_S_S1x2048x32x128 main_cst_2
  let main_v11 : IVec S1x2048x32x128 1 := cmpf .olt main_v9 main_v10
  let main_c_3 : IVec S_ 1 := constantI S_ 1 1#1
  let main_v12 : IVec S_ 1 := (fun x v => Host.reduce IntOp.andi x v reducesTo_S1x2048x32x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x8192x32x128 : S_.BroadcastsInDim S1x8192x32x128 (![] : Fin 0 → Fin S1x8192x32x128.rank)
  reducesTo_S1x8192x32x128_S_d0_1_2_3 : S1x8192x32x128.ReducesTo [0, 1, 2, 3] S_

variable [Facts]

def fn {F : FTy → Type} [FloatOps F] (main_arg0 : FVec F S1x2048x1024 .f32) (main_arg1 : FVec F S1024x4096 .f32) (main_arg2 : FVec F S1x8192x32x128 .f32) (main_arg3 : FVec F S1x8192x32x128 .f32) (main_arg4 : FVec F S4096x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x8192x32x128 .f32 := Host.absf main_arg2
  let main_cst_2 : FVec F S_ .f32 := constant S_ .f32 0x7F800000#32
  let main_v10 : FVec F S1x8192x32x128 .f32 := broadcastInDim S1x8192x32x128 ![] bcast_S_S1x8192x32x128 main_cst_2
  let main_v11 : IVec S1x8192x32x128 1 := cmpf .olt main_v9 main_v10
  let main_c_3 : IVec S_ 1 := constantI S_ 1 1#1
  let main_v12 : IVec S_ 1 := (fun x v => Host.reduce IntOp.andi x v reducesTo_S1x8192x32x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x32x128 : Shape := ⟨4, ![1, 2048, 32, 128]⟩
abbrev S2048x1024 : Shape := ⟨2, ![2048, 1024]⟩
abbrev S2048x32x128 : Shape := ⟨3, ![2048, 32, 128]⟩
abbrev S8x2048x128 : Shape := ⟨3, ![8, 2048, 128]⟩
abbrev S16x2048x128 : Shape := ⟨3, ![16, 2048, 128]⟩
abbrev S4x2048x128 : Shape := ⟨3, ![4, 2048, 128]⟩
abbrev S8 : Shape := ⟨1, ![8]⟩
abbrev S16 : Shape := ⟨1, ![16]⟩
abbrev S4 : Shape := ⟨1, ![4]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S2048x1x128 : Shape := ⟨3, ![2048, 1, 128]⟩
abbrev S1024x128 : Shape := ⟨2, ![1024, 128]⟩
abbrev S128x1024 : Shape := ⟨2, ![128, 1024]⟩
abbrev S512x128 : Shape := ⟨2, ![512, 128]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩
abbrev S1x1024x128 : Shape := ⟨3, ![1, 1024, 128]⟩
abbrev S1x1536x128 : Shape := ⟨3, ![1, 1536, 128]⟩
abbrev S1536x128 : Shape := ⟨2, ![1536, 128]⟩
abbrev S512x1536 : Shape := ⟨2, ![512, 1536]⟩
abbrev S512x2048 : Shape := ⟨2, ![512, 2048]⟩
abbrev S2x2x512x512 : Shape := ⟨4, ![2, 2, 512, 512]⟩
abbrev S2x512x512 : Shape := ⟨3, ![2, 512, 512]⟩
abbrev S2x3x512x512 : Shape := ⟨4, ![2, 3, 512, 512]⟩
abbrev S2x3 : Shape := ⟨2, ![2, 3]⟩
abbrev S1x1 : Shape := ⟨2, ![1, 1]⟩
abbrev S1x1x512x512 : Shape := ⟨4, ![1, 1, 512, 512]⟩
abbrev S1x512x512 : Shape := ⟨3, ![1, 512, 512]⟩

abbrev nBuf : Space → Nat
  | .hbm => 14
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x32x128, .f32⟩
  | .hbm, ⟨3, _⟩ => ⟨S1x2048x32x128, .f32⟩
  | .hbm, ⟨4, _⟩ => ⟨S1024x1024, .f32⟩
  | .hbm, ⟨5, _⟩ => ⟨S2048x1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S2048x32x128, .f32⟩
  | .hbm, ⟨10, _⟩ => ⟨S2048x32x128, .f32⟩
  | .hbm, ⟨11, _⟩ => ⟨S2048x1024, .f32⟩
  | .hbm, ⟨12, _⟩ => ⟨S2048x1024, .f32⟩
  | .hbm, ⟨13, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .f32⟩
  | .local _ .vmem, ⟨4, _⟩ => ⟨S8x2048x128, .bf16⟩
  | .local _ .vmem, ⟨5, _⟩ => ⟨S8x2048x128, .bf16⟩
  | .local _ .vmem, ⟨6, _⟩ => ⟨S16x2048x128, .bf16⟩
  | .local _ .vmem, ⟨7, _⟩ => ⟨S16x2048x128, .bf16⟩
  | .local _ .vmem, ⟨8, _⟩ => ⟨S4x2048x128, .f32⟩
  | .local _ .vmem, ⟨9, _⟩ => ⟨S4x2048x128, .bf16⟩
  | .local _ .vmem, ⟨10, _⟩ => ⟨S4x2048x128, .bf16⟩
  | .local _ .vmem, ⟨11, _⟩ => ⟨S2048x1024, .f32⟩
  | .local _ .vmem, ⟨12, _⟩ => ⟨S2048x1024, .f32⟩
  | .local _ .vmem, ⟨13, _⟩ => ⟨S2048x1024, .bf16⟩
  | .local _ .vmem, ⟨14, _⟩ => ⟨S2x2x512x512, .bf16⟩
  | .local _ .vmem, ⟨15, _⟩ => ⟨S2x512x512, .bf16⟩
  | .local _ .vmem, ⟨16, _⟩ => ⟨S2x3x512x512, .bf16⟩
  | .local _ .vmem, ⟨17, _⟩ => ⟨S2x3x512x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 2 → Bool
  | ⟨0, _⟩ => false
  | ⟨1, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 2 98 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc1_stg0_0 : Ref sig .tc := ⟨.vmem, 11, rfl⟩
abbrev cc1_stg1_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 72
abbrev cc1_sem1_0 : DmaSem sig := 73
abbrev barrier0 : Sem sig := 0
abbrev barrier1 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c1_i32_2 : BitVec 32 := 1#32
  let v7 : BitVec 32 := Scalar.addi v5 c1_i32_2
  let c4_i32_3 : BitVec 32 := 4#32
  let v8 : BitVec 32 := Scalar.remsi v7 c4_i32_3
  let c1_i32_5 : BitVec 32 := 1#32
  let v9 : BitVec 32 := Scalar.muli v8 c1_i32_5
  let v10 : BitVec 32 := Scalar.addi c0_i32 v9
  v10.toNat
def k0_dev2 (d0 : Dev nD) : Nat :=
  let c0_i32_9 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c2_i32 : BitVec 32 := 2#32
  let v11 : BitVec 32 := Scalar.addi v5 c2_i32
  let c4_i32_6 : BitVec 32 := 4#32
  let v12 : BitVec 32 := Scalar.remsi v11 c4_i32_6
  let c1_i32_8 : BitVec 32 := 1#32
  let v13 : BitVec 32 := Scalar.muli v12 c1_i32_8
  let v14 : BitVec 32 := Scalar.addi c0_i32_9 v13
  v14.toNat
def k0_dev3 (d0 : Dev nD) : Nat :=
  let c0_i32_13 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c3_i32 : BitVec 32 := 3#32
  let v15 : BitVec 32 := Scalar.addi v5 c3_i32
  let c4_i32_10 : BitVec 32 := 4#32
  let v16 : BitVec 32 := Scalar.remsi v15 c4_i32_10
  let c1_i32_12 : BitVec 32 := 1#32
  let v17 : BitVec 32 := Scalar.muli v16 c1_i32_12
  let v18 : BitVec 32 := Scalar.addi c0_i32_13 v17
  v18.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_15 : BitVec 32 := 0#32
  let v19 : BitVec 1 := Scalar.cmpi .eq v2 c0_i32_15
  let v20 : BitVec 32 := Scalar.extui v19
  let c0_i32_16 : BitVec 32 := 0#32
  let v21 : BitVec 1 := Scalar.cmpi .ne v20 c0_i32_16
  v21

def k0_dev4 : Nat :=
  let c0_i32_1151 : BitVec 32 := 0#32
  let c1_i32_1149 : BitVec 32 := 1#32
  let c1_i32_1150 : BitVec 32 := 1#32
  let v2726 : BitVec 32 := Scalar.muli c1_i32_1149 c1_i32_1150
  let v2727 : BitVec 32 := Scalar.addi c0_i32_1151 v2726
  v2727.toNat
def k0_dev5 : Nat :=
  let c0_i32_1182 : BitVec 32 := 0#32
  let c1_i32_1180 : BitVec 32 := 1#32
  let c1_i32_1181 : BitVec 32 := 1#32
  let v2754 : BitVec 32 := Scalar.muli c1_i32_1180 c1_i32_1181
  let v2755 : BitVec 32 := Scalar.addi c0_i32_1182 v2754
  v2755.toNat
def k0_dev6 : Nat :=
  let c0_i32_1213 : BitVec 32 := 0#32
  let c1_i32_1211 : BitVec 32 := 1#32
  let c1_i32_1212 : BitVec 32 := 1#32
  let v2782 : BitVec 32 := Scalar.muli c1_i32_1211 c1_i32_1212
  let v2783 : BitVec 32 := Scalar.addi c0_i32_1213 v2782
  v2783.toNat
def k0_dev7 : Nat :=
  let c0_i32_1244 : BitVec 32 := 0#32
  let c1_i32_1242 : BitVec 32 := 1#32
  let c1_i32_1243 : BitVec 32 := 1#32
  let v2810 : BitVec 32 := Scalar.muli c1_i32_1242 c1_i32_1243
  let v2811 : BitVec 32 := Scalar.addi c0_i32_1244 v2810
  v2811.toNat
def k0_dev8 : Nat :=
  let c0_i32_1275 : BitVec 32 := 0#32
  let c3_i32_1273 : BitVec 32 := 3#32
  let c1_i32_1274 : BitVec 32 := 1#32
  let v2838 : BitVec 32 := Scalar.muli c3_i32_1273 c1_i32_1274
  let v2839 : BitVec 32 := Scalar.addi c0_i32_1275 v2838
  v2839.toNat
def k0_dev9 : Nat :=
  let c0_i32_1305 : BitVec 32 := 0#32
  let c3_i32_1303 : BitVec 32 := 3#32
  let c1_i32_1304 : BitVec 32 := 1#32
  let v2866 : BitVec 32 := Scalar.muli c3_i32_1303 c1_i32_1304
  let v2867 : BitVec 32 := Scalar.addi c0_i32_1305 v2866
  v2867.toNat
def k0_dev10 : Nat :=
  let c0_i32_1375 : BitVec 32 := 0#32
  let c1_i32_1373 : BitVec 32 := 1#32
  let c1_i32_1374 : BitVec 32 := 1#32
  let v2930 : BitVec 32 := Scalar.muli c1_i32_1373 c1_i32_1374
  let v2931 : BitVec 32 := Scalar.addi c0_i32_1375 v2930
  v2931.toNat
def k0_dev11 : Nat :=
  let c0_i32_1405 : BitVec 32 := 0#32
  let c1_i32_1403 : BitVec 32 := 1#32
  let c1_i32_1404 : BitVec 32 := 1#32
  let v2958 : BitVec 32 := Scalar.muli c1_i32_1403 c1_i32_1404
  let v2959 : BitVec 32 := Scalar.addi c0_i32_1405 v2958
  v2959.toNat
def k0_dev12 : Nat :=
  let c0_i32_1436 : BitVec 32 := 0#32
  let c1_i32_1434 : BitVec 32 := 1#32
  let c1_i32_1435 : BitVec 32 := 1#32
  let v2986 : BitVec 32 := Scalar.muli c1_i32_1434 c1_i32_1435
  let v2987 : BitVec 32 := Scalar.addi c0_i32_1436 v2986
  v2987.toNat
def k0_dev13 : Nat :=
  let c0_i32_1467 : BitVec 32 := 0#32
  let c1_i32_1465 : BitVec 32 := 1#32
  let c1_i32_1466 : BitVec 32 := 1#32
  let v3014 : BitVec 32 := Scalar.muli c1_i32_1465 c1_i32_1466
  let v3015 : BitVec 32 := Scalar.addi c0_i32_1467 v3014
  v3015.toNat
def k0_dev14 : Nat :=
  let c0_i32_1497 : BitVec 32 := 0#32
  let c3_i32_1495 : BitVec 32 := 3#32
  let c1_i32_1496 : BitVec 32 := 1#32
  let v3042 : BitVec 32 := Scalar.muli c3_i32_1495 c1_i32_1496
  let v3043 : BitVec 32 := Scalar.addi c0_i32_1497 v3042
  v3043.toNat
def k0_dev15 : Nat :=
  let c0_i32_1527 : BitVec 32 := 0#32
  let c3_i32_1525 : BitVec 32 := 3#32
  let c1_i32_1526 : BitVec 32 := 1#32
  let v3070 : BitVec 32 := Scalar.muli c3_i32_1525 c1_i32_1526
  let v3071 : BitVec 32 := Scalar.addi c0_i32_1527 v3070
  v3071.toNat
def k0_dev16 : Nat :=
  let c0_i32_1596 : BitVec 32 := 0#32
  let c1_i32_1594 : BitVec 32 := 1#32
  let c1_i32_1595 : BitVec 32 := 1#32
  let v3134 : BitVec 32 := Scalar.muli c1_i32_1594 c1_i32_1595
  let v3135 : BitVec 32 := Scalar.addi c0_i32_1596 v3134
  v3135.toNat
def k0_dev17 : Nat :=
  let c0_i32_1626 : BitVec 32 := 0#32
  let c1_i32_1624 : BitVec 32 := 1#32
  let c1_i32_1625 : BitVec 32 := 1#32
  let v3162 : BitVec 32 := Scalar.muli c1_i32_1624 c1_i32_1625
  let v3163 : BitVec 32 := Scalar.addi c0_i32_1626 v3162
  v3163.toNat
def k0_dev18 : Nat :=
  let c0_i32_1656 : BitVec 32 := 0#32
  let c1_i32_1654 : BitVec 32 := 1#32
  let c1_i32_1655 : BitVec 32 := 1#32
  let v3190 : BitVec 32 := Scalar.muli c1_i32_1654 c1_i32_1655
  let v3191 : BitVec 32 := Scalar.addi c0_i32_1656 v3190
  v3191.toNat
def k0_dev19 : Nat :=
  let c0_i32_1687 : BitVec 32 := 0#32
  let c1_i32_1685 : BitVec 32 := 1#32
  let c1_i32_1686 : BitVec 32 := 1#32
  let v3218 : BitVec 32 := Scalar.muli c1_i32_1685 c1_i32_1686
  let v3219 : BitVec 32 := Scalar.addi c0_i32_1687 v3218
  v3219.toNat
def k0_dev20 : Nat :=
  let c0_i32_1717 : BitVec 32 := 0#32
  let c3_i32_1715 : BitVec 32 := 3#32
  let c1_i32_1716 : BitVec 32 := 1#32
  let v3246 : BitVec 32 := Scalar.muli c3_i32_1715 c1_i32_1716
  let v3247 : BitVec 32 := Scalar.addi c0_i32_1717 v3246
  v3247.toNat
def k0_dev21 : Nat :=
  let c0_i32_1747 : BitVec 32 := 0#32
  let c3_i32_1745 : BitVec 32 := 3#32
  let c1_i32_1746 : BitVec 32 := 1#32
  let v3274 : BitVec 32 := Scalar.muli c3_i32_1745 c1_i32_1746
  let v3275 : BitVec 32 := Scalar.addi c0_i32_1747 v3274
  v3275.toNat
def k0_dev22 : Nat :=
  let c0_i32_1816 : BitVec 32 := 0#32
  let c1_i32_1814 : BitVec 32 := 1#32
  let c1_i32_1815 : BitVec 32 := 1#32
  let v3338 : BitVec 32 := Scalar.muli c1_i32_1814 c1_i32_1815
  let v3339 : BitVec 32 := Scalar.addi c0_i32_1816 v3338
  v3339.toNat
def k0_dev23 : Nat :=
  let c0_i32_1846 : BitVec 32 := 0#32
  let c1_i32_1844 : BitVec 32 := 1#32
  let c1_i32_1845 : BitVec 32 := 1#32
  let v3366 : BitVec 32 := Scalar.muli c1_i32_1844 c1_i32_1845
  let v3367 : BitVec 32 := Scalar.addi c0_i32_1846 v3366
  v3367.toNat
def k0_dev24 : Nat :=
  let c0_i32_1876 : BitVec 32 := 0#32
  let c1_i32_1874 : BitVec 32 := 1#32
  let c1_i32_1875 : BitVec 32 := 1#32
  let v3394 : BitVec 32 := Scalar.muli c1_i32_1874 c1_i32_1875
  let v3395 : BitVec 32 := Scalar.addi c0_i32_1876 v3394
  v3395.toNat
def k0_dev25 : Nat :=
  let c0_i32_1907 : BitVec 32 := 0#32
  let c1_i32_1905 : BitVec 32 := 1#32
  let c1_i32_1906 : BitVec 32 := 1#32
  let v3422 : BitVec 32 := Scalar.muli c1_i32_1905 c1_i32_1906
  let v3423 : BitVec 32 := Scalar.addi c0_i32_1907 v3422
  v3423.toNat
def k0_dev26 : Nat :=
  let c0_i32_1937 : BitVec 32 := 0#32
  let c3_i32_1935 : BitVec 32 := 3#32
  let c1_i32_1936 : BitVec 32 := 1#32
  let v3450 : BitVec 32 := Scalar.muli c3_i32_1935 c1_i32_1936
  let v3451 : BitVec 32 := Scalar.addi c0_i32_1937 v3450
  v3451.toNat
def k0_dev27 : Nat :=
  let c0_i32_1967 : BitVec 32 := 0#32
  let c3_i32_1965 : BitVec 32 := 3#32
  let c1_i32_1966 : BitVec 32 := 1#32
  let v3478 : BitVec 32 := Scalar.muli c3_i32_1965 c1_i32_1966
  let v3479 : BitVec 32 := Scalar.addi c0_i32_1967 v3478
  v3479.toNat
def k0_dev28 : Nat :=
  let c0_i32_2036 : BitVec 32 := 0#32
  let c3_i32_2034 : BitVec 32 := 3#32
  let c1_i32_2035 : BitVec 32 := 1#32
  let v3542 : BitVec 32 := Scalar.muli c3_i32_2034 c1_i32_2035
  let v3543 : BitVec 32 := Scalar.addi c0_i32_2036 v3542
  v3543.toNat
def k0_dev29 : Nat :=
  let c0_i32_2066 : BitVec 32 := 0#32
  let c3_i32_2064 : BitVec 32 := 3#32
  let c1_i32_2065 : BitVec 32 := 1#32
  let v3570 : BitVec 32 := Scalar.muli c3_i32_2064 c1_i32_2065
  let v3571 : BitVec 32 := Scalar.addi c0_i32_2066 v3570
  v3571.toNat
def k0_dev30 : Nat :=
  let c0_i32_2095 : BitVec 32 := 0#32
  let c1_i32_2093 : BitVec 32 := 1#32
  let c1_i32_2094 : BitVec 32 := 1#32
  let v3598 : BitVec 32 := Scalar.muli c1_i32_2093 c1_i32_2094
  let v3599 : BitVec 32 := Scalar.addi c0_i32_2095 v3598
  v3599.toNat
def k0_dev31 : Nat :=
  let c0_i32_2126 : BitVec 32 := 0#32
  let c1_i32_2124 : BitVec 32 := 1#32
  let c1_i32_2125 : BitVec 32 := 1#32
  let v3626 : BitVec 32 := Scalar.muli c1_i32_2124 c1_i32_2125
  let v3627 : BitVec 32 := Scalar.addi c0_i32_2126 v3626
  v3627.toNat
def k0_dev32 : Nat :=
  let c0_i32_2155 : BitVec 32 := 0#32
  let c3_i32_2153 : BitVec 32 := 3#32
  let c1_i32_2154 : BitVec 32 := 1#32
  let v3654 : BitVec 32 := Scalar.muli c3_i32_2153 c1_i32_2154
  let v3655 : BitVec 32 := Scalar.addi c0_i32_2155 v3654
  v3655.toNat
def k0_dev33 : Nat :=
  let c0_i32_2185 : BitVec 32 := 0#32
  let c3_i32_2183 : BitVec 32 := 3#32
  let c1_i32_2184 : BitVec 32 := 1#32
  let v3682 : BitVec 32 := Scalar.muli c3_i32_2183 c1_i32_2184
  let v3683 : BitVec 32 := Scalar.addi c0_i32_2185 v3682
  v3683.toNat
def k0_dev34 : Nat :=
  let c0_i32_2254 : BitVec 32 := 0#32
  let c3_i32_2252 : BitVec 32 := 3#32
  let c1_i32_2253 : BitVec 32 := 1#32
  let v3746 : BitVec 32 := Scalar.muli c3_i32_2252 c1_i32_2253
  let v3747 : BitVec 32 := Scalar.addi c0_i32_2254 v3746
  v3747.toNat
def k0_dev35 : Nat :=
  let c0_i32_2284 : BitVec 32 := 0#32
  let c3_i32_2282 : BitVec 32 := 3#32
  let c1_i32_2283 : BitVec 32 := 1#32
  let v3774 : BitVec 32 := Scalar.muli c3_i32_2282 c1_i32_2283
  let v3775 : BitVec 32 := Scalar.addi c0_i32_2284 v3774
  v3775.toNat
def k0_dev36 : Nat :=
  let c0_i32_2325 : BitVec 32 := 0#32
  let c1_i32_2323 : BitVec 32 := 1#32
  let c1_i32_2324 : BitVec 32 := 1#32
  let v3808 : BitVec 32 := Scalar.muli c1_i32_2323 c1_i32_2324
  let v3809 : BitVec 32 := Scalar.addi c0_i32_2325 v3808
  v3809.toNat
def k0_dev37 : Nat :=
  let c0_i32_2366 : BitVec 32 := 0#32
  let c1_i32_2364 : BitVec 32 := 1#32
  let c1_i32_2365 : BitVec 32 := 1#32
  let v3842 : BitVec 32 := Scalar.muli c1_i32_2364 c1_i32_2365
  let v3843 : BitVec 32 := Scalar.addi c0_i32_2366 v3842
  v3843.toNat
def k0_dev38 : Nat :=
  let c0_i32_2407 : BitVec 32 := 0#32
  let c3_i32_2405 : BitVec 32 := 3#32
  let c1_i32_2406 : BitVec 32 := 1#32
  let v3876 : BitVec 32 := Scalar.muli c3_i32_2405 c1_i32_2406
  let v3877 : BitVec 32 := Scalar.addi c0_i32_2407 v3876
  v3877.toNat
def k0_dev39 : Nat :=
  let c0_i32_2447 : BitVec 32 := 0#32
  let c3_i32_2445 : BitVec 32 := 3#32
  let c1_i32_2446 : BitVec 32 := 1#32
  let v3910 : BitVec 32 := Scalar.muli c3_i32_2445 c1_i32_2446
  let v3911 : BitVec 32 := Scalar.addi c0_i32_2447 v3910
  v3911.toNat
def k0_dev40 : Nat :=
  let c0_i32_2528 : BitVec 32 := 0#32
  let c3_i32_2526 : BitVec 32 := 3#32
  let c1_i32_2527 : BitVec 32 := 1#32
  let v3980 : BitVec 32 := Scalar.muli c3_i32_2526 c1_i32_2527
  let v3981 : BitVec 32 := Scalar.addi c0_i32_2528 v3980
  v3981.toNat
def k0_dev41 : Nat :=
  let c0_i32_2568 : BitVec 32 := 0#32
  let c3_i32_2566 : BitVec 32 := 3#32
  let c1_i32_2567 : BitVec 32 := 1#32
  let v4014 : BitVec 32 := Scalar.muli c3_i32_2566 c1_i32_2567
  let v4015 : BitVec 32 := Scalar.addi c0_i32_2568 v4014
  v4015.toNat
def k0_dev42 : Nat :=
  let c0_i32_2609 : BitVec 32 := 0#32
  let c1_i32_2607 : BitVec 32 := 1#32
  let c1_i32_2608 : BitVec 32 := 1#32
  let v4048 : BitVec 32 := Scalar.muli c1_i32_2607 c1_i32_2608
  let v4049 : BitVec 32 := Scalar.addi c0_i32_2609 v4048
  v4049.toNat
def k0_dev43 : Nat :=
  let c0_i32_2650 : BitVec 32 := 0#32
  let c1_i32_2648 : BitVec 32 := 1#32
  let c1_i32_2649 : BitVec 32 := 1#32
  let v4082 : BitVec 32 := Scalar.muli c1_i32_2648 c1_i32_2649
  let v4083 : BitVec 32 := Scalar.addi c0_i32_2650 v4082
  v4083.toNat
def k0_dev44 : Nat :=
  let c0_i32_2691 : BitVec 32 := 0#32
  let c3_i32_2689 : BitVec 32 := 3#32
  let c1_i32_2690 : BitVec 32 := 1#32
  let v4116 : BitVec 32 := Scalar.muli c3_i32_2689 c1_i32_2690
  let v4117 : BitVec 32 := Scalar.addi c0_i32_2691 v4116
  v4117.toNat
def k0_dev45 : Nat :=
  let c0_i32_2731 : BitVec 32 := 0#32
  let c3_i32_2729 : BitVec 32 := 3#32
  let c1_i32_2730 : BitVec 32 := 1#32
  let v4150 : BitVec 32 := Scalar.muli c3_i32_2729 c1_i32_2730
  let v4151 : BitVec 32 := Scalar.addi c0_i32_2731 v4150
  v4151.toNat
def k0_dev46 : Nat :=
  let c0_i32_2812 : BitVec 32 := 0#32
  let c3_i32_2810 : BitVec 32 := 3#32
  let c1_i32_2811 : BitVec 32 := 1#32
  let v4220 : BitVec 32 := Scalar.muli c3_i32_2810 c1_i32_2811
  let v4221 : BitVec 32 := Scalar.addi c0_i32_2812 v4220
  v4221.toNat
def k0_dev47 : Nat :=
  let c0_i32_2852 : BitVec 32 := 0#32
  let c3_i32_2850 : BitVec 32 := 3#32
  let c1_i32_2851 : BitVec 32 := 1#32
  let v4254 : BitVec 32 := Scalar.muli c3_i32_2850 c1_i32_2851
  let v4255 : BitVec 32 := Scalar.addi c0_i32_2852 v4254
  v4255.toNat
def k0_dev48 : Nat :=
  let c0_i32_2893 : BitVec 32 := 0#32
  let c1_i32_2891 : BitVec 32 := 1#32
  let c1_i32_2892 : BitVec 32 := 1#32
  let v4288 : BitVec 32 := Scalar.muli c1_i32_2891 c1_i32_2892
  let v4289 : BitVec 32 := Scalar.addi c0_i32_2893 v4288
  v4289.toNat
def k0_dev49 : Nat :=
  let c0_i32_2934 : BitVec 32 := 0#32
  let c1_i32_2932 : BitVec 32 := 1#32
  let c1_i32_2933 : BitVec 32 := 1#32
  let v4322 : BitVec 32 := Scalar.muli c1_i32_2932 c1_i32_2933
  let v4323 : BitVec 32 := Scalar.addi c0_i32_2934 v4322
  v4323.toNat
def k0_dev50 : Nat :=
  let c0_i32_2975 : BitVec 32 := 0#32
  let c3_i32_2973 : BitVec 32 := 3#32
  let c1_i32_2974 : BitVec 32 := 1#32
  let v4356 : BitVec 32 := Scalar.muli c3_i32_2973 c1_i32_2974
  let v4357 : BitVec 32 := Scalar.addi c0_i32_2975 v4356
  v4357.toNat
def k0_dev51 : Nat :=
  let c0_i32_3009 : BitVec 32 := 0#32
  let c3_i32_3007 : BitVec 32 := 3#32
  let c1_i32_3008 : BitVec 32 := 1#32
  let v4384 : BitVec 32 := Scalar.muli c3_i32_3007 c1_i32_3008
  let v4385 : BitVec 32 := Scalar.addi c0_i32_3009 v4384
  v4385.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v22 : BitVec 1 := Scalar.cmpi .eq v2 c1_i32_17
  let v23 : BitVec 32 := Scalar.extui v22
  let c0_i32_18 : BitVec 32 := 0#32
  let v24 : BitVec 1 := Scalar.cmpi .ne v23 c0_i32_18
  v24

def k0_dev52 : Nat :=
  let c0_i32_1121 : BitVec 32 := 0#32
  let c2_i32_1119 : BitVec 32 := 2#32
  let c1_i32_1120 : BitVec 32 := 1#32
  let v2698 : BitVec 32 := Scalar.muli c2_i32_1119 c1_i32_1120
  let v2699 : BitVec 32 := Scalar.addi c0_i32_1121 v2698
  v2699.toNat
def k0_dev53 : Nat :=
  let c0_i32_1143 : BitVec 32 := 0#32
  let c2_i32_1141 : BitVec 32 := 2#32
  let c1_i32_1142 : BitVec 32 := 1#32
  let v2716 : BitVec 32 := Scalar.muli c2_i32_1141 c1_i32_1142
  let v2717 : BitVec 32 := Scalar.addi c0_i32_1143 v2716
  v2717.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_139 : BitVec 32 := 1#32
  let v344 : BitVec 1 := Scalar.cmpi .eq v2 c1_i32_139
  let v345 : BitVec 32 := Scalar.extui v344
  let c0_i32_140 : BitVec 32 := 0#32
  let v346 : BitVec 1 := Scalar.cmpi .ne v345 c0_i32_140
  v346

def k0_dev54 : Nat :=
  let c0_i32_1121 : BitVec 32 := 0#32
  let c2_i32_1119 : BitVec 32 := 2#32
  let c1_i32_1120 : BitVec 32 := 1#32
  let v2698 : BitVec 32 := Scalar.muli c2_i32_1119 c1_i32_1120
  let v2699 : BitVec 32 := Scalar.addi c0_i32_1121 v2698
  v2699.toNat
def k0_dev55 : Nat :=
  let c0_i32_1143 : BitVec 32 := 0#32
  let c2_i32_1141 : BitVec 32 := 2#32
  let c1_i32_1142 : BitVec 32 := 1#32
  let v2716 : BitVec 32 := Scalar.muli c2_i32_1141 c1_i32_1142
  let v2717 : BitVec 32 := Scalar.addi c0_i32_1143 v2716
  v2717.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_276 : BitVec 32 := 1#32
  let v678 : BitVec 1 := Scalar.cmpi .eq v2 c1_i32_276
  let v679 : BitVec 32 := Scalar.extui v678
  let c0_i32_277 : BitVec 32 := 0#32
  let v680 : BitVec 1 := Scalar.cmpi .ne v679 c0_i32_277
  v680

def k0_dev56 : Nat :=
  let c0_i32_1121 : BitVec 32 := 0#32
  let c2_i32_1119 : BitVec 32 := 2#32
  let c1_i32_1120 : BitVec 32 := 1#32
  let v2698 : BitVec 32 := Scalar.muli c2_i32_1119 c1_i32_1120
  let v2699 : BitVec 32 := Scalar.addi c0_i32_1121 v2698
  v2699.toNat
def k0_dev57 : Nat :=
  let c0_i32_1143 : BitVec 32 := 0#32
  let c2_i32_1141 : BitVec 32 := 2#32
  let c1_i32_1142 : BitVec 32 := 1#32
  let v2716 : BitVec 32 := Scalar.muli c2_i32_1141 c1_i32_1142
  let v2717 : BitVec 32 := Scalar.addi c0_i32_1143 v2716
  v2717.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_413 : BitVec 32 := 1#32
  let v1012 : BitVec 1 := Scalar.cmpi .eq v2 c1_i32_413
  let v1013 : BitVec 32 := Scalar.extui v1012
  let c0_i32_414 : BitVec 32 := 0#32
  let v1014 : BitVec 1 := Scalar.cmpi .ne v1013 c0_i32_414
  v1014

def k0_dev58 : Nat :=
  let c0_i32_1121 : BitVec 32 := 0#32
  let c2_i32_1119 : BitVec 32 := 2#32
  let c1_i32_1120 : BitVec 32 := 1#32
  let v2698 : BitVec 32 := Scalar.muli c2_i32_1119 c1_i32_1120
  let v2699 : BitVec 32 := Scalar.addi c0_i32_1121 v2698
  v2699.toNat
def k0_dev59 : Nat :=
  let c0_i32_1143 : BitVec 32 := 0#32
  let c2_i32_1141 : BitVec 32 := 2#32
  let c1_i32_1142 : BitVec 32 := 1#32
  let v2716 : BitVec 32 := Scalar.muli c2_i32_1141 c1_i32_1142
  let v2717 : BitVec 32 := Scalar.addi c0_i32_1143 v2716
  v2717.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_550 : BitVec 32 := 3#32
  let v1346 : BitVec 1 := Scalar.cmpi .eq v2 c3_i32_550
  let v1347 : BitVec 32 := Scalar.extui v1346
  let c0_i32_551 : BitVec 32 := 0#32
  let v1348 : BitVec 1 := Scalar.cmpi .ne v1347 c0_i32_551
  v1348

def k0_dev60 : Nat :=
  let c0_i32_1121 : BitVec 32 := 0#32
  let c2_i32_1119 : BitVec 32 := 2#32
  let c1_i32_1120 : BitVec 32 := 1#32
  let v2698 : BitVec 32 := Scalar.muli c2_i32_1119 c1_i32_1120
  let v2699 : BitVec 32 := Scalar.addi c0_i32_1121 v2698
  v2699.toNat
def k0_dev61 : Nat :=
  let c0_i32_1143 : BitVec 32 := 0#32
  let c2_i32_1141 : BitVec 32 := 2#32
  let c1_i32_1142 : BitVec 32 := 1#32
  let v2716 : BitVec 32 := Scalar.muli c2_i32_1141 c1_i32_1142
  let v2717 : BitVec 32 := Scalar.addi c0_i32_1143 v2716
  v2717.toNat
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_688 : BitVec 32 := 3#32
  let v1680 : BitVec 1 := Scalar.cmpi .eq v2 c3_i32_688
  let v1681 : BitVec 32 := Scalar.extui v1680
  let c0_i32_689 : BitVec 32 := 0#32
  let v1682 : BitVec 1 := Scalar.cmpi .ne v1681 c0_i32_689
  v1682

def k0_dev62 : Nat :=
  let c0_i32_1120 : BitVec 32 := 0#32
  let c2_i32_1118 : BitVec 32 := 2#32
  let c1_i32_1119 : BitVec 32 := 1#32
  let v2698 : BitVec 32 := Scalar.muli c2_i32_1118 c1_i32_1119
  let v2699 : BitVec 32 := Scalar.addi c0_i32_1120 v2698
  v2699.toNat
def k0_dev63 : Nat :=
  let c0_i32_1142 : BitVec 32 := 0#32
  let c2_i32_1140 : BitVec 32 := 2#32
  let c1_i32_1141 : BitVec 32 := 1#32
  let v2716 : BitVec 32 := Scalar.muli c2_i32_1140 c1_i32_1141
  let v2717 : BitVec 32 := Scalar.addi c0_i32_1142 v2716
  v2717.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_825 : BitVec 32 := 3#32
  let v2014 : BitVec 1 := Scalar.cmpi .eq v2 c3_i32_825
  let v2015 : BitVec 32 := Scalar.extui v2014
  let c0_i32_826 : BitVec 32 := 0#32
  let v2016 : BitVec 1 := Scalar.cmpi .ne v2015 c0_i32_826
  v2016

def k0_dev64 : Nat :=
  let c0_i32_1120 : BitVec 32 := 0#32
  let c2_i32_1118 : BitVec 32 := 2#32
  let c1_i32_1119 : BitVec 32 := 1#32
  let v2698 : BitVec 32 := Scalar.muli c2_i32_1118 c1_i32_1119
  let v2699 : BitVec 32 := Scalar.addi c0_i32_1120 v2698
  v2699.toNat
def k0_dev65 : Nat :=
  let c0_i32_1142 : BitVec 32 := 0#32
  let c2_i32_1140 : BitVec 32 := 2#32
  let c1_i32_1141 : BitVec 32 := 1#32
  let v2716 : BitVec 32 := Scalar.muli c2_i32_1140 c1_i32_1141
  let v2717 : BitVec 32 := Scalar.addi c0_i32_1142 v2716
  v2717.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_962 : BitVec 32 := 3#32
  let v2348 : BitVec 1 := Scalar.cmpi .eq v2 c3_i32_962
  let v2349 : BitVec 32 := Scalar.extui v2348
  let c0_i32_963 : BitVec 32 := 0#32
  let v2350 : BitVec 1 := Scalar.cmpi .ne v2349 c0_i32_963
  v2350

def k0_dev66 : Nat :=
  let c0_i32_1120 : BitVec 32 := 0#32
  let c2_i32_1118 : BitVec 32 := 2#32
  let c1_i32_1119 : BitVec 32 := 1#32
  let v2698 : BitVec 32 := Scalar.muli c2_i32_1118 c1_i32_1119
  let v2699 : BitVec 32 := Scalar.addi c0_i32_1120 v2698
  v2699.toNat
def k0_dev67 : Nat :=
  let c0_i32_1142 : BitVec 32 := 0#32
  let c2_i32_1140 : BitVec 32 := 2#32
  let c1_i32_1141 : BitVec 32 := 1#32
  let v2716 : BitVec 32 := Scalar.muli c2_i32_1140 c1_i32_1141
  let v2717 : BitVec 32 := Scalar.addi c0_i32_1142 v2716
  v2717.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_dev1 (d0 : Dev nD) : Nat :=
  let c0_i32 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c1_i32_2 : BitVec 32 := 1#32
  let v7 : BitVec 32 := Scalar.addi v5 c1_i32_2
  let c4_i32_3 : BitVec 32 := 4#32
  let v8 : BitVec 32 := Scalar.remsi v7 c4_i32_3
  let c1_i32_5 : BitVec 32 := 1#32
  let v9 : BitVec 32 := Scalar.muli v8 c1_i32_5
  let v10 : BitVec 32 := Scalar.addi c0_i32 v9
  v10.toNat
def k1_dev2 (d0 : Dev nD) : Nat :=
  let c0_i32_9 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c2_i32 : BitVec 32 := 2#32
  let v11 : BitVec 32 := Scalar.addi v5 c2_i32
  let c4_i32_6 : BitVec 32 := 4#32
  let v12 : BitVec 32 := Scalar.remsi v11 c4_i32_6
  let c1_i32_8 : BitVec 32 := 1#32
  let v13 : BitVec 32 := Scalar.muli v12 c1_i32_8
  let v14 : BitVec 32 := Scalar.addi c0_i32_9 v13
  v14.toNat
def k1_dev3 (d0 : Dev nD) : Nat :=
  let c0_i32_13 : BitVec 32 := 0#32
  let v3 : BitVec 32 := Dev.word d0
  let c1_i32_1 : BitVec 32 := 1#32
  let v4 : BitVec 32 := Scalar.divsi v3 c1_i32_1
  let c4_i32_0 : BitVec 32 := 4#32
  let v5 : BitVec 32 := Scalar.remsi v4 c4_i32_0
  let c3_i32 : BitVec 32 := 3#32
  let v15 : BitVec 32 := Scalar.addi v5 c3_i32
  let c4_i32_10 : BitVec 32 := 4#32
  let v16 : BitVec 32 := Scalar.remsi v15 c4_i32_10
  let c1_i32_12 : BitVec 32 := 1#32
  let v17 : BitVec 32 := Scalar.muli v16 c1_i32_12
  let v18 : BitVec 32 := Scalar.addi c0_i32_13 v17
  v18.toNat
def k1_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v29 : BitVec 32 := Scalar.muli v2 c512_i32
  let c0_i32_32 : BitVec 32 := 0#32
  ![v29.toNat, 0]
def k1_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_28 : BitVec 32 := 1#32
  let v30 : BitVec 32 := Scalar.muli v26 c1_i32_28
  let v31 : BitVec 32 := Scalar.addi c0_i32_29 v30
  v31.toNat
def k1_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_33 : BitVec 32 := 512#32
  let v39 : BitVec 32 := Scalar.muli v2 c512_i32_33
  let c512_i32_44 : BitVec 32 := 512#32
  ![v39.toNat, 512]
def k1_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v27 : BitVec 32 := Scalar.addi v2 c3_i32_20
  let c4_i32_21 : BitVec 32 := 4#32
  let v28 : BitVec 32 := Scalar.remsi v27 c4_i32_21
  let c1_i32_40 : BitVec 32 := 1#32
  let v40 : BitVec 32 := Scalar.muli v28 c1_i32_40
  let v41 : BitVec 32 := Scalar.addi c0_i32_41 v40
  v41.toNat
def k1_off3 (d0 : Dev nD) (c3_i32_66 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : BitVec 32 := Scalar.addi v2 c3_i32_66
  let c4_i32_67 : BitVec 32 := 4#32
  let v62 : BitVec 32 := Scalar.remsi v61 c4_i32_67
  let c512_i32_72 : BitVec 32 := 512#32
  let v66 : BitVec 32 := Scalar.muli v62 c512_i32_72
  let v67 : Index := Scalar.indexCast v66
  let c0_73 : Index := 0#32
  ![v67.toNat, 0]
def k1_off4 (d0 : Dev nD) (c1_i32_99 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.addi v2 c1_i32_99
  let c4_i32_100 : BitVec 32 := 4#32
  let v88 : BitVec 32 := Scalar.remsi v87 c4_i32_100
  let c512_i32_104 : BitVec 32 := 512#32
  let v92 : BitVec 32 := Scalar.muli v88 c512_i32_104
  let v93 : Index := Scalar.indexCast v92
  let c512 : Index := 512#32
  ![v93.toNat, 512]
def k1_dev6 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_117 : BitVec 32 := 1#32
  let v101 : BitVec 32 := Scalar.muli v26 c1_i32_117
  let v102 : BitVec 32 := Scalar.addi c0_i32_118 v101
  v102.toNat
def k1_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v27 : BitVec 32 := Scalar.addi v2 c3_i32_20
  let c4_i32_21 : BitVec 32 := 4#32
  let v28 : BitVec 32 := Scalar.remsi v27 c4_i32_21
  let c1_i32_131 : BitVec 32 := 1#32
  let v111 : BitVec 32 := Scalar.muli v28 c1_i32_131
  let v112 : BitVec 32 := Scalar.addi c0_i32_132 v111
  v112.toNat
def k1_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_223 : BitVec 32 := 1#32
  let v177 : BitVec 32 := Scalar.muli v26 c1_i32_223
  let v178 : BitVec 32 := Scalar.addi c0_i32_224 v177
  v178.toNat
def k1_dev9 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v27 : BitVec 32 := Scalar.addi v2 c3_i32_20
  let c4_i32_21 : BitVec 32 := 4#32
  let v28 : BitVec 32 := Scalar.remsi v27 c4_i32_21
  let c1_i32_237 : BitVec 32 := 1#32
  let v187 : BitVec 32 := Scalar.muli v28 c1_i32_237
  let v188 : BitVec 32 := Scalar.addi c0_i32_238 v187
  v188.toNat
def k1_dev10 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_329 : BitVec 32 := 1#32
  let v259 : BitVec 32 := Scalar.muli v26 c1_i32_329
  let v260 : BitVec 32 := Scalar.addi c0_i32_330 v259
  v260.toNat
def k1_dev11 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v27 : BitVec 32 := Scalar.addi v2 c3_i32_20
  let c4_i32_21 : BitVec 32 := 4#32
  let v28 : BitVec 32 := Scalar.remsi v27 c4_i32_21
  let c1_i32_342 : BitVec 32 := 1#32
  let v269 : BitVec 32 := Scalar.muli v28 c1_i32_342
  let v270 : BitVec 32 := Scalar.addi c0_i32_343 v269
  v270.toNat
def k1_dev12 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_422 : BitVec 32 := 1#32
  let v323 : BitVec 32 := Scalar.muli v26 c1_i32_422
  let v324 : BitVec 32 := Scalar.addi c0_i32_423 v323
  v324.toNat
def k1_dev13 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v27 : BitVec 32 := Scalar.addi v2 c3_i32_20
  let c4_i32_21 : BitVec 32 := 4#32
  let v28 : BitVec 32 := Scalar.remsi v27 c4_i32_21
  let c1_i32_436 : BitVec 32 := 1#32
  let v333 : BitVec 32 := Scalar.muli v28 c1_i32_436
  let v334 : BitVec 32 := Scalar.addi c0_i32_437 v333
  v334.toNat
def k1_dev14 (d0 : Dev nD) : Nat :=
  let c0_i32_521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v25 : BitVec 32 := Scalar.addi v2 c1_i32_18
  let c4_i32_19 : BitVec 32 := 4#32
  let v26 : BitVec 32 := Scalar.remsi v25 c4_i32_19
  let c1_i32_520 : BitVec 32 := 1#32
  let v387 : BitVec 32 := Scalar.muli v26 c1_i32_520
  let v388 : BitVec 32 := Scalar.addi c0_i32_521 v387
  v388.toNat
def k1_dev15 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v27 : BitVec 32 := Scalar.addi v2 c3_i32_20
  let c4_i32_21 : BitVec 32 := 4#32
  let v28 : BitVec 32 := Scalar.remsi v27 c4_i32_21
  let c1_i32_534 : BitVec 32 := 1#32
  let v397 : BitVec 32 := Scalar.muli v28 c1_i32_534
  let v398 : BitVec 32 := Scalar.addi c0_i32_535 v397
  v398.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x4096 : Shape := ⟨2, ![1024, 4096]⟩
abbrev S1x8192x32x128 : Shape := ⟨4, ![1, 8192, 32, 128]⟩
abbrev S4096x1024 : Shape := ⟨2, ![4096, 1024]⟩
abbrev S1x2048x4096 : Shape := ⟨3, ![1, 2048, 4096]⟩
abbrev S1x2048x32x128 : Shape := ⟨4, ![1, 2048, 32, 128]⟩
abbrev S2048 : Shape := ⟨1, ![2048]⟩
abbrev S_ : Shape := ⟨0, ![]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩
abbrev S1x32x2048x8192 : Shape := ⟨4, ![1, 32, 2048, 8192]⟩
abbrev S1x1x2048x8192 : Shape := ⟨4, ![1, 1, 2048, 8192]⟩
abbrev S1x32x2048 : Shape := ⟨3, ![1, 32, 2048]⟩
abbrev S1x32x2048x1 : Shape := ⟨4, ![1, 32, 2048, 1]⟩
abbrev S1x1x2048x1 : Shape := ⟨4, ![1, 1, 2048, 1]⟩
abbrev S1x32x128x2048 : Shape := ⟨4, ![1, 32, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x4096, .f32⟩
  | .hbm, ⟨2, _⟩ => ⟨S1x8192x32x128, .f32⟩
  | .hbm, ⟨3, _⟩ => ⟨S1x8192x32x128, .f32⟩
  | .hbm, ⟨4, _⟩ => ⟨S4096x1024, .f32⟩
  | .hbm, ⟨5, _⟩ => ⟨S1x2048x4096, .f32⟩
  | .hbm, ⟨6, _⟩ => ⟨S1x2048x32x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S2048x8192, .i32⟩
  | .hbm, ⟨48, _⟩ => ⟨S2048x8192, .i32⟩
  | .hbm, ⟨49, _⟩ => ⟨S2048x8192, .i1⟩
  | .hbm, ⟨50, _⟩ => ⟨S1x32x2048x8192, .f32⟩
  | .hbm, ⟨51, _⟩ => ⟨S_, .f32⟩
  | .hbm, ⟨52, _⟩ => ⟨S1x32x2048x8192, .f32⟩
  | .hbm, ⟨53, _⟩ => ⟨S1x32x2048x8192, .f32⟩
  | .hbm, ⟨54, _⟩ => ⟨S1x1x2048x8192, .i1⟩
  | .hbm, ⟨55, _⟩ => ⟨S_, .f32⟩
  | .hbm, ⟨56, _⟩ => ⟨S_, .f32⟩
  | .hbm, ⟨57, _⟩ => ⟨S1x32x2048x8192, .i1⟩
  | .hbm, ⟨58, _⟩ => ⟨S1x32x2048x8192, .f32⟩
  | .hbm, ⟨59, _⟩ => ⟨S1x32x2048x8192, .f32⟩
  | .hbm, ⟨60, _⟩ => ⟨S_, .f32⟩
  | .hbm, ⟨61, _⟩ => ⟨S1x32x2048, .f32⟩
  | .hbm, ⟨62, _⟩ => ⟨S1x32x2048x1, .f32⟩
  | .hbm, ⟨63, _⟩ => ⟨S1x32x2048x8192, .f32⟩
  | .hbm, ⟨64, _⟩ => ⟨S1x32x2048x8192, .f32⟩
  | .hbm, ⟨65, _⟩ => ⟨S1x32x2048x8192, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x32x2048, .f32⟩
  | .hbm, ⟨71, _⟩ => ⟨S1x32x2048x1, .f32⟩
  | .hbm, ⟨72, _⟩ => ⟨S_, .f32⟩
  | .hbm, ⟨73, _⟩ => ⟨S_, .f32⟩
  | .hbm, ⟨74, _⟩ => ⟨S1x32x2048x1, .i1⟩
  | .hbm, ⟨75, _⟩ => ⟨S1x32x2048x1, .f32⟩
  | .hbm, ⟨76, _⟩ => ⟨S1x32x2048x1, .f32⟩
  | .hbm, ⟨77, _⟩ => ⟨S1x32x2048x8192, .f32⟩
  | .hbm, ⟨78, _⟩ => ⟨S1x32x2048x8192, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x32x2048x8192, .i1⟩
  | .hbm, ⟨83, _⟩ => ⟨S1x32x2048x8192, .f32⟩
  | .hbm, ⟨84, _⟩ => ⟨S1x32x2048x8192, .f32⟩
  | .hbm, ⟨85, _⟩ => ⟨S1x32x128x2048, .f32⟩
  | .hbm, ⟨86, _⟩ => ⟨S1x2048x32x128, .f32⟩
  | .hbm, ⟨87, _⟩ => ⟨S1x2048x4096, .f32⟩
  | .hbm, ⟨88, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.AtProg.lean ====
/- The attention kernel's body, regrouped: the printed sequence of operations, read device by device, is the same
   sequence written as loops over the 64 staging tasks of device 0 and over the 8 heads. -/
module

public import proofs.«01_k».proof.Proof.Gen.KernelIdeal.Points
public import proofs.«01_k».proof.Proof.Gen.KernelIdeal.Launch
public import Idealize.ShloMosaic.Lib.Pipeline.Regions

@[expose] public section

noncomputable section

namespace Cert.KernelIdeal.AT

open Idealize.ShloMosaic Idealize.ShloMosaic.TcCoe
open Idealize.SL Idealize.SL.Sem
open Cert.KernelIdeal.Facts Cert.KernelIdeal.Gen

variable {F : FTy → Type} [FloatOps F] [Named F]

/-! ## The buffers -/

/-- The activations' block, the query weights, the output weights and the result block (the pipeline's staging buffers), whole. -/
abbrev xM : Memref sig .tc .vmem S2048x1024 .bf16 := win0_0.stage 0
abbrev wqM : Memref sig .tc .vmem S1024x1024 .bf16 := win0_1.stage 0
abbrev woM : Memref sig .tc .vmem S1024x1024 .bf16 := win0_2.stage 0
abbrev outM : Memref sig .tc .vmem S2048x1024 .f32 := win0_3.stage 0
/-- The keys (0) and the values (1), left in HBM. -/
abbrev srcM : Fin 2 → Memref sig .tc .hbm S2048x32x128 .f32 := fun | 0 => Memref.whole main_v5 | 1 => Memref.whole main_v6
/-- The heads' keys (0) and values (1) the attention reads. -/
abbrev kvM : Fin 2 → Memref sig .tc .vmem S8x2048x128 .bf16 := fun | 0 => Memref.whole cc0_scratch0 | 1 => Memref.whole cc0_scratch1
/-- Device 0's send slots. -/
abbrev poolM : Fin 2 → Memref sig .tc .vmem S16x2048x128 .bf16 := fun | 0 => Memref.whole cc0_scratch2 | 1 => Memref.whole cc0_scratch3
/-- Device 0's staging slots. -/
abbrev stagM : Memref sig .tc .vmem S4x2048x128 .f32 := Memref.whole cc0_scratch4
/-- Landing slots of what devices 1 and 3 pass on to device 2. -/
abbrev fwdM : Fin 2 → Memref sig .tc .vmem S4x2048x128 .bf16 := fun | 0 => Memref.whole cc0_scratch5 | 1 => Memref.whole cc0_scratch6

theorem kvWhole (v : Fin 2) : (kvM v).IsWhole := by fin_cases v <;> exact Memref.isWhole_whole _
theorem poolWhole (v : Fin 2) : (poolM v).IsWhole := by fin_cases v <;> exact Memref.isWhole_whole _
theorem fwdWhole (v : Fin 2) : (fwdM v).IsWhole := by fin_cases v <;> exact Memref.isWhole_whole _

abbrev rcvA : Fin 2 → DmaSems sig S8 := fun | 0 => cc0_scratch7 | 1 => cc0_scratch8
abbrev sndA : Fin 2 → DmaSems sig S16 := fun | 0 => cc0_scratch9 | 1 => cc0_scratch10
abbrev frcA : Fin 2 → DmaSems sig S4 := fun | 0 => cc0_scratch12 | 1 => cc0_scratch13
abbrev fsnA : Fin 2 → DmaSems sig S4 := fun | 0 => cc0_scratch14 | 1 => cc0_scratch15

theorem inb_src (g : Fin 32) : ∀ a, (![0, g.val, 0] : Fin 3 → Nat) a + S2048x1x128.size a ≤ S2048x32x128.size a := by revert g; decide
theorem inb_kv (h : Fin 8) : ∀ a, (![h.val, 0, 0] : Fin 3 → Nat) a + S1x2048x128.size a ≤ S8x2048x128.size a := by revert h; decide
theorem inb_pool (s : Fin 16) : ∀ a, (![s.val, 0, 0] : Fin 3 → Nat) a + S1x2048x128.size a ≤ S16x2048x128.size a := by revert s; decide
theorem inb_four (s : Fin 4) : ∀ a, (![s.val, 0, 0] : Fin 3 → Nat) a + S1x2048x128.size a ≤ S4x2048x128.size a := by revert s; decide
theorem inb_s8 (h : Fin 8) : ∀ a, (![h.val] : Fin 1 → Nat) a + S1.size a ≤ S8.size a := by revert h; decide
theorem inb_s16 (h : Fin 16) : ∀ a, (![h.val] : Fin 1 → Nat) a + S1.size a ≤ S16.size a := by revert h; decide
theorem inb_s4 (h : Fin 4) : ∀ a, (![h.val] : Fin 1 → Nat) a + S1.size a ≤ S4.size a := by revert h; decide

abbrev srcR (g : Fin 32) : Rect S2048x32x128 := Rect.unit (s := S2048x32x128) ![0, g.val, 0] S2048x1x128.size (inb_src g)
abbrev kvR (h : Fin 8) : Rect S8x2048x128 := Rect.unit (s := S8x2048x128) ![h.val, 0, 0] S1x2048x128.size (inb_kv h)
abbrev poolR (s : Fin 16) : Rect S16x2048x128 := Rect.unit (s := S16x2048x128) ![s.val, 0, 0] S1x2048x128.size (inb_pool s)
abbrev fourR (s : Fin 4) : Rect S4x2048x128 := Rect.unit (s := S4x2048x128) ![s.val, 0, 0] S1x2048x128.size (inb_four s)

/-- Head `g` of the keys or values, and slot `h` / `s` of each buffer: each as a 2048 × 128 array. -/
abbrev src (v : Fin 2) (g : Fin 32) : Memref sig .tc .hbm S2048x128 .f32 := ((srcM v).slice (srcR g) (fun _ => rfl)).squeeze S2048x128 squeezes_S2048x1x128_S2048x128
abbrev kv (v : Fin 2) (h : Fin 8) : Memref sig .tc .vmem S2048x128 .bf16 := ((kvM v).slice (kvR h) (fun _ => rfl)).squeeze S2048x128 squeezes_S1x2048x128_S2048x128
abbrev pool (v : Fin 2) (s : Fin 16) : Memref sig .tc .vmem S2048x128 .bf16 := ((poolM v).slice (poolR s) (fun _ => rfl)).squeeze S2048x128 squeezes_S1x2048x128_S2048x128
abbrev stag (s : Fin 4) : Memref sig .tc .vmem S2048x128 .f32 := (stagM.slice (fourR s) (fun _ => rfl)).squeeze S2048x128 squeezes_S1x2048x128_S2048x128
abbrev fwd (v : Fin 2) (s : Fin 4) : Memref sig .tc .vmem S2048x128 .bf16 := ((fwdM v).slice (fourR s) (fun _ => rfl)).squeeze S2048x128 squeezes_S1x2048x128_S2048x128

abbrev rcvS (v : Fin 2) (h : Fin 8) : DmaSem sig := (((rcvA v).slice (Rect.unit (s := S8) ![h.val] S1.size (inb_s8 h))).squeeze S_ squeezes_S1_S_).sem
abbrev sndS (v : Fin 2) (s : Fin 16) : DmaSem sig := (((sndA v).slice (Rect.unit (s := S16) ![s.val] S1.size (inb_s16 s))).squeeze S_ squeezes_S1_S_).sem
abbrev stgS (s : Fin 4) : DmaSem sig := ((cc0_scratch11.slice (Rect.unit (s := S4) ![s.val] S1.size (inb_s4 s))).squeeze S_ squeezes_S1_S_).sem
abbrev frcS (v : Fin 2) (s : Fin 4) : DmaSem sig := (((frcA v).slice (Rect.unit (s := S4) ![s.val] S1.size (inb_s4 s))).squeeze S_ squeezes_S1_S_).sem
abbrev fsnS (v : Fin 2) (s : Fin 4) : DmaSem sig := (((fsnA v).slice (Rect.unit (s := S4) ![s.val] S1.size (inb_s4 s))).squeeze S_ squeezes_S1_S_).sem

theorem words_kv (h : Fin 8) : (kvR h).WholeWords (EltTy.packing .bf16) := by revert h; decide
theorem words_pool (h : Fin 16) : (poolR h).WholeWords (EltTy.packing .bf16) := by revert h; decide
theorem words_four (h : Fin 4) : (fourR h).WholeWords (EltTy.packing .bf16) := by revert h; decide
theorem packed_kv (h : Fin 8) : (kvR h).PackedRows (EltTy.packing .bf16) := by revert h; decide
theorem packed_pool (h : Fin 16) : (poolR h).PackedRows (EltTy.packing .bf16) := by revert h; decide
theorem exact_kv (v : Fin 2) (h : Fin 8) : (kv v h).view.WordExact := ((kvWhole v).wordExact_slice rfl _ (words_kv h)).reshape _ _
theorem exact_pool (v : Fin 2) (s : Fin 16) : (pool v s).view.WordExact := ((poolWhole v).wordExact_slice rfl _ (words_pool s)).reshape _ _
theorem exact_fwd (v : Fin 2) (s : Fin 4) : (fwd v s).view.WordExact := ((fwdWhole v).wordExact_slice rfl _ (words_four s)).reshape _ _
theorem exact_stag (s : Fin 4) : (stag s).view.WordExact := (View.wordExact_bits rfl).reshape _ _
theorem exact_src (v : Fin 2) (g : Fin 32) : (src v g).view.WordExact := (View.wordExact_bits rfl).reshape _ _

/-! ## The steps -/

abbrev Pr (F : FTy → Type) (α : Type) := Prog (TpuEff nD τ sig (Elt F) Λ₀ .tc) α

/-- One unit to device `t`'s barrier. -/
def barSignal (t : Dev nD) : Pr F PUnit := semSignalWord t (SemArray.scalar (d := ![]) (sig.barrier 0 rfl)).sem 1#32
/-- Wait for three units of the own barrier. -/
def barWait : Pr F PUnit := semWaitWord (SemArray.scalar (d := ![]) (sig.barrier 0 rfl)).sem 3#32

/-- Wait until transfer semaphore `s` has the bytes of a 2048 × 128 array at bf16. -/
def wait (s : DmaSem sig) (a b : Memref sig .tc .vmem S2048x128 .bf16) (ha : a.view.WordExact) (hb : b.view.WordExact) : Pr F PUnit :=
  Prog.lift (.waitDma2 s a b ha hb)
/-- Start the transfer of `a` to device `t`'s `b`, completing on the semaphores `ss` here and `rs` there. -/
def send (t : Dev nD) (a b : Memref sig .tc .vmem S2048x128 .bf16) (ss rs : DmaSem sig) (ha : a.view.WordExact) (hb : b.view.WordExact) : Pr F PUnit :=
  Prog.lift (.enqueueDma a (.remote (Dev.tc t) b (.dma ss)) (.dma rs) ha hb ⟨⟨rfl, Or.inl rfl⟩, trivial⟩)
/-- Start the copy of head `g` of the keys or values into staging slot `s`; wait for it. -/
def fetch (v : Fin 2) (g : Fin 32) (s : Fin 4) : Pr F PUnit :=
  Prog.lift (.enqueueDma (src v g) (.here (stag s)) (.dma (stgS s)) (exact_src v g) (exact_stag s) ⟨Or.inl rfl, trivial⟩)
def fetched (v : Fin 2) (g : Fin 32) (s : Fin 4) : Pr F PUnit := Prog.lift (.waitDma2 (stgS s) (src v g) (stag s) (exact_src v g) (exact_stag s))
/-- Load staging slot `s`, rounded to bf16. -/
def loadStag (s : Fin 4) : Pr F (FVec F S2048x128 .bf16) := do
  let v : Vec F S1x2048x128 .f32 ← Prog.lift (.load stagM (fourR s).toLoadRect (View.loadsAt_vmem h_S1x2048x128))
  pure (truncf .bf16 (shapeCast S2048x128 v shapeCasts_S1x2048x128_S2048x128) bitsLt_bf16_f32)
/-- Store into slot `h` of the keys or values here, or into send slot `s`. -/
def putKv (v : Fin 2) (h : Fin 8) (x : FVec F S2048x128 .bf16) : Pr F PUnit := do
  let _ : Vec F S1x2048x128 .bf16 ← Prog.lift (.load (kvM v) (kvR h).toLoadRect (View.loadsAt_vmem h_S1x2048x128))
  Prog.lift (.store (kvM v) (kvR h) (shapeCast S1x2048x128 x shapeCasts_S2048x128_S1x2048x128) Finset.univ
    (View.stores_vmem h_S1x2048x128 ((kvWhole v).storeExact_slice rfl _ (packed_kv h)) (fun _ => rfl)) (.inl rfl))
def putPool (v : Fin 2) (s : Fin 16) (x : FVec F S2048x128 .bf16) : Pr F PUnit := do
  let _ : Vec F S1x2048x128 .bf16 ← Prog.lift (.load (poolM v) (poolR s).toLoadRect (View.loadsAt_vmem h_S1x2048x128))
  Prog.lift (.store (poolM v) (poolR s) (shapeCast S1x2048x128 x shapeCasts_S2048x128_S1x2048x128) Finset.univ
    (View.stores_vmem h_S1x2048x128 ((poolWhole v).storeExact_slice rfl _ (packed_pool s)) (fun _ => rfl)) (.inl rfl))
/-- Wait until the transfer from send slot `s` has left it. -/
def sent (v : Fin 2) (s : Fin 16) : Pr F PUnit := wait (sndS v s) (kv v 0) (pool v s) (exact_kv v 0) (exact_pool v s)

/-- `n` runs of `f`, from `i` on. -/
def loop (f : ℕ → Pr F PUnit) (n : ℕ) : ℕ → Pr F PUnit :=
  Nat.rec (motive := fun _ => ℕ → Pr F PUnit) (fun _ => pure ⟨⟩) (fun _ ih i => f i >>= fun _ => ih (i + 1)) n

/-! Task `i` of device 0: array `tv i`, slot `th i` of device `kk`'s share, where `kk = tk i` is 0 for what device 2
    gets through devices 1 and 3, 1 and 2 for devices 1 and 3, and 3 for device 0. -/

abbrev tv (i : ℕ) : Fin 2 := ⟨i % 2, Nat.mod_lt _ (by decide)⟩
abbrev tk (i : ℕ) : Fin 4 := ⟨i % 8 / 2, by omega⟩
abbrev th (i : ℕ) : Fin 8 := ⟨i / 8 % 8, Nat.mod_lt _ (by decide)⟩
abbrev ts (i : ℕ) : Fin 4 := ⟨i % 4, Nat.mod_lt _ (by decide)⟩
/-- The first head of the share. -/
def base : Fin 4 → ℕ := fun | 0 => 16 | 1 => 8 | 2 => 24 | 3 => 0
abbrev tg (i : ℕ) : Fin 32 := ⟨(base (tk i) + th i) % 32, Nat.mod_lt _ (by decide)⟩
/-- How many sends from this array came before. -/
abbrev tn (i : ℕ) : ℕ := 3 * (i / 8) + i % 8 / 2
abbrev sl (n : ℕ) : Fin 16 := ⟨n % 16, Nat.mod_lt _ (by decide)⟩
/-- Landing slot of what is passed on, and the device that passes it on. -/
abbrev tf (i : ℕ) : Fin 4 := ⟨i / 8 % 4, Nat.mod_lt _ (by decide)⟩
abbrev tt (i : ℕ) : Dev nD := if i / 8 % 8 < 4 then 1 else 3

abbrev fetchT (i : ℕ) : Pr F PUnit := fetch (tv i) (tg i) (ts i)

/-- Start the transfer of task `i`. -/
def sendT (i : ℕ) : Pr F PUnit :=
  if tk i = 0 then send (tt i) (pool (tv i) (sl (tn i))) (fwd (tv i) (tf i)) (sndS (tv i) (sl (tn i))) (frcS (tv i) (tf i)) (exact_pool _ _) (exact_fwd _ _)
  else send (if tk i = 1 then 1 else 3) (pool (tv i) (sl (tn i))) (kv (tv i) (th i)) (sndS (tv i) (sl (tn i))) (rcvS (tv i) (th i)) (exact_pool _ _) (exact_kv _ _)

/-- Task `i` of device 0. -/
def task (i : ℕ) : Pr F PUnit := do
  (if i + 3 < 64 then fetchT (i + 3) else pure ⟨⟩ : Pr F PUnit)
  fetched (tv i) (tg i) (ts i)
  let x ← loadStag (ts i)
  if tk i = 3 then putKv (tv i) (th i) x
  else do
    (if 16 ≤ tn i then sent (tv i) (sl (tn i)) else pure ⟨⟩ : Pr F PUnit)
    putPool (tv i) (sl (tn i)) x
    sendT i

/-- Devices 1 and 3 pass a slot of either array on to device 2. -/
def pass (v : Fin 2) (s : Fin 4) (h : Fin 8) : Pr F PUnit := do
  wait (frcS v s) (fwd v s) (fwd v s) (exact_fwd v s) (exact_fwd v s)
  send 2 (fwd v s) (kv v h) (fsnS v s) (rcvS v h) (exact_fwd v s) (exact_kv v h)

def arrive (v : Fin 2) (h : Fin 8) : Pr F PUnit := wait (rcvS v h) (kv v h) (kv v h) (exact_kv v h) (exact_kv v h)

/-! ### One head's attention, in blocks of 512 queries; block `q` reads the first `512 (q + 1)` keys -/

abbrev wd (q : Fin 4) : ℕ := 512 * (q.val + 1)
abbrev sqk (q : Fin 4) : Shape := ⟨2, ![512, wd q]⟩
abbrev sk (q : Fin 4) : Shape := ⟨2, ![wd q, 128]⟩
abbrev s1k (q : Fin 4) : Shape := ⟨3, ![1, wd q, 128]⟩

def dqk (q : Fin 4) : DotDims S512x128 (sk q) (sqk q) :=
  { lhsContracting := [1], rhsContracting := [1], lhsNonContracting := [0], rhsNonContracting := [0], lhsBatch := [], rhsBatch := [], wf := by revert q; decide }
def dpv (q : Fin 4) : DotDims (sqk q) (sk q) S512x128 :=
  { lhsContracting := [1], rhsContracting := [0], lhsNonContracting := [0], rhsNonContracting := [1], lhsBatch := [], rhsBatch := [], wf := by revert q; decide }

theorem slices_q (q : Fin 4) : S2048x128.Slices ![512 * q.val, 0] S512x128 := by revert q; decide
theorem casts_k (q : Fin 4) : (s1k q).ShapeCasts (sk q) := by revert q; decide
theorem iota_0 (q : Fin 4) : (sqk q).Iotas .tc 32 [0] := by revert q; decide
theorem iota_1 (q : Fin 4) : (sqk q).Iotas .tc 32 [1] := by revert q; decide
theorem reduces_q (q : Fin 4) : (sqk q).Reduces [1] S512 := by revert q; decide
theorem broadcasts_q (q : Fin 4) : S512x1.Broadcasts (sqk q) := by revert q; decide
theorem inb_k (h : Fin 8) (q : Fin 4) : ∀ a, (![h.val, 0, 0] : Fin 3 → Nat) a + (s1k q).size a ≤ S8x2048x128.size a := by revert h q; decide
theorem inb_out (q : Fin 4) : ∀ a, (![512 * q.val, 0] : Fin 2 → Nat) a + S512x1024.size a ≤ S2048x1024.size a := by revert q; decide
theorem inb_wq (h : Fin 8) : ∀ a, (![0, 128 * h.val] : Fin 2 → Nat) a + S1024x128.size a ≤ S1024x1024.size a := by revert h; decide
theorem inb_wo (h : Fin 8) : ∀ a, (![128 * h.val, 0] : Fin 2 → Nat) a + S128x1024.size a ≤ S1024x1024.size a := by revert h; decide
theorem pos_k (q : Fin 4) : 0 < (s1k q).numel := by revert q; decide

abbrev kR (h : Fin 8) (q : Fin 4) : Rect S8x2048x128 := Rect.unit (s := S8x2048x128) ![h.val, 0, 0] (s1k q).size (inb_k h q)
abbrev outR (q : Fin 4) : Rect S2048x1024 := Rect.unit (s := S2048x1024) ![512 * q.val, 0] S512x1024.size (inb_out q)
abbrev wqR (h : Fin 8) : Rect S1024x1024 := Rect.unit (s := S1024x1024) ![0, 128 * h.val] S1024x128.size (inb_wq h)
abbrev woR (h : Fin 8) : Rect S1024x1024 := Rect.unit (s := S1024x1024) ![128 * h.val, 0] S128x1024.size (inb_wo h)

/-- The value written where a query may not see a key. -/
def maskC : F .f32 := Named.named κ "mask" 0xCE6E6B28#32

/-- Division by 64, rounding down. -/
def div64 {s : Shape} (x : IVec s 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt 64#32 0#32)) (Scalar.extui (Scalar.cmpi .slt 64#32 0#32)))))
      (cmpi .ne (remsi x (broadcast s 64#32)) (broadcast s 0#32)))
    (subi (divsi x (broadcast s 64#32)) (broadcast s 1#32)) (divsi x (broadcast s 64#32))

/-- The scaled scores of block `q`, with the mask. -/
def scores (q : Fin 4) (qb : FVec F S2048x128 .bf16) (kc : FVec F (s1k q) .bf16) : FVec F (sqk q) .f32 :=
  select (cmpi .sle (div64 (iota .tc (sqk q) 32 [1] (iota_1 q))) (addi (div64 (iota .tc (sqk q) 32 [0] (iota_0 q))) (broadcast (sqk q) (BitVec.ofNat 32 (8 * q.val)))))
    (mulf (matmul (dqk q) none (extractStridedSlice S512x128 ![512 * q.val, 0] qb (slices_q q)) (shapeCast (sk q) kc (casts_k q)) (constant (sqk q) .f32 0x00000000#32))
      (broadcast (sqk q) (Scalar.ofBits .f32 0x3DB504F3#32)))
    (broadcast (sqk q) maskC)

/-- The exponentials of the scores less their row's largest. -/
def expo (q : Fin 4) (s : FVec F (sqk q) .f32) : FVec F (sqk q) .f32 :=
  exp (subf s (broadcastTo (sqk q) (shapeCast S512x1 (multiReduction .maximumf [1] S512 s 0xFF800000#32 (reduces_q q) (.inl rfl) rfl) shapeCasts_S512_S512x1) (broadcasts_q q)))
/-- Each row of `e` divided by its sum. -/
def norm (q : Fin 4) (e : FVec F (sqk q) .f32) : FVec F (sqk q) .f32 :=
  divf e (broadcastTo (sqk q) (shapeCast S512x1 (multiReduction .add [1] S512 e 0x00000000#32 (reduces_q q) (.inl rfl) rfl) shapeCasts_S512_S512x1) (broadcasts_q q))

/-- What head `h` adds to rows block `q` of the result. -/
def contrib (q : Fin 4) (qb : FVec F S2048x128 .bf16) (wo : FVec F S128x1024 .bf16) (kc vc : FVec F (s1k q) .bf16) : FVec F S512x1024 .f32 :=
  matmul dot_S512x128_S128x1024_S512x1024_1_0_0_1_n_n none
    (truncf .bf16 (matmul (dpv q) none (truncf .bf16 (norm q (expo q (scores q qb kc))) bitsLt_bf16_f32) (shapeCast (sk q) vc (casts_k q)) (constant S512x128 .f32 0x00000000#32)) bitsLt_bf16_f32)
    wo (constant S512x1024 .f32 0x00000000#32)

/-- Head `h`'s queries, from the activations and the head's columns of the query weights. -/
def queries (x : FVec F S2048x1024 .bf16) (w : FVec F S1024x128 .bf16) : FVec F S2048x128 .bf16 :=
  truncf .bf16 (matmul dot_S2048x1024_S1024x128_S2048x128_1_0_0_1_n_n none (shapeCast S2048x1024 x shapeCasts_S2048x1024_S2048x1024)
    (shapeCast S1024x128 w shapeCasts_S1024x128_S1024x128) (constant S2048x128 .f32 0x00000000#32)) bitsLt_bf16_f32

/-- The new value of rows block `q` of the result, over the old one `o`. -/
def upd (h : Fin 8) (o c : FVec F S512x1024 .f32) : FVec F S512x1024 .f32 :=
  if h = 0 then c else addf (shapeCast S512x1024 o shapeCasts_S512x1024_S512x1024) c

def chunk (h : Fin 8) (q : Fin 4) (qb : FVec F S2048x128 .bf16) (wo : FVec F S128x1024 .bf16) : Pr F PUnit := do
  let kc : Vec F (s1k q) .bf16 ← Prog.lift (.load (kvM 0) (kR h q).toLoadRect (View.loadsAt_vmem (pos_k q)))
  let vc : Vec F (s1k q) .bf16 ← Prog.lift (.load (kvM 1) (kR h q).toLoadRect (View.loadsAt_vmem (pos_k q)))
  let o : Vec F S512x1024 .f32 ← (if h = 0 then pure (contrib q qb wo kc vc) else Prog.lift (.load outM (outR q).toLoadRect (View.loadsAt_vmem h_S512x1024)) : Pr F (Vec F S512x1024 .f32))
  let _ : Vec F S512x1024 .f32 ← Prog.lift (.load outM (outR q).toLoadRect (View.loadsAt_vmem h_S512x1024))
  Prog.lift (.store outM (outR q) (upd h o (contrib q qb wo kc vc)) Finset.univ (View.stores_vmem_bits_univ h_S512x1024 rfl) (.inl rfl))

/-- The attention of head `h`. -/
def compute (h : Fin 8) : Pr F PUnit := do
  let x : Vec F S2048x1024 .bf16 ← Prog.lift (.load xM (Rect.unit (s := S2048x1024) ![0, 0] S2048x1024.size inb_S2048x1024_S2048x1024_0_0).toLoadRect (View.loadsAt_vmem h_S2048x1024))
  let w : Vec F S1024x128 .bf16 ← Prog.lift (.load wqM (wqR h).toLoadRect (View.loadsAt_vmem h_S1024x128))
  let wo : Vec F S128x1024 .bf16 ← Prog.lift (.load woM (woR h).toLoadRect (View.loadsAt_vmem h_S128x1024))
  chunk h 0 (queries x w) (shapeCast S128x1024 wo shapeCasts_S128x1024_S128x1024)
  chunk h 1 (queries x w) (shapeCast S128x1024 wo shapeCasts_S128x1024_S128x1024)
  chunk h 2 (queries x w) (shapeCast S128x1024 wo shapeCasts_S128x1024_S128x1024)
  chunk h 3 (queries x w) (shapeCast S128x1024 wo shapeCasts_S128x1024_S128x1024)

abbrev h8 (i : ℕ) : Fin 8 := ⟨i % 8, Nat.mod_lt _ (by decide)⟩
abbrev s4 (i : ℕ) : Fin 4 := ⟨i % 4, Nat.mod_lt _ (by decide)⟩

/-- The device that passes head `i` of device 2 on. -/
def passer (c : Dev nD) (i : ℕ) : Prop := c = if i < 4 then 1 else 3
instance (c : Dev nD) (i : ℕ) : Decidable (passer c i) := by unfold passer; infer_instance

/-- Head `i` at device `c`. -/
def head (c : Dev nD) (i : ℕ) : Pr F PUnit := do
  (if passer c i then pass 0 (s4 i) (h8 i) >>= fun _ => pass 1 (s4 i) (h8 i) else pure ⟨⟩ : Pr F PUnit)
  (if c ≠ 0 then arrive 0 (h8 i) >>= fun _ => arrive 1 (h8 i) else pure ⟨⟩ : Pr F PUnit)
  compute (h8 i)

/-- Wait until slot `i`'s transfers have left. -/
def drain (i : ℕ) : Pr F PUnit := do
  sent 0 (sl i)
  sent 1 (sl i)
def passed (v : Fin 2) (i : ℕ) : Pr F PUnit := wait (fsnS v (s4 i)) (fwd v (s4 i)) (fwd v (s4 i)) (exact_fwd _ _) (exact_fwd _ _)
def drainF (i : ℕ) : Pr F PUnit := do
  passed 0 i
  passed 1 i

def entry (t₁ t₂ t₃ : Dev nD) : Pr F PUnit := do
  barSignal t₁
  barSignal t₂
  barSignal t₃
  barWait

/-- Device 0's staging. -/
def staging : Pr F PUnit := do
  fetchT 0
  fetchT 1
  fetchT 2
  loop task 64 0

/-- The body at device `c`. -/
def prog (c : Dev nD) : Pr F PUnit := do
  entry (⟨k0_dev1 c, k0_dev1_lt c⟩ : Dev nD) (⟨k0_dev2 c, k0_dev2_lt c⟩ : Dev nD) (⟨k0_dev3 c, k0_dev3_lt c⟩ : Dev nD)
  (if c = 0 then staging else pure ⟨⟩ : Pr F PUnit)
  loop (head c) 8 0
  (if c = 0 then loop drain 16 0 else pure ⟨⟩ : Pr F PUnit)
  if c = 1 ∨ c = 3 then loop drainF 4 0 else pure ⟨⟩

end Cert.KernelIdeal.AT

end
-- ==== Proof.KernelIdeal.Base.lean ====
/- What both calls' proofs share: loads and stores of a part of a buffer, buffers cut into slots, and the order in which
   the semaphores of the whole program are waited for. -/
module

public import proofs.«01_k».proof.Proof.Gen.KernelIdeal.Launch
public import Idealize.ShloMosaic.Lib.Rounds
public import Idealize.ShloMosaic.Lib.Ring
public import Idealize.ShloMosaic.Lib.Ring.FamCut
public import Idealize.ShloMosaic.Lib.Pipeline.Value
public import Idealize.ShloMosaic.Lib.Tactic

@[expose] public section

noncomputable section

namespace Cert.KernelIdeal.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen

variable {F : FTy → Type} [FloatOps F] [Named F] {U : Type} [URA U]

local notation "𝕄" => MT nD τ sig Unit (Elt F) ℕ U ℕ

abbrev Pr (F : FTy → Type) (α : Type) := Prog (TpuEff nD τ sig (Elt F) Λ₀ .tc) α

abbrev 𝒱₀ : Variants := Variants.none

/-- What device `c` must prove of a piece of the kernel's body. -/
abbrev WP {α : Type} (c : Dev nD) (p : Pr F α) (K : α → sProp 𝕄) : sProp 𝕄 :=
  wp frame (wpE (defs₀ (F := F)) 𝒱₀ (c : Thread nD τ) none) Set.univ p K

/-- A memref's elements at some contents. -/
abbrev some' (c : Dev nD) {sp : Space} {s : Shape} {e : EltTy} (M : Memref sig .tc sp s e) : sProp 𝕄 :=
  iprop(∃ Y, owns (c : Thread nD τ) M fullShare Y)

theorem some_of_pts (c : Dev nD) {sp : Space} {s : Shape} {e : EltTy} (M : Memref sig .tc sp s e) :
    iprop(∃ f, M.view.loc (c : Thread nD τ) ↦[M.view.set]{fullShare} f) ⊢ (some' c M : sProp 𝕄) := by
  iintro ⟨%f, H⟩
  iexists _
  iapply (owns_intro (c : Thread nD τ) M fullShare f); iexact H
theorem pts_of_some (c : Dev nD) {sp : Space} {s : Shape} {e : EltTy} (M : Memref sig .tc sp s e) :
    (some' c M : sProp 𝕄) ⊢ iprop(∃ f, M.view.loc (c : Thread nD τ) ↦[M.view.set]{fullShare} f) := by
  unfold some' owns
  iintro ⟨%Y, %f, -, H⟩
  iexists f; iexact H
theorem some_intro (c : Dev nD) {sp : Space} {s : Shape} {e : EltTy} (M : Memref sig .tc sp s e) (Y : s.Idx → Elt F e) :
    (owns (c : Thread nD τ) M fullShare Y : sProp 𝕄) ⊢ some' c M := by
  iintro H; iexists Y; iexact H

section Slab

variable (c : Dev nD) {cs : CoreSpace} {s s' : Shape} {e : EltTy} (M : Memref sig .tc cs s e) (r : Rect s) (hr : ∀ a, r.stride a = 1) (hq : r.shape.Squeezes s')

theorem slab_set : ((M.slice r hr).squeeze s' hq).view.set = (M.access r).set :=
  View.set_reshape (v := M.view.slice r) _

/-- A load of the slab's rectangle reads the slab, shape-cast. -/
theorem wp_load_slab (hc : r.shape.ShapeCasts s') {hl : M.view.LoadsAt r.toLoadRect} {α : Type}
    {k : (r.shape.Idx → Elt F e) → Pr F α} {Q : α → sProp 𝕄} {q : PosShare TreeShare} {Y : s'.Idx → Elt F e} :
    iprop(owns (c : Thread nD τ) ((M.slice r hr).squeeze s' hq) q Y
        ∗ (∀ v, ⌜shapeCast s' v hc = Y⌝ -∗ owns (c : Thread nD τ) ((M.slice r hr).squeeze s' hq) q Y -∗ WP c (k v) Q))
      ⊢ WP c (.op (.load M r.toLoadRect hl) k) Q := by
  unfold owns
  iintro ⟨⟨%f, %hf, H⟩, Hk⟩
  iapply (wp_load_rect 𝒱₀ (c : Thread nD τ) none Set.univ (m := M) (r := r) (S := ((M.slice r hr).squeeze s' hq).view.set) (q := q) (f := f)
    (by rw [slab_set])) $$ [H]
  · iexact H
  iintro H
  iapply Hk
  · ipureintro; exact hf
  iexists f
  isplitr; · ipureintro; exact hf
  iexact H

/-- A store to the slab's rectangle leaves the slab at the stored vector. -/
theorem wp_store_slab (hc : s'.ShapeCasts r.shape) {w : s'.Idx → Elt F e} {hx : (M.access r).Stores Finset.univ}
    {hm : (Finset.univ : Finset r.shape.Idx) = Finset.univ ∨ ∀ a, r.stride a = 1} {α : Type} {k : PUnit → Pr F α} {Q : α → sProp 𝕄} :
    iprop(some' c ((M.slice r hr).squeeze s' hq) ∗ (owns (c : Thread nD τ) ((M.slice r hr).squeeze s' hq) fullShare w -∗ WP c (k ⟨⟩) Q))
      ⊢ WP c (.op (.store M r (shapeCast r.shape w hc) Finset.univ hx hm) k) Q := by
  iintro ⟨Hs, Hk⟩
  ihave Hs := (pts_of_some c _) $$ Hs
  icases Hs with ⟨%f, H⟩
  iapply (wp_store 𝒱₀ (c : Thread nD τ) none Set.univ (m := M) (r := r) (S := ((M.slice r hr).squeeze s' hq).view.set) (f := f)
    (by rw [slab_set]; exact Finset.Subset.refl _)) $$ [H]
  · iexact H
  iintro H
  iapply Hk
  unfold owns
  iexists _
  isplitr
  · ipureintro
    show (fun j => (M.access r).read (Elt F) ((M.access r).write (Elt F) f (shapeCast r.shape w hc) Finset.univ) (Shape.reshapeEquiv _ j)) = w
    rw [View.read_write_univ]
    funext j
    show w (Shape.reshapeEquiv _ (Shape.reshapeEquiv _ j)) = w j
    rw [Shape.reshapeEquiv_reshapeEquiv, Shape.reshapeEquiv_self]
  iexact H

end Slab

/-! ## A rectangle of a memref that is held whole -/

section Whole

variable (c : Dev nD) {cs : CoreSpace} {s : Shape} {e : EltTy} (M : Memref sig .tc cs s e) (r : Rect s)

/-- A load of a rectangle reads the contents there. -/
theorem wp_load_in {hl : M.view.LoadsAt r.toLoadRect} {α : Type} {k : (r.shape.Idx → Elt F e) → Pr F α} {Q : α → sProp 𝕄}
    {q : PosShare TreeShare} {Y : s.Idx → Elt F e} :
    iprop(owns (c : Thread nD τ) M q Y ∗ (owns (c : Thread nD τ) M q Y -∗ WP c (k fun x => Y (r.emb x)) Q))
      ⊢ WP c (.op (.load M r.toLoadRect hl) k) Q := by
  unfold owns
  iintro ⟨⟨%f, %hf, H⟩, Hk⟩
  subst hf
  iapply (wp_load_rect 𝒱₀ (c : Thread nD τ) none Set.univ (m := M) (r := r) (S := M.view.set) (q := q) (f := f) (M.view.set_slice_subset r)) $$ [H]
  · iexact H
  iintro H
  iapply Hk
  iexists f
  isplitr; · ipureintro; rfl
  iexact H

/-- A store to a rectangle changes the contents there alone. -/
theorem wp_store_in {w : r.shape.Idx → Elt F e} {hx : (M.access r).Stores Finset.univ}
    {hm : (Finset.univ : Finset r.shape.Idx) = Finset.univ ∨ ∀ a, r.stride a = 1} {α : Type} {k : PUnit → Pr F α} {Q : α → sProp 𝕄}
    {Y : s.Idx → Elt F e} :
    iprop(owns (c : Thread nD τ) M fullShare Y
        ∗ (∀ Y', ⌜(∀ x, Y' (r.emb x) = w x) ∧ ∀ y, y ∉ Finset.univ.map r.emb → Y' y = Y y⌝ -∗ owns (c : Thread nD τ) M fullShare Y' -∗ WP c (k ⟨⟩) Q))
      ⊢ WP c (.op (.store M r w Finset.univ hx hm) k) Q := by
  unfold owns
  iintro ⟨⟨%f, %hf, H⟩, Hk⟩
  subst hf
  iapply (wp_store 𝒱₀ (c : Thread nD τ) none Set.univ (m := M) (r := r) (S := M.view.set) (f := f) (M.view.set_slice_subset r)) $$ [H]
  · iexact H
  iintro H
  iapply Hk
  · ipureintro
    exact ⟨fun x => View.read_slice_write_emb (v := M.view) r f w (Finset.mem_univ x), fun y hy => View.read_slice_write_of_not_mem (v := M.view) r f w Finset.univ hy⟩
  iexists _
  isplitr; · ipureintro; rfl
  iexact H

end Whole

section Slots

variable (c : Dev nD)

/-! ## A buffer cut into slots -/

section Slots

variable {B : Type} [Fintype B] [DecidableEq B] (b : Ref sig .tc) {s' : Shape} (r : B → Rect b.ty.shape)
  (hr : ∀ i a, (r i).stride a = 1) (hq : ∀ i, (r i).shape.Squeezes s') (hd : ∀ i j, i ≠ j → Disjoint (r i).set (r j).set)

abbrev slot (i : B) := ((Memref.whole b).slice (r i) (hr i)).squeeze s' (hq i)
abbrev slotSet (i : B) : Finset (Idx ((c : Thread nD τ).loc b)) := (r i).set
/-- What the slots leave of the buffer. -/
def slotsRest : sProp 𝕄 := iprop(∃ f, (c : Thread nD τ).loc b ↦[Ring.restOf (slotSet c b r)]{fullShare} f)

theorem slot_set (i : B) : (slot b r hr hq i).view.set = slotSet c b r i :=
  (View.set_reshape (v := (Memref.whole b).view.slice (r i)) _).trans (View.set_slice_whole b (r i))

include hd in
theorem slots_split : (iprop(∃ f, (c : Thread nD τ).loc b ↦{fullShare} f) : sProp 𝕄)
    ⊢ iprop(bigSep Finset.univ (fun i => some' c (slot b r hr hq i)) ∗ slotsRest c b r) :=
  (Ring.fam_split_ex (slotSet c b r) hd).trans (BIClass.sep_mono (bigSep_mono fun i _ => by
    rw [← slot_set c b r hr hq i]
    exact some_of_pts c (slot b r hr hq i)) (Entails.of_eq rfl))

include hd in
theorem slots_join : iprop(bigSep Finset.univ (fun i => some' c (slot b r hr hq i)) ∗ slotsRest c b r)
    ⊢ (iprop(∃ f, (c : Thread nD τ).loc b ↦{fullShare} f) : sProp 𝕄) := by
  have h : bigSep Finset.univ (fun i => some' c (slot b r hr hq i))
      ⊢ (bigSep Finset.univ (fun i => iprop(∃ f, (c : Thread nD τ).loc b ↦[slotSet c b r i]{fullShare} f)) : sProp 𝕄) :=
    bigSep_mono fun i _ => by
      rw [← slot_set c b r hr hq i]
      exact pts_of_some c (slot b r hr hq i)
  unfold slotsRest
  iintro ⟨H, ⟨%f, Hr⟩⟩
  iapply (Ring.fam_join (slotSet c b r) hd f)
  isplitl [H]
  · iapply h; iexact H
  · iexists f; iexact Hr

end Slots

/-- A scratch buffer, whole at some contents. -/
abbrev buf (b : Ref sig .tc) : sProp 𝕄 := iprop(∃ f, (c : Thread nD τ).loc b ↦{fullShare} f)

end Slots

/-! ## The order of the waits -/

/-- The device `n` places after `c` on the ring. -/
def up (n : ℕ) (c : Dev nD) : Dev nD := ⟨(c.val + n) % 4, Nat.mod_lt _ (by decide)⟩

/-- Place in the order of transfer semaphore `n` on device `d`: first the attention call's arrivals, then the all-reduce's,
    step by step. Zero where only the device itself pays. -/
def dmaLvl (d : Dev nD) (n : ℕ) : ℕ :=
  if 4 ≤ n ∧ n < 20 then (if d = 2 then 3 else 2) else if 56 ≤ n ∧ n < 64 then 2
  else if 74 ≤ n ∧ (n - 74) / 6 % 2 = 1 then 6 + 3 * ((n - 74) / 12 % 2) + (n - 74) % 3 else 0

def L (g : GSem nD τ sig) : Finset Unit := if g.1.2 = .tc then {()} else ∅
def lv (g : GSem nD τ sig) (_ : Unit) : ℕ :=
  match g.2 with | .reg s => if s = sig.barrier 0 rfl then 1 else 5 | .dma s => dmaLvl g.1.1 s.val
theorem L_of_ne (g : GSem nD τ sig) (h : g.1.2 ≠ .tc) : L g = ∅ := if_neg h
theorem L_tc (c : Dev nD) (sm : SemLoc sig) : L ((c : Thread nD τ), sm) = {()} := if_pos rfl

/-- A wait below everything owed is allowed. -/
theorem mayWait (c : Dev nD) (sm : SemLoc sig) (O : CellTallies nD τ sig Unit)
    (h : ∀ g u, 0 < O g u → L g = {()} ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by rw [(h g u hg).1]; exact Finset.mem_singleton_self _)
    (fun p hp => by rw [Finset.mem_singleton.mp hp])
    (fun g u hg => (h g u hg).2)

end Cert.KernelIdeal.Base

end
-- ==== Proof.KernelIdeal.AtSched.lean ====
/- The attention call's protocol: what every transfer carries, who pays each semaphore and with what, and what each device owes.

   Device 0 reads the 32 heads' keys and values, rounds them, and sends each head to the device whose share it is in; what is
   device 2's goes through devices 1 and 3. -/
module

public import proofs.«01_k».proof.Proof.KernelIdeal.AtProg
public import proofs.«01_k».proof.Proof.KernelIdeal.Base

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F]

/-! ## Values -/

section Values

variable (A : Fin 2 → FVec F S2048x32x128 .f32)

/-- Head `g` of device 0's keys (0) or values (1), and the same at bf16, as it travels. -/
def raw (v : Fin 2) (g : Fin 32) : FVec F S2048x128 .f32 :=
  shapeCast S2048x128 (fun x : (srcR g).shape.Idx => A v ((srcR g).emb x)) (by rfl)
def bf (v : Fin 2) (g : Fin 32) : FVec F S2048x128 .bf16 := truncf .bf16 (raw A v g) bitsLt_bf16_f32
/-- Head `h` of device `c`'s share. -/
def hd (c : Dev nD) (h : Fin 8) : Fin 32 := ⟨8 * c.val + h.val, by have := c.isLt; have := h.isLt; show _ < 32; unfold nD at *; omega⟩
def kvV (c : Dev nD) (v : Fin 2) (h : Fin 8) : FVec F S2048x128 .bf16 := bf A v (hd c h)
/-- What device `c` (1 or 3) passes on from landing slot `s`. -/
def fwH (c : Dev nD) (s : Fin 4) : Fin 8 := ⟨s.val + (if c = 3 then 4 else 0), by have := s.isLt; split <;> omega⟩
def fwV (c : Dev nD) (v : Fin 2) (s : Fin 4) : FVec F S2048x128 .bf16 := kvV A 2 v (fwH c s)

end Values

/-! ## Cells -/

abbrev barS : Sem sig := sig.barrier 0 rfl
abbrev barCell (c : Dev nD) : GSem nD τ sig := ((c : Thread nD τ), .reg barS)

/-- The call's transfer semaphores: arrival of a head; a send slot free again; a staging slot filled; arrival of what is passed
    on; that sent. -/
abbrev End : Type := (Fin 2 × Fin 8) ⊕ (Fin 2 × Fin 16) ⊕ Fin 4 ⊕ (Fin 2 × Fin 4) ⊕ (Fin 2 × Fin 4)
abbrev eR (v : Fin 2) (h : Fin 8) : End := .inl (v, h)
abbrev eS (v : Fin 2) (s : Fin 16) : End := .inr (.inl (v, s))
abbrev eG (s : Fin 4) : End := .inr (.inr (.inl s))
abbrev eF (v : Fin 2) (s : Fin 4) : End := .inr (.inr (.inr (.inl (v, s))))
abbrev eN (v : Fin 2) (s : Fin 4) : End := .inr (.inr (.inr (.inr (v, s))))

abbrev xsem : End → DmaSem sig
  | .inl (v, h) => rcvS v h
  | .inr (.inl (v, s)) => sndS v s
  | .inr (.inr (.inl s)) => stgS s
  | .inr (.inr (.inr (.inl (v, s)))) => frcS v s
  | .inr (.inr (.inr (.inr (v, s)))) => fsnS v s
abbrev cell (c : Dev nD) (x : End) : GSem nD τ sig := ((c : Thread nD τ), .dma (xsem x))

/-- The end that a semaphore belongs to, if to any. -/
def dec (s : DmaSem sig) : Option End :=
  if s.val < 4 then none
  else if s.val < 20 then some (eR ⟨(s.val - 4) / 8 % 2, Nat.mod_lt _ (by decide)⟩ ⟨(s.val - 4) % 8, Nat.mod_lt _ (by decide)⟩)
  else if s.val < 52 then some (eS ⟨(s.val - 20) / 16 % 2, Nat.mod_lt _ (by decide)⟩ ⟨(s.val - 20) % 16, Nat.mod_lt _ (by decide)⟩)
  else if s.val < 56 then some (eG ⟨(s.val - 52) % 4, Nat.mod_lt _ (by decide)⟩)
  else if s.val < 64 then some (eF ⟨(s.val - 56) / 4 % 2, Nat.mod_lt _ (by decide)⟩ ⟨(s.val - 56) % 4, Nat.mod_lt _ (by decide)⟩)
  else if s.val < 72 then some (eN ⟨(s.val - 64) / 4 % 2, Nat.mod_lt _ (by decide)⟩ ⟨(s.val - 64) % 4, Nat.mod_lt _ (by decide)⟩)
  else none
instance : DecidableEq End := inferInstance
theorem end_all {p : End → Prop} (h1 : ∀ v h, p (eR v h)) (h2 : ∀ v s, p (eS v s)) (h3 : ∀ s, p (eG s)) (h4 : ∀ v s, p (eF v s)) (h5 : ∀ v s, p (eN v s)) :
    ∀ x, p x
  | .inl (v, h) => h1 v h
  | .inr (.inl (v, s)) => h2 v s
  | .inr (.inr (.inl s)) => h3 s
  | .inr (.inr (.inr (.inl (v, s)))) => h4 v s
  | .inr (.inr (.inr (.inr (v, s)))) => h5 v s
theorem dec_xsem : ∀ x : End, dec (xsem x) = some x :=
  end_all (by decide +kernel) (by decide +kernel) (by decide +kernel) (by decide +kernel) (by decide +kernel)
theorem xsem_inj : Function.Injective xsem := fun x y h => Option.some.inj ((dec_xsem x).symm.trans ((congrArg dec h).trans (dec_xsem y)))

/-! ## The schedule -/

/-- How many rounds end `x` of device `c` runs through, who pays them, and their units. -/
def rounds (c : Dev nD) : End → ℕ
  | .inl _ => if c = 0 then 0 else 1
  | .inr (.inl (_, s)) => if c = 0 then (if s.val < 8 then 2 else 1) else 0
  | .inr (.inr (.inl _)) => if c = 0 then 16 else 0
  | .inr (.inr (.inr (.inl _))) => if c = 1 ∨ c = 3 then 1 else 0
  | .inr (.inr (.inr (.inr _))) => if c = 1 ∨ c = 3 then 1 else 0
def payer (c : Dev nD) : End → Dev nD
  | .inl (_, h) => if c = 2 then (if h.val < 4 then 1 else 3) else 0
  | .inr (.inl _) => 0
  | .inr (.inr (.inl _)) => 0
  | .inr (.inr (.inr (.inl _))) => 0
  | .inr (.inr (.inr (.inr _))) => c
abbrev N : ℕ := (kv 0 0).view.dmaCredit
abbrev Nf : ℕ := (stag 0).view.dmaCredit
theorem N_pos : 0 < N := View.dmaCredit_pos _ (by decide)
theorem Nf_pos : 0 < Nf := View.dmaCredit_pos _ (by decide)
def units : End → ℕ
  | .inr (.inr (.inl _)) => Nf
  | _ => N
theorem units_pos (x : End) : 0 < units x := by
  unfold units
  split
  · exact Nf_pos
  · exact N_pos

section Protocol

variable {U : Type} [URA U]

local notation "𝕄" => MT nD τ sig Unit (Elt F) ℕ U ℕ

variable (E : Emb (URounds (GSem nD τ sig) ℕ) (MT nD τ sig Unit (Elt F) ℕ U ℕ))
variable (A : Fin 2 → FVec F S2048x32x128 .f32)

/-- A landing slot of device `c` handed out for a transfer into it: at some contents, its semaphore in use. -/
def slotPay (c : Dev nD) : End → sProp 𝕄
  | .inl (v, h) => iprop(some' c (kv v h) ∗ reached E (cell c (eR v h)) 0)
  | .inr (.inr (.inr (.inl (v, s)))) => iprop(some' c (fwd v s) ∗ reached E (cell c (eF v s)) 0)
  | _ => iprop(emp)
/-- Device `c`'s slots that device `t` fills. -/
def slotsFor (c t : Dev nD) : sProp 𝕄 := bigSep Finset.univ fun x : End => if payer c x = t ∧ 0 < rounds c x then slotPay E c x else iprop(emp)
/-- Device `t`'s barrier: the unit from the device `i` places before it hands over that device's slots. -/
def barPay (t : Dev nD) (i : ℕ) : sProp 𝕄 := slotsFor E (up (4 - i) t) t
/-- An arrival's payload is its slot at what was sent; a send's is its source back. -/
def endPay (c : Dev nD) (r : ℕ) : End → sProp 𝕄
  | .inl (v, h) => owns (c : Thread nD τ) (kv v h) fullShare (kvV A c v h)
  | .inr (.inl (v, s)) => some' c (pool v s)
  | .inr (.inr (.inl s)) => iprop(owns (c : Thread nD τ) (stag s) fullShare (raw A (tv (4 * r + s)) (tg (4 * r + s)))
      ∗ owns (c : Thread nD τ) (src (tv (4 * r + s)) (tg (4 * r + s))) fullShare (raw A (tv (4 * r + s)) (tg (4 * r + s))))
  | .inr (.inr (.inr (.inl (v, s)))) => owns (c : Thread nD τ) (fwd v s) fullShare (fwV A c v s)
  | .inr (.inr (.inr (.inr (v, s)))) => some' c (fwd v s)

def sched : Rounds.Schedule (GSem nD τ sig) ℕ 𝕄 where
  duties g r := if g.1.2 = .tc then (match g.2 with
      | .reg _ => if r = 0 then {1, 2, 3} else ∅
      | .dma s => match dec s with | none => ∅ | some x => if r < rounds g.1.1 x then {(payer g.1.1 x).val} else ∅) else ∅
  unitless _ := False
  amount g _ _ := match g.2 with | .reg _ => 1 | .dma s => match dec s with | none => N | some x => units x
  payload g r i := match g.2 with | .reg _ => barPay E g.1.1 i | .dma s => match dec s with | none => iprop(emp) | some x => endPay A g.1.1 r x
  amount_pos g _ _ _ := by
    cases g.2 with
    | reg s => exact Nat.one_pos
    | dma s =>
      dsimp only
      cases dec s
      · exact N_pos
      · exact units_pos _

instance slotPay_storable [E.LandsIn (upEmb : UEmb _ 𝕄)] (c : Dev nD) (x : End) : BI.Storable (upEmb : UEmb _ 𝕄) (slotPay E c x) := by
  rcases x with x | x | x | x | x <;> unfold slotPay <;> infer_instance
instance barPay_storable [E.LandsIn (upEmb : UEmb _ 𝕄)] (c : Dev nD) (i : ℕ) : BI.Storable (upEmb : UEmb _ 𝕄) (barPay E c i) := by
  unfold barPay slotsFor
  have : ∀ x, BI.Storable (upEmb : UEmb _ 𝕄) (if payer (up (4 - i) c) x = c ∧ 0 < rounds (up (4 - i) c) x then slotPay E (up (4 - i) c) x else iprop(emp)) := by
    intro x; split <;> infer_instance
  infer_instance
instance endPay_storable (c : Dev nD) (r : ℕ) (x : End) : BI.Storable (upEmb : UEmb _ 𝕄) (endPay A c r x : sProp 𝕄) := by
  rcases x with x | x | x | x | x <;> unfold endPay <;> infer_instance
instance sched_storable [E.LandsIn (upEmb : UEmb _ 𝕄)] (g : GSem nD τ sig) (r : ℕ) (i : ℕ) :
    BI.Storable (upEmb : UEmb _ 𝕄) ((sched E A).payload g r i) := by
  show BI.Storable upEmb (match g.2 with | .reg _ => barPay E g.1.1 i | .dma s => match dec s with | none => iprop(emp) | some x => endPay A g.1.1 r x)
  cases g.2 with
  | reg s => dsimp only; infer_instance
  | dma s =>
    dsimp only
    cases dec s <;> dsimp only <;> infer_instance

section Facts

variable (c : Dev nD) (x : End)

theorem duties_bar : (sched E A).duties (barCell c) 0 = {1, 2, 3} := by dsimp only [sched]; exact (if_pos rfl).trans (if_pos rfl)
theorem duties_end (r : ℕ) : (sched E A).duties (cell c x) r = if r < rounds c x then {(payer c x).val} else ∅ := by
  dsimp only [sched]; rw [if_pos rfl, dec_xsem]
theorem bar_later : ∀ r, 1 ≤ r → (sched E A).duties (barCell c) r = ∅ := fun r hr => by
  dsimp only [sched]; exact (if_pos rfl).trans (if_neg (by omega))
theorem end_later : ∀ r, rounds c x ≤ r → (sched E A).duties (cell c x) r = ∅ := fun r hr => by rw [duties_end, if_neg (by omega)]
theorem amount_end (r i : ℕ) : (sched E A).amount (cell c x) r i = units x := by dsimp only [sched]; rw [dec_xsem]
theorem payload_end (r i : ℕ) : (sched E A).payload (cell c x) r i = endPay A c r x := by dsimp only [sched]; rw [dec_xsem]
theorem payload_bar (i : ℕ) : (sched E A).payload (barCell c) 0 i = barPay E c i := rfl
theorem expect_bar : (sched E A).expect (barCell c) 0 = 3 := by
  unfold Schedule.expect Schedule.amountOf; rw [duties_bar]; rfl
theorem expect_end {r : ℕ} (hr : r < rounds c x) : (sched E A).expect (cell c x) r = units x := by
  unfold Schedule.expect Schedule.amountOf; rw [duties_end, if_pos hr, Finset.sum_singleton, amount_end]
theorem rest_end {r : ℕ} (hr : r < rounds c x) :
    bigSep ((sched E A).duties (cell c x) r \ ∅) (fun i => (sched E A).payload (cell c x) r i) = endPay A c r x := by
  rw [Finset.sdiff_empty, duties_end, if_pos hr, bigSep_singleton, payload_end]
theorem rest_bar : bigSep ((sched E A).duties (barCell c) 0 \ ∅) (fun i => (sched E A).payload (barCell c) 0 i)
    = iprop(slotsFor E (up 3 c) c ∗ slotsFor E (up 2 c) c ∗ slotsFor E (up 1 c) c) := by
  rw [Finset.sdiff_empty, duties_bar, bigSep_insert (by decide), bigSep_insert (by decide), bigSep_singleton]
  rfl

end Facts

end Protocol

/-! ## Debts -/

/-- What a device pays other devices: a unit of the barrier `i` places on from `c`, a transfer into device `t`'s slot. -/
inductive Due where
  | bar (t : Dev nD)
  | at (t : Dev nD) (x : End)
deriving DecidableEq

def Due.cell : Due → GSem nD τ sig
  | .bar t => barCell t
  | .at t x => AT.cell t x
def Due.amt : Due → ℕ
  | .bar _ => 1
  | .at _ x => units x
def Due.lvl : Due → ℕ
  | .bar _ => 1
  | .at t x => dmaLvl t (xsem x).val
theorem Due.L_cell (x : Due) : L x.cell = {()} := by cases x <;> exact L_tc _ _
theorem Due.lv_cell (x : Due) : lv x.cell () = x.lvl := by
  cases x with
  | bar t => rfl
  | «at» t x => rfl

/-- The debts of a list. -/
def owe : List Due → CellTallies nD τ sig Unit
  | [] => 0
  | x :: l => tallyAt x.cell () x.amt + owe l

theorem owe_pos {g : GSem nD τ sig} {u : Unit} : ∀ {l : List Due}, 0 < owe l g u → ∃ x ∈ l, g = x.cell
  | [], h => absurd h (Nat.lt_irrefl 0)
  | x :: l, h => by
    rw [owe, Pi.add_apply, Finsupp.add_apply] at h
    rcases Nat.add_pos_iff_pos_or_pos.mp h with h | h
    · rw [tallyAt_apply] at h
      split at h
      · next hg => exact ⟨x, List.mem_cons_self, hg.1⟩
      · exact absurd h (Nat.lt_irrefl 0)
    · obtain ⟨y, hy, hg⟩ := owe_pos h
      exact ⟨y, List.mem_cons_of_mem _ hy, hg⟩

/-- What is owed besides, to be paid in the next call: above every wait of this one. -/
def Later (D : CellTallies nD τ sig Unit) : Prop := ∀ g u, 0 < D g u → L g = {()} ∧ 4 < lv g ()

theorem may {U : Type} [URA U] (c : Dev nD) (sm : SemLoc sig) (l : List Due) {D : CellTallies nD τ sig Unit} (hD : Later D)
    (h4 : lv ((c : Thread nD τ), sm) () ≤ 4) (h : ∀ x ∈ l, lv ((c : Thread nD τ), sm) () < x.lvl) :
    (levAts L lv : sProp (MT nD τ sig Unit (Elt F) ℕ U ℕ)) ⊢ MayWait (c : Thread nD τ) sm () (owe l + D) :=
  mayWait c sm _ fun g u hg => by
    rw [Pi.add_apply, Finsupp.add_apply] at hg
    rcases Nat.add_pos_iff_pos_or_pos.mp hg with hg | hg
    · obtain ⟨x, hx, rfl⟩ := owe_pos hg
      rw [Due.L_cell, Due.lv_cell]; exact ⟨rfl, h x hx⟩
    · exact ⟨(hD g u hg).1, lt_of_le_of_lt h4 (hD g u hg).2⟩

theorem lv_end : ∀ (c : Dev nD) (x : End), lv (cell c x) () ≤ 3 := by
  intro c
  show ∀ x : End, dmaLvl c (xsem x).val ≤ 3
  exact end_all (by revert c; decide +kernel) (by revert c; decide +kernel) (by revert c; decide +kernel) (by revert c; decide +kernel) (by revert c; decide +kernel)

end Cert.KernelIdeal.AT

end
-- ==== Proof.KernelIdeal.AtSteps.lean ====
/- The attention call's steps, each with what it takes and what it leaves: a barrier unit, the barrier's wait, a send, a wait,
   a copy into a staging slot, a load of one, a store into a slot. -/
module

public import proofs.«01_k».proof.Proof.KernelIdeal.AtSched

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32)

/-! ## The cells' invariants -/

def barEmb : Dev nD ↪ GSem nD τ sig := ⟨fun c => barCell c, fun _ _ h => congrArg (fun g : GSem nD τ sig => g.1.1) h⟩
def endEmb : Dev nD × End ↪ GSem nD τ sig :=
  ⟨fun x => cell x.1 x.2, fun _ _ h =>
    Prod.ext (congrArg (fun g : GSem nD τ sig => g.1.1) h) (xsem_inj (SemLoc.dma.inj (congrArg Prod.snd h)))⟩
abbrev barCells : Finset (GSem nD τ sig) := Finset.univ.map barEmb
abbrev endCells : Finset (GSem nD τ sig) := Finset.univ.map endEmb

/-- Every cell's invariant, at the names `κ`. -/
def Inv (κ : GSem nD τ sig → ℕ) : sProp 𝕄 := bigSep (barCells ∪ endCells) fun g => cellInv E (sched E A) (κ g) g
instance Inv_persistent (κ : GSem nD τ sig → ℕ) : BI.Persistent (Inv E A κ) := by unfold Inv; infer_instance

theorem bar_mem (c : Dev nD) : barCell c ∈ (barCells ∪ endCells : Finset (GSem nD τ sig)) :=
  Finset.mem_union_left _ (Finset.mem_map_of_mem barEmb (Finset.mem_univ c))
theorem end_mem (c : Dev nD) (x : End) : cell c x ∈ (barCells ∪ endCells : Finset (GSem nD τ sig)) :=
  Finset.mem_union_right _ (Finset.mem_map_of_mem endEmb (Finset.mem_univ (c, x)))
omit [E.LandsIn (upEmb : UEmb _ 𝕄)] in
theorem inv_at (κ : GSem nD τ sig → ℕ) {g : GSem nD τ sig} (hg : g ∈ (barCells ∪ endCells : Finset (GSem nD τ sig))) :
    Inv E A κ ⊢ cellInv E (sched E A) (κ g) g := bigSep_elim hg

/-- Core `c` owes the list's debts, and `D` besides. -/
def Owes (c : Dev nD) (D : CellTallies nD τ sig Unit) (l : List Due) : sProp 𝕄 := iprop(∃ W, owes (c : Thread nD τ) (owe l + D) W)
/-- The permission to pay end `x` of device `c` in round `r`. -/
def tok (c : Dev nD) (x : End) (r : ℕ) : sProp 𝕄 := iprop(dutyTok E (cell c x) r (payer c x).val ∗ reached E (cell c x) r)
/-- End `x` of device `c` before its round `r`, and the credit of that round. -/
def pos (c : Dev nD) (x : End) (r : ℕ) : sProp 𝕄 := atPos E (cell c x) r ∅ 0
def crd (c : Dev nD) (x : End) : sProp 𝕄 := cred (tallyAt (cell c x) () (units x))

section Steps

variable (κ : GSem nD τ sig → ℕ) (c : Dev nD) {D : CellTallies nD τ sig Unit} (hD : Later D) (l : List Due)

/-! ## The barrier -/

theorem in_bar : ∀ i : Fin 4, i ≠ 0 → i.val ∈ ({1, 2, 3} : Finset ℕ) := by decide
theorem owe_add (x : Due) (l : List Due) (D : CellTallies nD τ sig Unit) : owe (x :: l) + D = owe l + D + tallyAt x.cell () x.amt := by
  show tallyAt x.cell () x.amt + owe l + D = _
  rw [add_assoc, add_comm]
theorem up_up (i : Fin 4) (c : Dev nD) : up (4 - i.val) (up i.val c) = c := by revert i c; decide

theorem wp_barSignal (i : Fin 4) (t : Dev nD) (ht : t = up i.val c) (hi : i ≠ 0) (Kt : PUnit → sProp 𝕄) :
    iprop(Inv E A κ ∗ reached E (barCell t) 0 ∗ dutyTok E (barCell t) 0 i.val ∗ slotsFor E c t ∗ Owes c D (.bar t :: l) ∗ (Owes c D l -∗ Kt ⟨⟩))
      ⊢ WP c (barSignal t) Kt := by
  unfold barSignal semSignalWord Owes
  iintro ⟨#HI, #HR, Ht, Hp, ⟨%W, HO⟩, Hk⟩
  iapply (Rounds.wp_signal 𝒱₀ E (sched E A) (c : Thread nD τ) none (dst := (t : Thread nD τ)) (sem := barS) (r := 0) (d := i.val) (κ := κ (barCell t))
      (by rw [duties_bar]; exact in_bar i hi) rfl () (owe l + D) (owe_add (.bar t) l D)) $$ [HO Ht Hp]
  · isplitr; · iapply (inv_at E A κ (bar_mem _)); iexact HI
    isplitl [HO]; · iexact HO
    isplitl [Ht]; · iexact Ht
    isplitl [Hp]; · rw [payload_bar, barPay, ht, up_up]; iexact Hp
    iexact HR
  iintro HO
  rw [wp_ret]
  imodintro
  iapply Hk
  iexists W; iexact HO

include hD in
theorem wp_barWait (hl : ∀ x ∈ l, 1 < x.lvl) (Kt : PUnit → sProp 𝕄) :
    iprop(Inv E A κ ∗ levAts L lv ∗ atPos E (barCell c) 0 ∅ 0 ∗ cred (tallyAt (barCell c) () 3) ∗ Owes c D l
        ∗ (Owes c D l -∗ atPos E (barCell c) (0 + 1) ∅ 0 -∗ slotsFor E (up 1 c) c -∗ slotsFor E (up 2 c) c -∗ slotsFor E (up 3 c) c -∗ Kt ⟨⟩))
      ⊢ WP c barWait Kt := by
  unfold barWait semWaitWord Owes
  iintro ⟨#HI, #Hlev, Hat, Hc, ⟨%W, HO⟩, Hk⟩
  iapply (Rounds.wp_wait_rest_token 𝒱₀ E (sched E A) (c : Thread nD τ) none (κ := κ (barCell c))
      (wpE_semWait_eq 𝒱₀ (c : Thread nD τ) none Set.univ) (Set.mem_univ _) () (O := owe l + D) (W := W) (R := 0) (m := 0) (T := ∅)
      ((Nat.zero_add 3).trans (expect_bar E A c).symm)) $$ [Hc HO Hat]
  · isplitr; · iapply (inv_at E A κ (bar_mem _)); iexact HI
    isplitl [Hc]; · iexact Hc
    isplitl [HO]; · iexact HO
    isplitr; · iapply (may c (.reg barS) l hD (show 1 ≤ 4 by decide) hl); iexact Hlev
    iexact Hat
  iintro ⟨HO, Hat, -, Hpay⟩
  ihave Hp := (Entails.of_eq (rest_bar E A c)) $$ Hpay
  icases Hp with ⟨H3, H2, H1⟩
  rw [wp_ret]
  imodintro
  iapply Hk $$ [HO] [Hat] [H1] [H2] [H3]
  · iexists _; iexact HO
  · iexact Hat
  · iexact H1
  · iexact H2
  · iexact H3

/-! ## Transfers -/

theorem wp_send (t : Dev nD) (a b : Memref sig .tc .vmem S2048x128 .bf16) (x y : End) (r : ℕ) (ha : a.view.WordExact) (hb : b.view.WordExact)
    (hx : r < rounds c x) (hy : 0 < rounds t y) (hux : units x = N) (huy : units y = N) (Y : FVec F S2048x128 .bf16)
    (hp₁ : (owns (c : Thread nD τ) a fullShare Y : sProp 𝕄) ⊢ endPay A c r x)
    (hp₂ : (owns (t : Thread nD τ) b fullShare Y : sProp 𝕄) ⊢ endPay A t 0 y) (Kt : PUnit → sProp 𝕄) :
    iprop(Inv E A κ ∗ owns (c : Thread nD τ) a fullShare Y ∗ some' t b ∗ tok E c x r ∗ tok E t y 0 ∗ Owes c D (.at t y :: l)
        ∗ (crd c x -∗ Owes c D l -∗ Kt ⟨⟩))
      ⊢ WP c (send t a b (xsem x) (xsem y) ha hb) Kt := by
  have hO : owe (.at t y :: l) + D = owe l + D + tallyAt (cell t y) () N := by
    have h := owe_add (.at t y) l D
    rw [show Due.amt (.at t y) = N from huy] at h
    exact h
  unfold send Owes tok crd owns
  iintro ⟨#HI, ⟨%fs, %hfs, Hsrc⟩, Hslot, ⟨HtS, #HrS⟩, ⟨HtN, #HrN⟩, ⟨%W, HO⟩, Hk⟩
  ihave Hslot := (pts_of_some _ _) $$ Hslot
  icases Hslot with ⟨%fd, Hslot⟩
  iapply (Rounds.wp_send_pointsTo 𝒱₀ E (sched E A) (c : Thread nD τ) none (c' := (t : Thread nD τ)) (src := a) (dst := b)
      (sS := .dma (xsem x)) (sem := .dma (xsem y)) (q := fullShare) (fs := fs) (κ₁ := κ (cell c x)) (κ₂ := κ (cell t y))
      (r₁ := r) (r₂ := 0) (d₁ := (payer c x).val) (d₂ := (payer t y).val) (fd := fd)
      (by rw [duties_end, if_pos hx]; exact Finset.mem_singleton_self _) (by rw [duties_end, if_pos hy]; exact Finset.mem_singleton_self _)
      () () N rfl (by rw [amount_end, hux]) (by rw [amount_end, huy]) (owe l + D)
      hO (W := W)
      (by rw [payload_end]; refine BIBase.Entails.trans ?_ hp₁; rw [← hfs]; exact owns_intro _ _ _ _)
      (by rw [payload_end]; refine BIBase.Entails.trans ?_ hp₂; rw [← hfs]
          refine (owns_intro _ _ _ _).trans ?_
          rw [View.read_write_univ])) $$ [Hsrc Hslot HO HtS HtN]
  · isplitr; · iapply (inv_at E A κ (end_mem c x)); iexact HI
    isplitr; · iapply (inv_at E A κ (end_mem t y)); iexact HI
    isplitl [Hsrc]; · iexact Hsrc
    isplitl [Hslot]; · iexact Hslot
    isplitl [HO]; · iexact HO
    isplitl [HtS]; · iexact HtS
    isplitr; · iexact HrS
    isplitl [HtN]; · iexact HtN
    iexact HrN
  iintro ⟨HcS, HO⟩
  rw [wp_ret]
  imodintro
  iapply Hk $$ [HcS] [HO]
  · rw [hux]; iexact HcS
  · iexists W; iexact HO

include hD in
theorem wp_waitAny {sp sp' : Space} {s s' : Shape} {e e' : EltTy} (a : Memref sig .tc sp s e) (b : Memref sig .tc sp' s' e') {ha : a.view.WordExact} {hb : b.view.WordExact}
    (x : End) (r : ℕ) (hx : r < rounds c x) (hux : b.view.dmaCredit = units x) (hl : ∀ y ∈ l, lv (cell c x) () < y.lvl) (Kt : PUnit → sProp 𝕄) :
    iprop(Inv E A κ ∗ levAts L lv ∗ pos E c x r ∗ crd c x ∗ Owes c D l
        ∗ (Owes c D l -∗ pos E c x (r + 1) -∗ reached E (cell c x) (r + 1) -∗ endPay A c r x -∗ Kt ⟨⟩))
      ⊢ WP c (Prog.lift (.waitDma2 (xsem x) a b ha hb)) Kt := by
  unfold Owes pos crd
  iintro ⟨#HI, #Hlev, Hat, Hc, ⟨%W, HO⟩, Hk⟩
  iapply (Rounds.wp_wait_rest_token 𝒱₀ E (sched E A) (c : Thread nD τ) none (κ := κ (cell c x))
      (wpE_waitDma2_eq 𝒱₀ (c : Thread nD τ) none Set.univ) (Set.mem_univ _) () (O := owe l + D) (W := W) (R := r) (m := 0) (T := ∅)
      ((Nat.zero_add _).trans (hux.trans (expect_end E A c x hx).symm))) $$ [Hc HO Hat]
  · isplitr; · iapply (inv_at E A κ (end_mem c x)); iexact HI
    isplitl [Hc]; · rw [hux]; iexact Hc
    isplitl [HO]; · iexact HO
    isplitr
    · iapply (may c (.dma (xsem x)) l hD ((lv_end c x).trans (by decide)) hl); iexact Hlev
    iexact Hat
  iintro ⟨HO, Hat, Hr, Hp⟩
  ihave Hp := (Entails.of_eq (rest_end E A c x hx)) $$ Hp
  rw [wp_ret]
  imodintro
  iapply Hk $$ [HO] [Hat] [Hr] [Hp]
  · iexists _; iexact HO
  · iexact Hat
  · iexact Hr
  · iexact Hp

/-! ## Staging -/

omit [E.LandsIn (upEmb : UEmb _ 𝕄)] in
theorem stagPay (j : ℕ) : (endPay A 0 (j / 4) (eG (ts j)) : sProp 𝕄)
    = iprop(owns ((0 : Dev nD) : Thread nD τ) (stag (ts j)) fullShare (raw A (tv j) (tg j)) ∗ owns ((0 : Dev nD) : Thread nD τ) (src (tv j) (tg j)) fullShare (raw A (tv j) (tg j))) := by
  have h : 4 * (j / 4) + (ts j).val = j := by show 4 * (j / 4) + j % 4 = j; omega
  show (iprop(owns ((0 : Dev nD) : Thread nD τ) (stag (ts j)) fullShare (raw A (tv (4 * (j / 4) + (ts j).val)) (tg (4 * (j / 4) + (ts j).val)))
    ∗ owns ((0 : Dev nD) : Thread nD τ) (src (tv (4 * (j / 4) + (ts j).val)) (tg (4 * (j / 4) + (ts j).val))) fullShare (raw A (tv (4 * (j / 4) + (ts j).val)) (tg (4 * (j / 4) + (ts j).val)))) : sProp 𝕄) = _
  rw [h]

theorem wp_fetch (j : ℕ) (hj : j < 64) (Kt : PUnit → sProp 𝕄) :
    iprop(Inv E A κ ∗ owns ((0 : Dev nD) : Thread nD τ) (src (tv j) (tg j)) fullShare (raw A (tv j) (tg j)) ∗ some' 0 (stag (ts j)) ∗ tok E 0 (eG (ts j)) (j / 4)
        ∗ (crd 0 (eG (ts j)) -∗ Kt ⟨⟩))
      ⊢ WP 0 (fetchT j) Kt := by
  have hx : j / 4 < rounds 0 (eG (ts j)) := by show j / 4 < 16; omega
  unfold fetchT fetch tok crd owns
  iintro ⟨#HI, ⟨%fs, %hfs, Hsrc⟩, Hslot, ⟨HtS, #HrS⟩, Hk⟩
  ihave Hslot := (pts_of_some _ _) $$ Hslot
  icases Hslot with ⟨%fd, Hslot⟩
  iapply (Rounds.wp_copy_pointsTo 𝒱₀ E (sched E A) ((0 : Dev nD) : Thread nD τ) none (src := src (tv j) (tg j)) (dst := stag (ts j)) (sem := .dma (stgS (ts j)))
      (q := fullShare) (fs := fs) (fd := fd) (r := j / 4) (d := (payer 0 (eG (ts j))).val) (κ := κ (cell 0 (eG (ts j))))
      (by show _ ∈ (sched E A).duties (cell 0 (eG (ts j))) (j / 4); rw [duties_end, if_pos hx]; exact Finset.mem_singleton_self _) () Nf rfl (amount_end E A 0 (eG (ts j)) _ _)
      (by
        refine BIBase.Entails.trans ?_ (Entails.of_eq (payload_end E A 0 (eG (ts j)) (j / 4) _).symm)
        rw [stagPay, ← hfs]
        refine BIClass.sep_mono ?_ (owns_intro _ _ _ _)
        refine (owns_intro _ _ _ _).trans ?_
        rw [View.read_write_univ])) $$ [Hsrc Hslot HtS]
  · isplitr; · iapply (inv_at E A κ (end_mem 0 (eG (ts j)))); iexact HI
    isplitl [Hsrc]; · iexact Hsrc
    isplitl [Hslot]; · iexact Hslot
    isplitl [HtS]; · iexact HtS
    iexact HrS
  iintro HcS
  rw [wp_ret]
  imodintro
  iapply Hk
  iexact HcS

theorem wp_loadStag (s : Fin 4) {q : PosShare TreeShare} {Y : FVec F S2048x128 .f32} {Kt : FVec F S2048x128 .bf16 → sProp 𝕄} :
    iprop(owns (c : Thread nD τ) (stag s) q Y ∗ (owns (c : Thread nD τ) (stag s) q Y -∗ Kt (truncf .bf16 Y bitsLt_bf16_f32))) ⊢ WP c (loadStag s) Kt := by
  unfold loadStag
  iintro ⟨H, Hk⟩
  iapply (wp_load_slab c stagM (fourR s) (fun _ => rfl) squeezes_S1x2048x128_S2048x128 shapeCasts_S1x2048x128_S2048x128 (q := q) (Y := Y))
  isplitl [H]; · iexact H
  iintro %v %hv H
  unfold WP
  simp only [Pure.pure, Prog.bind, wp_ret, hv]
  imodintro
  iapply Hk
  iexact H

theorem wp_putKv (v : Fin 2) (h : Fin 8) (x : FVec F S2048x128 .bf16) {Kt : PUnit → sProp 𝕄} :
    iprop(some' c (kv v h) ∗ (owns (c : Thread nD τ) (kv v h) fullShare x -∗ Kt ⟨⟩)) ⊢ WP c (putKv v h x) Kt := by
  unfold putKv
  iintro ⟨⟨%y, H⟩, Hk⟩
  iapply (wp_load_slab c (kvM v) (kvR h) (fun _ => rfl) squeezes_S1x2048x128_S2048x128 shapeCasts_S1x2048x128_S2048x128 (q := fullShare) (Y := y))
  isplitl [H]; · iexact H
  iintro %_ - H
  iapply (wp_store_slab c (kvM v) (kvR h) (fun _ => rfl) squeezes_S1x2048x128_S2048x128 shapeCasts_S2048x128_S1x2048x128)
  isplitl [H]; · iexists _; iexact H
  iintro H
  unfold WP
  rw [wp_ret]
  imodintro
  iapply Hk
  iexact H

theorem wp_putPool (v : Fin 2) (s : Fin 16) (x : FVec F S2048x128 .bf16) {Kt : PUnit → sProp 𝕄} :
    iprop(some' c (pool v s) ∗ (owns (c : Thread nD τ) (pool v s) fullShare x -∗ Kt ⟨⟩)) ⊢ WP c (putPool v s x) Kt := by
  unfold putPool
  iintro ⟨⟨%y, H⟩, Hk⟩
  iapply (wp_load_slab c (poolM v) (poolR s) (fun _ => rfl) squeezes_S1x2048x128_S2048x128 shapeCasts_S1x2048x128_S2048x128 (q := fullShare) (Y := y))
  isplitl [H]; · iexact H
  iintro %_ - H
  iapply (wp_store_slab c (poolM v) (poolR s) (fun _ => rfl) squeezes_S1x2048x128_S2048x128 shapeCasts_S2048x128_S1x2048x128)
  isplitl [H]; · iexists _; iexact H
  iintro H
  unfold WP
  rw [wp_ret]
  imodintro
  iapply Hk
  iexact H

end Steps

end Cert.KernelIdeal.AT

end
-- ==== Proof.KernelIdeal.AtStage.lean ====
/- Device 0's staging: 64 tasks, each of which starts the copy of a later head, waits for its own, rounds it, and keeps it or
   sends it to the device whose share it is in. -/
module

public import proofs.«01_k».proof.Proof.KernelIdeal.AtSteps
public import Idealize.SL.BI.BigOpNat

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32)

omit [FloatOps F] [Named F] in
theorem Ico_none {a b : ℕ} (h : b ≤ a) (Φ : ℕ → sProp 𝕄) : bigSep (Finset.Ico a b) Φ = iprop(emp) := by
  rw [Finset.Ico_eq_empty (by omega)]; rfl

omit [FloatOps F] [Named F] in
theorem two_split (v : Fin 2) (Φ : Fin 2 → sProp 𝕄) : bigSep Finset.univ Φ = iprop(Φ v ∗ bigSep (Finset.univ.erase v) Φ) := BI.bigSep_univ_split v

/-- A loop, by an assertion that each run carries one further. -/
theorem wp_loop (c : Dev nD) (f : ℕ → Pr F PUnit) (I : ℕ → sProp 𝕄) (m : ℕ)
    (hf : ∀ i, i < m → ∀ Kt : PUnit → sProp 𝕄, iprop(I i ∗ (I (i + 1) -∗ Kt ⟨⟩)) ⊢ WP c (f i) Kt) :
    ∀ (n i : ℕ), i + n ≤ m → ∀ Kt : PUnit → sProp 𝕄, iprop(I i ∗ (I (i + n) -∗ Kt ⟨⟩)) ⊢ WP c (loop f n i) Kt := by
  intro n
  induction n with
  | zero =>
    intro i _ Kt
    show _ ⊢ WP c (Prog.ret ⟨⟩) Kt
    unfold WP
    rw [wp_ret]
    iintro ⟨HI, Hk⟩
    imodintro
    iapply Hk; iexact HI
  | succ n ih =>
    intro i hi Kt
    show _ ⊢ WP c (f i >>= fun _ => loop f n (i + 1)) Kt
    unfold WP
    rw [wp_bind]
    iintro ⟨HI, Hk⟩
    iapply (hf i (by omega))
    isplitl [HI]; · iexact HI
    iintro HI
    iapply (ih (i + 1) (by omega) Kt)
    isplitl [HI]; · iexact HI
    rw [show i + 1 + n = i + (n + 1) by omega]
    iexact Hk

/-! ## What device 0 holds of a staging slot, of a send slot, and of a task -/

def srcO (j : ℕ) : sProp 𝕄 := owns ((0 : Dev nD) : Thread nD τ) (src (tv j) (tg j)) fullShare (raw A (tv j) (tg j))
def freeS (j : ℕ) : sProp 𝕄 := iprop(pos E 0 (eG (ts j)) (j / 4) ∗ reached E (cell 0 (eG (ts j))) (j / 4) ∗ some' 0 (stag (ts j)))
def flyS (j : ℕ) : sProp 𝕄 := iprop(pos E 0 (eG (ts j)) (j / 4) ∗ crd 0 (eG (ts j)))
/-- Staging slot of task `j`: filling, or free where there is no such task. -/
def st (j : ℕ) : sProp 𝕄 := if j < 64 then flyS E j else freeS E j
def freeP (v : Fin 2) (n : ℕ) : sProp 𝕄 := iprop(pos E 0 (eS v (sl n)) (n / 16) ∗ reached E (cell 0 (eS v (sl n))) (n / 16) ∗ some' 0 (pool v (sl n)))
def flyP (v : Fin 2) (n : ℕ) : sProp 𝕄 := iprop(pos E 0 (eS v (sl n)) (n / 16) ∗ crd 0 (eS v (sl n)))
/-- The send slots after `n` sends. -/
def poolB (v : Fin 2) (n : ℕ) : sProp 𝕄 := iprop(bigSep (Finset.Ico n 16) (freeP E v) ∗ bigSep (Finset.Ico (n - 16) n) (flyP E v))
/-- Sends of array `v` in the first `i` tasks. -/
def cnt (v : Fin 2) (i : ℕ) : ℕ := 3 * (i / 8) + min 3 ((i % 8 + (1 - v.val)) / 2)
theorem cnt_tv {i : ℕ} (h : tk i ≠ 3) : cnt (tv i) i = tn i := by
  have h' : i % 8 / 2 ≠ 3 := fun e => h (Fin.ext e)
  show 3 * (i / 8) + min 3 ((i % 8 + (1 - i % 2)) / 2) = 3 * (i / 8) + i % 8 / 2
  omega
theorem cnt_succ {i : ℕ} (h : tk i ≠ 3) : cnt (tv i) (i + 1) = tn i + 1 := by
  have h' : i % 8 / 2 ≠ 3 := fun e => h (Fin.ext e)
  show 3 * ((i + 1) / 8) + min 3 (((i + 1) % 8 + (1 - i % 2)) / 2) = 3 * (i / 8) + i % 8 / 2 + 1
  omega
theorem cnt_own {i : ℕ} (h : tk i = 3) (v : Fin 2) : cnt v (i + 1) = cnt v i := by
  have h' : i % 8 / 2 = 3 := congrArg Fin.val h
  have := v.isLt
  show 3 * ((i + 1) / 8) + min 3 (((i + 1) % 8 + (1 - v.val)) / 2) = 3 * (i / 8) + min 3 ((i % 8 + (1 - v.val)) / 2)
  omega
theorem cnt_ne {i : ℕ} (v : Fin 2) (h : v ≠ tv i) : cnt v (i + 1) = cnt v i := by
  have h' : v.val ≠ i % 2 := fun e => h (Fin.ext e)
  have := v.isLt
  show 3 * ((i + 1) / 8) + min 3 (((i + 1) % 8 + (1 - v.val)) / 2) = 3 * (i / 8) + min 3 ((i % 8 + (1 - v.val)) / 2)
  omega

/-- Where task `i` delivers to. -/
def dT (i : ℕ) : Dev nD := if tk i = 0 then tt i else if tk i = 1 then 1 else 3
def dX (i : ℕ) : End := if tk i = 0 then eF (tv i) (tf i) else eR (tv i) (th i)
theorem payer_d (i : ℕ) : payer (dT i) (dX i) = 0 := by
  unfold dT dX tt
  (repeat' split) <;> rfl
theorem rounds_d (i : ℕ) : rounds (dT i) (dX i) = 1 := by
  unfold dT dX tt
  (repeat' split) <;> rfl
theorem units_d (i : ℕ) : units (dX i) = N := by unfold dX; split <;> rfl
theorem lvl_d (i : ℕ) : 1 < (Due.at (dT i) (dX i)).lvl := by
  have h1 : ∀ (t : Dev nD) v s, 1 < (Due.at t (eF v s)).lvl := by decide +kernel
  have h2 : ∀ (t : Dev nD) v s, 1 < (Due.at t (eR v s)).lvl := by decide +kernel
  unfold dX; split
  · exact h1 _ _ _
  · exact h2 _ _ _

def needF (i : ℕ) : sProp 𝕄 := iprop(srcO A i ∗ dutyTok E (cell 0 (eG (ts i))) (i / 4) 0)
def needT (i : ℕ) : sProp 𝕄 :=
  if tk i = 3 then some' 0 (kv (tv i) (th i))
  else iprop(dutyTok E (cell 0 (eS (tv i) (sl (tn i)))) (tn i / 16) 0 ∗ dutyTok E (cell (dT i) (dX i)) 0 0 ∗ slotPay E (dT i) (dX i))
def doneT (i : ℕ) : sProp 𝕄 :=
  if tk i = 3 then owns ((0 : Dev nD) : Thread nD τ) (kv (tv i) (th i)) fullShare (bf A (tv i) (tg i)) else iprop(emp)

theorem needT_own {i : ℕ} (h : tk i = 3) : (needT E i : sProp 𝕄) = some' 0 (kv (tv i) (th i)) := if_pos h
theorem needT_send {i : ℕ} (h : tk i ≠ 3) : (needT E i : sProp 𝕄)
    = iprop(dutyTok E (cell 0 (eS (tv i) (sl (tn i)))) (tn i / 16) 0 ∗ dutyTok E (cell (dT i) (dX i)) 0 0 ∗ slotPay E (dT i) (dX i)) := if_neg h
theorem doneT_own {i : ℕ} (h : tk i = 3) : (doneT A i : sProp 𝕄) = owns ((0 : Dev nD) : Thread nD τ) (kv (tv i) (th i)) fullShare (bf A (tv i) (tg i)) := if_pos h
theorem doneT_send {i : ℕ} (h : tk i ≠ 3) : (doneT A i : sProp 𝕄) = iprop(emp) := if_neg h

/-- What device 0 owes before task `i`, with `n` to go. -/
def td : ℕ → ℕ → List Due
  | 0, _ => []
  | n + 1, i => if tk i = 3 then td n (i + 1) else .at (dT i) (dX i) :: td n (i + 1)
theorem td_lvl : ∀ (n i : ℕ), ∀ y ∈ td n i, 1 < y.lvl
  | 0, _, y, h => absurd h List.not_mem_nil
  | n + 1, i, y, h => by
    unfold td at h
    split at h
    · exact td_lvl n (i + 1) y h
    · rcases List.mem_cons.mp h with rfl | h
      · exact lvl_d i
      · exact td_lvl n (i + 1) y h

section Task

variable (κ : GSem nD τ sig → ℕ) {D : CellTallies nD τ sig Unit} (hD : Later D)

theorem wp_prefetch (i : ℕ) (Kt : PUnit → sProp 𝕄) :
    iprop(Inv E A κ ∗ freeS E (i + 3) ∗ bigSep (Finset.Ico (i + 3) 64) (needF E A) ∗ (st E (i + 3) -∗ bigSep (Finset.Ico (i + 4) 64) (needF E A) -∗ Kt ⟨⟩))
      ⊢ WP 0 (if i + 3 < 64 then fetchT (i + 3) else pure ⟨⟩) Kt := by
  by_cases h : i + 3 < 64
  · rw [if_pos h, bigSep_Ico_succ_bot h, show i + 3 + 1 = i + 4 from rfl]
    unfold needF srcO freeS st flyS
    rw [if_pos h]
    iintro ⟨HI, ⟨Hp, Hr, Hs⟩, ⟨⟨Ho, Ht⟩, HB⟩, Hk⟩
    iapply (wp_fetch E A κ (i + 3) h Kt)
    isplitl [HI]; · iexact HI
    isplitl [Ho]; · iexact Ho
    isplitl [Hs]; · iexact Hs
    isplitl [Ht Hr]
    · unfold tok
      isplitl [Ht]; · iexact Ht
      iexact Hr
    iintro Hc
    iapply Hk $$ [Hp Hc] [HB]
    · isplitl [Hp]; · iexact Hp
      iexact Hc
    · iexact HB
  · rw [if_neg h, Ico_none (by omega), Ico_none (by omega)]
    unfold st
    rw [if_neg h]
    show _ ⊢ WP 0 (Prog.ret ⟨⟩) Kt
    unfold WP
    rw [wp_ret]
    iintro ⟨-, Hf, HB, Hk⟩
    imodintro
    iapply Hk $$ [Hf] [HB]
    · iexact Hf
    · iexact HB

include hD in
theorem wp_fetched (i : ℕ) (hi : i < 64) (l : List Due) (hl : ∀ y ∈ l, 1 < y.lvl) (Kt : PUnit → sProp 𝕄) :
    iprop(Inv E A κ ∗ levAts L lv ∗ st E i ∗ Owes 0 D l
        ∗ (Owes 0 D l -∗ pos E 0 (eG (ts i)) (i / 4 + 1) -∗ reached E (cell 0 (eG (ts i))) (i / 4 + 1)
          -∗ owns ((0 : Dev nD) : Thread nD τ) (stag (ts i)) fullShare (raw A (tv i) (tg i)) -∗ srcO A i -∗ Kt ⟨⟩))
      ⊢ WP 0 (fetched (tv i) (tg i) (ts i)) Kt := by
  unfold fetched st flyS
  rw [if_pos hi]
  iintro ⟨HI, HL, ⟨Hp, Hc⟩, HO, Hk⟩
  iapply (wp_waitAny E A κ 0 hD l (src (tv i) (tg i)) (stag (ts i)) (eG (ts i)) (i / 4) (show i / 4 < 16 by omega) rfl
    (fun y hy => lt_trans (show lv (cell 0 (eG (ts i))) () < 1 by
      have : ∀ s, lv (cell 0 (eG s)) () < 1 := by decide +kernel
      exact this _) (hl y hy)) Kt)
  isplitl [HI]; · iexact HI
  isplitl [HL]; · iexact HL
  isplitl [Hp]; · iexact Hp
  isplitl [Hc]; · iexact Hc
  isplitl [HO]; · iexact HO
  iintro HO Hp Hr He
  ihave He := (Entails.of_eq (stagPay A i)) $$ He
  icases He with ⟨Hs, Ho⟩
  iapply Hk $$ [HO] [Hp] [Hr] [Hs] [Ho]
  · iexact HO
  · iexact Hp
  · iexact Hr
  · iexact Hs
  · unfold srcO; iexact Ho

theorem rounds_S (v : Fin 2) (n : ℕ) (hn : n < 24) : n / 16 < rounds 0 (eS v (sl n)) := by
  show n / 16 < if n % 16 < 8 then 2 else 1
  split <;> omega
theorem lv_S : ∀ (v : Fin 2) (s : Fin 16), lv (cell 0 (eS v s)) () < 1 := by decide +kernel

/-- The send slots but slot `n`'s. -/
def poolR' (v : Fin 2) (n : ℕ) : sProp 𝕄 := iprop(bigSep (Finset.Ico (n + 1) 16) (freeP E v) ∗ bigSep (Finset.Ico (n + 1 - 16) n) (flyP E v))

include hD in
theorem wp_sent (v : Fin 2) (n : ℕ) (hn : n < 24) (l : List Due) (hl : ∀ y ∈ l, 1 < y.lvl) (Kt : PUnit → sProp 𝕄) :
    iprop(Inv E A κ ∗ levAts L lv ∗ flyP E v n ∗ Owes 0 D l ∗ (Owes 0 D l -∗ freeP E v (n + 16) -∗ Kt ⟨⟩)) ⊢ WP 0 (sent v (sl n)) Kt := by
  unfold sent wait flyP freeP
  rw [show sl (n + 16) = sl n from Fin.ext (Nat.add_mod_right n 16), show (n + 16) / 16 = n / 16 + 1 by omega]
  iintro ⟨HI, HL, ⟨Hp, Hc⟩, HO, Hk⟩
  iapply (wp_waitAny E A κ 0 hD l (kv v 0) (pool v (sl n)) (eS v (sl n)) (n / 16) (rounds_S v n hn) rfl
    (fun y hy => lt_trans (lv_S v (sl n)) (hl y hy)) Kt)
  isplitl [HI]; · iexact HI
  isplitl [HL]; · iexact HL
  isplitl [Hp]; · iexact Hp
  isplitl [Hc]; · iexact Hc
  isplitl [HO]; · iexact HO
  iintro HO Hp Hr He
  iapply Hk $$ [HO] [Hp Hr He]
  · iexact HO
  · isplitl [Hp]; · iexact Hp
    isplitl [Hr]; · iexact Hr
    unfold endPay
    iexact He

include hD in
theorem wp_slot (v : Fin 2) (n : ℕ) (hn : n < 24) (l : List Due) (hl : ∀ y ∈ l, 1 < y.lvl) (Kt : PUnit → sProp 𝕄) :
    iprop(Inv E A κ ∗ levAts L lv ∗ poolB E v n ∗ Owes 0 D l ∗ (Owes 0 D l -∗ freeP E v n -∗ poolR' E v n -∗ Kt ⟨⟩))
      ⊢ WP 0 (if 16 ≤ n then sent v (sl n) else pure ⟨⟩) Kt := by
  unfold poolB poolR'
  by_cases h : 16 ≤ n
  · obtain ⟨m, rfl⟩ : ∃ m, n = m + 16 := ⟨n - 16, by omega⟩
    rw [if_pos h, Ico_none (by omega : 16 ≤ m + 16), Ico_none (by omega : 16 ≤ m + 16 + 1), show m + 16 - 16 = m by omega,
      show m + 16 + 1 - 16 = m + 1 by omega, bigSep_Ico_succ_bot (by omega : m < m + 16), show sl (m + 16) = sl m from Fin.ext (Nat.add_mod_right m 16)]
    iintro ⟨HI, HL, ⟨He, Hf, HB⟩, HO, Hk⟩
    iapply (wp_sent E A κ hD v m (by omega) l hl Kt)
    isplitl [HI]; · iexact HI
    isplitl [HL]; · iexact HL
    isplitl [Hf]; · iexact Hf
    isplitl [HO]; · iexact HO
    iintro HO Hf
    iapply Hk $$ [HO] [Hf] [He HB]
    · iexact HO
    · iexact Hf
    · isplitl [He]; · iexact He
      iexact HB
  · rw [if_neg h, bigSep_Ico_succ_bot (by omega : n < 16), show n - 16 = 0 by omega, show n + 1 - 16 = 0 by omega]
    show _ ⊢ WP 0 (Prog.ret ⟨⟩) Kt
    unfold WP
    rw [wp_ret]
    iintro ⟨-, -, ⟨⟨Hf, HB⟩, HC⟩, HO, Hk⟩
    imodintro
    iapply Hk $$ [HO] [Hf] [HB HC]
    · iexact HO
    · iexact Hf
    · isplitl [HB]; · iexact HB
      iexact HC

omit [E.LandsIn (upEmb : UEmb _ 𝕄)] in
theorem poolB_next (v : Fin 2) (n : ℕ) : iprop(flyP E v n ∗ poolR' E v n) ⊢ poolB E v (n + 1) := by
  unfold poolB poolR'
  rw [bigSep_Ico_succ_top (by omega : n + 1 - 16 ≤ n)]
  iintro ⟨Hf, HB, HC⟩
  isplitl [HB]; · iexact HB
  isplitl [Hf]; · iexact Hf
  iexact HC

theorem heads_own : ∀ i : Fin 64, tk i = 3 → tg i = hd 0 (th i) := by decide +kernel
theorem heads_1 : ∀ i : Fin 64, tk i = 1 → tg i = hd 1 (th i) := by decide +kernel
theorem heads_3 : ∀ i : Fin 64, tk i = 2 → tg i = hd 3 (th i) := by decide +kernel
theorem heads_2 : ∀ i : Fin 64, tk i = 0 → tg i = hd 2 (fwH (tt i) (tf i)) := by decide +kernel

/-- What task `i` delivers is what the receiver expects. -/
theorem deliver (i : ℕ) (hi : i < 64) (h3 : tk i ≠ 3) (b : Memref sig .tc .vmem S2048x128 .bf16)
    (hb : b = if tk i = 0 then fwd (tv i) (tf i) else kv (tv i) (th i)) :
    (owns (dT i : Thread nD τ) b fullShare (bf A (tv i) (tg i)) : sProp 𝕄) ⊢ endPay A (dT i) 0 (dX i) := by
  subst hb
  by_cases h0 : tk i = 0
  · rw [dX, if_pos h0, if_pos h0]
    unfold endPay fwV kvV
    rw [dT, if_pos h0, heads_2 ⟨i, hi⟩ h0]
  · rw [dX, if_neg h0, if_neg h0]
    unfold endPay kvV
    rw [dT, if_neg h0]
    by_cases h1 : tk i = 1
    · rw [if_pos h1, heads_1 ⟨i, hi⟩ h1]
    · have h2 : tk i = 2 := by
        have a0 : i % 8 / 2 ≠ 0 := fun e => h0 (Fin.ext e)
        have a1 : i % 8 / 2 ≠ 1 := fun e => h1 (Fin.ext e)
        have a3 : i % 8 / 2 ≠ 3 := fun e => h3 (Fin.ext e)
        exact Fin.ext (show i % 8 / 2 = 2 by omega)
      rw [if_neg h1, heads_3 ⟨i, hi⟩ h2]

theorem wp_sendT (i : ℕ) (hi : i < 64) (h3 : tk i ≠ 3) (l : List Due) (Kt : PUnit → sProp 𝕄) :
    iprop(Inv E A κ ∗ pos E 0 (eS (tv i) (sl (tn i))) (tn i / 16) ∗ reached E (cell 0 (eS (tv i) (sl (tn i)))) (tn i / 16)
        ∗ owns ((0 : Dev nD) : Thread nD τ) (pool (tv i) (sl (tn i))) fullShare (bf A (tv i) (tg i))
        ∗ dutyTok E (cell 0 (eS (tv i) (sl (tn i)))) (tn i / 16) 0 ∗ dutyTok E (cell (dT i) (dX i)) 0 0 ∗ slotPay E (dT i) (dX i)
        ∗ Owes 0 D (.at (dT i) (dX i) :: l) ∗ (flyP E (tv i) (tn i) -∗ Owes 0 D l -∗ Kt ⟨⟩))
      ⊢ WP 0 (sendT i) Kt := by
  have hn : tn i < 24 := by
    have h' : i % 8 / 2 ≠ 3 := fun e => h3 (Fin.ext e)
    show 3 * (i / 8) + i % 8 / 2 < 24
    omega
  have key : ∀ (t : Dev nD) (b : Memref sig .tc .vmem S2048x128 .bf16) (y : End) (hb : b.view.WordExact), t = dT i → y = dX i →
      b = (if tk i = 0 then fwd (tv i) (tf i) else kv (tv i) (th i)) → (slotPay E t y : sProp 𝕄) = iprop(some' t b ∗ reached E (cell t y) 0) →
      iprop(Inv E A κ ∗ pos E 0 (eS (tv i) (sl (tn i))) (tn i / 16) ∗ reached E (cell 0 (eS (tv i) (sl (tn i)))) (tn i / 16)
        ∗ owns ((0 : Dev nD) : Thread nD τ) (pool (tv i) (sl (tn i))) fullShare (bf A (tv i) (tg i))
        ∗ dutyTok E (cell 0 (eS (tv i) (sl (tn i)))) (tn i / 16) 0 ∗ dutyTok E (cell (dT i) (dX i)) 0 0 ∗ slotPay E (dT i) (dX i)
        ∗ Owes 0 D (.at (dT i) (dX i) :: l) ∗ (flyP E (tv i) (tn i) -∗ Owes 0 D l -∗ Kt ⟨⟩))
      ⊢ WP 0 (send t (pool (tv i) (sl (tn i))) b (xsem (eS (tv i) (sl (tn i)))) (xsem y) (exact_pool _ _) hb) Kt := by
    intro t b y hb ht hy hbd hsl
    subst ht hy
    rw [hsl]
    unfold flyP
    iintro ⟨HI, Hp, Hr, Ho, Ht, Ht', ⟨Hs, Hr'⟩, HO, Hk⟩
    iapply (wp_send E A κ 0 l (dT i) (pool (tv i) (sl (tn i))) b (eS (tv i) (sl (tn i))) (dX i) (tn i / 16) (exact_pool _ _) hb
      (rounds_S _ _ hn) (by rw [rounds_d]; exact Nat.one_pos) rfl (units_d i) (bf A (tv i) (tg i)) (some_intro 0 _ _) (deliver A i hi h3 b hbd) Kt)
    isplitl [HI]; · iexact HI
    isplitl [Ho]; · iexact Ho
    isplitl [Hs]; · iexact Hs
    isplitl [Ht Hr]
    · unfold tok
      isplitl [Ht]; · iexact Ht
      iexact Hr
    isplitl [Ht' Hr']
    · unfold tok
      rw [payer_d]
      isplitl [Ht']; · iexact Ht'
      iexact Hr'
    isplitl [HO]; · iexact HO
    iintro Hc HO
    iapply Hk $$ [Hp Hc] [HO]
    · isplitl [Hp]; · iexact Hp
      iexact Hc
    · iexact HO
  unfold sendT
  by_cases h0 : tk i = 0
  · rw [if_pos h0]
    exact key (tt i) (fwd (tv i) (tf i)) (eF (tv i) (tf i)) (exact_fwd _ _) (if_pos h0).symm (if_pos h0).symm (if_pos h0).symm rfl
  · rw [if_neg h0]
    exact key (if tk i = 1 then 1 else 3) (kv (tv i) (th i)) (eR (tv i) (th i)) (exact_kv _ _) (if_neg h0).symm (if_neg h0).symm (if_neg h0).symm rfl

/-! ## The loop -/

/-- Device 0 before task `i`. -/
def stage (i : ℕ) : sProp 𝕄 :=
  iprop(Inv E A κ ∗ levAts L lv ∗ (st E i ∗ st E (i + 1) ∗ st E (i + 2) ∗ freeS E (i + 3)) ∗ bigSep (Finset.Ico (i + 3) 64) (needF E A)
    ∗ bigSep (Finset.Ico i 64) (needT E) ∗ bigSep (Finset.Ico 0 i) (srcO A) ∗ bigSep (Finset.Ico 0 i) (doneT A)
    ∗ bigSep Finset.univ (fun v => poolB E v (cnt v i)) ∗ Owes 0 D (td (64 - i) i))

include hD in
theorem wp_task (i : ℕ) (hi : i < 64) (Kt : PUnit → sProp 𝕄) :
    iprop(stage E A κ (D := D) i ∗ (stage E A κ (D := D) (i + 1) -∗ Kt ⟨⟩)) ⊢ WP 0 (task i) Kt := by
  have hm : 64 - i = (64 - (i + 1)) + 1 := by omega
  unfold stage task
  rw [bigSep_Ico_succ_bot hi (needT E), bigSep_Ico_succ_top (Nat.zero_le i) (srcO A), bigSep_Ico_succ_top (Nat.zero_le i) (doneT A), hm]
  unfold WP
  rw [wp_bind]
  iintro ⟨⟨#HI, #HL, ⟨S0, S1, S2, S3⟩, HF, ⟨HT, HTs⟩, Hsrc, Hdone, HP, HO⟩, Hk⟩
  iapply (wp_prefetch E A κ i)
  isplitr; · iexact HI
  isplitl [S3]; · iexact S3
  isplitl [HF]; · iexact HF
  iintro S3 HF
  rw [wp_bind]
  iapply (wp_fetched E A κ hD i hi _ (td_lvl _ _))
  isplitr; · iexact HI
  isplitr; · iexact HL
  isplitl [S0]; · iexact S0
  isplitl [HO]; · iexact HO
  iintro HO Hp Hr Hs Ho
  rw [wp_bind]
  iapply (wp_loadStag 0 (ts i))
  isplitl [Hs]; · iexact Hs
  iintro Hs
  ihave S4 : (freeS E (i + 4)) $$ [Hp Hr Hs]
  · unfold freeS
    rw [show ts (i + 4) = ts i from Fin.ext (Nat.add_mod_right i 4), show (i + 4) / 4 = i / 4 + 1 by omega]
    isplitl [Hp]; · iexact Hp
    isplitl [Hr]; · iexact Hr
    iexists _; iexact Hs
  by_cases h3 : tk i = 3
  · rw [if_pos h3]
    ihave HT := (Entails.of_eq (needT_own E h3)) $$ HT
    iapply (wp_putKv 0 (tv i) (th i) _)
    isplitl [HT]; · iexact HT
    iintro Hv
    iapply Hk
    isplitr; · iexact HI
    isplitr; · iexact HL
    isplitl [S1 S2 S3 S4]
    · isplitl [S1]; · iexact S1
      isplitl [S2]; · iexact S2
      isplitl [S3]; · iexact S3
      iexact S4
    isplitl [HF]; · iexact HF
    isplitl [HTs]; · iexact HTs
    isplitl [Hsrc Ho]; · isplitl [Ho] <;> iassumption
    isplitl [Hdone Hv]
    · isplitl [Hv]; · rw [doneT_own A h3]; unfold bf; iexact Hv
      iexact Hdone
    isplitl [HP]
    · rw [show (fun v => (poolB E v (cnt v (i + 1)) : sProp 𝕄)) = fun v => poolB E v (cnt v i) from funext fun v => by rw [cnt_own h3 v]]
      iexact HP
    · rw [show td (64 - (i + 1) + 1) i = td (64 - (i + 1)) (i + 1) from if_pos h3]
      iexact HO
  · have hn : tn i < 24 := by
      have h' : i % 8 / 2 ≠ 3 := fun e => h3 (Fin.ext e)
      show 3 * (i / 8) + i % 8 / 2 < 24
      omega
    rw [if_neg h3]
    ihave HT := (Entails.of_eq (needT_send E h3)) $$ HT
    ihave HP := (Entails.of_eq (two_split (tv i) (fun v => poolB E v (cnt v i)))) $$ HP
    icases HT with ⟨Ht, Ht', Hsl⟩
    icases HP with ⟨HP, HPs⟩
    rw [wp_bind]
    iapply (wp_slot E A κ hD (tv i) (tn i) hn _ (td_lvl _ _))
    isplitr; · iexact HI
    isplitr; · iexact HL
    isplitl [HP]; · rw [← cnt_tv h3]; iexact HP
    isplitl [HO]; · iexact HO
    iintro HO Hf HP
    ihave Hf := (Entails.of_eq (show freeP E (tv i) (tn i) = iprop(pos E 0 (eS (tv i) (sl (tn i))) (tn i / 16) ∗ reached E (cell 0 (eS (tv i) (sl (tn i)))) (tn i / 16) ∗ some' 0 (pool (tv i) (sl (tn i)))) from rfl)) $$ Hf
    icases Hf with ⟨Hp, Hr, Hf⟩
    rw [wp_bind]
    iapply (wp_putPool 0 (tv i) (sl (tn i)) _)
    isplitl [Hf]; · iexact Hf
    iintro Hf
    iapply (wp_sendT E A κ i hi h3 (td (64 - (i + 1)) (i + 1)))
    isplitr; · iexact HI
    isplitl [Hp]; · iexact Hp
    isplitl [Hr]; · iexact Hr
    isplitl [Hf]; · unfold bf; iexact Hf
    isplitl [Ht]; · iexact Ht
    isplitl [Ht']; · iexact Ht'
    isplitl [Hsl]; · iexact Hsl
    isplitl [HO]
    · rw [show td (64 - (i + 1) + 1) i = .at (dT i) (dX i) :: td (64 - (i + 1)) (i + 1) from if_neg h3]
      iexact HO
    iintro Hf HO
    iapply Hk
    isplitr; · iexact HI
    isplitr; · iexact HL
    isplitl [S1 S2 S3 S4]
    · isplitl [S1]; · iexact S1
      isplitl [S2]; · iexact S2
      isplitl [S3]; · iexact S3
      iexact S4
    isplitl [HF]; · iexact HF
    isplitl [HTs]; · iexact HTs
    isplitl [Hsrc Ho]; · isplitl [Ho] <;> iassumption
    isplitl [Hdone]
    · isplitr; · rw [doneT_send A h3]; iempintro
      iexact Hdone
    isplitl [Hf HP HPs]
    · rw [two_split (tv i), cnt_succ h3]
      isplitl [Hf HP]
      · iapply (poolB_next E (tv i) (tn i))
        isplitl [Hf] <;> iassumption
      · rw [bigSep_congr (s := Finset.univ.erase (tv i)) (fun v hv => congrArg (poolB E v) (cnt_ne v (Finset.ne_of_mem_erase hv)))]
        iexact HPs
    · iexact HO

end Task

end Cert.KernelIdeal.AT

end
-- ==== Proof.KernelIdeal.AtHead.lean ====
/- One head's attention on one device: what it reads, and the rows of the result it leaves. -/
module

public import proofs.«01_k».proof.Proof.KernelIdeal.AtStage

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

/-! ## Part of a slab -/

section Part

variable (c : Dev nD) {cs : CoreSpace} {s s' : Shape} {e : EltTy} (M : Memref sig .tc cs s e) (r : Rect s) (hr : ∀ a, r.stride a = 1) (hq : r.shape.Squeezes s')
  (r' : Rect s) (g : r'.shape.Idx → r.shape.Idx) (hg : ∀ i, r'.emb i = r.emb (g i))

include hg in
/-- A load of a rectangle inside the slab's. -/
theorem wp_load_part (hc : s'.ShapeCasts r.shape) {hl : M.view.LoadsAt r'.toLoadRect} {α : Type}
    {k : (r'.shape.Idx → Elt F e) → Pr F α} {Q : α → sProp 𝕄} {q : PosShare TreeShare} {Y : s'.Idx → Elt F e} :
    iprop(owns (c : Thread nD τ) ((M.slice r hr).squeeze s' hq) q Y
        ∗ (owns (c : Thread nD τ) ((M.slice r hr).squeeze s' hq) q Y -∗ WP c (k fun i => shapeCast r.shape Y hc (g i)) Q))
      ⊢ WP c (.op (.load M r'.toLoadRect hl) k) Q := by
  unfold owns
  iintro ⟨⟨%f, %hf, H⟩, Hk⟩
  subst hf
  have hv : (fun i => shapeCast r.shape (((M.slice r hr).squeeze s' hq).view.read (Elt F) f) hc (g i)) = fun i => M.view.read (Elt F) f (r'.emb i) := by
    funext i
    show (M.access r).read (Elt F) f (Shape.reshapeEquiv _ (Shape.reshapeEquiv _ (g i))) = _
    rw [Shape.reshapeEquiv_reshapeEquiv, Shape.reshapeEquiv_self, hg]
    rfl
  have hs : (M.access r').set ⊆ ((M.slice r hr).squeeze s' hq).view.set := by
    rw [slab_set]
    intro p hp
    obtain ⟨i, -, rfl⟩ := Finset.mem_map.mp hp
    exact Finset.mem_map.mpr ⟨g i, Finset.mem_univ _, congrArg M.view.emb (hg i).symm⟩
  rw [hv]
  iapply (wp_load_rect 𝒱₀ (c : Thread nD τ) none Set.univ (m := M) (r := r') (S := ((M.slice r hr).squeeze s' hq).view.set) (q := q) (f := f) hs) $$ [H]
  · iexact H
  iintro H
  iapply Hk
  iexists f
  isplitr; · ipureintro; rfl
  iexact H

end Part

/-! ## One head's attention -/

theorem wide_le (q : Fin 4) (a : Fin 3) : (s1k q).size a ≤ S1x2048x128.size a := by revert q a; decide
/-- The first keys of a head, as block `q` loads them. -/
def wide (q : Fin 4) (i : (s1k q).Idx) : S1x2048x128.Idx := fun a => ⟨(i a).val, lt_of_lt_of_le (i a).isLt (wide_le q a)⟩
def kcut (q : Fin 4) (Y : FVec F S2048x128 .bf16) : FVec F (s1k q) .bf16 := fun i => shapeCast S1x2048x128 Y shapeCasts_S2048x128_S1x2048x128 (wide q i)
theorem kR_emb (h : Fin 8) (q : Fin 4) (i : (kR h q).shape.Idx) : (kR h q).emb i = (kvR h).emb (wide q i) := by
  funext a; exact Fin.ext rfl

section Attn

variable (x : FVec F S2048x1024 .bf16) (wq wo : FVec F S1024x1024 .bf16) (K V : Fin 8 → FVec F S2048x128 .bf16)

def qOf (h : Fin 8) : FVec F S2048x128 .bf16 := queries x fun i => wq ((wqR h).emb i)
def woOf (h : Fin 8) : FVec F S128x1024 .bf16 := shapeCast S128x1024 (fun i => wo ((woR h).emb i)) shapeCasts_S128x1024_S128x1024
/-- What head `h` adds to rows block `q`. -/
def headC (h : Fin 8) (q : Fin 4) : FVec F S512x1024 .f32 := contrib q (qOf x wq h) (woOf wo h) (kcut q (K h)) (kcut q (V h))
/-- Rows block `q` after the first `n` heads. -/
def accB : ℕ → Fin 4 → FVec F S512x1024 .f32
  | 0, _ => constant S512x1024 .f32 0x00000000#32
  | n + 1, q => upd (h8 n) (accB n q) (headC x wq wo K V (h8 n) q)
def rows {α : Type} (q : Fin 4) (f : S2048x1024.Idx → α) : S512x1024.Idx → α := fun i => f ((outR q).emb i)

/-- The result's buffer, with `n q` heads in rows block `q`. -/
def outSt (c : Dev nD) (n : Fin 4 → ℕ) : sProp 𝕄 :=
  iprop(∃ f, ⌜∀ q, n q ≠ 0 → rows q f = accB x wq wo K V (n q) q⌝ ∗ owns (c : Thread nD τ) outM fullShare f)

theorem outR_disjoint (q p : Fin 4) (h : q ≠ p) : Disjoint (outR q).set (outR p).set := by
  have h1 : q.val ≠ p.val := fun e => h (Fin.ext e)
  refine Rect.unit_disjoint 0 ?_
  show 512 * q.val + 512 ≤ 512 * p.val ∨ 512 * p.val + 512 ≤ 512 * q.val
  omega

variable (c : Dev nD)

theorem wp_chunk (i : ℕ) (hi : i < 8) (q : Fin 4) (n : Fin 4 → ℕ) (hn : n q = i) (Kt : PUnit → sProp 𝕄) :
    iprop(owns (c : Thread nD τ) (kv 0 (h8 i)) fullShare (K (h8 i)) ∗ owns (c : Thread nD τ) (kv 1 (h8 i)) fullShare (V (h8 i)) ∗ outSt x wq wo K V c n
        ∗ (owns (c : Thread nD τ) (kv 0 (h8 i)) fullShare (K (h8 i)) -∗ owns (c : Thread nD τ) (kv 1 (h8 i)) fullShare (V (h8 i))
          -∗ outSt x wq wo K V c (Function.update n q (i + 1)) -∗ Kt ⟨⟩))
      ⊢ WP c (chunk (h8 i) q (qOf x wq (h8 i)) (woOf wo (h8 i))) Kt := by
  have hacc : accB x wq wo K V (i + 1) q = upd (h8 i) (accB x wq wo K V i q) (headC x wq wo K V (h8 i) q) := rfl
  have store : ∀ (f : S2048x1024.Idx → Elt F .f32) (w : FVec F S512x1024 .f32) (hf : ∀ q, n q ≠ 0 → rows q f = accB x wq wo K V (n q) q)
      (hw : w = accB x wq wo K V (i + 1) q),
      iprop(owns (c : Thread nD τ) outM fullShare f ∗ (outSt x wq wo K V c (Function.update n q (i + 1)) -∗ Kt ⟨⟩))
        ⊢ WP c (Prog.op (.load outM (outR q).toLoadRect (View.loadsAt_vmem h_S512x1024)) fun _ =>
            Prog.lift (.store outM (outR q) w Finset.univ (View.stores_vmem_bits_univ h_S512x1024 rfl) (.inl rfl))) Kt := by
    intro f w hf hw
    unfold outSt
    iintro ⟨H, Hk⟩
    iapply (wp_load_in c outM _ (Y := f))
    isplitl [H]; · iexact H
    iintro H
    iapply (wp_store_in c outM _ (Y := f))
    isplitl [H]; · iexact H
    iintro %y' %hy H
    unfold WP
    rw [wp_ret]
    imodintro
    iapply Hk
    iexists y'
    isplitr
    · ipureintro
      intro p hp
      by_cases hpq : p = q
      · subst hpq
        rw [Function.update_self]
        exact (funext hy.1).trans hw
      · rw [Function.update_of_ne hpq] at hp ⊢
        rw [← hf p hp]
        funext j
        refine hy.2 _ fun hm => Finset.disjoint_left.mp (outR_disjoint p q hpq)
          ((Rect.map_emb_univ _).le (Finset.mem_map_of_mem _ (Finset.mem_univ j))) ((Rect.map_emb_univ _).le hm)
    · iexact H
  by_cases h0 : h8 i = 0
  · have hp : chunk (F := F) (h8 i) q (qOf x wq (h8 i)) (woOf wo (h8 i)) = Prog.op (.load (kvM 0) (kR (h8 i) q).toLoadRect (View.loadsAt_vmem (pos_k q))) fun kc : Vec F (s1k q) .bf16 =>
      Prog.op (.load (kvM 1) (kR (h8 i) q).toLoadRect (View.loadsAt_vmem (pos_k q))) fun vc : Vec F (s1k q) .bf16 =>
      Prog.op (.load outM (outR q).toLoadRect (View.loadsAt_vmem h_S512x1024)) fun _ : Vec F S512x1024 .f32 =>
      Prog.lift (.store outM (outR q) (upd (h8 i) (contrib q (qOf x wq (h8 i)) (woOf wo (h8 i)) kc vc) (contrib q (qOf x wq (h8 i)) (woOf wo (h8 i)) kc vc)) Finset.univ (View.stores_vmem_bits_univ h_S512x1024 rfl) (.inl rfl)) := by
      unfold chunk
      simp only [if_pos h0]
      rfl
    rw [hp]
    unfold outSt
    iintro ⟨HK, HV, ⟨%f, %hf, Ho⟩, Hk⟩
    iapply (wp_load_part c (kvM 0) (kvR (h8 i)) (fun _ => rfl) squeezes_S1x2048x128_S2048x128 (kR (h8 i) q) (wide q) (kR_emb (h8 i) q)
      shapeCasts_S2048x128_S1x2048x128 (q := fullShare) (Y := K (h8 i)))
    isplitl [HK]; · iexact HK
    iintro HK
    iapply (wp_load_part c (kvM 1) (kvR (h8 i)) (fun _ => rfl) squeezes_S1x2048x128_S2048x128 (kR (h8 i) q) (wide q) (kR_emb (h8 i) q)
      shapeCasts_S2048x128_S1x2048x128 (q := fullShare) (Y := V (h8 i)))
    isplitl [HV]; · iexact HV
    iintro HV
    iapply (store f _ hf (by rw [hacc]; unfold upd; rw [if_pos h0, if_pos h0]; rfl))
    isplitl [Ho]; · iexact Ho
    iintro Ho
    iapply Hk $$ [HK] [HV] [Ho]
    · iexact HK
    · iexact HV
    · unfold outSt; iexact Ho
  · have hi0 : n q ≠ 0 := fun e => h0 (Fin.ext (show i % 8 = 0 by omega))
    have hp : chunk (F := F) (h8 i) q (qOf x wq (h8 i)) (woOf wo (h8 i)) = Prog.op (.load (kvM 0) (kR (h8 i) q).toLoadRect (View.loadsAt_vmem (pos_k q))) fun kc : Vec F (s1k q) .bf16 =>
      Prog.op (.load (kvM 1) (kR (h8 i) q).toLoadRect (View.loadsAt_vmem (pos_k q))) fun vc : Vec F (s1k q) .bf16 =>
      Prog.op (.load outM (outR q).toLoadRect (View.loadsAt_vmem h_S512x1024)) fun o : Vec F S512x1024 .f32 =>
      Prog.op (.load outM (outR q).toLoadRect (View.loadsAt_vmem h_S512x1024)) fun _ : Vec F S512x1024 .f32 =>
      Prog.lift (.store outM (outR q) (upd (h8 i) o (contrib q (qOf x wq (h8 i)) (woOf wo (h8 i)) kc vc)) Finset.univ (View.stores_vmem_bits_univ h_S512x1024 rfl) (.inl rfl)) := by
      unfold chunk
      simp only [if_neg h0]
      rfl
    rw [hp]
    unfold outSt
    iintro ⟨HK, HV, ⟨%f, %hf, Ho⟩, Hk⟩
    iapply (wp_load_part c (kvM 0) (kvR (h8 i)) (fun _ => rfl) squeezes_S1x2048x128_S2048x128 (kR (h8 i) q) (wide q) (kR_emb (h8 i) q)
      shapeCasts_S2048x128_S1x2048x128 (q := fullShare) (Y := K (h8 i)))
    isplitl [HK]; · iexact HK
    iintro HK
    iapply (wp_load_part c (kvM 1) (kvR (h8 i)) (fun _ => rfl) squeezes_S1x2048x128_S2048x128 (kR (h8 i) q) (wide q) (kR_emb (h8 i) q)
      shapeCasts_S2048x128_S1x2048x128 (q := fullShare) (Y := V (h8 i)))
    isplitl [HV]; · iexact HV
    iintro HV
    iapply (wp_load_in c outM (outR q) (Y := f))
    isplitl [Ho]; · iexact Ho
    iintro Ho
    iapply (store f _ hf (by
      rw [hacc, ← show rows q f = accB x wq wo K V i q from by rw [hf q hi0, hn]]
      rfl))
    isplitl [Ho]; · iexact Ho
    iintro Ho
    iapply Hk $$ [HK] [HV] [Ho]
    · iexact HK
    · iexact HV
    · unfold outSt; iexact Ho

theorem four_updates (i : ℕ) : Function.update (Function.update (Function.update (Function.update (fun _ : Fin 4 => i) 0 (i + 1)) 1 (i + 1)) 2 (i + 1)) 3 (i + 1) = fun _ => i + 1 := by
  funext q
  fin_cases q <;> rfl

theorem zero_emb (i : S2048x1024.Idx) :
    (Rect.unit (s := S2048x1024) ![0, 0] S2048x1024.size inb_S2048x1024_S2048x1024_0_0).emb i = i := by
  funext a
  refine Fin.ext ?_
  fin_cases a
  · show 0 + 1 * (i 0).val = (i 0).val; omega
  · show 0 + 1 * (i 1).val = (i 1).val; omega

/-- The blocks a device attends with: its activations and weights. -/
def ins : sProp 𝕄 := iprop(owns (c : Thread nD τ) xM fullShare x ∗ owns (c : Thread nD τ) wqM fullShare wq ∗ owns (c : Thread nD τ) woM fullShare wo)

theorem wp_compute (i : ℕ) (hi : i < 8) (Kt : PUnit → sProp 𝕄) :
    iprop(ins x wq wo c ∗ owns (c : Thread nD τ) (kv 0 (h8 i)) fullShare (K (h8 i)) ∗ owns (c : Thread nD τ) (kv 1 (h8 i)) fullShare (V (h8 i))
        ∗ outSt x wq wo K V c (fun _ => i)
        ∗ (ins x wq wo c -∗ owns (c : Thread nD τ) (kv 0 (h8 i)) fullShare (K (h8 i)) -∗ owns (c : Thread nD τ) (kv 1 (h8 i)) fullShare (V (h8 i))
          -∗ outSt x wq wo K V c (fun _ => i + 1) -∗ Kt ⟨⟩))
      ⊢ WP c (compute (h8 i)) Kt := by
  unfold compute ins
  iintro ⟨⟨Hx, Hq, Hw⟩, HK, HV, Ho, Hk⟩
  iapply (wp_load_in c xM _ (Y := x))
  isplitl [Hx]; · iexact Hx
  iintro Hx
  iapply (wp_load_in c wqM _ (Y := wq))
  isplitl [Hq]; · iexact Hq
  iintro Hq
  iapply (wp_load_in c woM _ (Y := wo))
  isplitl [Hw]; · iexact Hw
  iintro Hw
  rw [show (fun i => x ((Rect.unit (s := S2048x1024) ![0, 0] S2048x1024.size inb_S2048x1024_S2048x1024_0_0).emb i)) = x from funext fun i => congrArg x (zero_emb i)]
  change _ ⊢ WP c (chunk (h8 i) 0 (qOf x wq (h8 i)) (woOf wo (h8 i)) >>= fun _ => chunk (h8 i) 1 (qOf x wq (h8 i)) (woOf wo (h8 i)) >>= fun _ =>
    chunk (h8 i) 2 (qOf x wq (h8 i)) (woOf wo (h8 i)) >>= fun _ => chunk (h8 i) 3 (qOf x wq (h8 i)) (woOf wo (h8 i))) Kt
  unfold WP
  iintro ⟨⟨⟨⟨⟨⟨HK, HV⟩, Ho⟩, Hk⟩, Hx⟩, Hq⟩, Hw⟩
  rw [wp_bind]
  iapply (wp_chunk x wq wo K V c i hi 0 (fun _ => i) rfl)
  isplitl [HK]; · iexact HK
  isplitl [HV]; · iexact HV
  isplitl [Ho]; · iexact Ho
  iintro HK HV Ho
  rw [wp_bind]
  iapply (wp_chunk x wq wo K V c i hi 1 (Function.update (fun _ : Fin 4 => i) 0 (i + 1)) rfl)
  isplitl [HK]; · iexact HK
  isplitl [HV]; · iexact HV
  isplitl [Ho]; · iexact Ho
  iintro HK HV Ho
  rw [wp_bind]
  iapply (wp_chunk x wq wo K V c i hi 2 (Function.update (Function.update (fun _ : Fin 4 => i) 0 (i + 1)) 1 (i + 1)) rfl)
  isplitl [HK]; · iexact HK
  isplitl [HV]; · iexact HV
  isplitl [Ho]; · iexact Ho
  iintro HK HV Ho
  iapply (wp_chunk x wq wo K V c i hi 3 (Function.update (Function.update (Function.update (fun _ : Fin 4 => i) 0 (i + 1)) 1 (i + 1)) 2 (i + 1)) rfl)
  isplitl [HK]; · iexact HK
  isplitl [HV]; · iexact HV
  isplitl [Ho]; · iexact Ho
  iintro HK HV Ho
  iapply Hk $$ [Hx Hq Hw] [HK] [HV] [Ho]
  · isplitl [Hx]; · iexact Hx
    isplitl [Hq] <;> iassumption
  · iexact HK
  · iexact HV
  · rw [← four_updates]; iexact Ho

end Attn

end Cert.KernelIdeal.AT

end
-- ==== Proof.KernelIdeal.AtLoop.lean ====
/- A device's loop over the heads - what it passes on, what it waits for, what it attends - and the waits at the end. -/
module

public import proofs.«01_k».proof.Proof.KernelIdeal.AtHead

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32)

/-! ## What comes from other devices for a head, and what is passed on -/

section Bags

variable (c : Dev nD) (v : Fin 2) (i : ℕ)

/-- Before, between and after: device `c`'s passing on of head `i` of array `v`. -/
def passPre : sProp 𝕄 := iprop(pos E c (eF v (s4 i)) 0 ∗ crd c (eF v (s4 i)) ∗ pos E c (eN v (s4 i)) 0 ∗ tok E c (eN v (s4 i)) 0
  ∗ dutyTok E (cell 2 (eR v (h8 i))) 0 c.val ∗ slotPay E 2 (eR v (h8 i)))
def passMid : sProp 𝕄 := iprop(pos E c (eF v (s4 i)) 1 ∗ pos E c (eN v (s4 i)) 0 ∗ crd c (eN v (s4 i)))
def passPost : sProp 𝕄 := iprop(pos E c (eF v (s4 i)) 1 ∗ pos E c (eN v (s4 i)) 1 ∗ some' c (fwd v (s4 i)))
def got : sProp 𝕄 := owns (c : Thread nD τ) (kv v (h8 i)) fullShare (kvV A c v (h8 i))
def arrPre : sProp 𝕄 := if c = 0 then got A c v i else iprop(pos E c (eR v (h8 i)) 0 ∗ crd c (eR v (h8 i)))
def arrPost : sProp 𝕄 := if c = 0 then iprop(emp) else pos E c (eR v (h8 i)) 1

end Bags

def passes (c : Dev nD) (Φ : Fin 2 → ℕ → sProp 𝕄) (i : ℕ) : sProp 𝕄 := if passer c i then iprop(Φ 0 i ∗ Φ 1 i) else iprop(emp)

/-- What device `c` owes before head `i`, with `n` to go. -/
def td2 (c : Dev nD) : ℕ → ℕ → List Due
  | 0, _ => []
  | n + 1, i => if passer c i then .at 2 (eR 0 (h8 i)) :: .at 2 (eR 1 (h8 i)) :: td2 c n (i + 1) else td2 c n (i + 1)
theorem td2_mem (c : Dev nD) : ∀ (n i : ℕ), ∀ y ∈ td2 c n i, y.lvl = 3 ∧ (c = 1 ∨ c = 3)
  | 0, _, y, h => absurd h List.not_mem_nil
  | n + 1, i, y, h => by
    have h3 : ∀ (v : Fin 2) (h : Fin 8), (Due.at 2 (eR v h)).lvl = 3 := by decide +kernel
    unfold td2 at h
    split at h
    · next hp =>
      have hc : c = 1 ∨ c = 3 := by
        unfold passer at hp
        split at hp
        · exact .inl hp
        · exact .inr hp
      rcases List.mem_cons.mp h with rfl | h
      · exact ⟨h3 _ _, hc⟩
      rcases List.mem_cons.mp h with rfl | h
      · exact ⟨h3 _ _, hc⟩
      · exact td2_mem c n (i + 1) y h
    · exact td2_mem c n (i + 1) y h

section Loop

variable (κ : GSem nD τ sig → ℕ) (c : Dev nD) {D : CellTallies nD τ sig Unit} (hD : Later D)

theorem passer_cases {c : Dev nD} {i : ℕ} (hi : i < 8) (h : passer c i) : (c = 1 ∨ c = 3) ∧ fwH c (s4 i) = h8 i ∧ (payer 2 (eR 0 (h8 i))) = c ∧ (payer 2 (eR 1 (h8 i))) = c := by
  have : ∀ (c : Dev nD) (i : Fin 8), passer c i.val → (c = 1 ∨ c = 3) ∧ fwH c (s4 i.val) = h8 i.val ∧ (payer 2 (eR 0 (h8 i.val))) = c ∧ (payer 2 (eR 1 (h8 i.val))) = c := by decide +kernel
  exact this c ⟨i, hi⟩ h

theorem lv_F : ∀ (c : Dev nD) (v : Fin 2) (s : Fin 4), lv (cell c (eF v s)) () = 2 := by decide +kernel
theorem lv_N : ∀ (c : Dev nD) (v : Fin 2) (s : Fin 4), lv (cell c (eN v s)) () = 0 := by decide +kernel
theorem lv_R : ∀ (c : Dev nD) (v : Fin 2) (s : Fin 8), c = 1 ∨ c = 3 → lv (cell c (eR v s)) () < 3 := by decide +kernel

include hD in
theorem wp_pass (v : Fin 2) (i : ℕ) (hi : i < 8) (hp : passer c i) (l : List Due) (hl : ∀ y ∈ l, y.lvl = 3) (Kt : PUnit → sProp 𝕄) :
    iprop(Inv E A κ ∗ levAts L lv ∗ passPre E c v i ∗ Owes c D (.at 2 (eR v (h8 i)) :: l) ∗ (passMid E c v i -∗ Owes c D l -∗ Kt ⟨⟩))
      ⊢ WP c (pass v (s4 i) (h8 i)) Kt := by
  obtain ⟨hc, hf, hp0, hp1⟩ := passer_cases hi hp
  have hpv : payer 2 (eR v (h8 i)) = c := by
    fin_cases v
    · exact hp0
    · exact hp1
  have h3 : ∀ (v : Fin 2) (h : Fin 8), (Due.at 2 (eR v h)).lvl = 3 := by decide +kernel
  have hrF : rounds c (eF v (s4 i)) = 1 := if_pos hc
  have hrN : rounds c (eN v (s4 i)) = 1 := if_pos hc
  unfold pass passPre passMid slotPay
  unfold WP
  rw [wp_bind]
  iintro ⟨#HI, #HL, ⟨HpF, HcF, HpN, HtN, HtR, Hs, #Hr⟩, HO, Hk⟩
  iapply (wp_waitAny E A κ c hD _ (fwd v (s4 i)) (fwd v (s4 i)) (eF v (s4 i)) 0 (by rw [hrF]; exact Nat.one_pos) rfl
    (fun y hy => by
      rw [lv_F]
      rcases List.mem_cons.mp hy with rfl | hy
      · rw [h3]; decide
      · rw [hl y hy]; decide))
  isplitr; · iexact HI
  isplitr; · iexact HL
  isplitl [HpF]; · iexact HpF
  isplitl [HcF]; · iexact HcF
  isplitl [HO]; · iexact HO
  iintro HO HpF - He
  iapply (wp_send E A κ c l 2 (fwd v (s4 i)) (kv v (h8 i)) (eN v (s4 i)) (eR v (h8 i)) 0 (exact_fwd _ _) (exact_kv _ _)
    (by rw [hrN]; exact Nat.one_pos) (by show 0 < rounds 2 (eR v (h8 i)); exact Nat.one_pos) rfl rfl (fwV A c v (s4 i)) (some_intro c _ _)
    (by unfold endPay fwV; rw [hf]) Kt)
  isplitr; · iexact HI
  isplitl [He]; · unfold endPay; iexact He
  isplitl [Hs]; · iexact Hs
  isplitl [HtN]; · iexact HtN
  isplitl [HtR]
  · unfold tok
    rw [hpv]
    isplitl [HtR]; · iexact HtR
    iexact Hr
  isplitl [HO]; · iexact HO
  iintro Hc HO
  iapply Hk $$ [HpF HpN Hc] [HO]
  · isplitl [HpF]; · iexact HpF
    isplitl [HpN] <;> iassumption
  · iexact HO

include hD in
theorem wp_arrive (v : Fin 2) (i : ℕ) (hc : c ≠ 0) (l : List Due) (hl : ∀ y ∈ l, y.lvl = 3 ∧ (c = 1 ∨ c = 3)) (Kt : PUnit → sProp 𝕄) :
    iprop(Inv E A κ ∗ levAts L lv ∗ arrPre E A c v i ∗ Owes c D l ∗ (arrPost E c v i -∗ got A c v i -∗ Owes c D l -∗ Kt ⟨⟩))
      ⊢ WP c (arrive v (h8 i)) Kt := by
  have hr : rounds c (eR v (h8 i)) = 1 := if_neg hc
  unfold arrive wait arrPre arrPost got
  rw [if_neg hc, if_neg hc]
  iintro ⟨#HI, #HL, ⟨Hp, Hc⟩, HO, Hk⟩
  iapply (wp_waitAny E A κ c hD l (kv v (h8 i)) (kv v (h8 i)) (eR v (h8 i)) 0 (by rw [hr]; exact Nat.one_pos) rfl
    (fun y hy => by rw [(hl y hy).1]; exact lv_R c v (h8 i) (hl y hy).2))
  isplitr; · iexact HI
  isplitr; · iexact HL
  isplitl [Hp]; · iexact Hp
  isplitl [Hc]; · iexact Hc
  isplitl [HO]; · iexact HO
  iintro HO Hp - He
  iapply Hk $$ [Hp] [He] [HO]
  · iexact Hp
  · unfold endPay; iexact He
  · iexact HO

variable (x : FVec F S2048x1024 .bf16) (wq wo : FVec F S1024x1024 .bf16)

/-- Device `c` before head `i`. -/
def heads (i : ℕ) : sProp 𝕄 :=
  iprop(Inv E A κ ∗ levAts L lv ∗ ins x wq wo c ∗ outSt x wq wo (kvV A c 0) (kvV A c 1) c (fun _ => i)
    ∗ bigSep (Finset.Ico i 8) (passes c (passPre E c)) ∗ bigSep (Finset.Ico 0 i) (passes c (passMid E c))
    ∗ bigSep (Finset.Ico i 8) (fun i => iprop(arrPre E A c 0 i ∗ arrPre E A c 1 i)) ∗ bigSep (Finset.Ico 0 i) (fun i => iprop(arrPost E c 0 i ∗ arrPost E c 1 i))
    ∗ bigSep (Finset.Ico 0 i) (fun i => iprop(got A c 0 i ∗ got A c 1 i)) ∗ Owes c D (td2 c (8 - i) i))

include hD in
theorem wp_passes (i : ℕ) (hi : i < 8) (Kt : PUnit → sProp 𝕄) :
    iprop(Inv E A κ ∗ levAts L lv ∗ passes c (passPre E c) i ∗ Owes c D (td2 c (8 - (i + 1) + 1) i)
        ∗ (passes c (passMid E c) i -∗ Owes c D (td2 c (8 - (i + 1)) (i + 1)) -∗ Kt ⟨⟩))
      ⊢ WP c (if passer c i then pass 0 (s4 i) (h8 i) >>= fun _ => pass 1 (s4 i) (h8 i) else pure ⟨⟩) Kt := by
  have h3 : ∀ (v : Fin 2) (h : Fin 8), (Due.at 2 (eR v h)).lvl = 3 := by decide +kernel
  unfold passes
  by_cases hp : passer c i
  · rw [if_pos hp, if_pos hp, if_pos hp, show td2 c (8 - (i + 1) + 1) i = .at 2 (eR 0 (h8 i)) :: .at 2 (eR 1 (h8 i)) :: td2 c (8 - (i + 1)) (i + 1) from if_pos hp]
    unfold WP
    rw [wp_bind]
    iintro ⟨#HI, #HL, ⟨H0, H1⟩, HO, Hk⟩
    iapply (wp_pass E A κ c hD 0 i hi hp (.at 2 (eR 1 (h8 i)) :: td2 c (8 - (i + 1)) (i + 1)) (fun y hy => by
      rcases List.mem_cons.mp hy with rfl | hy
      · exact h3 _ _
      · exact (td2_mem c _ _ y hy).1))
    isplitr; · iexact HI
    isplitr; · iexact HL
    isplitl [H0]; · iexact H0
    isplitl [HO]; · iexact HO
    iintro H0 HO
    iapply (wp_pass E A κ c hD 1 i hi hp (td2 c (8 - (i + 1)) (i + 1)) (fun y hy => (td2_mem c _ _ y hy).1))
    isplitr; · iexact HI
    isplitr; · iexact HL
    isplitl [H1]; · iexact H1
    isplitl [HO]; · iexact HO
    iintro H1 HO
    iapply Hk $$ [H0 H1] [HO]
    · isplitl [H0] <;> iassumption
    · iexact HO
  · rw [if_neg hp, if_neg hp, if_neg hp, show td2 c (8 - (i + 1) + 1) i = td2 c (8 - (i + 1)) (i + 1) from if_neg hp]
    show _ ⊢ WP c (Prog.ret ⟨⟩) Kt
    unfold WP
    rw [wp_ret]
    iintro ⟨-, -, H, HO, Hk⟩
    imodintro
    iapply Hk $$ [H] [HO]
    · iexact H
    · iexact HO

include hD in
theorem wp_arrives (i : ℕ) (hi : i < 8) (Kt : PUnit → sProp 𝕄) :
    iprop(Inv E A κ ∗ levAts L lv ∗ (arrPre E A c 0 i ∗ arrPre E A c 1 i) ∗ Owes c D (td2 c (8 - (i + 1)) (i + 1))
        ∗ ((arrPost E c 0 i ∗ arrPost E c 1 i) -∗ got A c 0 i -∗ got A c 1 i -∗ Owes c D (td2 c (8 - (i + 1)) (i + 1)) -∗ Kt ⟨⟩))
      ⊢ WP c (if c ≠ 0 then arrive 0 (h8 i) >>= fun _ => arrive 1 (h8 i) else pure ⟨⟩) Kt := by
  by_cases hc : c ≠ 0
  · rw [if_pos hc]
    unfold WP
    rw [wp_bind]
    iintro ⟨#HI, #HL, ⟨H0, H1⟩, HO, Hk⟩
    iapply (wp_arrive E A κ c hD 0 i hc _ (td2_mem c _ _))
    isplitr; · iexact HI
    isplitr; · iexact HL
    isplitl [H0]; · iexact H0
    isplitl [HO]; · iexact HO
    iintro H0 G0 HO
    iapply (wp_arrive E A κ c hD 1 i hc _ (td2_mem c _ _))
    isplitr; · iexact HI
    isplitr; · iexact HL
    isplitl [H1]; · iexact H1
    isplitl [HO]; · iexact HO
    iintro H1 G1 HO
    iapply Hk $$ [H0 H1] [G0] [G1] [HO]
    · isplitl [H0] <;> iassumption
    · iexact G0
    · iexact G1
    · iexact HO
  · have hc' : c = 0 := not_not.mp hc
    subst hc'
    rw [if_neg hc]
    unfold arrPre arrPost
    rw [if_pos rfl, if_pos rfl, if_pos rfl, if_pos rfl]
    show _ ⊢ WP 0 (Prog.ret ⟨⟩) Kt
    unfold WP
    rw [wp_ret]
    iintro ⟨-, -, ⟨G0, G1⟩, HO, Hk⟩
    imodintro
    iapply Hk $$ [] [G0] [G1] [HO]
    · isplitl <;> iempintro
    · iexact G0
    · iexact G1
    · iexact HO

include hD in
theorem wp_head (i : ℕ) (hi : i < 8) (Kt : PUnit → sProp 𝕄) :
    iprop(heads E A κ c (D := D) x wq wo i ∗ (heads E A κ c (D := D) x wq wo (i + 1) -∗ Kt ⟨⟩)) ⊢ WP c (head c i) Kt := by
  unfold heads head
  rw [bigSep_Ico_succ_bot hi (passes c (passPre E c)), bigSep_Ico_succ_top (Nat.zero_le i) (passes c (passMid E c)),
    bigSep_Ico_succ_bot hi (fun i => iprop(arrPre E A c 0 i ∗ arrPre E A c 1 i)), bigSep_Ico_succ_top (Nat.zero_le i) (fun i => iprop(arrPost E c 0 i ∗ arrPost E c 1 i)),
    bigSep_Ico_succ_top (Nat.zero_le i) (fun i => iprop(got A c 0 i ∗ got A c 1 i)), show 8 - i = 8 - (i + 1) + 1 by omega]
  unfold WP
  rw [wp_bind]
  iintro ⟨⟨#HI, #HL, Hin, Ho, ⟨P, Ps⟩, Ms, ⟨R, Rs⟩, Qs, Gs, HO⟩, Hk⟩
  iapply (wp_passes E A κ c hD i hi)
  isplitr; · iexact HI
  isplitr; · iexact HL
  isplitl [P]; · iexact P
  isplitl [HO]; · iexact HO
  iintro P HO
  rw [wp_bind]
  iapply (wp_arrives E A κ c hD i hi)
  isplitr; · iexact HI
  isplitr; · iexact HL
  isplitl [R]; · iexact R
  isplitl [HO]; · iexact HO
  iintro Q G0 G1 HO
  iapply (wp_compute x wq wo (kvV A c 0) (kvV A c 1) c i hi)
  isplitl [Hin]; · iexact Hin
  isplitl [G0]; · unfold got; iexact G0
  isplitl [G1]; · unfold got; iexact G1
  isplitl [Ho]; · iexact Ho
  iintro Hin G0 G1 Ho
  iapply Hk
  isplitr; · iexact HI
  isplitr; · iexact HL
  isplitl [Hin]; · iexact Hin
  isplitl [Ho]; · iexact Ho
  isplitl [Ps]; · iexact Ps
  isplitl [P Ms]; · isplitl [P] <;> iassumption
  isplitl [Rs]; · iexact Rs
  isplitl [Q Qs]; · isplitl [Q] <;> iassumption
  isplitl [G0 G1 Gs]
  · unfold got
    isplitr [Gs]
    · isplitl [G0] <;> iassumption
    · iexact Gs
  iexact HO

/-! ## The waits at the end -/

/-- The last send from slot `s`. -/
def lastN (s : ℕ) : ℕ := if s < 8 then s + 16 else s
def drains (i : ℕ) : sProp 𝕄 :=
  iprop(Inv E A κ ∗ levAts L lv ∗ bigSep (Finset.Ico i 16) (fun s => iprop(flyP E 0 (lastN s) ∗ flyP E 1 (lastN s)))
    ∗ bigSep (Finset.Ico 0 i) (fun s => iprop(freeP E 0 (lastN s + 16) ∗ freeP E 1 (lastN s + 16))) ∗ Owes 0 D [])

include hD in
theorem wp_drain (i : ℕ) (hi : i < 16) (Kt : PUnit → sProp 𝕄) :
    iprop(drains E A κ (D := D) i ∗ (drains E A κ (D := D) (i + 1) -∗ Kt ⟨⟩)) ⊢ WP 0 (drain i) Kt := by
  have hn : lastN i < 24 := by unfold lastN; split <;> omega
  have hs : sl i = sl (lastN i) := Fin.ext (by show i % 16 = lastN i % 16; unfold lastN; split <;> omega)
  unfold drains drain
  rw [bigSep_Ico_succ_bot hi, bigSep_Ico_succ_top (Nat.zero_le i), hs]
  unfold WP
  rw [wp_bind]
  iintro ⟨⟨#HI, #HL, ⟨⟨F0, F1⟩, Fs⟩, Gs, HO⟩, Hk⟩
  iapply (wp_sent E A κ hD 0 (lastN i) hn [] (fun y hy => absurd hy List.not_mem_nil))
  isplitr; · iexact HI
  isplitr; · iexact HL
  isplitl [F0]; · iexact F0
  isplitl [HO]; · iexact HO
  iintro HO F0
  iapply (wp_sent E A κ hD 1 (lastN i) hn [] (fun y hy => absurd hy List.not_mem_nil))
  isplitr; · iexact HI
  isplitr; · iexact HL
  isplitl [F1]; · iexact F1
  isplitl [HO]; · iexact HO
  iintro HO F1
  iapply Hk
  isplitr; · iexact HI
  isplitr; · iexact HL
  isplitl [Fs]; · iexact Fs
  isplitl [F0 F1 Gs]
  · isplitr [Gs]
    · isplitl [F0] <;> iassumption
    · iexact Gs
  iexact HO

include hD in
theorem wp_passed (v : Fin 2) (i : ℕ) (hc : c = 1 ∨ c = 3) (Kt : PUnit → sProp 𝕄) :
    iprop(Inv E A κ ∗ levAts L lv ∗ passMid E c v i ∗ Owes c D [] ∗ (passPost E c v i -∗ Owes c D [] -∗ Kt ⟨⟩)) ⊢ WP c (passed v i) Kt := by
  have hr : rounds c (eN v (s4 i)) = 1 := if_pos hc
  unfold passed wait passMid passPost
  iintro ⟨#HI, #HL, ⟨Hf, Hp, Hc⟩, HO, Hk⟩
  iapply (wp_waitAny E A κ c hD [] (fwd v (s4 i)) (fwd v (s4 i)) (eN v (s4 i)) 0 (by rw [hr]; exact Nat.one_pos) rfl (fun y hy => absurd hy List.not_mem_nil))
  isplitr; · iexact HI
  isplitr; · iexact HL
  isplitl [Hp]; · iexact Hp
  isplitl [Hc]; · iexact Hc
  isplitl [HO]; · iexact HO
  iintro HO Hp - He
  iapply Hk $$ [Hf Hp He] [HO]
  · isplitl [Hf]; · iexact Hf
    isplitl [Hp]; · iexact Hp
    unfold endPay; iexact He
  · iexact HO

def drainsF (i : ℕ) : sProp 𝕄 :=
  iprop(Inv E A κ ∗ levAts L lv ∗ bigSep (Finset.Ico i 4) (fun s => iprop(passMid E c 0 s ∗ passMid E c 1 s))
    ∗ bigSep (Finset.Ico 0 i) (fun s => iprop(passPost E c 0 s ∗ passPost E c 1 s)) ∗ Owes c D [])

include hD in
theorem wp_drainF (hc : c = 1 ∨ c = 3) (i : ℕ) (hi : i < 4) (Kt : PUnit → sProp 𝕄) :
    iprop(drainsF E A κ c (D := D) i ∗ (drainsF E A κ c (D := D) (i + 1) -∗ Kt ⟨⟩)) ⊢ WP c (drainF i) Kt := by
  unfold drainsF drainF
  rw [bigSep_Ico_succ_bot hi, bigSep_Ico_succ_top (Nat.zero_le i)]
  unfold WP
  rw [wp_bind]
  iintro ⟨⟨#HI, #HL, ⟨⟨F0, F1⟩, Fs⟩, Gs, HO⟩, Hk⟩
  iapply (wp_passed E A κ c hD 0 i hc)
  isplitr; · iexact HI
  isplitr; · iexact HL
  isplitl [F0]; · iexact F0
  isplitl [HO]; · iexact HO
  iintro F0 HO
  iapply (wp_passed E A κ c hD 1 i hc)
  isplitr; · iexact HI
  isplitr; · iexact HL
  isplitl [F1]; · iexact F1
  isplitl [HO]; · iexact HO
  iintro F1 HO
  iapply Hk
  isplitr; · iexact HI
  isplitr; · iexact HL
  isplitl [Fs]; · iexact Fs
  isplitl [F0 F1 Gs]
  · isplitr [Gs]
    · isplitl [F0] <;> iassumption
    · iexact Gs
  iexact HO

end Loop

end Cert.KernelIdeal.AT

end
-- ==== Proof.KernelIdeal.AtGlue.lean ====
/- Families of tokens, positions and slots, parted by kind and reindexed; the landing slots handed out through the barrier. -/
module

public import proofs.«01_k».proof.Proof.KernelIdeal.AtLoop
public import Idealize.SL.ProofMode.BigOp

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ))
variable (A : Fin 2 → FVec F S2048x32x128 .f32)

/-! ## Families parted and reindexed -/

section Fams

omit [FloatOps F] [Named F]

/-- Members of a family by other names, and the rest. -/
theorem take {I J : Type} [DecidableEq I] [DecidableEq J] (T : Finset I) (s : Finset J) (f : J → I) (hi : Set.InjOn f s) (hm : ∀ j ∈ s, f j ∈ T)
    {Φ : I → sProp 𝕄} {Ψ : J → sProp 𝕄} (h : ∀ j ∈ s, Φ (f j) ⊢ Ψ j) : bigSep T Φ ⊢ iprop(bigSep s Ψ ∗ bigSep (T \ s.image f) Φ) := by
  rw [show bigSep T Φ = iprop(bigSep (s.image f) Φ ∗ bigSep (T \ s.image f) Φ) from
    BI.bigSep_sdiff_split (fun x mem => by obtain ⟨j, among, rfl⟩ := Finset.mem_image.mp mem; exact hm j among), bigSep_image_of_injOn hi]
  exact BIClass.sep_mono (bigSep_mono h) (BI.Entails.refl _)
theorem takes {I J : Type} [DecidableEq I] [DecidableEq J] (T : Finset I) (s : Finset J) (f : J → I) (hi : Set.InjOn f s) (hm : ∀ j ∈ s, f j ∈ T)
    {Φ : I → sProp 𝕄} {Ψ : J → sProp 𝕄} (h : ∀ j ∈ s, Φ (f j) ⊢ Ψ j) : bigSep T Φ ⊢ bigSep s Ψ := by
  refine (take T s f hi hm h).trans ?_
  iintro ⟨H, -⟩
  iexact H

theorem fin_Ico {n : ℕ} (Φ : ℕ → sProp 𝕄) : bigSep Finset.univ (fun i : Fin n => Φ i.val) = bigSep (Finset.Ico 0 n) Φ := by
  rw [show Finset.Ico 0 n = Finset.univ.map (Fin.valEmbedding (n := n)) from by
    ext i
    rw [Finset.mem_map, Finset.mem_Ico]
    exact ⟨fun h => ⟨⟨i, h.2⟩, Finset.mem_univ _, rfl⟩, fun ⟨j, _, hj⟩ => hj ▸ ⟨Nat.zero_le _, j.isLt⟩⟩, bigSep_map]
  rfl
theorem two_fams {n : ℕ} (Φ : Fin 2 → ℕ → sProp 𝕄) :
    bigSep Finset.univ (fun p : Fin 2 × Fin n => Φ p.1 p.2.val) = bigSep (Finset.Ico 0 n) (fun i => iprop(Φ 0 i ∗ Φ 1 i)) := by
  rw [bigSep_univ_prod, bigSep_sep']
  refine (bigSep_fin_two _).trans ?_
  rw [← fin_Ico (n := n) (Φ 0), ← fin_Ico (n := n) (Φ 1)]
  rfl

theorem big_emp {I : Type} (s : Finset I) : bigSep s (fun _ => (iprop(emp) : sProp 𝕄)) = iprop(emp) := bigSep_emp_const s
theorem big_if {I : Type} (s : Finset I) (p : I → Prop) [DecidablePred p] (Φ : I → sProp 𝕄) (h : ∀ i, p i) :
    bigSep s (fun i => if p i then Φ i else iprop(emp)) = bigSep s Φ := bigSep_congr fun i _ => if_pos (h i)
theorem big_if_not {I : Type} (s : Finset I) (p : I → Prop) [DecidablePred p] (Φ : I → sProp 𝕄) (h : ∀ i, ¬p i) :
    bigSep s (fun i => if p i then Φ i else iprop(emp)) = iprop(emp) := (bigSep_congr fun i _ => if_neg (h i)).trans (big_emp s)
theorem fam_comm {I J : Type} [Fintype I] [Fintype J] (Φ : I → J → sProp 𝕄) :
    bigSep Finset.univ (fun i => bigSep Finset.univ fun j => Φ i j) = bigSep Finset.univ (fun j => bigSep Finset.univ fun i => Φ i j) := by
  rw [← bigSep_univ_prod (fun p : I × J => Φ p.1 p.2), bigSep_univ_equiv (Equiv.prodComm J I), ← bigSep_univ_prod (fun p : J × I => Φ p.2 p.1)]
  rfl
theorem fam_one {I : Type} [Fintype I] [DecidableEq I] (i : I) (P : sProp 𝕄) :
    bigSep Finset.univ (fun j => if j = i then P else iprop(emp)) = P := by
  have e := bigSep_filter (Finset.univ : Finset I) (· = i) (fun _ => P)
  rw [Finset.filter_eq', if_pos (Finset.mem_univ i), bigSep_singleton] at e
  exact e.symm

end Fams

/-- The heads that device `c` passes on, of either array. -/
def pas (c : Dev nD) : Finset (Fin 2 × Fin 8) := Finset.univ.filter fun p => passer c p.2.val
theorem passes_fam (c : Dev nD) (Φ : Fin 2 → ℕ → sProp 𝕄) : bigSep (Finset.Ico 0 8) (passes c Φ) = bigSep (pas c) (fun p => Φ p.1 p.2.val) := by
  unfold pas
  rw [show bigSep (Finset.univ.filter fun p : Fin 2 × Fin 8 => passer c p.2.val) (fun p => Φ p.1 p.2.val)
    = bigSep Finset.univ (fun p : Fin 2 × Fin 8 => if passer c p.2.val then Φ p.1 p.2.val else iprop(emp)) from bigSep_filter _ _ _, two_fams (n := 8) (fun v i => if passer c i then Φ v i else iprop(emp))]
  refine bigSep_congr fun i _ => ?_
  unfold passes
  by_cases h : passer c i
  · rw [if_pos h, if_pos h, if_pos h]
  · rw [if_neg h, if_neg h, if_neg h]
    have h1 : (iprop(emp ∗ emp) : sProp 𝕄) ⊢ iprop(emp) := by iintro ⟨H, -⟩; iexact H
    have h2 : (iprop(emp) : sProp 𝕄) ⊢ iprop(emp ∗ emp) := by iintro H; isplitl <;> iempintro
    exact BI.equiv_iff.mp ⟨h2, h1⟩

/-- A family over the transfer semaphores, by kind. -/
theorem big_end (Φ : End → sProp 𝕄) : bigSep Finset.univ Φ
    = iprop(bigSep Finset.univ (fun p : Fin 2 × Fin 8 => Φ (eR p.1 p.2)) ∗ bigSep Finset.univ (fun p : Fin 2 × Fin 16 => Φ (eS p.1 p.2))
      ∗ bigSep Finset.univ (fun s : Fin 4 => Φ (eG s)) ∗ bigSep Finset.univ (fun p : Fin 2 × Fin 4 => Φ (eF p.1 p.2)) ∗ bigSep Finset.univ (fun p : Fin 2 × Fin 4 => Φ (eN p.1 p.2))) := by
  rw [bigSep_univ_sum, bigSep_univ_sum, bigSep_univ_sum, bigSep_univ_sum]
  rfl

/-! ## A device before and after the body -/

section Dev

variable (c : Dev nD)

def recv (x : End) : Prop := payer c x ≠ c ∧ 0 < rounds c x
instance (x : End) : Decidable (recv c x) := by unfold recv; infer_instance
def reachedAll : sProp 𝕄 := bigSep Finset.univ fun x : End => reached E (cell c x) 0
instance : BI.Persistent (reachedAll E c : sProp 𝕄) := by unfold reachedAll; infer_instance
def crdAll : sProp 𝕄 := bigSep Finset.univ fun x : End => if recv c x then crd c x else iprop(emp)
abbrev Tok : Type := Dev nD × End × Fin 16
def tokFor (p : Tok) : sProp 𝕄 := if payer p.1 p.2.1 = c then dutyTok E (cell p.1 p.2.1) p.2.2.val (payer p.1 p.2.1).val else iprop(emp)
def tokAll : sProp 𝕄 := bigSep Finset.univ fun p : Tok => tokFor E c p

def kvs : sProp 𝕄 := bigSep Finset.univ fun p : Fin 2 × Fin 8 => some' c (kv p.1 p.2)
def pools : sProp 𝕄 := bigSep Finset.univ fun p : Fin 2 × Fin 16 => some' c (pool p.1 p.2)
def stags : sProp 𝕄 := bigSep Finset.univ fun s : Fin 4 => some' c (stag s)
def fwds : sProp 𝕄 := bigSep Finset.univ fun p : Fin 2 × Fin 4 => some' c (fwd p.1 p.2)
def bufs : sProp 𝕄 := iprop(kvs c ∗ pools c ∗ stags c ∗ fwds c)

/-! ## The landing slots, out and in -/

theorem none_self (c : Dev nD) : ∀ x : End, payer c x = c ∧ 0 < rounds c x → (slotPay E c x : sProp 𝕄) = iprop(emp) := by
  have h1 : ∀ (c : Dev nD) v h, ¬(payer c (eR v h) = c ∧ 0 < rounds c (eR v h)) := by decide +kernel
  have h4 : ∀ (c : Dev nD) v h, ¬(payer c (eF v h) = c ∧ 0 < rounds c (eF v h)) := by decide +kernel
  exact end_all (fun v h hh => absurd hh (h1 c v h)) (fun _ _ _ => rfl) (fun _ _ => rfl) (fun v h hh => absurd hh (h4 c v h)) (fun _ _ _ => rfl)
theorem slots_self : (iprop(emp) : sProp 𝕄) ⊢ slotsFor E c c := by
  unfold slotsFor
  rw [bigSep_congr (s := Finset.univ) (Ψ := fun _ => iprop(emp)) fun x _ => by
    by_cases h : payer c x = c ∧ 0 < rounds c x
    · rw [if_pos h, none_self E c x h]
    · rw [if_neg h]]
  exact Entails.of_eq (bigSep_emp_const _).symm

/-- Every landing slot handed to the barrier. -/
theorem slots_all : bigSep Finset.univ (fun t : Dev nD => slotsFor E c t)
    = bigSep Finset.univ (fun x : End => if 0 < rounds c x then slotPay E c x else iprop(emp)) := by
  unfold slotsFor
  rw [fam_comm]
  refine bigSep_congr fun x _ => ?_
  rw [← fam_one (payer c x) (if 0 < rounds c x then slotPay E c x else iprop(emp))]
  refine bigSep_congr fun t _ => ?_
  by_cases h1 : t = payer c x
  · subst h1
    by_cases h2 : 0 < rounds c x
    · rw [if_pos ⟨rfl, h2⟩, if_pos rfl, if_pos h2]
    · rw [if_neg (fun h => h2 h.2), if_pos rfl, if_neg h2]
  · rw [if_neg (fun h => h1 h.1.symm), if_neg h1]
/-- What stays behind: device 0's heads, and the landing slots of what is passed on where nothing is. -/
def kvKeep : sProp 𝕄 := if c = 0 then kvs c else iprop(emp)
def fwdKeep : sProp 𝕄 := if c = 1 ∨ c = 3 then iprop(emp) else fwds c
theorem idle {I : Type} [Fintype I] (p : I → Prop) [DecidablePred p] : (iprop(emp) : sProp 𝕄) ⊢ bigSep Finset.univ (fun i => if p i then iprop(emp) else iprop(emp)) := by
  rw [bigSep_congr (s := Finset.univ) (Ψ := fun _ => iprop(emp)) fun i _ => ite_self _, big_emp]
theorem four : ∀ (i j : Fin 3) (c : Dev nD), up (i.val + 1) c = up (j.val + 1) c → i = j := by decide +kernel
theorem slots_out : iprop(kvs c ∗ fwds c ∗ reachedAll E c)
    ⊢ iprop((slotsFor E c (up 1 c) ∗ slotsFor E c (up 2 c) ∗ slotsFor E c (up 3 c)) ∗ kvKeep c ∗ fwdKeep c) := by
  have hr : (reachedAll E c : sProp 𝕄) ⊢ iprop(bigSep Finset.univ (fun p : Fin 2 × Fin 8 => reached E (cell c (eR p.1 p.2)) 0)
      ∗ bigSep Finset.univ (fun p : Fin 2 × Fin 4 => reached E (cell c (eF p.1 p.2)) 0)) := by
    unfold reachedAll
    rw [big_end]
    iintro ⟨H, -, -, G, -⟩
    isplitl [H] <;> iassumption
  have hR : iprop(kvs c ∗ bigSep Finset.univ (fun p : Fin 2 × Fin 8 => reached E (cell c (eR p.1 p.2)) 0))
      ⊢ iprop(bigSep Finset.univ (fun p : Fin 2 × Fin 8 => if 0 < rounds c (eR p.1 p.2) then slotPay E c (eR p.1 p.2) else iprop(emp)) ∗ kvKeep c) := by
    unfold kvKeep
    by_cases h : c = 0
    · rw [if_pos h, big_if_not _ (fun p : Fin 2 × Fin 8 => 0 < rounds c (eR p.1 p.2)) _ fun p => by rw [show rounds c (eR p.1 p.2) = 0 from if_pos h]; exact Nat.lt_irrefl 0]
      iintro ⟨H, -⟩
      isplitr; · iempintro
      iexact H
    · rw [if_neg h, big_if _ (fun p : Fin 2 × Fin 8 => 0 < rounds c (eR p.1 p.2)) _ fun p => by rw [show rounds c (eR p.1 p.2) = 1 from if_neg h]; exact Nat.one_pos]
      unfold kvs slotPay
      rw [bigSep_sep']
      iintro ⟨H, G⟩
      isplitl
      · isplitl [H] <;> iassumption
      · iempintro
  have hF : iprop(fwds c ∗ bigSep Finset.univ (fun p : Fin 2 × Fin 4 => reached E (cell c (eF p.1 p.2)) 0))
      ⊢ iprop(bigSep Finset.univ (fun p : Fin 2 × Fin 4 => if 0 < rounds c (eF p.1 p.2) then slotPay E c (eF p.1 p.2) else iprop(emp)) ∗ fwdKeep c) := by
    unfold fwdKeep
    by_cases h : c = 1 ∨ c = 3
    · rw [if_pos h, big_if _ (fun p : Fin 2 × Fin 4 => 0 < rounds c (eF p.1 p.2)) _ fun p => by rw [show rounds c (eF p.1 p.2) = 1 from if_pos h]; exact Nat.one_pos]
      unfold fwds slotPay
      rw [bigSep_sep']
      iintro ⟨H, G⟩
      isplitl
      · isplitl [H] <;> iassumption
      · iempintro
    · rw [if_neg h, big_if_not _ (fun p : Fin 2 × Fin 4 => 0 < rounds c (eF p.1 p.2)) _ fun p => by rw [show rounds c (eF p.1 p.2) = 0 from if_neg h]; exact Nat.lt_irrefl 0]
      iintro ⟨H, -⟩
      isplitr; · iempintro
      iexact H
  have hall : bigSep Finset.univ (fun t : Dev nD => slotsFor E c t) ⊢ iprop(slotsFor E c (up 1 c) ∗ slotsFor E c (up 2 c) ∗ slotsFor E c (up 3 c)) := by
    refine (takes Finset.univ Finset.univ (fun i : Fin 3 => up (i.val + 1) c) (fun i _ j _ h => four i j c h) (fun _ _ => Finset.mem_univ _)
      (Ψ := fun i : Fin 3 => slotsFor E c (up (i.val + 1) c)) fun _ _ => BI.Entails.refl _).trans ?_
    exact Entails.of_eq (bigSep_univ_eq_bigSepL [0, 1, 2] (by decide) (by decide) _)
  iintro ⟨K, W, #R⟩
  ihave R' := hr $$ R
  icases R' with ⟨R1, R2⟩
  ihave K := hR $$ [K R1]
  · isplitl [K] <;> iassumption
  ihave W := hF $$ [W R2]
  · isplitl [W] <;> iassumption
  icases K with ⟨K, Kk⟩
  icases W with ⟨W, Wk⟩
  isplitr [Kk Wk]
  · iapply hall
    rw [slots_all, big_end]
    isplitl [K]; · iexact K
    isplitr; · iapply (idle (fun p : Fin 2 × Fin 16 => 0 < rounds c (eS p.1 p.2))); iempintro
    isplitr; · iapply (idle (fun p : Fin 4 => 0 < rounds c (eG p))); iempintro
    isplitl [W]; · iexact W
    iapply (idle (fun p : Fin 2 × Fin 4 => 0 < rounds c (eN p.1 p.2))); iempintro
  · isplitl [Kk] <;> iassumption

/-- What the barrier brings device `c`: every other device's slots that it fills. -/
def slotsIn : sProp 𝕄 := bigSep Finset.univ fun p : Dev nD × End => if payer p.1 p.2 = c ∧ 0 < rounds p.1 p.2 then slotPay E p.1 p.2 else iprop(emp)
theorem slots_in : iprop(slotsFor E (up 1 c) c ∗ slotsFor E (up 2 c) c ∗ slotsFor E (up 3 c) c) ⊢ slotsIn E c := by
  have h : iprop(slotsFor E (up 1 c) c ∗ slotsFor E (up 2 c) c ∗ slotsFor E (up 3 c) c ∗ slotsFor E c c) ⊢ bigSep Finset.univ (fun t : Dev nD => slotsFor E t c) :=
    Entails.of_eq (bigSep_univ_eq_bigSepL [up 1 c, up 2 c, up 3 c, c] (by revert c; decide) (by revert c; decide) (fun t => slotsFor E t c)).symm
  unfold slotsIn
  rw [bigSep_univ_prod]
  iintro ⟨H1, H2, H3⟩
  iapply h
  isplitl [H1]; · iexact H1
  isplitl [H2]; · iexact H2
  isplitl [H3]; · iexact H3
  iapply (slots_self E c)
  iempintro

end Dev

end Cert.KernelIdeal.AT

end
-- ==== Proof.KernelIdeal.AtRun.lean ====
/- The entry barrier; what devices 1 to 3 start their heads with and what they end with. -/
module

public import proofs.«01_k».proof.Proof.KernelIdeal.AtGlue

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32)

section Outer

variable (κ : GSem nD τ sig → ℕ) (c : Dev nD) {D : CellTallies nD τ sig Unit} (hD : Later D)

/-! ## The entry -/

/-- What a device owes in this call. -/
def dues : List Due := .bar (up 1 c) :: .bar (up 2 c) :: .bar (up 3 c) :: (if c = 0 then td 64 0 else td2 c 8 0)
theorem dues_zero : td2 0 8 0 = [] := by decide +kernel
theorem dues_lvl : ∀ y ∈ (if c = 0 then td 64 0 else td2 c 8 0), 1 < y.lvl := by
  intro y hy
  by_cases h : c = 0
  · rw [if_pos h] at hy; exact td_lvl _ _ y hy
  · rw [if_neg h] at hy; rw [(td2_mem c _ _ y hy).1]; decide
/-- A device's own barrier, its credit, and its permissions to signal the others. -/
def barStart : sProp 𝕄 :=
  iprop((reached E (barCell (up 1 c)) 0 ∗ dutyTok E (barCell (up 1 c)) 0 1) ∗ (reached E (barCell (up 2 c)) 0 ∗ dutyTok E (barCell (up 2 c)) 0 2)
    ∗ (reached E (barCell (up 3 c)) 0 ∗ dutyTok E (barCell (up 3 c)) 0 3) ∗ atPos E (barCell c) 0 ∅ 0 ∗ cred (tallyAt (barCell c) () 3))

theorem dev_up : ∀ c : Dev nD, (⟨k0_dev1 c, k0_dev1_lt c⟩ : Dev nD) = up 1 c ∧ (⟨k0_dev2 c, k0_dev2_lt c⟩ : Dev nD) = up 2 c ∧ (⟨k0_dev3 c, k0_dev3_lt c⟩ : Dev nD) = up 3 c := by
  decide +kernel

include hD in
theorem wp_entry (Kt : PUnit → sProp 𝕄) :
    iprop(Inv E A κ ∗ levAts L lv ∗ barStart E c ∗ kvs c ∗ fwds c ∗ reachedAll E c ∗ Owes c D (dues c)
        ∗ (Owes c D (if c = 0 then td 64 0 else td2 c 8 0) -∗ atPos E (barCell c) (0 + 1) ∅ 0 -∗ slotsIn E c -∗ kvKeep c -∗ fwdKeep c -∗ Kt ⟨⟩))
      ⊢ WP c (entry (⟨k0_dev1 c, k0_dev1_lt c⟩ : Dev nD) (⟨k0_dev2 c, k0_dev2_lt c⟩ : Dev nD) (⟨k0_dev3 c, k0_dev3_lt c⟩ : Dev nD)) Kt := by
  rw [(dev_up c).1, (dev_up c).2.1, (dev_up c).2.2]
  unfold entry dues barStart
  unfold WP
  rw [wp_bind]
  iintro ⟨#HI, #HL, ⟨⟨#r1, t1⟩, ⟨#r2, t2⟩, ⟨#r3, t3⟩, Hat, Hc⟩, HK, HW, #HR, HO, Hk⟩
  ihave S := (slots_out E c) $$ [HK HW]
  · isplitl [HK]; · iexact HK
    isplitl [HW]; · iexact HW
    iexact HR
  icases S with ⟨⟨S1, S2, S3⟩, Kk, Wk⟩
  iapply (wp_barSignal E A κ c _ 1 (up 1 c) rfl (by decide))
  isplitr; · iexact HI
  isplitr; · iexact r1
  isplitl [t1]; · iexact t1
  isplitl [S1]; · iexact S1
  isplitl [HO]; · iexact HO
  iintro HO
  rw [wp_bind]
  iapply (wp_barSignal E A κ c _ 2 (up 2 c) rfl (by decide))
  isplitr; · iexact HI
  isplitr; · iexact r2
  isplitl [t2]; · iexact t2
  isplitl [S2]; · iexact S2
  isplitl [HO]; · iexact HO
  iintro HO
  rw [wp_bind]
  iapply (wp_barSignal E A κ c _ 3 (up 3 c) rfl (by decide))
  isplitr; · iexact HI
  isplitr; · iexact r3
  isplitl [t3]; · iexact t3
  isplitl [S3]; · iexact S3
  isplitl [HO]; · iexact HO
  iintro HO
  iapply (wp_barWait E A κ c hD _ (dues_lvl c))
  isplitr; · iexact HI
  isplitr; · iexact HL
  isplitl [Hat]; · iexact Hat
  isplitl [Hc]; · iexact Hc
  isplitl [HO]; · iexact HO
  iintro HO Hat S1 S2 S3
  iapply Hk $$ [HO] [Hat] [S1 S2 S3] [Kk] [Wk]
  · iexact HO
  · iexact Hat
  · iapply (slots_in E c)
    isplitl [S1]; · iexact S1
    isplitl [S2] <;> iassumption
  · iexact Kk
  · iexact Wk

/-! ## Devices 1 to 3 -/

theorem pas_inj : ∀ c : Dev nD, ∀ p ∈ pas c, ∀ q ∈ pas c, (p.1, s4 p.2.val) = (q.1, s4 q.2.val) → p = q := by decide +kernel
theorem pas_payer : ∀ c : Dev nD, ∀ p ∈ pas c, payer 2 (eR p.1 (h8 p.2.val)) = c := by decide +kernel
theorem pas_none : ∀ c : Dev nD, ¬(c = 1 ∨ c = 3) → pas c = ∅ := by decide +kernel
theorem fwH_pas : ∀ c : Dev nD, c = 1 ∨ c = 3 → ∀ p : Fin 2 × Fin 4, (p.1, fwH c p.2) ∈ pas c := by decide +kernel
theorem s4_fwH : ∀ (c : Dev nD) (s : Fin 4), s4 (fwH c s).val = s4 s.val := by decide +kernel
theorem fwH_inj : ∀ (c : Dev nD) (s t : Fin 4), fwH c s = fwH c t → s = t := by decide +kernel
theorem h8_val (h : Fin 8) : h8 h.val = h := Fin.ext (Nat.mod_eq_of_lt h.isLt)
theorem s4_val (h : Fin 4) : s4 h.val = h := Fin.ext (Nat.mod_eq_of_lt h.isLt)
theorem recv_R (hc : c ≠ 0) (p : Fin 2 × Fin 8) : recv c (eR p.1 p.2) := by
  have : ∀ c : Dev nD, c ≠ 0 → ∀ p : Fin 2 × Fin 8, recv c (eR p.1 p.2) := by decide +kernel
  exact this c hc p
theorem recv_F (hc : c = 1 ∨ c = 3) (p : Fin 2 × Fin 4) : recv c (eF p.1 p.2) := by
  have : ∀ c : Dev nD, c = 1 ∨ c = 3 → ∀ p : Fin 2 × Fin 4, recv c (eF p.1 p.2) := by decide +kernel
  exact this c hc p

omit [E.LandsIn (upEmb : UEmb _ 𝕄)] in
theorem pass_toks (hc : c = 1 ∨ c = 3) : (tokAll E c : sProp 𝕄)
    ⊢ iprop(bigSep (pas c) (fun p => dutyTok E (cell c (eN p.1 (s4 p.2.val))) 0 (payer c (eN p.1 (s4 p.2.val))).val)
      ∗ bigSep (pas c) (fun p => dutyTok E (cell 2 (eR p.1 (h8 p.2.val))) 0 c.val)) := by
  unfold tokAll
  refine (take Finset.univ (pas c) (fun p => ((c, eN p.1 (s4 p.2.val), 0) : Tok)) (fun p hp q hq h => ?_) (fun _ _ => Finset.mem_univ _)
    (Ψ := fun p => dutyTok E (cell c (eN p.1 (s4 p.2.val))) 0 (payer c (eN p.1 (s4 p.2.val))).val) fun p _ => Entails.of_eq (if_pos rfl)).trans ?_
  · exact pas_inj c p hp q hq (Sum.inr.inj (Sum.inr.inj (Sum.inr.inj (Sum.inr.inj (congrArg (fun t : Tok => t.2.1) h)))))
  refine BIClass.sep_mono (BI.Entails.refl _) (takes _ (pas c) (fun p => ((2, eR p.1 (h8 p.2.val), 0) : Tok)) (fun p hp q hq h => ?_) (fun p hp => ?_)
    (Ψ := fun p => dutyTok E (cell 2 (eR p.1 (h8 p.2.val))) 0 c.val) fun p hp => ?_)
  · injection h with _ h; injection h with h _; injection h with h; rw [h8_val, h8_val] at h; exact h
  · rw [Finset.mem_sdiff]
    refine ⟨Finset.mem_univ _, fun hm => ?_⟩
    obtain ⟨q, -, h⟩ := Finset.mem_image.mp hm
    injection h with _ h; injection h with h _; cases h
  · refine (Entails.of_eq (if_pos (pas_payer c p hp))).trans ?_
    show dutyTok E (cell 2 (eR p.1 (h8 p.2.val))) 0 (payer 2 (eR p.1 (h8 p.2.val))).val ⊢ _
    rw [pas_payer c p hp]

/-- What stays unused at devices 1 to 3. -/
def idleN : sProp 𝕄 :=
  iprop(bigSep Finset.univ (fun p : Fin 2 × Fin 16 => pos E c (eS p.1 p.2) 0) ∗ bigSep Finset.univ (fun s : Fin 4 => pos E c (eG s) 0)
    ∗ (if c = 1 ∨ c = 3 then iprop(emp) else iprop(bigSep Finset.univ (fun p : Fin 2 × Fin 4 => pos E c (eF p.1 p.2) 0) ∗ bigSep Finset.univ (fun p : Fin 2 × Fin 4 => pos E c (eN p.1 p.2) 0))))
def posAll (r : End → ℕ) : sProp 𝕄 := bigSep Finset.univ fun x : End => pos E c x (r x)

omit [E.LandsIn (upEmb : UEmb _ 𝕄)] in
theorem pass_in (hc : c = 1 ∨ c = 3) :
    iprop(bigSep Finset.univ (fun p : Fin 2 × Fin 4 => pos E c (eF p.1 p.2) 0) ∗ bigSep Finset.univ (fun p : Fin 2 × Fin 4 => pos E c (eN p.1 p.2) 0)
        ∗ bigSep Finset.univ (fun p : Fin 2 × Fin 4 => if recv c (eF p.1 p.2) then crd c (eF p.1 p.2) else iprop(emp))
        ∗ bigSep Finset.univ (fun p : Fin 2 × Fin 4 => reached E (cell c (eN p.1 p.2)) 0) ∗ tokAll E c ∗ slotsIn E c)
      ⊢ bigSep (Finset.Ico 0 8) (passes c (passPre E c)) := by
  have re : ∀ Φ : Fin 2 → Fin 4 → sProp 𝕄, bigSep Finset.univ (fun p : Fin 2 × Fin 4 => Φ p.1 p.2) ⊢ bigSep (pas c) (fun p => Φ p.1 (s4 p.2.val)) := fun Φ =>
    takes Finset.univ (pas c) (fun p => (p.1, s4 p.2.val)) (fun p hp q hq h => pas_inj c p hp q hq h) (fun _ _ => Finset.mem_univ _) fun _ _ => BI.Entails.refl _
  have hs : (slotsIn E c : sProp 𝕄) ⊢ bigSep (pas c) (fun p => slotPay E 2 (eR p.1 (h8 p.2.val))) := by
    unfold slotsIn
    refine takes Finset.univ (pas c) (fun p => ((2, eR p.1 (h8 p.2.val)) : Dev nD × End)) (fun p hp q hq h => ?_) (fun _ _ => Finset.mem_univ _) fun p hp => ?_
    · injection h with _ h; injection h with h; rw [h8_val, h8_val] at h; exact h
    · exact Entails.of_eq (if_pos ⟨pas_payer c p hp, Nat.one_pos⟩)
  rw [passes_fam, big_if _ (fun p : Fin 2 × Fin 4 => recv c (eF p.1 p.2)) _ (recv_F c hc)]
  unfold passPre tok
  rw [bigSep_sep', bigSep_sep', bigSep_sep', bigSep_sep', bigSep_sep', bigSep_sep']
  iintro ⟨HF, HN, HC, HR, HT, HS⟩
  ihave HT := (pass_toks E c hc) $$ HT
  icases HT with ⟨TN, TR⟩
  isplitl [HF]; · iapply (re fun v s => pos E c (eF v s) 0); iexact HF
  isplitl [HC]; · iapply (re fun v s => crd c (eF v s)); iexact HC
  isplitl [HN]; · iapply (re fun v s => pos E c (eN v s) 0); iexact HN
  isplitl [TN HR]
  · isplitl [TN]; · iexact TN
    iapply (re fun v s => reached E (cell c (eN v s)) 0); iexact HR
  isplitl [TR]; · iexact TR
  iapply hs; iexact HS

omit [E.LandsIn (upEmb : UEmb _ 𝕄)] in
theorem nz_in (hc : c ≠ 0) :
    iprop(posAll E c (fun _ => 0) ∗ crdAll c ∗ reachedAll E c ∗ tokAll E c ∗ slotsIn E c)
      ⊢ iprop(bigSep (Finset.Ico 0 8) (passes c (passPre E c)) ∗ bigSep (Finset.Ico 0 8) (fun i => iprop(arrPre E A c 0 i ∗ arrPre E A c 1 i)) ∗ idleN E c) := by
  have ha : iprop(bigSep Finset.univ (fun p : Fin 2 × Fin 8 => pos E c (eR p.1 p.2) 0) ∗ bigSep Finset.univ (fun p : Fin 2 × Fin 8 => if recv c (eR p.1 p.2) then crd c (eR p.1 p.2) else iprop(emp)))
      ⊢ bigSep (Finset.Ico 0 8) (fun i => iprop(arrPre E A c 0 i ∗ arrPre E A c 1 i)) := by
    rw [← two_fams (n := 8) (arrPre E A c), big_if _ (fun p : Fin 2 × Fin 8 => recv c (eR p.1 p.2)) _ (recv_R c hc), ← bigSep_sep']
    refine bigSep_mono fun p _ => ?_
    unfold arrPre
    rw [if_neg hc, h8_val]
    exact BI.Entails.refl _
  unfold posAll crdAll reachedAll idleN
  rw [big_end, big_end, big_end]
  iintro ⟨⟨P1, P2, P3, P4, P5⟩, ⟨C1, -, -, C4, -⟩, ⟨-, -, -, -, R5⟩, HT, HS⟩
  by_cases h : c = 1 ∨ c = 3
  · rw [if_pos h]
    isplitl [P4 P5 C4 R5 HT HS]
    · iapply (pass_in E c h)
      isplitl [P4]; · iexact P4
      isplitl [P5]; · iexact P5
      isplitl [C4]; · iexact C4
      isplitl [R5]; · iexact R5
      isplitl [HT] <;> iassumption
    isplitl [P1 C1]; · iapply ha; isplitl [P1] <;> iassumption
    isplitl [P2]; · iexact P2
    isplitl [P3]; · iexact P3
    iempintro
  · rw [if_neg h, passes_fam, pas_none c h, bigSep_empty]
    isplitr; · iempintro
    isplitl [P1 C1]; · iapply ha; isplitl [P1] <;> iassumption
    isplitl [P2]; · iexact P2
    isplitl [P3]; · iexact P3
    isplitl [P4] <;> iassumption

omit [E.LandsIn (upEmb : UEmb _ 𝕄)] in
/-- What devices 1 and 3 still wait for once the heads are done. -/
theorem nz_mid (hc : c = 1 ∨ c = 3) : bigSep (Finset.Ico 0 8) (passes c (passMid E c)) ⊢ bigSep (Finset.Ico 0 4) (fun s => iprop(passMid E c 0 s ∗ passMid E c 1 s)) := by
  rw [passes_fam, ← two_fams (n := 4) (passMid E c)]
  refine takes (pas c) Finset.univ (fun p : Fin 2 × Fin 4 => (p.1, fwH c p.2)) (fun p _ q _ h => ?_) (fun p _ => fwH_pas c hc p) fun p _ => ?_
  · injection h with h1 h2; exact Prod.ext h1 (fwH_inj c _ _ h2)
  · unfold passMid
    rw [s4_fwH]

omit [E.LandsIn (upEmb : UEmb _ 𝕄)] in
theorem heads_back : bigSep (Finset.Ico 0 8) (fun i => iprop(got A c 0 i ∗ got A c 1 i)) ⊢ (kvs c : sProp 𝕄) := by
  rw [← two_fams (n := 8) (got A c)]
  unfold kvs
  refine bigSep_mono fun p _ => ?_
  unfold got
  rw [h8_val]
  exact some_intro c _ _

omit [E.LandsIn (upEmb : UEmb _ 𝕄)] in
theorem nz_out (hc : c ≠ 0) :
    iprop(bigSep (Finset.Ico 0 8) (fun i => iprop(arrPost E c 0 i ∗ arrPost E c 1 i)) ∗ idleN E c
        ∗ (if c = 1 ∨ c = 3 then bigSep (Finset.Ico 0 4) (fun s => iprop(passPost E c 0 s ∗ passPost E c 1 s)) else iprop(emp)) ∗ fwdKeep c)
      ⊢ iprop(posAll E c (rounds c) ∗ fwds c) := by
  have ha : bigSep (Finset.Ico 0 8) (fun i => iprop(arrPost E c 0 i ∗ arrPost E c 1 i)) ⊢ bigSep Finset.univ (fun p : Fin 2 × Fin 8 => pos E c (eR p.1 p.2) (rounds c (eR p.1 p.2))) := by
    rw [← two_fams (n := 8) (arrPost E c)]
    refine bigSep_mono fun p _ => ?_
    unfold arrPost
    rw [if_neg hc, h8_val, show rounds c (eR p.1 p.2) = 1 from if_neg hc]
    exact BI.Entails.refl _
  have hS : bigSep Finset.univ (fun p : Fin 2 × Fin 16 => pos E c (eS p.1 p.2) 0) ⊢ bigSep Finset.univ (fun p : Fin 2 × Fin 16 => pos E c (eS p.1 p.2) (rounds c (eS p.1 p.2))) :=
    bigSep_mono fun p _ => by rw [show rounds c (eS p.1 p.2) = 0 from if_neg hc]; exact BI.Entails.refl _
  have hG : bigSep Finset.univ (fun s : Fin 4 => pos E c (eG s) 0) ⊢ bigSep Finset.univ (fun s : Fin 4 => pos E c (eG s) (rounds c (eG s))) :=
    bigSep_mono fun p _ => by rw [show rounds c (eG p) = 0 from if_neg hc]; exact BI.Entails.refl _
  unfold posAll idleN fwdKeep
  rw [big_end]
  by_cases h : c = 1 ∨ c = 3
  · rw [if_pos h, if_pos h, if_pos h, ← two_fams (n := 4) (passPost E c)]
    unfold passPost fwds
    simp only [bigSep_sep']
    have hF : bigSep Finset.univ (fun p : Fin 2 × Fin 4 => pos E c (eF p.1 (s4 p.2.val)) 1) ⊢ bigSep Finset.univ (fun p : Fin 2 × Fin 4 => pos E c (eF p.1 p.2) (rounds c (eF p.1 p.2))) :=
      bigSep_mono fun p _ => by rw [s4_val, show rounds c (eF p.1 p.2) = 1 from if_pos h]; exact BI.Entails.refl _
    have hN : bigSep Finset.univ (fun p : Fin 2 × Fin 4 => pos E c (eN p.1 (s4 p.2.val)) 1) ⊢ bigSep Finset.univ (fun p : Fin 2 × Fin 4 => pos E c (eN p.1 p.2) (rounds c (eN p.1 p.2))) :=
      bigSep_mono fun p _ => by rw [s4_val, show rounds c (eN p.1 p.2) = 1 from if_pos h]; exact BI.Entails.refl _
    have hW : bigSep Finset.univ (fun p : Fin 2 × Fin 4 => some' c (fwd p.1 (s4 p.2.val))) ⊢ (bigSep Finset.univ (fun p : Fin 2 × Fin 4 => some' c (fwd p.1 p.2)) : sProp 𝕄) :=
      bigSep_mono fun p _ => by rw [s4_val]; exact BI.Entails.refl _
    iintro ⟨H1, ⟨H2, H3, -⟩, ⟨H4, H5, H6⟩, -⟩
    isplitr [H6]
    · isplitl [H1]; · iapply ha; rw [bigSep_sep']; iexact H1
      isplitl [H2]; · iapply hS; iexact H2
      isplitl [H3]; · iapply hG; iexact H3
      isplitl [H4]; · iapply hF; iexact H4
      iapply hN; iexact H5
    · iapply hW; iexact H6
  · rw [if_neg h, if_neg h, if_neg h]
    have hF : bigSep Finset.univ (fun p : Fin 2 × Fin 4 => pos E c (eF p.1 p.2) 0) ⊢ bigSep Finset.univ (fun p : Fin 2 × Fin 4 => pos E c (eF p.1 p.2) (rounds c (eF p.1 p.2))) :=
      bigSep_mono fun p _ => by rw [show rounds c (eF p.1 p.2) = 0 from if_neg h]; exact BI.Entails.refl _
    have hN : bigSep Finset.univ (fun p : Fin 2 × Fin 4 => pos E c (eN p.1 p.2) 0) ⊢ bigSep Finset.univ (fun p : Fin 2 × Fin 4 => pos E c (eN p.1 p.2) (rounds c (eN p.1 p.2))) :=
      bigSep_mono fun p _ => by rw [show rounds c (eN p.1 p.2) = 0 from if_neg h]; exact BI.Entails.refl _
    iintro ⟨H1, ⟨H2, H3, H4, H5⟩, -, H6⟩
    isplitr [H6]
    · isplitl [H1]; · iapply ha; iexact H1
      isplitl [H2]; · iapply hS; iexact H2
      isplitl [H3]; · iapply hG; iexact H3
      isplitl [H4]; · iapply hF; iexact H4
      iapply hN; iexact H5
    · iexact H6

end Outer

end Cert.KernelIdeal.AT

end
-- ==== Proof.KernelIdeal.AtZero.lean ====
/- What device 0 starts its staging with, what it then attends with, and what it ends with. -/
module

public import proofs.«01_k».proof.Proof.KernelIdeal.AtRun

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32)

/-! ## Device 0's tasks, those that send and those that keep -/

def sendI : Finset ℕ := (Finset.Ico 0 64).filter fun i => ¬tk i = 3
def ownI : Finset ℕ := (Finset.Ico 0 64).filter fun i => tk i = 3
theorem send_mem {i : ℕ} (h : i ∈ sendI) : tk i ≠ 3 := (Finset.mem_filter.mp h).2
theorem own_mem {i : ℕ} (h : i ∈ ownI) : tk i = 3 := (Finset.mem_filter.mp h).2

section Zero

theorem tasks_split (Φ : ℕ → sProp 𝕄) : bigSep (Finset.Ico 0 64) Φ = iprop(bigSep ownI Φ ∗ bigSep sendI Φ) := bigSep_filter_split _ _

theorem inj_G : ∀ i ∈ Finset.Ico 0 64, ∀ j ∈ Finset.Ico 0 64, (eG (ts i), i / 4 % 16) = (eG (ts j), j / 4 % 16) → i = j := by decide +kernel
theorem inj_S : ∀ i ∈ sendI, ∀ j ∈ sendI, (tv i, sl (tn i), tn i / 16 % 16) = (tv j, sl (tn j), tn j / 16 % 16) → i = j := by decide +kernel
theorem inj_T : ∀ i ∈ sendI, ∀ j ∈ sendI, (dT i, dX i) = (dT j, dX j) → i = j := by decide +kernel
theorem inj_own : ∀ i ∈ ownI, ∀ j ∈ ownI, (tv i, th i) = (tv j, th j) → i = j := by decide +kernel
theorem tn_lt : ∀ i ∈ sendI, tn i / 16 % 16 = tn i / 16 := by decide +kernel
theorem dT_ne : ∀ i ∈ sendI, dT i ≠ 0 := by decide +kernel

abbrev tokG (j : ℕ) : sProp 𝕄 := dutyTok E (cell 0 (eG (ts j))) (j / 4) 0
abbrev tokS (i : ℕ) : sProp 𝕄 := dutyTok E (cell 0 (eS (tv i) (sl (tn i)))) (tn i / 16) 0
abbrev tokT (i : ℕ) : sProp 𝕄 := dutyTok E (cell (dT i) (dX i)) 0 0

theorem zero_toks : (tokAll E 0 : sProp 𝕄) ⊢ iprop(bigSep (Finset.Ico 0 64) (tokG E) ∗ bigSep sendI (tokS E) ∗ bigSep sendI (tokT E)) := by
  unfold tokAll
  refine (take Finset.univ (Finset.Ico 0 64) (fun j => ((0, eG (ts j), ⟨j / 4 % 16, Nat.mod_lt _ (by decide)⟩) : Tok)) (fun i hi j hj h => ?_) (fun _ _ => Finset.mem_univ _)
    (Ψ := tokG E) fun j hj => ?_).trans ?_
  · exact inj_G i hi j hj (Prod.ext (congrArg (fun t : Tok => t.2.1) h) (congrArg (fun t : Tok => t.2.2.val) h))
  · refine (Entails.of_eq (if_pos rfl)).trans ?_
    have h := (Finset.mem_Ico.mp hj).2
    show dutyTok E (cell 0 (eG (ts j))) (j / 4 % 16) 0 ⊢ _
    rw [show j / 4 % 16 = j / 4 by omega]
  refine BIClass.sep_mono (BI.Entails.refl _) ?_
  refine (take _ sendI (fun i => ((0, eS (tv i) (sl (tn i)), ⟨tn i / 16 % 16, Nat.mod_lt _ (by decide)⟩) : Tok)) (fun i hi j hj h => ?_) (fun i _ => ?_)
    (Ψ := tokS E) fun i hi => ?_).trans ?_
  · have h1 := Sum.inl.inj (Sum.inr.inj (congrArg (fun t : Tok => t.2.1) h))
    exact inj_S i hi j hj (Prod.ext (congrArg (fun t : Fin 2 × Fin 16 => t.1) h1) (Prod.ext (congrArg (fun t : Fin 2 × Fin 16 => t.2) h1) (congrArg (fun t : Tok => t.2.2.val) h)))
  · rw [Finset.mem_sdiff]
    refine ⟨Finset.mem_univ _, fun hm => ?_⟩
    obtain ⟨q, -, h⟩ := Finset.mem_image.mp hm
    cases Sum.inr.inj (congrArg (fun t : Tok => t.2.1) h)
  · refine (Entails.of_eq (if_pos rfl)).trans ?_
    show dutyTok E (cell 0 (eS (tv i) (sl (tn i)))) (tn i / 16 % 16) 0 ⊢ _
    rw [tn_lt i hi]
  refine BIClass.sep_mono (BI.Entails.refl _) ?_
  refine takes _ sendI (fun i => ((dT i, dX i, 0) : Tok)) (fun i hi j hj h => ?_) (fun i hi => ?_) (Ψ := tokT E) fun i hi => ?_
  · exact inj_T i hi j hj (Prod.ext (congrArg (fun t : Tok => t.1) h) (congrArg (fun t : Tok => t.2.1) h))
  · rw [Finset.mem_sdiff, Finset.mem_sdiff]
    refine ⟨⟨Finset.mem_univ _, fun hm => ?_⟩, fun hm => ?_⟩
    · obtain ⟨q, -, h⟩ := Finset.mem_image.mp hm
      exact dT_ne i hi (congrArg (fun t : Tok => t.1) h).symm
    · obtain ⟨q, -, h⟩ := Finset.mem_image.mp hm
      exact dT_ne i hi (congrArg (fun t : Tok => t.1) h).symm
  · refine (Entails.of_eq (if_pos (payer_d i))).trans ?_
    show dutyTok E (cell (dT i) (dX i)) 0 (payer (dT i) (dX i)).val ⊢ _
    rw [payer_d]
    exact BI.Entails.refl _

theorem zero_needT : iprop(kvs 0 ∗ bigSep sendI (tokS E) ∗ bigSep sendI (tokT E) ∗ slotsIn E 0) ⊢ bigSep (Finset.Ico 0 64) (needT E) := by
  have hk : (kvs 0 : sProp 𝕄) ⊢ bigSep ownI (needT E) := by
    unfold kvs
    refine takes Finset.univ ownI (fun i => (tv i, th i)) (fun i hi j hj h => inj_own i hi j hj h) (fun _ _ => Finset.mem_univ _) fun i hi => ?_
    rw [needT_own E (own_mem hi)]
  have hs : (slotsIn E 0 : sProp 𝕄) ⊢ bigSep sendI (fun i => slotPay E (dT i) (dX i)) := by
    unfold slotsIn
    exact takes Finset.univ sendI (fun i => (dT i, dX i)) (fun i hi j hj h => inj_T i hi j hj h) (fun _ _ => Finset.mem_univ _) fun i hi =>
      Entails.of_eq (if_pos ⟨payer_d i, by show 0 < rounds (dT i) (dX i); rw [rounds_d]; exact Nat.one_pos⟩)
  rw [tasks_split, bigSep_congr (s := sendI) (fun i hi => needT_send E (send_mem hi)), bigSep_sep', bigSep_sep']
  iintro ⟨K, S, T, P⟩
  isplitl [K]; · iapply hk; iexact K
  isplitl [S]; · iexact S
  isplitl [T]; · iexact T
  iapply hs; iexact P

/-- What stays unused at device 0. -/
def idleZ : sProp 𝕄 :=
  iprop(bigSep Finset.univ (fun p : Fin 2 × Fin 8 => pos E 0 (eR p.1 p.2) 0) ∗ bigSep Finset.univ (fun p : Fin 2 × Fin 4 => pos E 0 (eF p.1 p.2) 0)
    ∗ bigSep Finset.univ (fun p : Fin 2 × Fin 4 => pos E 0 (eN p.1 p.2) 0))

theorem zero_in : iprop(posAll E 0 (fun _ => 0) ∗ reachedAll E 0 ∗ tokAll E 0 ∗ slotsIn E 0 ∗ kvs 0 ∗ pools 0 ∗ stags 0 ∗ bigSep (Finset.Ico 0 64) (srcO A))
    ⊢ iprop((freeS E 0 ∗ freeS E 1 ∗ freeS E 2 ∗ freeS E 3) ∗ bigSep (Finset.Ico 0 64) (needF E A) ∗ bigSep (Finset.Ico 0 64) (needT E)
      ∗ bigSep Finset.univ (fun v => poolB E v (cnt v 0)) ∗ idleZ E) := by
  have hG : iprop(bigSep Finset.univ (fun s : Fin 4 => pos E 0 (eG s) 0) ∗ bigSep Finset.univ (fun s : Fin 4 => reached E (cell 0 (eG s)) 0) ∗ stags 0)
      ⊢ iprop(freeS E 0 ∗ freeS E 1 ∗ freeS E 2 ∗ freeS E 3) := by
    unfold stags
    rw [← bigSep_sep', ← bigSep_sep']
    exact Entails.of_eq (bigSep_univ_eq_bigSepL [0, 1, 2, 3] (by decide) (by decide) _)
  have hP : iprop(bigSep Finset.univ (fun p : Fin 2 × Fin 16 => pos E 0 (eS p.1 p.2) 0) ∗ bigSep Finset.univ (fun p : Fin 2 × Fin 16 => reached E (cell 0 (eS p.1 p.2)) 0) ∗ pools 0)
      ⊢ bigSep Finset.univ (fun v => poolB E v (cnt v 0)) := by
    unfold pools poolB
    rw [← bigSep_sep', ← bigSep_sep', bigSep_univ_prod]
    refine bigSep_mono fun v _ => ?_
    rw [show cnt v 0 = 0 by have := v.isLt; show 0 + min 3 ((0 + (1 - v.val)) / 2) = 0; omega, Ico_none (Nat.le_refl 0), ← fin_Ico (n := 16) (freeP E v)]
    have h : bigSep Finset.univ (fun b : Fin 16 => iprop(pos E 0 (eS v b) 0 ∗ reached E (cell 0 (eS v b)) 0 ∗ some' 0 (pool v b)))
        ⊢ bigSep Finset.univ (fun i : Fin 16 => freeP E v i.val) := bigSep_mono fun s _ => by
      unfold freeP
      rw [show sl s.val = s from Fin.ext (Nat.mod_eq_of_lt s.isLt), show s.val / 16 = 0 from Nat.div_eq_of_lt s.isLt]
      exact BI.Entails.refl _
    have h2 : (bigSep Finset.univ (fun i : Fin 16 => freeP E v i.val) : sProp 𝕄) ⊢ iprop(bigSep Finset.univ (fun i : Fin 16 => freeP E v i.val) ∗ bigSep ∅ (flyP E v)) := by
      rw [bigSep_empty]
      iintro H
      isplitl
      · iexact H
      · iempintro
    exact h.trans h2
  unfold posAll reachedAll needF idleZ
  rw [big_end, big_end, bigSep_sep']
  iintro ⟨⟨P1, P2, P3, P4, P5⟩, ⟨-, R2, R3, -, -⟩, HT, HS, HK, HP, HG, Ho⟩
  ihave HT := (zero_toks E) $$ HT
  icases HT with ⟨TG, TS, TT⟩
  isplitl [P3 R3 HG]
  · iapply hG
    isplitl [P3]; · iexact P3
    isplitl [R3] <;> iassumption
  isplitl [Ho TG]
  · isplitl [Ho] <;> iassumption
  isplitl [HK TS TT HS]
  · iapply (zero_needT E)
    isplitl [HK]; · iexact HK
    isplitl [TS]; · iexact TS
    isplitl [TT] <;> iassumption
  isplitl [P2 R2 HP]
  · iapply hP
    isplitl [P2]; · iexact P2
    isplitl [R2] <;> iassumption
  isplitl [P1]; · iexact P1
  isplitl [P4] <;> iassumption

/-- The task that keeps head `h` of array `v`. -/
abbrev ownT (v : Fin 2) (h : ℕ) : ℕ := 8 * (h % 8) + 6 + v.val
theorem ownT_facts : ∀ p : Fin 2 × Fin 8, ownT p.1 p.2.val ∈ ownI ∧ tv (ownT p.1 p.2.val) = p.1 ∧ th (ownT p.1 p.2.val) = p.2 ∧ tg (ownT p.1 p.2.val) = hd 0 p.2 := by decide +kernel
theorem ownT_inj : ∀ p q : Fin 2 × Fin 8, ownT p.1 p.2.val = ownT q.1 q.2.val → p = q := by decide +kernel
theorem lastN_inj : ∀ i j : Fin 16, lastN i.val = lastN j.val → i = j := by decide +kernel
theorem lastN_mem : ∀ i : Fin 16, lastN i.val ∈ Finset.Ico 8 24 := by decide +kernel

theorem zero_mid : iprop(bigSep (Finset.Ico 0 64) (doneT A) ∗ bigSep Finset.univ (fun v => poolB E v (cnt v 64)))
    ⊢ iprop(bigSep (Finset.Ico 0 8) (fun i => iprop(arrPre E A 0 0 i ∗ arrPre E A 0 1 i))
      ∗ bigSep (Finset.Ico 0 16) (fun s => iprop(flyP E 0 (lastN s) ∗ flyP E 1 (lastN s)))) := by
  have hd' : bigSep (Finset.Ico 0 64) (doneT A) ⊢ (bigSep (Finset.Ico 0 8) (fun i => iprop(arrPre E A 0 0 i ∗ arrPre E A 0 1 i)) : sProp 𝕄) := by
    rw [tasks_split, ← two_fams (n := 8) (arrPre E A 0)]
    iintro ⟨H, -⟩
    iapply (takes (Φ := doneT A) (Ψ := fun p : Fin 2 × Fin 8 => arrPre E A 0 p.1 p.2.val) ownI Finset.univ (fun p : Fin 2 × Fin 8 => ownT p.1 p.2.val) (fun p _ q _ h => ownT_inj p q h) (fun p _ => (ownT_facts p).1) fun p _ => (by
      rw [doneT_own A (own_mem (ownT_facts p).1)]
      unfold arrPre got kvV
      rw [if_pos rfl, h8_val, (ownT_facts p).2.1, (ownT_facts p).2.2.1, (ownT_facts p).2.2.2]))
    iexact H
  have hp : bigSep Finset.univ (fun v => poolB E v (cnt v 64)) ⊢ bigSep (Finset.Ico 0 16) (fun s => iprop(flyP E 0 (lastN s) ∗ flyP E 1 (lastN s))) := by
    rw [← two_fams (n := 16) (fun v s => flyP E v (lastN s)), bigSep_univ_prod]
    refine bigSep_mono fun v _ => ?_
    unfold poolB
    rw [show cnt v 64 = 24 by have := v.isLt; show 24 + min 3 ((0 + (1 - v.val)) / 2) = 24; omega]
    have h : (iprop(bigSep (Finset.Ico 24 16) (freeP E v) ∗ bigSep (Finset.Ico (24 - 16) 24) (flyP E v)) : sProp 𝕄) ⊢ bigSep Finset.univ (fun s : Fin 16 => flyP E v (lastN s.val)) := by
      iintro ⟨-, H⟩
      iapply (takes (Ψ := fun s : Fin 16 => flyP E v (lastN s.val)) (Finset.Ico (24 - 16) 24) Finset.univ (fun s : Fin 16 => lastN s.val) (fun p _ q _ h => lastN_inj p q h) (fun p _ => lastN_mem p) fun p _ => BI.Entails.refl _)
      iexact H
    exact h
  exact BIClass.sep_mono hd' hp

theorem stag_back (j : ℕ) (s : Fin 4) (h : ts j = s ∧ j / 4 = 16) : (freeS E j : sProp 𝕄) ⊢ iprop(pos E 0 (eG s) (rounds 0 (eG s)) ∗ some' 0 (stag s)) := by
  obtain ⟨rfl, h2⟩ := h
  unfold freeS
  rw [h2, show rounds 0 (eG (ts j)) = 16 from rfl]
  iintro ⟨H, -, G⟩
  isplitl [H] <;> iassumption

theorem zero_out : iprop((st E 64 ∗ st E 65 ∗ st E 66 ∗ freeS E 67) ∗ bigSep (Finset.Ico 0 16) (fun s => iprop(freeP E 0 (lastN s + 16) ∗ freeP E 1 (lastN s + 16))) ∗ idleZ E)
    ⊢ iprop(posAll E 0 (rounds 0) ∗ pools 0 ∗ stags 0) := by
  have hG : iprop(st E 64 ∗ st E 65 ∗ st E 66 ∗ freeS E 67)
      ⊢ iprop(bigSep Finset.univ (fun s : Fin 4 => pos E 0 (eG s) (rounds 0 (eG s))) ∗ stags 0) := by
    unfold st stags
    rw [if_neg (by decide), if_neg (by decide), if_neg (by decide), ← bigSep_sep']
    refine BIBase.Entails.trans ?_ (Entails.of_eq (bigSep_univ_eq_bigSepL [0, 1, 2, 3] (by decide) (by decide) _).symm)
    exact BIClass.sep_mono (stag_back E 64 0 (by decide)) (BIClass.sep_mono (stag_back E 65 1 (by decide)) (BIClass.sep_mono (stag_back E 66 2 (by decide)) (stag_back E 67 3 (by decide))))
  have hS : bigSep (Finset.Ico 0 16) (fun s => iprop(freeP E 0 (lastN s + 16) ∗ freeP E 1 (lastN s + 16)))
      ⊢ iprop(bigSep Finset.univ (fun p : Fin 2 × Fin 16 => pos E 0 (eS p.1 p.2) (rounds 0 (eS p.1 p.2))) ∗ pools 0) := by
    unfold pools
    rw [← two_fams (n := 16) (fun v s => freeP E v (lastN s + 16)), ← bigSep_sep']
    refine bigSep_mono fun p _ => ?_
    have hs : sl (lastN p.2.val + 16) = p.2 := Fin.ext (by have := p.2.isLt; show (lastN p.2.val + 16) % 16 = p.2.val; unfold lastN; split <;> omega)
    have hr : (lastN p.2.val + 16) / 16 = rounds 0 (eS p.1 p.2) := by
      have := p.2.isLt
      show (lastN p.2.val + 16) / 16 = if p.2.val < 8 then 2 else 1
      unfold lastN; split <;> omega
    unfold freeP
    rw [hs, hr]
    have h : (iprop(pos E 0 (eS p.1 p.2) (rounds 0 (eS p.1 p.2)) ∗ reached E (cell 0 (eS p.1 p.2)) (rounds 0 (eS p.1 p.2)) ∗ some' 0 (pool p.1 p.2)) : sProp 𝕄)
        ⊢ iprop(pos E 0 (eS p.1 p.2) (rounds 0 (eS p.1 p.2)) ∗ some' 0 (pool p.1 p.2)) := by
      iintro ⟨H, -, G⟩
      isplitl [H] <;> iassumption
    exact h
  unfold posAll idleZ
  rw [big_end]
  iintro ⟨HG, HS, P1, P4, P5⟩
  ihave HG := hG $$ HG
  ihave HS := hS $$ HS
  icases HG with ⟨P3, HG⟩
  icases HS with ⟨P2, HS⟩
  isplitr [HS HG]
  · isplitl [P1]; · iexact P1
    isplitl [P2]; · iexact P2
    isplitl [P3]; · iexact P3
    isplitl [P4]; · iexact P4
    iexact P5
  · isplitl [HS] <;> iassumption

end Zero

end Cert.KernelIdeal.AT

end
-- ==== Proof.KernelIdeal.AtBody.lean ====
/- The whole body of the attention call, on every device. -/
module

public import proofs.«01_k».proof.Proof.KernelIdeal.AtZero

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32) (κ : GSem nD τ sig → ℕ) (c : Dev nD) {D : CellTallies nD τ sig Unit} (hD : Later D)
variable (x : FVec F S2048x1024 .bf16) (wq : FVec F S1024x1024 .bf16) (wo : FVec F S1024x1024 .bf16)

/-! ## The whole body of the attention call -/

abbrev srcs : sProp 𝕄 := if c = 0 then bigSep (Finset.Ico 0 64) (srcO A) else iprop(emp)

/-- What device `c` enters with. -/
def Start : sProp 𝕄 :=
  iprop(Inv E A κ ∗ levAts L lv ∗ barStart E c ∗ posAll E c (fun _ => 0) ∗ reachedAll E c ∗ tokAll E c ∗ crdAll c ∗ bufs c ∗ ins x wq wo c ∗ some' c outM ∗ srcs A c
    ∗ Owes c D (dues c))

/-- What device `c` leaves with. -/
def Fin' : sProp 𝕄 :=
  iprop(atPos E (barCell c) 1 ∅ 0 ∗ posAll E c (rounds c) ∗ bufs c ∗ ins x wq wo c ∗ outSt x wq wo (kvV A c 0) (kvV A c 1) c (fun _ => 8) ∗ srcs A c ∗ Owes c D [])

section Body

omit [E.LandsIn (upEmb : UEmb _ 𝕄)] in
theorem out_start (K V : Fin 8 → FVec F S2048x128 .bf16) : (some' c outM : sProp 𝕄) ⊢ outSt x wq wo K V c (fun _ => 0) := by
  unfold some' outSt
  iintro ⟨%f, H⟩
  iexists f
  isplitr
  · ipureintro
    intro q h
    exact absurd rfl h
  · iexact H

theorem wp_skip (c : Dev nD) (Kt : PUnit → sProp 𝕄) : Kt ⟨⟩ ⊢ WP c (pure ⟨⟩ : Pr F PUnit) Kt := by
  show _ ⊢ WP c (Prog.ret ⟨⟩) Kt
  unfold WP
  rw [wp_ret]
  iintro H
  imodintro
  iexact H

include hD in
theorem wp_staging (Kt : PUnit → sProp 𝕄) :
    iprop(Inv E A κ ∗ levAts L lv ∗ (freeS E 0 ∗ freeS E 1 ∗ freeS E 2 ∗ freeS E 3) ∗ bigSep (Finset.Ico 0 64) (needF E A) ∗ bigSep (Finset.Ico 0 64) (needT E)
        ∗ bigSep Finset.univ (fun v => poolB E v (cnt v 0)) ∗ Owes 0 D (td 64 0)
        ∗ (stage E A κ (D := D) 64 -∗ Kt ⟨⟩))
      ⊢ WP 0 staging Kt := by
  have first : ∀ (j : ℕ) (hj : j < 64) (Kt : PUnit → sProp 𝕄), iprop(Inv E A κ ∗ freeS E j ∗ needF E A j ∗ (st E j -∗ Kt ⟨⟩)) ⊢ WP 0 (fetchT j) Kt := by
    intro j hj Kt
    unfold needF srcO freeS st flyS
    rw [if_pos hj]
    iintro ⟨HI, ⟨Hp, Hr, Hs⟩, ⟨Ho, Ht⟩, Hk⟩
    iapply (wp_fetch E A κ j hj Kt)
    isplitl [HI]; · iexact HI
    isplitl [Ho]; · iexact Ho
    isplitl [Hs]; · iexact Hs
    isplitl [Ht Hr]
    · unfold tok
      isplitl [Ht]; · iexact Ht
      iexact Hr
    iintro Hc
    iapply Hk
    isplitl [Hp]; · iexact Hp
    iexact Hc
  rw [bigSep_Ico_succ_bot (by decide : 0 < 64) (needF E A), bigSep_Ico_succ_bot (by decide : 0 + 1 < 64) (needF E A), bigSep_Ico_succ_bot (by decide : 0 + 1 + 1 < 64) (needF E A)]
  unfold staging
  unfold WP
  rw [wp_bind]
  iintro ⟨#HI, #HL, ⟨F0, F1, F2, F3⟩, ⟨N0, N1, N2, HF⟩, HT, HP, HO, Hk⟩
  iapply (first 0 (by decide))
  isplitr; · iexact HI
  isplitl [F0]; · iexact F0
  isplitl [N0]; · iexact N0
  iintro S0
  rw [wp_bind]
  iapply (first 1 (by decide))
  isplitr; · iexact HI
  isplitl [F1]; · iexact F1
  isplitl [N1]; · iexact N1
  iintro S1
  rw [wp_bind]
  iapply (first 2 (by decide))
  isplitr; · iexact HI
  isplitl [F2]; · iexact F2
  isplitl [N2]; · iexact N2
  iintro S2
  iapply (wp_loop 0 task (stage E A κ (D := D)) 64 (fun i hi Kt => wp_task E A κ hD i hi Kt) 64 0 (by decide) Kt)
  isplitr [Hk]
  · unfold stage
    isplitr; · iexact HI
    isplitr; · iexact HL
    isplitl [S0 S1 S2 F3]
    · isplitl [S0]; · iexact S0
      isplitl [S1]; · iexact S1
      isplitl [S2] <;> iassumption
    isplitl [HF]; · iexact HF
    isplitl [HT]; · iexact HT
    rw [Ico_none (Nat.le_refl 0), Ico_none (Nat.le_refl 0)]
    isplitr; · iempintro
    isplitr; · iempintro
    isplitl [HP]; · iexact HP
    iexact HO
  · iexact Hk

include hD in
theorem wp_heads (Kt : PUnit → sProp 𝕄) :
    iprop(Inv E A κ ∗ levAts L lv ∗ ins x wq wo c ∗ some' c outM ∗ bigSep (Finset.Ico 0 8) (passes c (passPre E c))
        ∗ bigSep (Finset.Ico 0 8) (fun i => iprop(arrPre E A c 0 i ∗ arrPre E A c 1 i)) ∗ Owes c D (td2 c 8 0)
        ∗ (ins x wq wo c -∗ outSt x wq wo (kvV A c 0) (kvV A c 1) c (fun _ => 8) -∗ bigSep (Finset.Ico 0 8) (passes c (passMid E c))
          -∗ bigSep (Finset.Ico 0 8) (fun i => iprop(arrPost E c 0 i ∗ arrPost E c 1 i)) -∗ kvs c -∗ Owes c D [] -∗ Kt ⟨⟩))
      ⊢ WP c (loop (head c) 8 0) Kt := by
  iintro ⟨#HI, #HL, Hi, Ho, Hp, Ha, HO, Hk⟩
  iapply (wp_loop c (head c) (heads E A κ c (D := D) x wq wo) 8 (fun i hi Kt => wp_head E A κ c hD x wq wo i hi Kt) 8 0 (by decide) Kt)
  isplitr [Hk]
  · unfold heads
    isplitr; · iexact HI
    isplitr; · iexact HL
    isplitl [Hi]; · iexact Hi
    isplitl [Ho]; · iapply (out_start c x wq wo); iexact Ho
    isplitl [Hp]; · iexact Hp
    rw [Ico_none (Nat.le_refl 0), Ico_none (Nat.le_refl 0), Ico_none (Nat.le_refl 0)]
    isplitr; · iempintro
    isplitl [Ha]; · iexact Ha
    isplitr; · iempintro
    isplitr; · iempintro
    iexact HO
  · unfold heads
    iintro ⟨-, -, Hi, Ho, -, Hp, -, Ha, Hg, HO⟩
    iapply Hk $$ [Hi] [Ho] [Hp] [Ha] [Hg] [HO]
    · iexact Hi
    · iexact Ho
    · iexact Hp
    · iexact Ha
    · iapply (heads_back A c); iexact Hg
    · iexact HO

include hD in
theorem wp_drained (Kt : PUnit → sProp 𝕄) :
    iprop(Inv E A κ ∗ levAts L lv ∗ bigSep (Finset.Ico 0 16) (fun s => iprop(flyP E 0 (lastN s) ∗ flyP E 1 (lastN s))) ∗ Owes 0 D []
        ∗ (bigSep (Finset.Ico 0 16) (fun s => iprop(freeP E 0 (lastN s + 16) ∗ freeP E 1 (lastN s + 16))) -∗ Owes 0 D [] -∗ Kt ⟨⟩))
      ⊢ WP 0 (loop drain 16 0) Kt := by
  iintro ⟨#HI, #HL, Hf, HO, Hk⟩
  iapply (wp_loop 0 drain (drains E A κ (D := D)) 16 (fun i hi Kt => wp_drain E A κ hD i hi Kt) 16 0 (by decide) Kt)
  isplitr [Hk]
  · unfold drains
    isplitr; · iexact HI
    isplitr; · iexact HL
    isplitl [Hf]; · iexact Hf
    rw [Ico_none (Nat.le_refl 0)]
    isplitr; · iempintro
    iexact HO
  · unfold drains
    iintro ⟨-, -, -, Hf, HO⟩
    iapply Hk $$ [Hf] [HO]
    · iexact Hf
    · iexact HO

include hD in
theorem wp_drainedF (hc : c = 1 ∨ c = 3) (Kt : PUnit → sProp 𝕄) :
    iprop(Inv E A κ ∗ levAts L lv ∗ bigSep (Finset.Ico 0 4) (fun s => iprop(passMid E c 0 s ∗ passMid E c 1 s)) ∗ Owes c D []
        ∗ (bigSep (Finset.Ico 0 4) (fun s => iprop(passPost E c 0 s ∗ passPost E c 1 s)) -∗ Owes c D [] -∗ Kt ⟨⟩))
      ⊢ WP c (loop drainF 4 0) Kt := by
  iintro ⟨#HI, #HL, Hf, HO, Hk⟩
  iapply (wp_loop c drainF (drainsF E A κ c (D := D)) 4 (fun i hi Kt => wp_drainF E A κ c hD hc i hi Kt) 4 0 (by decide) Kt)
  isplitr [Hk]
  · unfold drainsF
    isplitr; · iexact HI
    isplitr; · iexact HL
    isplitl [Hf]; · iexact Hf
    rw [Ico_none (Nat.le_refl 0)]
    isplitr; · iempintro
    iexact HO
  · unfold drainsF
    iintro ⟨-, -, -, Hf, HO⟩
    iapply Hk $$ [Hf] [HO]
    · iexact Hf
    · iexact HO

include hD in
theorem wp_zero (Kt : PUnit → sProp 𝕄) : iprop(Start E A κ 0 (D := D) x wq wo ∗ (Fin' E A 0 (D := D) x wq wo -∗ Kt ⟨⟩)) ⊢ WP 0 (prog 0) Kt := by
  unfold prog Start bufs srcs
  rw [if_pos rfl, if_pos rfl, if_pos rfl, if_neg (by decide : ¬((0 : Dev nD) = 1 ∨ (0 : Dev nD) = 3))]
  unfold WP
  rw [wp_bind]
  iintro ⟨⟨#HI, #HL, HB, Hpos, #Hr, HT, -, ⟨Bk, Bp, Bs, Bf⟩, Hins, Hout, Hsrc, HO⟩, Hk⟩
  iapply (wp_entry E A κ 0 hD)
  isplitr; · iexact HI
  isplitr; · iexact HL
  isplitl [HB]; · iexact HB
  isplitl [Bk]; · iexact Bk
  isplitl [Bf]; · iexact Bf
  isplitr; · iexact Hr
  isplitl [HO]; · iexact HO
  rw [if_pos rfl]
  iintro HO Hat HS Hkk Hfk
  ihave Hkk := (Entails.of_eq (show (kvKeep 0 : sProp 𝕄) = kvs 0 from if_pos rfl)) $$ Hkk
  ihave Hfk := (Entails.of_eq (show (fwdKeep 0 : sProp 𝕄) = fwds 0 from if_neg (by decide))) $$ Hfk
  ihave Z := (zero_in E A) $$ [Hpos HT HS Hkk Bp Bs Hsrc]
  · isplitl [Hpos]; · iexact Hpos
    isplitr; · iexact Hr
    isplitl [HT]; · iexact HT
    isplitl [HS]; · iexact HS
    isplitl [Hkk]; · iexact Hkk
    isplitl [Bp]; · iexact Bp
    isplitl [Bs]; · iexact Bs
    iexact Hsrc
  icases Z with ⟨ZS, ZF, ZT, ZP, ZI⟩
  rw [wp_bind]
  iapply (wp_staging E A κ hD)
  isplitr; · iexact HI
  isplitr; · iexact HL
  isplitl [ZS]; · iexact ZS
  isplitl [ZF]; · iexact ZF
  isplitl [ZT]; · iexact ZT
  isplitl [ZP]; · iexact ZP
  isplitl [HO]; · iexact HO
  unfold stage
  iintro ⟨-, -, ZS, -, -, Hsrc, ZD, ZP, HO⟩
  ihave M := (zero_mid E A) $$ [ZD ZP]
  · isplitl [ZD] <;> iassumption
  icases M with ⟨Ma, Mp⟩
  rw [wp_bind]
  iapply (wp_heads E A κ 0 hD x wq wo)
  isplitr; · iexact HI
  isplitr; · iexact HL
  isplitl [Hins]; · iexact Hins
  isplitl [Hout]; · iexact Hout
  isplitr
  · rw [passes_fam, pas_none 0 (by decide), bigSep_empty]
    iempintro
  isplitl [Ma]; · iexact Ma
  isplitl [HO]; · rw [dues_zero]; iexact HO
  iintro Hins Hout - - Bk HO
  rw [wp_bind]
  iapply (wp_drained E A κ hD)
  isplitr; · iexact HI
  isplitr; · iexact HL
  isplitl [Mp]; · iexact Mp
  isplitl [HO]; · iexact HO
  iintro Mp HO
  ihave Q := (zero_out E) $$ [ZS Mp ZI]
  · isplitl [ZS]; · iexact ZS
    isplitl [Mp] <;> iassumption
  icases Q with ⟨Hpos, Bp, Bs⟩
  iapply (wp_skip 0 Kt)
  iapply Hk
  unfold Fin' bufs srcs
  isplitl [Hat]; · iexact Hat
  isplitl [Hpos]; · iexact Hpos
  isplitl [Bk Bp Bs Hfk]
  · isplitl [Bk]; · iexact Bk
    isplitl [Bp]; · iexact Bp
    isplitl [Bs]; · iexact Bs
    iexact Hfk
  isplitl [Hins]; · iexact Hins
  isplitl [Hout]; · iexact Hout
  isplitl [Hsrc]; · rw [if_pos rfl]; iexact Hsrc
  iexact HO

include hD in
theorem wp_other (hc : c ≠ 0) (Kt : PUnit → sProp 𝕄) : iprop(Start E A κ c (D := D) x wq wo ∗ (Fin' E A c (D := D) x wq wo -∗ Kt ⟨⟩)) ⊢ WP c (prog c) Kt := by
  unfold prog Start bufs srcs
  rw [if_neg hc, if_neg hc, if_neg hc]
  unfold WP
  rw [wp_bind]
  iintro ⟨⟨#HI, #HL, HB, Hpos, #Hr, HT, HC, ⟨Bk, Bp, Bs, Bf⟩, Hins, Hout, -, HO⟩, Hk⟩
  iapply (wp_entry E A κ c hD)
  isplitr; · iexact HI
  isplitr; · iexact HL
  isplitl [HB]; · iexact HB
  isplitl [Bk]; · iexact Bk
  isplitl [Bf]; · iexact Bf
  isplitr; · iexact Hr
  isplitl [HO]; · iexact HO
  rw [if_neg hc]
  iintro HO Hat HS - Hfk
  ihave Z := (nz_in E A c hc) $$ [Hpos HC HT HS]
  · isplitl [Hpos]; · iexact Hpos
    isplitl [HC]; · iexact HC
    isplitr; · iexact Hr
    isplitl [HT] <;> iassumption
  icases Z with ⟨Zp, Za, ZI⟩
  rw [wp_bind]
  iapply (wp_skip c)
  rw [wp_bind]
  iapply (wp_heads E A κ c hD x wq wo)
  isplitr; · iexact HI
  isplitr; · iexact HL
  isplitl [Hins]; · iexact Hins
  isplitl [Hout]; · iexact Hout
  isplitl [Zp]; · iexact Zp
  isplitl [Za]; · iexact Za
  isplitl [HO]; · iexact HO
  iintro Hins Hout Zp Za Bk HO
  rw [wp_bind]
  iapply (wp_skip c)
  by_cases h : c = 1 ∨ c = 3
  · rw [if_pos h]
    iapply (wp_drainedF E A κ c hD h)
    isplitr; · iexact HI
    isplitr; · iexact HL
    isplitl [Zp]; · iapply (nz_mid E c h); iexact Zp
    isplitl [HO]; · iexact HO
    iintro Zp HO
    ihave Q := (nz_out E c hc) $$ [Za ZI Zp Hfk]
    · rw [if_pos h]
      isplitl [Za]; · iexact Za
      isplitl [ZI]; · iexact ZI
      isplitl [Zp] <;> iassumption
    icases Q with ⟨Hpos, Bf⟩
    iapply Hk
    unfold Fin' bufs srcs
    rw [if_neg hc]
    isplitl [Hat]; · iexact Hat
    isplitl [Hpos]; · iexact Hpos
    isplitl [Bk Bp Bs Bf]
    · isplitl [Bk]; · iexact Bk
      isplitl [Bp]; · iexact Bp
      isplitl [Bs] <;> iassumption
    isplitl [Hins]; · iexact Hins
    isplitl [Hout]; · iexact Hout
    isplitr; · iempintro
    iexact HO
  · rw [if_neg h]
    iapply (wp_skip c Kt)
    ihave Q := (nz_out E c hc) $$ [Za ZI Hfk]
    · rw [if_neg h]
      isplitl [Za]; · iexact Za
      isplitl [ZI]; · iexact ZI
      isplitr; · iempintro
      iexact Hfk
    icases Q with ⟨Hpos, Bf⟩
    iapply Hk
    unfold Fin' bufs srcs
    rw [if_neg hc]
    isplitl [Hat]; · iexact Hat
    isplitl [Hpos]; · iexact Hpos
    isplitl [Bk Bp Bs Bf]
    · isplitl [Bk]; · iexact Bk
      isplitl [Bp]; · iexact Bp
      isplitl [Bs] <;> iassumption
    isplitl [Hins]; · iexact Hins
    isplitl [Hout]; · iexact Hout
    isplitr; · iempintro
    iexact HO

include hD in
/-- Every device runs the body to its end. -/
theorem wp_prog (Kt : PUnit → sProp 𝕄) : iprop(Start E A κ c (D := D) x wq wo ∗ (Fin' E A c (D := D) x wq wo -∗ Kt ⟨⟩)) ⊢ WP c (prog c) Kt := by
  by_cases hc : c = 0
  · subst hc
    exact wp_zero E A κ hD x wq wo Kt
  · exact wp_other E A κ c hD x wq wo hc Kt

end Body

end Cert.KernelIdeal.AT

end
-- ==== Proof.KernelIdeal.AtEnds.lean ====
/- The attention call's body, from buffers and semaphores at rest to buffers and semaphores at rest. -/
module

public import proofs.«01_k».proof.Proof.KernelIdeal.AtBody

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32) (κ : GSem nD τ sig → ℕ) (c : Dev nD)

section Ends

/-! ## The transfers' ends opened and closed -/

theorem open_ends :
    iprop(Inv E A κ ∗ bigSep Finset.univ (fun x : End => openTok E (cell c x)) ∗ bigSep Finset.univ (fun x : End => (semVal (cell c x) 0 : sProp 𝕄)))
      ⊢ |={Set.univ}=> iprop(posAll E c (fun _ => 0) ∗ reachedAll E c) := by
  unfold posAll reachedAll pos
  rw [← bigSep_sep', ← bigSep_sep']
  refine (bigSep_with_persistent (R := Inv E A κ) (Ψ := fun x => iprop(|={Set.univ}=> (atPos E (cell c x) 0 ∅ 0 ∗ reached E (cell c x) 0))) fun x _ => ?_).trans
    (bigSep_fupd _ _)
  iintro ⟨#HI, Ho, Hv⟩
  iapply (Rounds.cell_open E (sched E A) (g := cell c x) (Set.mem_univ (κ (cell c x))))
  isplitr; · iapply (inv_at E A κ (end_mem c x)); iexact HI
  isplitl [Ho]; · iexact Ho
  iexact Hv

theorem close_ends : iprop(Inv E A κ ∗ posAll E c (rounds c)) ⊢ |={Set.univ}=> bigSep Finset.univ (fun x : End => (semVal (cell c x) 0 : sProp 𝕄)) := by
  unfold posAll pos
  refine (bigSep_with_persistent (R := Inv E A κ) (Ψ := fun x => iprop(|={Set.univ}=> semVal (cell c x) 0)) fun x _ => ?_).trans (bigSep_fupd _ _)
  iintro ⟨#HI, Ha⟩
  iapply (Rounds.cell_close E (sched E A) (g := cell c x) (Set.mem_univ (κ (cell c x))) id (end_later E A c x))
  isplitr; · iapply (inv_at E A κ (end_mem c x)); iexact HI
  iexact Ha

theorem close_bar : iprop(Inv E A κ ∗ atPos E (barCell c) 1 ∅ 0) ⊢ |={Set.univ}=> (semVal (barCell c) 0 : sProp 𝕄) := by
  iintro ⟨#HI, Ha⟩
  iapply (Rounds.cell_close E (sched E A) (g := barCell c) (Set.mem_univ (κ (barCell c))) id (bar_later E A c))
  isplitr; · iapply (inv_at E A κ (bar_mem c)); iexact HI
  iexact Ha

end Ends

/-! ## The scratch buffers cut into slots -/

section Cut

theorem two_n {n : ℕ} (Φ : Fin 2 → Fin n → sProp 𝕄) : bigSep Finset.univ (fun p : Fin 2 × Fin n => Φ p.1 p.2) = iprop(bigSep Finset.univ (Φ 0) ∗ bigSep Finset.univ (Φ 1)) := by
  rw [bigSep_univ_prod, bigSep_fin_two]
  rfl
theorem pair_split {n : ℕ} {P₀ P₁ R₀ R₁ : sProp 𝕄} {Φ : Fin 2 → Fin n → sProp 𝕄} (h₀ : P₀ ⊢ iprop(bigSep Finset.univ (Φ 0) ∗ R₀)) (h₁ : P₁ ⊢ iprop(bigSep Finset.univ (Φ 1) ∗ R₁)) :
    iprop(P₀ ∗ P₁) ⊢ iprop(bigSep Finset.univ (fun p : Fin 2 × Fin n => Φ p.1 p.2) ∗ (R₀ ∗ R₁)) := by
  rw [two_n]
  iintro ⟨H0, H1⟩
  ihave H0 := h₀ $$ H0
  ihave H1 := h₁ $$ H1
  icases H0 with ⟨A0, B0⟩
  icases H1 with ⟨A1, B1⟩
  isplitl [A0 A1]; · isplitl [A0] <;> iassumption
  isplitl [B0] <;> iassumption
theorem pair_join {n : ℕ} {P₀ P₁ R₀ R₁ : sProp 𝕄} {Φ : Fin 2 → Fin n → sProp 𝕄} (h₀ : iprop(bigSep Finset.univ (Φ 0) ∗ R₀) ⊢ P₀) (h₁ : iprop(bigSep Finset.univ (Φ 1) ∗ R₁) ⊢ P₁) :
    iprop(bigSep Finset.univ (fun p : Fin 2 × Fin n => Φ p.1 p.2) ∗ (R₀ ∗ R₁)) ⊢ iprop(P₀ ∗ P₁) := by
  rw [two_n]
  iintro ⟨⟨A0, A1⟩, B0, B1⟩
  isplitl [A0 B0]
  · iapply h₀
    isplitl [A0] <;> iassumption
  · iapply h₁
    isplitl [A1] <;> iassumption

theorem kvR_disjoint (i j : Fin 8) (h : i ≠ j) : Disjoint (kvR i).set (kvR j).set := by
  have h1 : i.val ≠ j.val := fun e => h (Fin.ext e)
  refine Rect.unit_disjoint 0 ?_
  show i.val + 1 ≤ j.val ∨ j.val + 1 ≤ i.val
  omega
theorem poolR_disjoint (i j : Fin 16) (h : i ≠ j) : Disjoint (poolR i).set (poolR j).set := by
  have h1 : i.val ≠ j.val := fun e => h (Fin.ext e)
  refine Rect.unit_disjoint 0 ?_
  show i.val + 1 ≤ j.val ∨ j.val + 1 ≤ i.val
  omega
theorem fourR_disjoint (i j : Fin 4) (h : i ≠ j) : Disjoint (fourR i).set (fourR j).set := by
  have h1 : i.val ≠ j.val := fun e => h (Fin.ext e)
  refine Rect.unit_disjoint 0 ?_
  show i.val + 1 ≤ j.val ∨ j.val + 1 ≤ i.val
  omega
theorem srcR_disjoint (i j : Fin 32) (h : i ≠ j) : Disjoint (srcR i).set (srcR j).set := by
  have h1 : i.val ≠ j.val := fun e => h (Fin.ext e)
  refine Rect.unit_disjoint 1 ?_
  show i.val + 1 ≤ j.val ∨ j.val + 1 ≤ i.val
  omega

def scr : sProp 𝕄 := iprop(buf c cc0_scratch0 ∗ buf c cc0_scratch1 ∗ buf c cc0_scratch2 ∗ buf c cc0_scratch3 ∗ buf c cc0_scratch4 ∗ buf c cc0_scratch5 ∗ buf c cc0_scratch6)
def scrRest : sProp 𝕄 :=
  iprop((slotsRest c cc0_scratch0 kvR ∗ slotsRest c cc0_scratch1 kvR) ∗ (slotsRest c cc0_scratch2 poolR ∗ slotsRest c cc0_scratch3 poolR) ∗ slotsRest c cc0_scratch4 fourR
    ∗ (slotsRest c cc0_scratch5 fourR ∗ slotsRest c cc0_scratch6 fourR))

theorem scr_split : (scr c : sProp 𝕄) ⊢ iprop(bufs c ∗ scrRest c) := by
  have hk : iprop(buf c cc0_scratch0 ∗ buf c cc0_scratch1) ⊢ (iprop(kvs c ∗ (slotsRest c cc0_scratch0 kvR ∗ slotsRest c cc0_scratch1 kvR)) : sProp 𝕄) :=
    pair_split (Φ := fun v h => some' c (kv v h)) (slots_split c cc0_scratch0 kvR (fun _ _ => rfl) (fun _ => squeezes_S1x2048x128_S2048x128) kvR_disjoint)
      (slots_split c cc0_scratch1 kvR (fun _ _ => rfl) (fun _ => squeezes_S1x2048x128_S2048x128) kvR_disjoint)
  have hp : iprop(buf c cc0_scratch2 ∗ buf c cc0_scratch3) ⊢ (iprop(pools c ∗ (slotsRest c cc0_scratch2 poolR ∗ slotsRest c cc0_scratch3 poolR)) : sProp 𝕄) :=
    pair_split (Φ := fun v h => some' c (pool v h)) (slots_split c cc0_scratch2 poolR (fun _ _ => rfl) (fun _ => squeezes_S1x2048x128_S2048x128) poolR_disjoint)
      (slots_split c cc0_scratch3 poolR (fun _ _ => rfl) (fun _ => squeezes_S1x2048x128_S2048x128) poolR_disjoint)
  have hf : iprop(buf c cc0_scratch5 ∗ buf c cc0_scratch6) ⊢ (iprop(fwds c ∗ (slotsRest c cc0_scratch5 fourR ∗ slotsRest c cc0_scratch6 fourR)) : sProp 𝕄) :=
    pair_split (Φ := fun v h => some' c (fwd v h)) (slots_split c cc0_scratch5 fourR (fun _ _ => rfl) (fun _ => squeezes_S1x2048x128_S2048x128) fourR_disjoint)
      (slots_split c cc0_scratch6 fourR (fun _ _ => rfl) (fun _ => squeezes_S1x2048x128_S2048x128) fourR_disjoint)
  have hs : buf c cc0_scratch4 ⊢ (iprop(stags c ∗ slotsRest c cc0_scratch4 fourR) : sProp 𝕄) :=
    slots_split c cc0_scratch4 fourR (fun _ _ => rfl) (fun _ => squeezes_S1x2048x128_S2048x128) fourR_disjoint
  unfold scr bufs scrRest
  iintro ⟨H0, H1, H2, H3, H4, H5, H6⟩
  ihave K := hk $$ [H0 H1]; · isplitl [H0] <;> iassumption
  ihave P := hp $$ [H2 H3]; · isplitl [H2] <;> iassumption
  ihave G := hs $$ H4
  ihave W := hf $$ [H5 H6]; · isplitl [H5] <;> iassumption
  icases K with ⟨K, K'⟩
  icases P with ⟨P, P'⟩
  icases G with ⟨G, G'⟩
  icases W with ⟨W, W'⟩
  isplitl [K P G W]
  · isplitl [K]; · iexact K
    isplitl [P]; · iexact P
    isplitl [G] <;> iassumption
  isplitl [K']; · iexact K'
  isplitl [P']; · iexact P'
  isplitl [G'] <;> iassumption

theorem scr_join : iprop(bufs c ∗ scrRest c) ⊢ (scr c : sProp 𝕄) := by
  have hk : (iprop(kvs c ∗ (slotsRest c cc0_scratch0 kvR ∗ slotsRest c cc0_scratch1 kvR)) : sProp 𝕄) ⊢ iprop(buf c cc0_scratch0 ∗ buf c cc0_scratch1) :=
    pair_join (Φ := fun v h => some' c (kv v h)) (slots_join c cc0_scratch0 kvR (fun _ _ => rfl) (fun _ => squeezes_S1x2048x128_S2048x128) kvR_disjoint)
      (slots_join c cc0_scratch1 kvR (fun _ _ => rfl) (fun _ => squeezes_S1x2048x128_S2048x128) kvR_disjoint)
  have hp : (iprop(pools c ∗ (slotsRest c cc0_scratch2 poolR ∗ slotsRest c cc0_scratch3 poolR)) : sProp 𝕄) ⊢ iprop(buf c cc0_scratch2 ∗ buf c cc0_scratch3) :=
    pair_join (Φ := fun v h => some' c (pool v h)) (slots_join c cc0_scratch2 poolR (fun _ _ => rfl) (fun _ => squeezes_S1x2048x128_S2048x128) poolR_disjoint)
      (slots_join c cc0_scratch3 poolR (fun _ _ => rfl) (fun _ => squeezes_S1x2048x128_S2048x128) poolR_disjoint)
  have hf : (iprop(fwds c ∗ (slotsRest c cc0_scratch5 fourR ∗ slotsRest c cc0_scratch6 fourR)) : sProp 𝕄) ⊢ iprop(buf c cc0_scratch5 ∗ buf c cc0_scratch6) :=
    pair_join (Φ := fun v h => some' c (fwd v h)) (slots_join c cc0_scratch5 fourR (fun _ _ => rfl) (fun _ => squeezes_S1x2048x128_S2048x128) fourR_disjoint)
      (slots_join c cc0_scratch6 fourR (fun _ _ => rfl) (fun _ => squeezes_S1x2048x128_S2048x128) fourR_disjoint)
  have hs : (iprop(stags c ∗ slotsRest c cc0_scratch4 fourR) : sProp 𝕄) ⊢ buf c cc0_scratch4 :=
    slots_join c cc0_scratch4 fourR (fun _ _ => rfl) (fun _ => squeezes_S1x2048x128_S2048x128) fourR_disjoint
  unfold scr bufs scrRest
  iintro ⟨⟨K, P, G, W⟩, K', P', G', W'⟩
  ihave K := hk $$ [K K']; · isplitl [K] <;> iassumption
  ihave P := hp $$ [P P']; · isplitl [P] <;> iassumption
  ihave G := hs $$ [G G']; · isplitl [G] <;> iassumption
  ihave W := hf $$ [W W']; · isplitl [W] <;> iassumption
  icases K with ⟨H0, H1⟩
  icases P with ⟨H2, H3⟩
  icases W with ⟨H5, H6⟩
  isplitl [H0]; · iexact H0
  isplitl [H1]; · iexact H1
  isplitl [H2]; · iexact H2
  isplitl [H3]; · iexact H3
  isplitl [G]; · iexact G
  isplitl [H5] <;> iassumption

/-! ## The keys and values cut into heads -/

/-- A memref holding what its buffer holds. -/
theorem owns_pts {sp : Space} {s : Shape} {e : EltTy} (M : Memref sig .tc sp s e) (f : Buf (Elt F) (M.view.loc (c : Thread nD τ))) :
    (owns (c : Thread nD τ) M fullShare (M.view.read (Elt F) f) : sProp 𝕄) = (M.view.loc (c : Thread nD τ) ↦[M.view.set]{fullShare} f) := by
  have h₁ : (owns (c : Thread nD τ) M fullShare (M.view.read (Elt F) f) : sProp 𝕄) ⊢ (M.view.loc (c : Thread nD τ) ↦[M.view.set]{fullShare} f) := by
    unfold owns
    iintro ⟨%g, %hg, H⟩
    have e : (M.view.loc (c : Thread nD τ) ↦[M.view.set]{fullShare} g : sProp 𝕄) = (M.view.loc (c : Thread nD τ) ↦[M.view.set]{fullShare} f) :=
      pointsTo_congr fun i hi => by
        obtain ⟨y, -, rfl⟩ := Finset.mem_map.mp hi
        exact (cast_inj _).mp (congrFun hg y)
    iapply (Entails.of_eq e)
    iexact H
  have h₂ : (M.view.loc (c : Thread nD τ) ↦[M.view.set]{fullShare} f) ⊢ (owns (c : Thread nD τ) M fullShare (M.view.read (Elt F) f) : sProp 𝕄) := by
    unfold owns
    iintro H
    iexists f
    isplitr; · ipureintro; rfl
    iexact H
  exact BI.equiv_iff.mp ⟨h₁, h₂⟩

variable (A : Fin 2 → FVec F S2048x32x128 .f32)

/-- The keys and the values, whole, at `Y`. -/
def arrs (Y : Fin 2 → FVec F S2048x32x128 .f32) : sProp 𝕄 := iprop(((c : Thread nD τ).loc main_v5 ↦{fullShare} Y 0) ∗ ((c : Thread nD τ).loc main_v6 ↦{fullShare} Y 1))

def srcRest : sProp 𝕄 := iprop(((c : Thread nD τ).loc main_v5 ↦[Ring.restOf (slotSet c main_v5 srcR)]{fullShare} A 0) ∗ ((c : Thread nD τ).loc main_v6 ↦[Ring.restOf (slotSet c main_v6 srcR)]{fullShare} A 1))

theorem src_pts0 (g : Fin 32) : (owns (c : Thread nD τ) (src 0 g) fullShare (raw A 0 g) : sProp 𝕄) = ((c : Thread nD τ).loc main_v5 ↦[slotSet c main_v5 srcR g]{fullShare} A 0) :=
  (owns_pts c (src 0 g) (A 0)).trans (by rw [slot_set c main_v5 srcR (fun _ _ => rfl) (fun _ => squeezes_S2048x1x128_S2048x128) g])
theorem src_pts1 (g : Fin 32) : (owns (c : Thread nD τ) (src 1 g) fullShare (raw A 1 g) : sProp 𝕄) = ((c : Thread nD τ).loc main_v6 ↦[slotSet c main_v6 srcR g]{fullShare} A 1) :=
  (owns_pts c (src 1 g) (A 1)).trans (by rw [slot_set c main_v6 srcR (fun _ _ => rfl) (fun _ => squeezes_S2048x1x128_S2048x128) g])

theorem fam_eq {ℓ : Loc nD τ sig} (I : Fin 32 → Finset (Idx ℓ)) (hd : ∀ i j, i ≠ j → Disjoint (I i) (I j)) (f : Buf (Elt F) ℓ) :
    (ℓ ↦{fullShare} f : sProp 𝕄) = iprop(bigSep Finset.univ (fun b => ℓ ↦[I b]{fullShare} f) ∗ ℓ ↦[Ring.restOf I]{fullShare} f) := by
  rw [← pointsTo_biUnion Finset.univ I (fun b _ b' _ h => hd b b' h)]
  exact BI.equiv_iff.mp ⟨(pointsTo_split_subset (Finset.subset_univ _)).1, (pointsTo_split_subset (Finset.subset_univ _)).2⟩

theorem tasks_inj : ∀ i ∈ Finset.Ico 0 64, ∀ j ∈ Finset.Ico 0 64, (tv i, tg i) = (tv j, tg j) → i = j := by decide +kernel
/-- The task that fetches head `g` of array `v`. -/
def taskOf (p : Fin 2 × Fin 32) : ℕ := 8 * (p.2.val % 8) + 2 * (match p.2.val / 8 with | 0 => 3 | 1 => 1 | 2 => 0 | _ => 2) + p.1.val
theorem taskOf_facts : ∀ p : Fin 2 × Fin 32, taskOf p < 64 ∧ (tv (taskOf p), tg (taskOf p)) = p := by decide +kernel

theorem srcs_fam : (bigSep (Finset.Ico 0 64) (srcO A) : sProp 𝕄) = bigSep Finset.univ (fun p : Fin 2 × Fin 32 => owns ((0 : Dev nD) : Thread nD τ) (src p.1 p.2) fullShare (raw A p.1 p.2)) := by
  refine BI.equiv_iff.mp ⟨?_, ?_⟩
  · refine takes (Finset.Ico 0 64) Finset.univ taskOf (fun p _ q _ h => ?_) (fun p _ => Finset.mem_Ico.mpr ⟨Nat.zero_le _, (taskOf_facts p).1⟩) fun p _ => ?_
    · rw [← (taskOf_facts p).2, ← (taskOf_facts q).2, h]
    · unfold srcO
      have h := (taskOf_facts p).2
      rw [show tv (taskOf p) = p.1 from congrArg Prod.fst h, show tg (taskOf p) = p.2 from congrArg Prod.snd h]
  · exact takes Finset.univ (Finset.Ico 0 64) (fun j => (tv j, tg j)) (fun i hi j hj h => tasks_inj i hi j hj h) (fun _ _ => Finset.mem_univ _) fun j _ => BI.Entails.refl _

theorem four_swap (P Q R S : sProp 𝕄) : iprop((P ∗ R) ∗ (Q ∗ S)) = iprop((P ∗ Q) ∗ (R ∗ S)) := by
  have h (P Q R S : sProp 𝕄) : iprop((P ∗ R) ∗ (Q ∗ S)) ⊢ iprop((P ∗ Q) ∗ (R ∗ S)) := by
    iintro ⟨⟨H, H'⟩, G, G'⟩
    isplitl [H G]; · isplitl [H] <;> iassumption
    isplitl [H'] <;> iassumption
  exact BI.equiv_iff.mp ⟨h P Q R S, h P R Q S⟩

theorem srcs_cut : (arrs 0 A : sProp 𝕄) = iprop(bigSep (Finset.Ico 0 64) (srcO A) ∗ srcRest 0 A) := by
  unfold arrs srcRest
  rw [srcs_fam, two_n (fun v g => owns ((0 : Dev nD) : Thread nD τ) (src v g) fullShare (raw A v g)), fam_eq (slotSet 0 main_v5 srcR) (fun i j h => srcR_disjoint i j h) (A 0),
    fam_eq (slotSet 0 main_v6 srcR) (fun i j h => srcR_disjoint i j h) (A 1),
    bigSep_congr (s := Finset.univ) (fun g _ => src_pts0 0 A g), bigSep_congr (s := Finset.univ) (fun g _ => src_pts1 0 A g)]
  exact four_swap _ _ _ _

end Cut

/-! ## The result, whole -/

section Result

variable (x : FVec F S2048x1024 .bf16) (wq wo : FVec F S1024x1024 .bf16) (K V : Fin 8 → FVec F S2048x128 .bf16)

/-- What the call leaves: rows block by rows block, the eight heads added up. -/
def attnV : FVec F S2048x1024 .f32 := fun i =>
  accB x wq wo K V 8 ⟨(i 0).val / 512, by have := (i 0).isLt; change (i 0).val < 2048 at this; omega⟩
    (fun a => match a with | 0 => ⟨(i 0).val % 512, Nat.mod_lt _ (by decide)⟩ | 1 => ⟨(i 1).val, (i 1).isLt⟩)

theorem out_end (f : FVec F S2048x1024 .f32) (h : ∀ q, rows q f = accB x wq wo K V 8 q) : f = attnV x wq wo K V := by
  funext i
  have hi : (i 0).val < 2048 := (i 0).isLt
  unfold attnV
  rw [← h]
  refine congrArg f (funext fun a => Fin.ext ?_)
  match a with
  | 0 => show (i 0).val = 512 * ((i 0).val / 512) + 1 * ((i 0).val % 512); omega
  | 1 => show (i 1).val = 0 + 1 * (i 1).val; omega

theorem out_whole (c : Dev nD) : (outSt x wq wo K V c (fun _ => 8) : sProp 𝕄) ⊢ owns (c : Thread nD τ) outM fullShare (attnV x wq wo K V) := by
  unfold outSt
  iintro ⟨%f, %h, H⟩
  obtain rfl := out_end x wq wo K V f fun q => h q (by show (8 : ℕ) ≠ 0; decide)
  iexact H

end Result

/-! ## The body, from what the region enters with -/

section Region

variable {D : CellTallies nD τ sig Unit} (hD : Later D)
variable (x : FVec F S2048x1024 .bf16) (wq wo : FVec F S1024x1024 .bf16) (Y : Dev nD → Fin 2 → FVec F S2048x32x128 .f32)

/-- What the launch hands device `c`, its own ends not yet opened. -/
def dealt : sProp 𝕄 := iprop(∃ κ, Inv E A κ ∗ barStart E c ∗ bigSep Finset.univ (fun x : End => openTok E (cell c x)) ∗ tokAll E c ∗ crdAll c)
/-- The same with the ends opened. -/
def opened : sProp 𝕄 := iprop(∃ κ, Inv E A κ ∗ barStart E c ∗ (posAll E c (fun _ => 0) ∗ reachedAll E c) ∗ (tokAll E c ∗ crdAll c) ∗ levAts L lv)
/-- The semaphores at rest. -/
def atRest : sProp 𝕄 := bigSep Finset.univ (fun x : End => (semVal (cell c x) 0 : sProp 𝕄))

theorem open_up : iprop(dealt E A c ∗ bigSep Finset.univ (fun x : End => (semVal (cell c x) 0 : sProp 𝕄)) ∗ levAts L lv) ⊢ |={Set.univ}=> opened E A c := by
  unfold dealt opened
  iintro ⟨⟨%κ, #HI, Hb, Ho, Ht, Hc⟩, Hv, #Hl⟩
  imod (open_ends E A κ c) $$ [Ho Hv] with ⟨Ha, Hr⟩
  · isplitr; · iexact HI
    isplitl [Ho] <;> iassumption
  imodintro
  iexists κ
  isplitr; · iexact HI
  isplitl [Hb]; · iexact Hb
  isplitl [Ha Hr]; · isplitl [Ha] <;> iassumption
  isplitl [Ht Hc]; · isplitl [Ht] <;> iassumption
  iexact Hl

/-- The keys and values at rest on each device, device 0's among what it enters the body with. -/
theorem arrs_in : (arrs c (Y c) : sProp 𝕄) ⊢ iprop(srcs (Y 0) c ∗ (if c = 0 then srcRest 0 (Y 0) else arrs c (Y c))) := by
  unfold srcs
  by_cases h : c = 0
  · subst h
    rw [if_pos rfl, if_pos rfl, srcs_cut]
  · rw [if_neg h, if_neg h]
    have h : (arrs c (Y c) : sProp 𝕄) ⊢ iprop(emp ∗ arrs c (Y c)) := by
      iintro H
      isplitr; · iempintro
      iexact H
    exact h
theorem arrs_out : iprop(srcs (Y 0) c ∗ (if c = 0 then srcRest 0 (Y 0) else arrs c (Y c))) ⊢ (arrs c (Y c) : sProp 𝕄) := by
  unfold srcs
  by_cases h : c = 0
  · subst h
    rw [if_pos rfl, if_pos rfl, srcs_cut]
  · rw [if_neg h, if_neg h]
    have h : (iprop(emp ∗ arrs c (Y c)) : sProp 𝕄) ⊢ arrs c (Y c) := by
      iintro ⟨-, H⟩
      iexact H
    exact h

include hD in
theorem wp_body (Kt : PUnit → sProp 𝕄) :
    iprop(opened E (Y 0) c ∗ scr c ∗ arrs c (Y c) ∗ ins x wq wo c ∗ some' c outM ∗ Owes c D (dues c)
        ∗ (semVal (barCell c) 0 -∗ atRest c -∗ scr c -∗ arrs c (Y c) -∗ ins x wq wo c
            -∗ owns (c : Thread nD τ) outM fullShare (attnV x wq wo (kvV (Y 0) c 0) (kvV (Y 0) c 1)) -∗ Owes c D [] -∗ Kt ⟨⟩))
      ⊢ WP c (prog c) Kt := by
  unfold opened
  iintro ⟨⟨%κ, #HI, Hbar, ⟨Hpos, Hrc⟩, ⟨Ht, Hc⟩, #Hl⟩, Hb, Hy, Hx, Ho, HO, Hk⟩
  unfold WP
  iapply wp_fupd
  iapply (wp_prog E (Y 0) κ c hD x wq wo)
  ihave Hb := (scr_split c) $$ Hb
  icases Hb with ⟨Hb, Hbr⟩
  ihave Hy := (arrs_in c Y) $$ Hy
  icases Hy with ⟨Hy, Hyr⟩
  isplitr [Hk Hbr Hyr]
  · unfold Start
    isplitr; · iexact HI
    isplitr; · iexact Hl
    isplitl [Hbar]; · iexact Hbar
    isplitl [Hpos]; · iexact Hpos
    isplitl [Hrc]; · iexact Hrc
    isplitl [Ht]; · iexact Ht
    isplitl [Hc]; · iexact Hc
    isplitl [Hb]; · iexact Hb
    isplitl [Hx]; · iexact Hx
    isplitl [Ho]; · iexact Ho
    isplitl [Hy]; · iexact Hy
    iexact HO
  unfold Fin'
  iintro ⟨Hbar, Hpos, Hb, Hx, Ho, Hy, HO⟩
  imod (close_bar E (Y 0) κ c) $$ [Hbar] with Hb0
  · isplitr; · iexact HI
    iexact Hbar
  imod (close_ends E (Y 0) κ c) $$ [Hpos] with He
  · isplitr; · iexact HI
    iexact Hpos
  imodintro
  iapply Hk $$ [Hb0] [He] [Hb Hbr] [Hy Hyr] [Hx] [Ho] [HO]
  · iexact Hb0
  · unfold atRest; iexact He
  · iapply (scr_join c)
    isplitl [Hb] <;> iassumption
  · iapply (arrs_out c Y)
    isplitl [Hy] <;> iassumption
  · iexact Hx
  · iapply (out_whole x wq wo _ _ c); iexact Ho
  · iexact HO

end Region

end Cert.KernelIdeal.AT

end
-- ==== Proof.KernelIdeal.Shared.lean ====
/- What both calls' launches share: the turn of the barrier's units round the ring, debts read at a cell, and a resource kept
   by one device for all. -/
module

public import proofs.«01_k».proof.Proof.KernelIdeal.Base

@[expose] public section

noncomputable section

namespace Cert.KernelIdeal.Base

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen

variable {F : FTy → Type} [FloatOps F] [Named F] {U : Type} [URA U]

local notation "𝕄" => MT nD τ sig Unit (Elt F) ℕ U ℕ

theorem up_ne (n : ℕ) (i : Fin 3) (c : Dev nD) : up (3 - i.val) (up (i.val + 1) c) = c ∧ up (i.val + 1) (up (3 - i.val) c) = c := by
  revert i c; decide

/-- Who pays which barrier unit: unit `i + 1` of a device's barrier comes from the device `i + 1` places before it. -/
def barTurn : Dev nD × Fin 3 ≃ Dev nD × Fin 3 where
  toFun x := (up (x.2.val + 1) x.1, x.2)
  invFun x := (up (3 - x.2.val) x.1, x.2)
  left_inv := by intro x; exact Prod.ext (up_ne 0 x.2 x.1).1 rfl
  right_inv := by intro x; exact Prod.ext (up_ne 0 x.2 x.1).2 rfl

theorem tally_self (g : GSem nD τ sig) (n : ℕ) : tallyAt g () n g () = n := (tallyAt_apply ..).trans (if_pos ⟨rfl, rfl⟩)
theorem tally_other {g g' : GSem nD τ sig} (h : g' ≠ g) (n : ℕ) : tallyAt g () n g' () = 0 := (tallyAt_apply ..).trans (if_neg fun hh => h hh.1)

/-- A resource kept, of all devices, by device 0. -/
def parked (P : sProp 𝕄) (c : Dev nD) : sProp 𝕄 := if c = 0 then P else iprop(emp)
theorem parked_eq (P : sProp 𝕄) : bigSep Finset.univ (parked P) = P := by
  have hz : bigSep (Finset.univ.erase (0 : Dev nD)) (parked P) = bigSep (Finset.univ.erase (0 : Dev nD)) fun _ => (BI.emp : sProp 𝕄) :=
    bigSep_congr fun c hc => if_neg (Finset.ne_of_mem_erase hc)
  rw [bigSep_univ_at _ (0 : Dev nD), hz, BI.bigSep_emp_const]
  unfold parked
  rw [if_pos rfl]
  exact BI.equiv_iff.mp sep_emp

end Cert.KernelIdeal.Base

end
-- ==== Proof.KernelIdeal.AtFund.lean ====
/- The attention call's launch: every token, credit and semaphore of the four devices, sorted by the device that uses it. -/
module

public import proofs.«01_k».proof.Proof.KernelIdeal.AtEnds
public import proofs.«01_k».proof.Proof.KernelIdeal.Shared
public import Idealize.ShloMosaic.Harness.Basic

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

/-! ## The launch's tokens -/

abbrev Toks : Type := Fin 3 ⊕ (End × Fin 16)
def tokOf (c : Dev nD) : Toks → GSem nD τ sig × ℕ × ℕ
  | .inl i => (barCell c, 0, i.val + 1)
  | .inr x => (cell c x.1, x.2.val, (payer c x.1).val)
theorem tokOf_inj : Function.Injective fun x : Dev nD × Toks => tokOf x.1 x.2 := by
  rintro ⟨c, t⟩ ⟨c', t'⟩ h
  have h1 : c = c' := by
    have := congrArg (fun g : GSem nD τ sig × ℕ × ℕ => g.1.1.1) h
    cases t <;> cases t' <;> exact this
  subst h1
  have hs := congrArg (fun g : GSem nD τ sig × ℕ × ℕ => g.1.2) h
  have hr := congrArg (fun g : GSem nD τ sig × ℕ × ℕ => g.2.1) h
  have hd := congrArg (fun g : GSem nD τ sig × ℕ × ℕ => g.2.2) h
  cases t with
  | inl i =>
    cases t' with
    | inl j => rw [Fin.ext (Nat.succ.inj hd)]
    | inr y => exact absurd hs (by dsimp only [tokOf]; nofun)
  | inr x =>
    cases t' with
    | inl j => exact absurd hs (by dsimp only [tokOf]; nofun)
    | inr y =>
      obtain rfl : x = y := Prod.ext (xsem_inj (SemLoc.dma.inj hs)) (Fin.ext hr)
      rfl
def toks : Finset (GSem nD τ sig × ℕ × ℕ) := Finset.univ.map ⟨fun x : Dev nD × Toks => tokOf x.1 x.2, tokOf_inj⟩

theorem cells_disjoint : Disjoint (barCells : Finset (GSem nD τ sig)) endCells := by
  rw [Finset.disjoint_left]
  rintro g h₁ h₂
  obtain ⟨c, -, rfl⟩ := Finset.mem_map.mp h₁
  obtain ⟨x, -, h⟩ := Finset.mem_map.mp h₂
  exact absurd (congrArg Prod.snd h) (by dsimp only [endEmb, barCell]; nofun)

section Sorted

variable (E : Emb (URounds (GSem nD τ sig) ℕ) (MT nD τ sig Unit (Elt F) ℕ U ℕ))

def barToks (c : Dev nD) : sProp 𝕄 := bigSep Finset.univ fun i : Fin 3 => dutyTok E (barCell (up (i.val + 1) c)) 0 (i.val + 1)

theorem toks_bar : bigSep Finset.univ (fun c : Dev nD => bigSep Finset.univ fun i : Fin 3 => (dutyTok E (barCell c) 0 (i.val + 1) : sProp 𝕄))
    = bigSep Finset.univ (fun c : Dev nD => barToks E c) := by
  unfold barToks
  rw [← bigSep_univ_prod (fun x : Dev nD × Fin 3 => (dutyTok E (barCell x.1) 0 (x.2.val + 1) : sProp 𝕄)), bigSep_univ_equiv barTurn,
    ← bigSep_univ_prod (fun x : Dev nD × Fin 3 => (dutyTok E (barCell (up (x.2.val + 1) x.1)) 0 (x.2.val + 1) : sProp 𝕄))]
  rfl

theorem toks_end : bigSep Finset.univ (fun c : Dev nD => bigSep Finset.univ fun x : End × Fin 16 => (dutyTok E (cell c x.1) x.2.val (payer c x.1).val : sProp 𝕄))
    = bigSep Finset.univ (fun c : Dev nD => tokAll E c) := by
  unfold tokAll tokFor
  refine (bigSep_univ_prod (fun x : Tok => (dutyTok E (cell x.1 x.2.1) x.2.2.val (payer x.1 x.2.1).val : sProp 𝕄))).symm.trans (Eq.trans ?_ (fam_comm _))
  refine bigSep_congr fun x _ => ?_
  exact (fam_one (payer x.1 x.2.1) (dutyTok E (cell x.1 x.2.1) x.2.2.val (payer x.1 x.2.1).val)).symm.trans (bigSep_congr fun c _ => if_congr eq_comm rfl rfl)

theorem toks_sorted : bigSep toks (fun x => (dutyTok E x.1 x.2.1 x.2.2 : sProp 𝕄))
    ⊢ iprop(bigSep Finset.univ (fun c : Dev nD => barToks E c) ∗ bigSep Finset.univ (fun c : Dev nD => tokAll E c)) := by
  rw [← toks_bar, ← toks_end, ← bigSep_sep']
  unfold toks
  rw [bigSep_map, bigSep_univ_prod]
  refine bigSep_mono fun c _ => ?_
  exact Entails.of_eq (bigSep_univ_sum _)

/-! ## The launch's credits -/

theorem bar_inj {c d : Dev nD} (h : (barCell c : GSem nD τ sig) = barCell d) : c = d := congrArg (fun g : GSem nD τ sig => g.1.1) h
theorem bar_ne_cell (c d : Dev nD) (x : End) : (barCell c : GSem nD τ sig) ≠ cell d x := fun h => by cases congrArg Prod.snd h
theorem cell_inj {c d : Dev nD} {x y : End} (h : (cell c x : GSem nD τ sig) = cell d y) : c = d ∧ x = y :=
  ⟨congrArg (fun g : GSem nD τ sig => g.1.1) h, xsem_inj (SemLoc.dma.inj (congrArg Prod.snd h))⟩
theorem Due.cell_inj {x y : Due} (h : x.cell = y.cell) : x = y := by
  cases x with
  | bar t =>
    cases y with
    | bar t' => rw [bar_inj h]
    | «at» t' y => exact absurd h (bar_ne_cell _ _ _)
  | «at» t x =>
    cases y with
    | bar t' => exact absurd h.symm (bar_ne_cell _ _ _)
    | «at» t' y => rw [(AT.cell_inj h).1, (AT.cell_inj h).2]

theorem owe_at (y : Due) (l : List Due) : owe l y.cell () = l.count y * y.amt := by
  induction l with
  | nil => exact (Nat.zero_mul _).symm
  | cons x l ih =>
    rw [owe, Pi.add_apply, Finsupp.add_apply, ih, List.count_cons, Nat.add_mul, Nat.add_comm]
    congr 1
    by_cases h : x = y
    · subst h
      rw [if_pos (beq_self_eq_true _), Nat.one_mul]
      exact tally_self _ _
    · rw [if_neg (fun hb => h (eq_of_beq hb)), Nat.zero_mul]
      exact tally_other (fun hh => h (Due.cell_inj hh).symm) _

theorem dues_bar : ∀ c : Dev nD, (∑ d : Dev nD, (dues d).count (.bar c)) = 3 := by decide +kernel
theorem dues_end : ∀ (c : Dev nD) (x : End), recv c x → (∑ d : Dev nD, (dues d).count (.at c x)) = 1 := fun c =>
  end_all (by revert c; decide +kernel) (by revert c; decide +kernel) (by revert c; decide +kernel) (by revert c; decide +kernel) (by revert c; decide +kernel)

theorem credit (y : Due) (n : ℕ) (h : (∑ d : Dev nD, (dues d).count y) = n) :
    tallyOn y.cell (launchCredit (Pipeline.owing fun d => owe (dues d)) 0 y.cell) = (tallyAt y.cell () (n * y.amt) : CellTallies nD τ sig Unit) := by
  unfold tallyAt; refine congrArg _ (Finsupp.ext fun u => ?_); cases u
  rw [Pipeline.launchCredit_owing, Finsupp.single_eq_same, Finset.sum_congr rfl fun d _ => owe_at y (dues d), ← Finset.sum_mul, h]

theorem credit_bar (c : Dev nD) :
    tallyOn (barCell c) (launchCredit (Pipeline.owing fun d => owe (dues d)) 0 (barCell c)) = (tallyAt (barCell c) () 3 : CellTallies nD τ sig Unit) :=
  credit (.bar c) 3 (dues_bar c)
theorem credit_end (c : Dev nD) (x : End) (h : recv c x) :
    tallyOn (cell c x) (launchCredit (Pipeline.owing fun d => owe (dues d)) 0 (cell c x)) = (tallyAt (cell c x) () (units x) : CellTallies nD τ sig Unit) :=
  (credit (.at c x) 1 (dues_end c x h)).trans (congrArg (tallyAt _ ()) (Nat.one_mul _))

def endSems : End ↪ SemLoc sig := ⟨fun x => .dma (xsem x), fun x y h => xsem_inj (SemLoc.dma.inj h)⟩

theorem creds (c : Dev nD) : (Pipeline.launchCred (fun d => owe (dues d)) c : sProp 𝕄) ⊢ iprop(cred (tallyAt (barCell c) () 3) ∗ crdAll c) := by
  unfold Pipeline.launchCred crdAll crd
  rw [bigSep_univ_at _ (SemLoc.reg barS), credit_bar]
  refine BIClass.sep_mono Entails.rfl ?_
  have hs : Finset.univ.map endSems ⊆ (Finset.univ.erase (SemLoc.reg barS) : Finset (SemLoc sig)) := by
    intro s hs
    obtain ⟨x, -, rfl⟩ := Finset.mem_map.mp hs
    exact Finset.mem_erase.mpr ⟨by dsimp only [endSems]; nofun, Finset.mem_univ _⟩
  have hm : bigSep Finset.univ (fun x : End => (cred (tallyOn (cell c x) (launchCredit (Pipeline.owing fun d => owe (dues d)) 0 (cell c x))) : sProp 𝕄))
      ⊢ bigSep Finset.univ fun x : End => if recv c x then cred (tallyAt (cell c x) () (units x)) else iprop(emp) := by
    refine bigSep_mono fun x _ => ?_
    by_cases h : recv c x
    · rw [if_pos h, credit_end c x h]
      exact BI.Entails.refl _
    · rw [if_neg h]
      have h : (cred (tallyOn (cell c x) (launchCredit (Pipeline.owing fun d => owe (dues d)) 0 (cell c x))) : sProp 𝕄) ⊢ iprop(emp) := by
        iintro -; iempintro
      exact h
  rw [show bigSep (Finset.univ.erase (SemLoc.reg barS)) _ = iprop(bigSep _ _ ∗ bigSep _ _) from BI.bigSep_sdiff_split hs, bigSep_map]
  iintro ⟨H, -⟩
  iapply hm
  iexact H

end Sorted

/-! ## What each device gets -/

section Deal

variable (E : Emb (URounds (GSem nD τ sig) ℕ) (MT nD τ sig Unit (Elt F) ℕ U ℕ)) [E.LandsIn (upEmb : UEmb _ (MT nD τ sig Unit (Elt F) ℕ U ℕ))]
variable (A : Fin 2 → FVec F S2048x32x128 .f32)

/-- What the launch's update makes for device `c`. -/
def share (c : Dev nD) : sProp 𝕄 :=
  iprop(atPos E (barCell c) 0 ∅ 0 ∗ bigSep Finset.univ (fun x : End => openTok E (cell c x)) ∗ barToks E c ∗ tokAll E c)

theorem deal (κ : GSem nD τ sig → ℕ) (c : Dev nD) :
    iprop((Inv E A κ ∗ bigSep barCells (fun g => reached E g 0)) ∗ share E c ∗ cred (tallyAt (barCell c) () 3) ∗ crdAll c) ⊢ dealt E A c := by
  have hr : ∀ d : Dev nD, bigSep barCells (fun g => (reached E g 0 : sProp 𝕄)) ⊢ reached E (barCell d) 0 := fun d =>
    bigSep_elim (Finset.mem_map_of_mem barEmb (Finset.mem_univ d))
  have hb : (barToks E c : sProp 𝕄) = iprop(dutyTok E (barCell (up 1 c)) 0 1 ∗ dutyTok E (barCell (up 2 c)) 0 2 ∗ dutyTok E (barCell (up 3 c)) 0 3) :=
    bigSep_univ_eq_bigSepL [0, 1, 2] (by decide) (by decide) _
  unfold share dealt barStart
  rw [hb]
  iintro ⟨⟨#HI, #HR⟩, ⟨Ha, Ho, ⟨H1, H2, H3⟩, Ht⟩, Hb, Hc⟩
  iexists κ
  isplitr; · iexact HI
  isplitr [Ho Ht Hc]
  · isplitl [H1]
    · isplitr; · iapply (hr (up 1 c)); iexact HR
      iexact H1
    isplitl [H2]
    · isplitr; · iapply (hr (up 2 c)); iexact HR
      iexact H2
    isplitl [H3]
    · isplitr; · iapply (hr (up 3 c)); iexact HR
      iexact H3
    isplitl [Ha] <;> iassumption
  isplitl [Ho]; · iexact Ho
  isplitl [Ht] <;> iassumption

/-- The launch's update: the barriers' counters and the launch element become every device's share. -/
theorem fund :
    iprop(bigSep Finset.univ (fun c : Dev nD => (semVal (barCell c) 0 : sProp 𝕄)) ∗ BI.own (E (launchOf barCells endCells toks)))
      ⊢ |={Set.univ}=> ∃ κ : GSem nD τ sig → ℕ, (Inv E A κ ∗ bigSep barCells (fun g => reached E g 0)) ∗ bigSep Finset.univ (fun c : Dev nD => share E c) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos E g 0 ∅ 0 : sProp 𝕄)) ⊢ bigSep Finset.univ (fun c : Dev nD => (atPos E (barCell c) 0 ∅ 0 : sProp 𝕄)) :=
    Entails.of_eq (bigSep_map (s := Finset.univ) barEmb (Φ := fun g : GSem nD τ sig => (atPos E g 0 ∅ 0 : sProp 𝕄)))
  have ho : bigSep endCells (fun g => (openTok E g : sProp 𝕄))
      ⊢ bigSep Finset.univ (fun c : Dev nD => bigSep Finset.univ (fun x : End => openTok E (cell c x))) :=
    Entails.of_eq (by rw [bigSep_map, bigSep_univ_prod]; rfl)
  iintro ⟨Hv, Hu⟩
  imod (Rounds.fund_launch E (sched E A) cells_disjoint (fun g _ h => h) toks) $$ [Hv Hu] with ⟨%κ, -, #Hinv, #Hr, Hat, Hopen, Htok⟩
  · isplitl [Hv]
    · iapply hv; iexact Hv
    · iexact Hu
  imodintro
  iexists κ
  isplitr
  · isplitr
    · unfold Inv; iexact Hinv
    · iexact Hr
  unfold share
  ihave Htok := (toks_sorted E) $$ Htok
  icases Htok with ⟨Hb, He⟩
  iapply Smoke.bigSep_pair
  isplitl [Hat]; · iapply ha; iexact Hat
  iapply Smoke.bigSep_pair
  isplitl [Hopen]; · iapply ho; iexact Hopen
  iapply Smoke.bigSep_pair
  isplitl [Hb] <;> iassumption

end Deal

end Cert.KernelIdeal.AT

end
-- ==== Proof.KernelIdeal.AtBodyEq.lean ====
/- The printed attention body at each device is the regrouped one. -/
module

public import proofs.«01_k».proof.Proof.KernelIdeal.AtProg

@[expose] public section

noncomputable section

namespace Cert.KernelIdeal.AT

open Idealize.ShloMosaic Idealize.ShloMosaic.TcCoe
open Idealize.SL Idealize.SL.Sem
open Cert.KernelIdeal.Facts Cert.KernelIdeal.Gen

variable {F : FTy → Type} [FloatOps F] [Named F]

/-- What a program does after reading which device it runs on. -/
def after {α : Type} : Pr F α → Dev nD → Pr F α
  | .op .deviceId k => k
  | p => fun _ => p

set_option maxRecDepth 100000 in
theorem body_first : bodyAt0 (F := F) t0_0 = .op .deviceId (after (bodyAt0 (F := F) t0_0)) := by chain_rfl
set_option maxRecDepth 100000 in
theorem body_0 : after (bodyAt0 (F := F) t0_0) (0 : Dev nD) = prog 0 := by chain_rfl
set_option maxRecDepth 100000 in
theorem body_1 : after (bodyAt0 (F := F) t0_0) (1 : Dev nD) = prog 1 := by chain_rfl
set_option maxRecDepth 100000 in
theorem body_2 : after (bodyAt0 (F := F) t0_0) (2 : Dev nD) = prog 2 := by chain_rfl
set_option maxRecDepth 100000 in
theorem body_3 : after (bodyAt0 (F := F) t0_0) (3 : Dev nD) = prog 3 := by chain_rfl

theorem body_after (d : Dev nD) : after (bodyAt0 (F := F) t0_0) d = prog d :=
  match d with
  | 0 => body_0
  | 1 => body_1
  | 2 => body_2
  | 3 => body_3

end Cert.KernelIdeal.AT

end
-- ==== Proof.KernelIdeal.AtRegion.lean ====
/- The attention call's region: its windows, what it leaves in its result's array, and its body's obligation. -/
module

public import proofs.«01_k».proof.Proof.KernelIdeal.AtFund
public import proofs.«01_k».proof.Proof.KernelIdeal.AtBodyEq

@[expose] public section

noncomputable section

namespace Cert.KernelIdeal.AT

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

/-! ## The windows -/

section Windows

variable (E : Emb (URounds (GSem nD τ sig) ℕ) (MT nD τ sig Unit (Elt F) ℕ U ℕ))
variable (V : (c : Dev nD) → (b : Ref sig .tc) → Buf (Elt F) ((c : Thread nD τ).loc b)) (D : Dev nD → CellTallies nD τ sig Unit)

/-- The operands of each device as the region finds them: input, query and output weights, keys and values. -/
abbrev opX (c : Dev nD) : FVec F S2048x1024 .bf16 := V c main_v2
abbrev opQ (c : Dev nD) : FVec F S1024x1024 .bf16 := V c main_v3
abbrev opO (c : Dev nD) : FVec F S1024x1024 .bf16 := V c main_v4
def opY (c : Dev nD) : Fin 2 → FVec F S2048x32x128 .f32 := fun | 0 => V c main_v5 | 1 => V c main_v6
/-- What the call leaves on each. -/
abbrev partOf (c : Dev nD) : FVec F S2048x1024 .f32 := attnV (opX V c) (opQ V c) (opO V c) (kvV (opY V 0) c 0) (kvV (opY V 0) c 1)

/-- The other call's buffers, untouched. -/
def others (c : Dev nD) : sProp 𝕄 := iprop(buf c cc1_stg0_0 ∗ buf c cc1_stg1_0 ∗ buf c cc1_scratch0 ∗ buf c cc1_scratch1 ∗ buf c cc1_scratch2 ∗ buf c cc1_scratch3 ∗ buf c cc1_scratch4)

def dat (c : Dev nD) : Pipeline.Dat τ (Elt F) Unit ℕ U ℕ cfg0 c where
  A w := V c (Pipeline.arrRef spec0 w)
  after w _ := match w with
    | 0 => opX V c
    | 1 => opQ V c
    | 2 => opO V c
    | 3 => partOf V c
  Φ t := if t.val = 0 then iprop(opened E (opY V 0) c ∗ scr c ∗ arrs c (opY V c) ∗ others c ∗ ∃ r, prngReg c r)
    else iprop(semVal (barCell c) 0 ∗ atRest c ∗ scr c ∗ arrs c (opY V c) ∗ others c ∗ ∃ r, prngReg c r)
  q _ := fullShare
  owed t := if t.val = 0 then D c + owe (dues c) else D c

theorem owed_first (c : Dev nD) : (dat E V D c).owed 0 = D c + owe (dues c) := rfl
theorem owed_last (c : Dev nD) : (dat E V D c).owed (Fin.last cfg0.N) = D c := rfl

/-- Each window's block is its whole array. -/
theorem whole_x (f : FVec F S2048x1024 .bf16) : ((cfg0.win 0).blk t0_0).view.read (Elt F) f = f := by
  have h : ∀ n k : ℕ, 0 * k + 1 * n = n := by omega
  funext i
  refine congrArg f (funext fun a => Fin.ext ?_)
  fin_cases a
  · exact h _ 2048
  · exact h _ 1024
theorem whole_q (f : FVec F S1024x1024 .bf16) : ((cfg0.win 1).blk t0_0).view.read (Elt F) f = f := by
  have h : ∀ n k : ℕ, 0 * k + 1 * n = n := by omega
  funext i
  refine congrArg f (funext fun a => Fin.ext ?_)
  fin_cases a
  · exact h _ 1024
  · exact h _ 1024
theorem whole_o (f : FVec F S1024x1024 .bf16) : ((cfg0.win 2).blk t0_0).view.read (Elt F) f = f := by
  have h : ∀ n k : ℕ, 0 * k + 1 * n = n := by omega
  funext i
  refine congrArg f (funext fun a => Fin.ext ?_)
  fin_cases a
  · exact h _ 1024
  · exact h _ 1024
theorem whole_out (f : FVec F S2048x1024 .f32) : ((cfg0.win 3).blk t0_0).view.read (Elt F) f = f := by
  have h : ∀ n k : ℕ, 0 * k + 1 * n = n := by omega
  funext i
  refine congrArg f (funext fun a => Fin.ext ?_)
  fin_cases a
  · exact h _ 2048
  · exact h _ 1024

theorem before_x (c : Dev nD) (t : Fin cfg0.N) (d) : (dat E V D c).before 0 t d = opX V c := by
  refine ((dat E V D c).before_in_eq_fetched 0 rfl (fun _ => rfl) (fun _ _ _ => rfl) (fun t => ?_) t d).trans ?_
  · obtain rfl := fin_N0 t
    exact (whole_x (opX V c)).symm
  · obtain rfl := fin_N0 t
    exact whole_x (opX V c)
theorem before_q (c : Dev nD) (t : Fin cfg0.N) (d) : (dat E V D c).before 1 t d = opQ V c := by
  refine ((dat E V D c).before_in_eq_fetched 1 rfl (fun _ => rfl) (fun _ _ _ => rfl) (fun t => ?_) t d).trans ?_
  · obtain rfl := fin_N0 t
    exact (whole_q (opQ V c)).symm
  · obtain rfl := fin_N0 t
    exact whole_q (opQ V c)
theorem before_o (c : Dev nD) (t : Fin cfg0.N) (d) : (dat E V D c).before 2 t d = opO V c := by
  refine ((dat E V D c).before_in_eq_fetched 2 rfl (fun _ => rfl) (fun _ _ _ => rfl) (fun t => ?_) t d).trans ?_
  · obtain rfl := fin_N0 t
    exact (whole_o (opO V c)).symm
  · obtain rfl := fin_N0 t
    exact whole_o (opO V c)

theorem arr_out (c : Dev nD) : (dat E V D c).arrAt 3 cfg0.N = partOf (F := F) V c := by
  have h : (dat E V D c).arrAt 3 cfg0.N = ((cfg0.win 3).blk t0_0).view.write (Elt F) (V c main_v7) (partOf V c) Finset.univ := rfl
  rw [h]
  refine Eq.trans (whole_out (F := F) _).symm ?_
  exact View.read_write_univ _ _

end Windows

/-! ## The body's obligation -/

section Obligation

variable (E : Emb (URounds (GSem nD τ sig) ℕ) (MT nD τ sig Unit (Elt F) ℕ U ℕ)) [E.LandsIn (upEmb : UEmb _ (MT nD τ sig Unit (Elt F) ℕ U ℕ))]
variable (V : (c : Dev nD) → (b : Ref sig .tc) → Buf (Elt F) ((c : Thread nD τ).loc b)) (D : Dev nD → CellTallies nD τ sig Unit) (hD : ∀ c, Later (D c))

theorem owes_in (c : Dev nD) : ((dat E V D c).owesAt () t0_0.castSucc : sProp 𝕄) ⊢ Owes c (D c) (dues c) := by
  unfold Pipeline.Dat.owesAt Pipeline.owesWithin Owes
  rw [show (dat E V D c).owed t0_0.castSucc = owe (dues c) + D c from add_comm _ _]
  iintro ⟨%W, -, HO⟩; iexists W; iexact HO
theorem owes_out (c : Dev nD) : (Owes c (D c) [] : sProp 𝕄) ⊢ (dat E V D c).owesAt () t0_0.succ := by
  unfold Pipeline.Dat.owesAt Pipeline.owesWithin Pipeline.Dat.bound Owes
  rw [show (dat E V D c).owed t0_0.succ = owe [] + D c from (zero_add _).symm, show (dat E V D c).recorded t0_0.succ = Set.univ from rfl]
  iintro ⟨%W, HO⟩; iexists W; isplitr; · ipureintro; exact fun _ _ => Or.inl trivial
  iexact HO

/-- The body from the reading of the device on. -/
theorem wp_start (c : Dev nD) (K : PUnit → sProp 𝕄) : WP c (prog (F := F) c) K ⊢ WP c (bodyAt0 (F := F) t0_0) K := by
  rw [body_first]
  unfold WP
  rw [wp_deviceId]
  show _ ⊢ wp frame (wpE (defs₀ (F := F)) 𝒱₀ (c : Thread nD τ) none) Set.univ (after (bodyAt0 t0_0) c) K
  rw [body_after]

include hD in
theorem body_ok (c : Dev nD) : Pipeline.BodyObligation (dat E V D c) defs₀ 𝒱₀ () Set.univ := fun t => by
  obtain rfl := fin_N0 t
  rw [bigSep_W0, bigSep_W0]
  rw [show (dat E V D c).Φ t0_0.castSucc = iprop(opened E (opY V 0) c ∗ scr c ∗ arrs c (opY V c) ∗ others c ∗ ∃ r, prngReg c r) from rfl,
    show (dat E V D c).Φ t0_0.succ = iprop(semVal (barCell c) 0 ∗ atRest c ∗ scr c ∗ arrs c (opY V c) ∗ others c ∗ ∃ r, prngReg c r) from rfl]
  refine (?_ : _ ⊢ WP (F := F) (U := U) c (bodyAt0 (F := F) t0_0) _)
  iintro ⟨⟨Hop, Hb, Hy, Hz, Hreg⟩, HO, ⟨%d0, Hx⟩, ⟨%d1, Hq⟩, ⟨%d2, Ho⟩, ⟨%d3, Hr⟩⟩
  iapply (wp_start c)
  iapply (wp_body E c (hD c) (opX V c) (opQ V c) (opO V c) (opY V))
  isplitl [Hop]; · iexact Hop
  isplitl [Hb]; · iexact Hb
  isplitl [Hy]; · iexact Hy
  isplitl [Hx Hq Ho]
  · unfold ins
    isplitl [Hx]
    · iapply (Entails.of_eq (congrArg (fun y => owns (c : Thread nD τ) xM fullShare y) (before_x E V D c t0_0 d0))); iexact Hx
    isplitl [Hq]
    · iapply (Entails.of_eq (congrArg (fun y => owns (c : Thread nD τ) wqM fullShare y) (before_q E V D c t0_0 d1))); iexact Hq
    iapply (Entails.of_eq (congrArg (fun y => owns (c : Thread nD τ) woM fullShare y) (before_o E V D c t0_0 d2))); iexact Ho
  isplitl [Hr]; · iexists _; iexact Hr
  isplitl [HO]; · iapply (owes_in E V D c); iexact HO
  iintro Hbar He Hb Hy Hx Ho HO
  unfold ins
  icases Hx with ⟨Hx, Hq, Hw⟩
  isplitl [Hbar He Hb Hy Hz Hreg]
  · isplitl [Hbar]; · iexact Hbar
    isplitl [He]; · iexact He
    isplitl [Hb]; · iexact Hb
    isplitl [Hy]; · iexact Hy
    isplitl [Hz] <;> iassumption
  isplitl [HO]; · iapply (owes_out E V D c); iexact HO
  isplitl [Hx]; · iexact Hx
  isplitl [Hq]; · iexact Hq
  isplitl [Hw]; · iexact Hw
  iexact Ho

end Obligation

end Cert.KernelIdeal.AT

end
-- ==== Proof.KernelIdeal.ArProg.lean ====
/- The all-reduce kernel's body, regrouped: the printed sequence of operations is the same sequence written with one
   definition per kind of step (a send, a wait, an accumulation, a store of a received block). -/
module

public import proofs.«01_k».proof.Proof.Gen.KernelIdeal.Points
public import proofs.«01_k».proof.Proof.KernelIdeal.Shared
public import Idealize.ShloMosaic.Lib.Pipeline.Regions

@[expose] public section

noncomputable section

namespace Cert.KernelIdeal.AR

open Idealize.ShloMosaic Idealize.ShloMosaic.TcCoe
open Idealize.SL Idealize.SL.Sem
open Cert.KernelIdeal.Facts Cert.KernelIdeal.Gen Cert.KernelIdeal.Base

variable {F : FTy → Type} [FloatOps F] [Named F]

/-! ## The buffers -/

/-- The kernel's operand and result blocks (the pipeline's two staging buffers), whole. -/
abbrev inM : Memref sig .tc .vmem S2048x1024 .f32 := win1_0.stage 0
abbrev outM : Memref sig .tc .vmem S2048x1024 .f32 := win1_1.stage 0
/-- The operand at bf16. -/
abbrev pbM : Memref sig .tc .vmem S2048x1024 .bf16 := Memref.whole cc1_scratch0
/-- Partial sums on their way to the next device, per direction and step. -/
abbrev stgM : Memref sig .tc .vmem S2x2x512x512 .bf16 := Memref.whole cc1_scratch1
/-- The reduced block of each direction. -/
abbrev agsM : Memref sig .tc .vmem S2x512x512 .bf16 := Memref.whole cc1_scratch2
/-- Landing buffers of the two phases (0: reduce-scatter, 1: all-gather), per direction and step. -/
abbrev comM : Fin 2 → Memref sig .tc .vmem S2x3x512x512 .bf16 := fun | 0 => Memref.whole cc1_scratch3 | 1 => Memref.whole cc1_scratch4

theorem comWhole (e : Fin 2) : (comM e).IsWhole := by
  fin_cases e
  · exact Memref.isWhole_whole _
  · exact Memref.isWhole_whole _

/-- The four arrays of transfer semaphores. -/
abbrev sndA : Fin 2 → DmaSems sig S2x3 := fun | 0 => cc1_scratch5 | 1 => cc1_scratch7
abbrev rcvA : Fin 2 → DmaSems sig S2x3 := fun | 0 => cc1_scratch6 | 1 => cc1_scratch8

theorem inb_com (d : Fin 2) (k : Fin 3) : ∀ a, (![d.val, k.val, 0, 0] : Fin 4 → Nat) a + S1x1x512x512.size a ≤ S2x3x512x512.size a := by
  revert d k; decide
theorem inb_stg (d : Fin 2) (k : Fin 2) : ∀ a, (![d.val, k.val, 0, 0] : Fin 4 → Nat) a + S1x1x512x512.size a ≤ S2x2x512x512.size a := by
  revert d k; decide
theorem inb_ags (d : Fin 2) : ∀ a, (![d.val, 0, 0] : Fin 3 → Nat) a + S1x512x512.size a ≤ S2x512x512.size a := by
  revert d; decide
theorem inb_sem (d : Fin 2) (k : Fin 3) : ∀ a, (![d.val, k.val] : Fin 2 → Nat) a + S1x1.size a ≤ S2x3.size a := by
  revert d k; decide

abbrev comR (d : Fin 2) (k : Fin 3) : Rect S2x3x512x512 := Rect.unit (s := S2x3x512x512) ![d.val, k.val, 0, 0] S1x1x512x512.size (inb_com d k)
abbrev stgR (d : Fin 2) (k : Fin 2) : Rect S2x2x512x512 := Rect.unit (s := S2x2x512x512) ![d.val, k.val, 0, 0] S1x1x512x512.size (inb_stg d k)
abbrev agsR (d : Fin 2) : Rect S2x512x512 := Rect.unit (s := S2x512x512) ![d.val, 0, 0] S1x512x512.size (inb_ags d)

/-- Landing slot `(d, k)` of phase `e`, staged partial sum `(d, k)`, reduced block `d`: each as a 512 × 512 array. -/
abbrev com (e d : Fin 2) (k : Fin 3) : Memref sig .tc .vmem S512x512 .bf16 :=
  ((comM e).slice (comR d k) (fun _ => rfl)).squeeze S512x512 squeezes_S1x1x512x512_S512x512
abbrev stg (d : Fin 2) (k : Fin 2) : Memref sig .tc .vmem S512x512 .bf16 :=
  (stgM.slice (stgR d k) (fun _ => rfl)).squeeze S512x512 squeezes_S1x1x512x512_S512x512
abbrev ags (d : Fin 2) : Memref sig .tc .vmem S512x512 .bf16 :=
  (agsM.slice (agsR d) (fun _ => rfl)).squeeze S512x512 squeezes_S1x512x512_S512x512
/-- The 512 × 512 block of the bf16 operand at an offset. -/
abbrev pbAt (off : Fin 2 → Nat) (h : ∀ a, off a + S512x512.size a ≤ S2048x1024.size a) : Memref sig .tc .vmem S512x512 .bf16 :=
  pbM.slice (Rect.unit (s := S2048x1024) off S512x512.size h) (fun _ => rfl)

/-- The semaphores of transfer `(d, k)` of phase `e`: the sender's and the receiver's. -/
abbrev sndS (e d : Fin 2) (k : Fin 3) : DmaSem sig :=
  (((sndA e).slice (Rect.unit (s := S2x3) ![d.val, k.val] S1x1.size (inb_sem d k))).squeeze S_ squeezes_S1x1_S_).sem
abbrev rcvS (e d : Fin 2) (k : Fin 3) : DmaSem sig :=
  (((rcvA e).slice (Rect.unit (s := S2x3) ![d.val, k.val] S1x1.size (inb_sem d k))).squeeze S_ squeezes_S1x1_S_).sem

theorem words_com (d : Fin 2) (k : Fin 3) : (comR d k).WholeWords (EltTy.packing .bf16) := by revert d k; decide
theorem words_stg (d : Fin 2) (k : Fin 2) : (stgR d k).WholeWords (EltTy.packing .bf16) := by revert d k; decide
theorem words_ags (d : Fin 2) : (agsR d).WholeWords (EltTy.packing .bf16) := by revert d; decide
theorem packed_stg (d : Fin 2) (k : Fin 2) : (stgR d k).PackedRows (EltTy.packing .bf16) := by revert d k; decide
theorem packed_ags (d : Fin 2) : (agsR d).PackedRows (EltTy.packing .bf16) := by revert d; decide
theorem exact_com (e d : Fin 2) (k : Fin 3) : (com e d k).view.WordExact := ((comWhole e).wordExact_slice rfl _ (words_com d k)).reshape _ _
theorem exact_stg (d k : Fin 2) : (stg d k).view.WordExact := ((Memref.isWhole_whole cc1_scratch1).wordExact_slice rfl _ (words_stg d k)).reshape _ _
theorem exact_ags (d : Fin 2) : (ags d).view.WordExact := ((Memref.isWhole_whole cc1_scratch2).wordExact_slice rfl _ (words_ags d)).reshape _ _
theorem exact_pb (off : Fin 2 → Nat) (h) (hw : (Rect.unit (s := S2048x1024) off S512x512.size h).WholeWords (EltTy.packing .bf16)) :
    (pbAt off h).view.WordExact := (Memref.isWhole_whole cc1_scratch0).wordExact_slice rfl _ hw

/-! ## The steps -/

/-- One unit to device `t`'s barrier. -/
def barSignal (t : Dev nD) : Pr F PUnit := semSignalWord t (SemArray.scalar (d := ![]) (sig.barrier 1 rfl)).sem 1#32
/-- Wait for three units of the own barrier. -/
def barWait : Pr F PUnit := semWaitWord (SemArray.scalar (d := ![]) (sig.barrier 1 rfl)).sem 3#32

/-- The operand, rounded to bf16, into its buffer. -/
def toBf16 : Pr F PUnit := do
  let v : Vec F S2048x1024 .f32 ← Prog.lift (.load inM (Rect.unit (s := S2048x1024) ![0, 0] S2048x1024.size inb_S2048x1024_S2048x1024_0_0).toLoadRect (View.loadsAt_vmem h_S2048x1024))
  let _ : Vec F S2048x1024 .bf16 ← Prog.lift (.load pbM (Rect.unit (s := S2048x1024) ![0, 0] S2048x1024.size inb_S2048x1024_S2048x1024_0_0).toLoadRect (View.loadsAt_vmem h_S2048x1024))
  Prog.lift (.store pbM (Rect.unit (s := S2048x1024) ![0, 0] S2048x1024.size inb_S2048x1024_S2048x1024_0_0)
    (shapeCast S2048x1024 (truncf .bf16 (shapeCast S2048x1024 v shapeCasts_S2048x1024_S2048x1024) bitsLt_bf16_f32) shapeCasts_S2048x1024_S2048x1024)
    Finset.univ (View.stores_vmem h_S2048x1024 ((Memref.isWhole_whole cc1_scratch0).storeExact_slice rfl _ packedbf16_S2048x1024_S2048x1024_0_0) (fun _ => rfl)) (.inl rfl))

/-- Start the transfer `(d, k)` of phase `e` from `src` to device `t`. -/
def send (e d : Fin 2) (k : Fin 3) (t : Dev nD) (src : Memref sig .tc .vmem S512x512 .bf16) (hs : src.view.WordExact) : Pr F PUnit :=
  Prog.lift (.enqueueDma src (.remote (Dev.tc t) (com e d k) (.dma (sndS e d k))) (.dma (rcvS e d k)) hs (exact_com e d k) ⟨⟨rfl, Or.inl rfl⟩, trivial⟩)
/-- Wait until the own transfer `(d, k)` of phase `e` has left `src`, then until the neighbour's has arrived. -/
def waits (e d : Fin 2) (k : Fin 3) (src : Memref sig .tc .vmem S512x512 .bf16) (hs : src.view.WordExact) : Pr F PUnit := do
  Prog.lift (.waitDma2 (sndS e d k) (com e d k) src (exact_com e d k) hs)
  Prog.lift (.waitDma2 (rcvS e d k) src (com e d k) hs (exact_com e d k))

/-- Load landing slot `(d, k)` of phase `e`. -/
def loadCom (e d : Fin 2) (k : Fin 3) : Pr F (FVec F S512x512 .bf16) := do
  let v : Vec F S1x1x512x512 .bf16 ← Prog.lift (.load (comM e) (comR d k).toLoadRect (View.loadsAt_vmem h_S1x1x512x512))
  pure (shapeCast S512x512 v shapeCasts_S1x1x512x512_S512x512)

/-- What arrived in slot `(d, k)` of the reduce-scatter plus the own operand's block at `off`. -/
def accum (d : Fin 2) (k : Fin 3) (off : Fin 2 → Nat) (h : ∀ a, off a + S512x512.size a ≤ S2048x1024.size a) : Pr F (FVec F S512x512 .f32) := do
  let v ← loadCom 0 d k
  let w : Vec F S512x512 .f32 ← Prog.lift (.load inM (Rect.unit (s := S2048x1024) off S512x512.size h).toLoadRect (View.loadsAt_vmem h_S512x512))
  pure (addf (extf .f32 v bitsLt_bf16_f32) (shapeCast S512x512 w shapeCasts_S512x512_S512x512))

/-- Stage a partial sum, rounded, for the next step. -/
def putStg (d k : Fin 2) (v : FVec F S512x512 .f32) : Pr F PUnit := do
  let _ : Vec F S1x1x512x512 .bf16 ← Prog.lift (.load stgM (stgR d k).toLoadRect (View.loadsAt_vmem h_S1x1x512x512))
  Prog.lift (.store stgM (stgR d k) (shapeCast S1x1x512x512 (truncf .bf16 v bitsLt_bf16_f32) shapeCasts_S512x512_S1x1x512x512) Finset.univ
    (View.stores_vmem h_S1x1x512x512 ((Memref.isWhole_whole cc1_scratch1).storeExact_slice rfl _ (packed_stg d k)) (fun _ => rfl)) (.inl rfl))

/-- Stage the reduced block, rounded, for the all-gather. -/
def putAgs (d : Fin 2) (v : FVec F S512x512 .f32) : Pr F PUnit := do
  let _ : Vec F S1x512x512 .bf16 ← Prog.lift (.load agsM (agsR d).toLoadRect (View.loadsAt_vmem h_S1x512x512))
  Prog.lift (.store agsM (agsR d) (shapeCast S1x512x512 (truncf .bf16 v bitsLt_bf16_f32) shapeCasts_S512x512_S1x512x512) Finset.univ
    (View.stores_vmem h_S1x512x512 ((Memref.isWhole_whole cc1_scratch2).storeExact_slice rfl _ (packed_ags d)) (fun _ => rfl)) (.inl rfl))

/-- Write a block of the result. -/
def putOut (off : Fin 2 → Nat) (h : ∀ a, off a + S512x512.size a ≤ S2048x1024.size a) (v : FVec F S512x512 .f32) : Pr F PUnit := do
  let _ : Vec F S512x512 .f32 ← Prog.lift (.load outM (Rect.unit (s := S2048x1024) off S512x512.size h).toLoadRect (View.loadsAt_vmem h_S512x512))
  Prog.lift (.store outM (Rect.unit (s := S2048x1024) off S512x512.size h) v Finset.univ (View.stores_vmem_bits_univ h_S512x512 rfl) (.inl rfl))

/-- Step `k < 2` of direction `d` of the reduce-scatter, after its transfers were started. -/
def mid (d k : Fin 2) (off : Fin 2 → Nat) (h : ∀ a, off a + S512x512.size a ≤ S2048x1024.size a) (src : Memref sig .tc .vmem S512x512 .bf16) (hs : src.view.WordExact) : Pr F PUnit := do
  waits 0 d k.castSucc src hs
  let v ← accum d k.castSucc off h
  putStg d k v
/-- The last step of direction `d` of the reduce-scatter. -/
def fin (d : Fin 2) (off : Fin 2 → Nat) (h : ∀ a, off a + S512x512.size a ≤ S2048x1024.size a) (src : Memref sig .tc .vmem S512x512 .bf16) (hs : src.view.WordExact) : Pr F PUnit := do
  waits 0 d 2 src hs
  let v ← accum d 2 off h
  putOut off h v
  putAgs d v
/-- Step `k` of direction `d` of the all-gather, after its transfers were started. -/
def gat (d : Fin 2) (k : Fin 3) (off : Fin 2 → Nat) (h : ∀ a, off a + S512x512.size a ≤ S2048x1024.size a) (src : Memref sig .tc .vmem S512x512 .bf16) (hs : src.view.WordExact) : Pr F PUnit := do
  waits 1 d k src hs
  let v ← loadCom 1 d k
  putOut off h (extf .f32 v bitsLt_bf16_f32)

/-- Units to the barriers of the three other devices, then the wait for theirs. -/
def entry (t₁ t₂ t₃ : Dev nD) : Pr F PUnit := do
  barSignal t₁
  barSignal t₂
  barSignal t₃
  barWait

abbrev Src : Type := Memref sig .tc .vmem S512x512 .bf16

/-- Step `k < 2` of the reduce-scatter, in both directions. -/
def rsRound (k : Fin 2) (t t' : Dev nD) (src : Src) (hs : src.view.WordExact) (src' : Src) (hs' : src'.view.WordExact)
    (off : Fin 2 → Nat) (h : ∀ a, off a + S512x512.size a ≤ S2048x1024.size a) (off' : Fin 2 → Nat) (h' : ∀ a, off' a + S512x512.size a ≤ S2048x1024.size a) : Pr F PUnit := do
  send 0 0 k.castSucc t src hs
  send 0 1 k.castSucc t' src' hs'
  mid 0 k off h src hs
  mid 1 k off' h' src' hs'
/-- The last step of the reduce-scatter, in both directions. -/
def endRound (t t' : Dev nD) (src : Src) (hs : src.view.WordExact) (src' : Src) (hs' : src'.view.WordExact)
    (off : Fin 2 → Nat) (h : ∀ a, off a + S512x512.size a ≤ S2048x1024.size a) (off' : Fin 2 → Nat) (h' : ∀ a, off' a + S512x512.size a ≤ S2048x1024.size a) : Pr F PUnit := do
  send 0 0 2 t src hs
  send 0 1 2 t' src' hs'
  fin 0 off h src hs
  fin 1 off' h' src' hs'
/-- Step `k` of the all-gather, in both directions. -/
def agRound (k : Fin 3) (t t' : Dev nD) (src : Src) (hs : src.view.WordExact) (src' : Src) (hs' : src'.view.WordExact)
    (off : Fin 2 → Nat) (h : ∀ a, off a + S512x512.size a ≤ S2048x1024.size a) (off' : Fin 2 → Nat) (h' : ∀ a, off' a + S512x512.size a ≤ S2048x1024.size a) : Pr F PUnit := do
  send 1 0 k t src hs
  send 1 1 k t' src' hs'
  gat 0 k off h src hs
  gat 1 k off' h' src' hs'

/-- The body: the entry barrier, the rounding of the operand, three reduce-scatter steps and three all-gather steps. -/
def prog : Pr F PUnit := do
  let c : Dev nD ← Prog.lift .deviceId
  entry (⟨k1_dev1 c, k1_dev1_lt c⟩ : Dev nD) (⟨k1_dev2 c, k1_dev2_lt c⟩ : Dev nD) (⟨k1_dev3 c, k1_dev3_lt c⟩ : Dev nD)
  toBf16
  rsRound 0 (⟨k1_dev4 c, k1_dev4_lt c⟩ : Dev nD) (⟨k1_dev5 c, k1_dev5_lt c⟩ : Dev nD)
    (pbAt (k1_off1 c) (k1_off1_inb c)) (exact_pb _ _ (k1_off1_wordsbf16 c)) (pbAt (k1_off2 c) (k1_off2_inb c)) (exact_pb _ _ (k1_off2_wordsbf16 c))
    (k1_off3 c 3#32) (k1_off3_inb c 2) (k1_off4 c 1#32) (k1_off4_inb c 1)
  rsRound 1 (⟨k1_dev6 c, k1_dev6_lt c⟩ : Dev nD) (⟨k1_dev7 c, k1_dev7_lt c⟩ : Dev nD) (stg 0 0) (exact_stg 0 0) (stg 1 0) (exact_stg 1 0)
    (k1_off3 c 2#32) (k1_off3_inb c 1) (k1_off4 c 2#32) (k1_off4_inb c 2)
  endRound (⟨k1_dev8 c, k1_dev8_lt c⟩ : Dev nD) (⟨k1_dev9 c, k1_dev9_lt c⟩ : Dev nD) (stg 0 1) (exact_stg 0 1) (stg 1 1) (exact_stg 1 1)
    (k1_off3 c 1#32) (k1_off3_inb c 0) (k1_off4 c 3#32) (k1_off4_inb c 3)
  agRound 0 (⟨k1_dev10 c, k1_dev10_lt c⟩ : Dev nD) (⟨k1_dev11 c, k1_dev11_lt c⟩ : Dev nD) (ags 0) (exact_ags 0) (ags 1) (exact_ags 1)
    (k1_off3 c 4#32) (k1_off3_inb c 3) (k1_off4 c 0#32) (k1_off4_inb c 0)
  agRound 1 (⟨k1_dev12 c, k1_dev12_lt c⟩ : Dev nD) (⟨k1_dev13 c, k1_dev13_lt c⟩ : Dev nD) (com 1 0 0) (exact_com 1 0 0) (com 1 1 0) (exact_com 1 1 0)
    (k1_off3 c 3#32) (k1_off3_inb c 2) (k1_off4 c 1#32) (k1_off4_inb c 1)
  agRound 2 (⟨k1_dev14 c, k1_dev14_lt c⟩ : Dev nD) (⟨k1_dev15 c, k1_dev15_lt c⟩ : Dev nD) (com 1 0 1) (exact_com 1 0 1) (com 1 1 1) (exact_com 1 1 1)
    (k1_off3 c 2#32) (k1_off3_inb c 1) (k1_off4 c 2#32) (k1_off4_inb c 2)

set_option maxRecDepth 100000 in
/-- The printed body is that sequence. -/
theorem body_eq : bodyAt1 (F := F) t1_0 = prog := by chain_rfl

end Cert.KernelIdeal.AR

end
-- ==== Proof.KernelIdeal.ArSched.lean ====
/- The all-reduce's values and its protocol: what every transfer carries, who pays each semaphore and with what, and what each
   device owes.

   `X c` is device c's operand, cut in blocks of 512 × 512: row block r of 4, column half d of 2. Half d = 0 travels to the next
   device (c + 1), half d = 1 to the previous one (c + 3); `nxt d c` is the receiver, `prv d c` the sender. -/
module

public import proofs.«01_k».proof.Proof.KernelIdeal.ArProg

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F]

/-! ## Devices and rows -/

def nxt (d : Fin 2) (c : Dev nD) : Dev nD := up (1 + 2 * d.val) c
def prv (d : Fin 2) (c : Dev nD) : Dev nD := up (3 - 2 * d.val) c
theorem prv_nxt (d : Fin 2) (c : Dev nD) : prv d (nxt d c) = c := by revert d c; decide
theorem nxt_prv (d : Fin 2) (c : Dev nD) : nxt d (prv d c) = c := by revert d c; decide

/-- The row block that device `c` accumulates at step `k` of the reduce-scatter, in half `d`. -/
def rowRS (d : Fin 2) (c : Dev nD) (k : Fin 3) : Fin 4 := ⟨(c.val + (if d = 0 then 3 - k.val else 1 + k.val)) % 4, Nat.mod_lt _ (by decide)⟩
/-- The row block that device `c` receives at step `k` of the all-gather, in half `d`. -/
def rowAG (d : Fin 2) (c : Dev nD) (k : Fin 3) : Fin 4 := ⟨(c.val + (if d = 0 then 4 - k.val else k.val)) % 4, Nat.mod_lt _ (by decide)⟩
/-- The device that ends the reduce-scatter with row block `r` of half `d` summed. -/
def owner (d : Fin 2) (r : Fin 4) : Dev nD := ⟨(r.val + (if d = 0 then 3 else 1)) % 4, Nat.mod_lt _ (by decide)⟩

theorem inb_blk (r : Fin 4) (d : Fin 2) : ∀ a, (![512 * r.val, 512 * d.val] : Fin 2 → Nat) a + S512x512.size a ≤ S2048x1024.size a := by
  revert r d; decide
/-- Block `(r, d)` of a 2048 × 1024 array, as a rectangle and as the values there. -/
abbrev blkR (r : Fin 4) (d : Fin 2) : Rect S2048x1024 := Rect.unit (s := S2048x1024) ![512 * r.val, 512 * d.val] S512x512.size (inb_blk r d)
def blk {α : Type} (r : Fin 4) (d : Fin 2) (f : S2048x1024.Idx → α) : S512x512.Idx → α := fun x => f ((blkR r d).emb x)

/-! ## What the transfers carry -/

section Values

variable (X : Dev nD → FVec F S2048x1024 .f32)

/-- Device `c`'s partial sum sent at step `n` of the reduce-scatter: its own block first, then what it received plus its own block. -/
def sentRS : (n : ℕ) → Dev nD → Fin 2 → FVec F S512x512 .bf16
  | 0, c, d => blk c d (truncf .bf16 (X c) bitsLt_bf16_f32)
  | n + 1, c, d => truncf .bf16 (addf (extf .f32 (sentRS n (prv d c) d) bitsLt_bf16_f32) (blk (rowRS d c (Fin.ofNat 3 n)) d (X c))) bitsLt_bf16_f32
/-- The partial sum at step `k`, before it is rounded for the next step. -/
def acc (c : Dev nD) (d : Fin 2) (k : Fin 3) : FVec F S512x512 .f32 :=
  addf (extf .f32 (sentRS X k.val (prv d c) d) bitsLt_bf16_f32) (blk (rowRS d c k) d (X c))
/-- What device `c` sends at step `n` of the all-gather: its summed block, then what it received. -/
def sentAG : (n : ℕ) → Dev nD → Fin 2 → FVec F S512x512 .bf16
  | 0, c, d => truncf .bf16 (acc X c d 2) bitsLt_bf16_f32
  | n + 1, c, d => sentAG n (prv d c) d
def sent (e : Fin 2) (c : Dev nD) (d : Fin 2) (k : Fin 3) : FVec F S512x512 .bf16 :=
  if e = 0 then sentRS X k.val c d else sentAG X k.val c d

theorem sent_acc (c : Dev nD) (d : Fin 2) (k : Fin 2) : sent X 0 c d k.succ = truncf .bf16 (acc X c d k.castSucc) bitsLt_bf16_f32 := by
  fin_cases k <;> rfl

/-- Block `(r, d)` of device `c`'s result: the summed block, rounded on its way unless `c` is its owner. -/
def outB (c : Dev nD) (r : Fin 4) (d : Fin 2) : FVec F S512x512 .f32 :=
  if owner d r = c then acc X c d 2 else extf .f32 (truncf .bf16 (acc X (owner d r) d 2) bitsLt_bf16_f32) bitsLt_bf16_f32

theorem outB_own (c : Dev nD) (d : Fin 2) : outB X c (rowRS d c 2) d = acc X c d 2 := by
  unfold outB; rw [if_pos (by revert c d; decide)]
theorem outB_recv (c : Dev nD) (d : Fin 2) (k : Fin 3) : outB X c (rowAG d c k) d = extf .f32 (sent X 1 (prv d c) d k) bitsLt_bf16_f32 := by
  have hk : owner d (rowAG d c k) = (prv d)^[k.val] (prv d c) := by revert c d k; decide
  unfold outB; rw [if_neg (by revert c d k; decide)]
  have h : ∀ (n : ℕ) (c' : Dev nD), owner d (rowAG d c k) = (prv d)^[n] c' → truncf .bf16 (acc X (owner d (rowAG d c k)) d 2) bitsLt_bf16_f32 = sentAG X n c' d := by
    intro n
    induction n with
    | zero => intro c' h; rw [h]; rfl
    | succ n ih => intro c' h; exact ih _ h
  rw [h k.val (prv d c) hk]
  rfl

theorem split_lt (i : S2048x1024.Idx) (a : Fin 2) : (i a).val < 512 * (![4, 2] : Fin 2 → ℕ) a := by
  have := (i a).isLt
  fin_cases a
  · exact this
  · exact this
/-- Device `c`'s result. -/
def outV (c : Dev nD) : FVec F S2048x1024 .f32 := fun i =>
  outB X c ⟨(i 0).val / 512, Nat.div_lt_of_lt_mul (split_lt i 0)⟩ ⟨(i 1).val / 512, Nat.div_lt_of_lt_mul (split_lt i 1)⟩
    (fun a => ⟨(i a).val % 512, by fin_cases a <;> exact Nat.mod_lt _ (by decide)⟩)

/-- A 2048 × 1024 array is determined by its blocks. -/
theorem eq_outV {c : Dev nD} {f : FVec F S2048x1024 .f32} (h : ∀ r d, blk r d f = outB X c r d) : f = outV X c := by
  funext i
  have hi := congrFun (h ⟨(i 0).val / 512, Nat.div_lt_of_lt_mul (split_lt i 0)⟩ ⟨(i 1).val / 512, Nat.div_lt_of_lt_mul (split_lt i 1)⟩)
    (fun a => ⟨(i a).val % 512, by fin_cases a <;> exact Nat.mod_lt _ (by decide)⟩)
  refine Eq.trans (congrArg f ?_) hi
  funext a
  refine Fin.ext ?_
  fin_cases a
  · show (i 0).val = 512 * ((i 0).val / 512) + 1 * ((i 0).val % 512)
    omega
  · show (i 1).val = 512 * ((i 1).val / 512) + 1 * ((i 1).val % 512)
    omega

end Values

/-! ## Cells -/

abbrev barS : Sem sig := sig.barrier 1 rfl
abbrev barCell (c : Dev nD) : GSem nD τ sig := ((c : Thread nD τ), .reg barS)
abbrev sndCell (c : Dev nD) (e d : Fin 2) (k : Fin 3) : GSem nD τ sig := ((c : Thread nD τ), .dma (sndS e d k))
abbrev rcvCell (c : Dev nD) (e d : Fin 2) (k : Fin 3) : GSem nD τ sig := ((c : Thread nD τ), .dma (rcvS e d k))

/-- A transfer's end: `(0, e, d, k)` the sender's, `(1, e, d, k)` the receiver's. -/
abbrev End : Type := Fin 2 × Fin 2 × Fin 2 × Fin 3
/-- The semaphores of the transfers' ends. -/
abbrev xsem (x : End) : DmaSem sig := if x.1 = 0 then sndS x.2.1 x.2.2.1 x.2.2.2 else rcvS x.2.1 x.2.2.1 x.2.2.2
/-- The end that a semaphore belongs to, if to any. -/
def dec (s : DmaSem sig) : Option End :=
  if 74 ≤ s.val then some (⟨(s.val - 74) / 6 % 2, Nat.mod_lt _ (by decide)⟩, ⟨(s.val - 74) / 12 % 2, Nat.mod_lt _ (by decide)⟩,
    ⟨(s.val - 74) / 3 % 2, Nat.mod_lt _ (by decide)⟩, ⟨(s.val - 74) % 3, Nat.mod_lt _ (by decide)⟩) else none
theorem dec_xsem : ∀ x : End, dec (xsem x) = some x := by decide
theorem dec_snd (e d : Fin 2) (k : Fin 3) : dec (sndS e d k) = some (0, e, d, k) := dec_xsem (0, e, d, k)
theorem dec_rcv (e d : Fin 2) (k : Fin 3) : dec (rcvS e d k) = some (1, e, d, k) := dec_xsem (1, e, d, k)
theorem xsem_inj : Function.Injective xsem := fun x y h => Option.some.inj ((dec_xsem x).symm.trans ((congrArg dec h).trans (dec_xsem y)))

/-! ## The schedule -/

/-- Where transfer `(d, k)` of phase `e` reads on device `c`. -/
def srcOf (e : Fin 2) (c : Dev nD) (d : Fin 2) (k : Fin 3) : Memref sig .tc .vmem S512x512 .bf16 :=
  match e, k with
  | 0, 0 => pbAt ![512 * c.val, 512 * d.val] (inb_blk c d)
  | 0, 1 => stg d 0
  | 0, 2 => stg d 1
  | 1, 0 => ags d
  | 1, 1 => com 1 d 0
  | 1, 2 => com 1 d 1

/-- The units one transfer pays each of its semaphores. -/
abbrev N : ℕ := (com 0 0 0).view.dmaCredit
theorem N_pos : 0 < N := View.dmaCredit_pos _ (by decide)

section Protocol

variable {U : Type} [URA U]

local notation "𝕄" => MT nD τ sig Unit (Elt F) ℕ U ℕ

variable (E : Emb (URounds (GSem nD τ sig) ℕ) (MT nD τ sig Unit (Elt F) ℕ U ℕ))
variable (X : Dev nD → FVec F S2048x1024 .f32)

/-- Device `c`'s landing slot `(e, d, k)` handed out for a transfer into it: at some contents, its receive semaphore in use. -/
def slotPay (c : Dev nD) (e d : Fin 2) (k : Fin 3) : sProp 𝕄 := iprop(some' c (com e d k) ∗ reached E (rcvCell c e d k) 0)
/-- What a neighbour's barrier unit hands over: its six landing slots of one direction. -/
def nbrPay (c : Dev nD) (d : Fin 2) : sProp 𝕄 :=
  iprop(slotPay E c 0 d 0 ∗ slotPay E c 0 d 1 ∗ slotPay E c 0 d 2 ∗ slotPay E c 1 d 0 ∗ slotPay E c 1 d 1 ∗ slotPay E c 1 d 2)
/-- Device `c`'s barrier: the unit from `c + 1` (which signals the third device after it) hands over that device's slots of
    half 0, the unit from `c + 3` those of half 1, the unit from the opposite device nothing. -/
def barPay (c : Dev nD) (i : ℕ) : sProp 𝕄 := if i = 3 then nbrPay E (nxt 0 c) 0 else if i = 1 then nbrPay E (nxt 1 c) 1 else iprop(emp)
/-- The sender's end: its source back. The receiver's end: its slot, at what the sender sent. -/
def sndPay (c : Dev nD) (e d : Fin 2) (k : Fin 3) : sProp 𝕄 := owns (c : Thread nD τ) (srcOf e c d k) fullShare (sent X e c d k)
def rcvPay (c : Dev nD) (e d : Fin 2) (k : Fin 3) : sProp 𝕄 := owns (c : Thread nD τ) (com e d k) fullShare (sent X e (prv d c) d k)
def endPay (c : Dev nD) : Option End → sProp 𝕄
  | none => iprop(emp)
  | some x => if x.1 = 0 then sndPay X c x.2.1 x.2.2.1 x.2.2.2 else rcvPay X c x.2.1 x.2.2.1 x.2.2.2

/-- One round everywhere: three duties at a barrier, one at each end of each transfer. -/
def sched : Rounds.Schedule (GSem nD τ sig) ℕ 𝕄 where
  duties g r := if r = 0 ∧ g.1.2 = .tc then (match g.2 with | .reg _ => {1, 2, 3} | .dma _ => {0}) else ∅
  unitless _ := False
  amount g _ _ := match g.2 with | .reg _ => 1 | .dma _ => N
  payload g _ i := match g.2 with | .reg _ => barPay E g.1.1 i | .dma s => endPay X g.1.1 (dec s)
  amount_pos g _ _ _ := by
    cases g.2
    · exact Nat.one_pos
    · exact N_pos

instance nbrPay_storable [E.LandsIn (upEmb : UEmb _ 𝕄)] (c : Dev nD) (d : Fin 2) : BI.Storable (upEmb : UEmb _ 𝕄) (nbrPay E c d) := by
  unfold nbrPay slotPay; infer_instance
instance sched_storable [E.LandsIn (upEmb : UEmb _ 𝕄)] (g : GSem nD τ sig) (r : ℕ) (i : ℕ) :
    BI.Storable (upEmb : UEmb _ 𝕄) ((sched E X).payload g r i) := by
  show BI.Storable upEmb (match g.2 with | .reg _ => barPay E g.1.1 i | .dma s => endPay X g.1.1 (dec s))
  cases g.2 with
  | reg s => dsimp only; unfold barPay; (repeat' split) <;> infer_instance
  | dma s =>
    dsimp only
    cases dec s with
    | none => unfold endPay; infer_instance
    | some x => dsimp only [endPay, sndPay, rcvPay]; split <;> infer_instance

section Facts

variable (c : Dev nD) (e d : Fin 2) (k : Fin 3)

theorem duties_bar : (sched E X).duties (barCell c) 0 = {1, 2, 3} := by dsimp only [sched]; exact if_pos ⟨rfl, rfl⟩
theorem duties_dma (s : DmaSem sig) : (sched E X).duties ((c : Thread nD τ), .dma s) 0 = {0} := by dsimp only [sched]; exact if_pos ⟨rfl, rfl⟩
theorem duties_later (g : GSem nD τ sig) : ∀ r, 1 ≤ r → (sched E X).duties g r = ∅ := fun r hr => if_neg fun h => by omega
theorem expect_bar : (sched E X).expect (barCell c) 0 = 3 := by
  unfold Schedule.expect Schedule.amountOf; rw [duties_bar]; rfl
theorem expect_dma (s : DmaSem sig) : (sched E X).expect ((c : Thread nD τ), .dma s) 0 = N := by
  unfold Schedule.expect Schedule.amountOf; rw [duties_dma, Finset.sum_singleton]; rfl
theorem payload_snd (i : ℕ) : (sched E X).payload (sndCell c e d k) 0 i = sndPay X c e d k := by
  show endPay X c (dec (sndS e d k)) = _; rw [dec_snd]; rfl
theorem payload_rcv (i : ℕ) : (sched E X).payload (rcvCell c e d k) 0 i = rcvPay X c e d k := by
  show endPay X c (dec (rcvS e d k)) = _; rw [dec_rcv]; rfl
theorem rest_snd : bigSep ((sched E X).duties (sndCell c e d k) 0 \ ∅) (fun i => (sched E X).payload (sndCell c e d k) 0 i) = sndPay X c e d k := by
  rw [Finset.sdiff_empty, duties_dma, bigSep_singleton, payload_snd]
theorem rest_rcv : bigSep ((sched E X).duties (rcvCell c e d k) 0 \ ∅) (fun i => (sched E X).payload (rcvCell c e d k) 0 i) = rcvPay X c e d k := by
  rw [Finset.sdiff_empty, duties_dma, bigSep_singleton, payload_rcv]
theorem rest_bar : bigSep ((sched E X).duties (barCell c) 0 \ ∅) (fun i => (sched E X).payload (barCell c) 0 i)
    = iprop(nbrPay E (nxt 1 c) 1 ∗ emp ∗ nbrPay E (nxt 0 c) 0) := by
  rw [Finset.sdiff_empty, duties_bar, bigSep_insert (by decide), bigSep_insert (by decide), bigSep_singleton]
  rfl

end Facts

end Protocol

/-! ## Debts and levels -/

/-- What a device pays other devices: a unit of the barrier `i` places on, a transfer into the neighbour's slot. -/
inductive Due where
  | bar (i : Fin 4)
  | rcv (e d : Fin 2) (k : Fin 3)
deriving DecidableEq

def Due.cell (c : Dev nD) : Due → GSem nD τ sig
  | .bar i => barCell (up i.val c)
  | .rcv e d k => rcvCell (nxt d c) e d k
def Due.amt : Due → ℕ
  | .bar _ => 1
  | .rcv _ _ _ => N
/-- Barriers are waited for first, then the slots in the order they fill. -/
def Due.lvl : Due → ℕ
  | .bar _ => 5
  | .rcv e _ k => 6 + 3 * e.val + k.val

theorem Due.L_cell (c : Dev nD) (x : Due) : L (x.cell c) = {()} := by cases x <;> exact L_tc _ _
theorem lvl_rcv : ∀ (c : Dev nD) (e d : Fin 2) (k : Fin 3), dmaLvl c (rcvS e d k).val = 6 + 3 * e.val + k.val := by decide +kernel
theorem lvl_snd : ∀ (c : Dev nD) (e d : Fin 2) (k : Fin 3), dmaLvl c (sndS e d k).val = 0 := by decide +kernel
theorem lv_rcv (c : Dev nD) (e d : Fin 2) (k : Fin 3) : lv (rcvCell c e d k) () = 6 + 3 * e.val + k.val := lvl_rcv c e d k
theorem lv_snd (c : Dev nD) (e d : Fin 2) (k : Fin 3) : lv (sndCell c e d k) () = 0 := lvl_snd c e d k
theorem Due.lv_cell (c : Dev nD) (x : Due) : lv (x.cell c) () = x.lvl := by
  cases x with
  | bar i => rfl
  | rcv e d k => exact lv_rcv (nxt d c) e d k

/-- The debts of a list. -/
def owe (c : Dev nD) : List Due → CellTallies nD τ sig Unit
  | [] => 0
  | x :: l => tallyAt (x.cell c) () x.amt + owe c l

theorem owe_pos {c : Dev nD} {g : GSem nD τ sig} {u : Unit} : ∀ {l : List Due}, 0 < owe c l g u → ∃ x ∈ l, g = x.cell c
  | [], h => absurd h (Nat.lt_irrefl 0)
  | x :: l, h => by
    rw [owe, Pi.add_apply, Finsupp.add_apply] at h
    rcases Nat.add_pos_iff_pos_or_pos.mp h with h | h
    · rw [tallyAt_apply] at h
      split at h
      · next hg => exact ⟨x, List.mem_cons_self, hg.1⟩
      · exact absurd h (Nat.lt_irrefl 0)
    · obtain ⟨y, hy, hg⟩ := owe_pos h
      exact ⟨y, List.mem_cons_of_mem _ hy, hg⟩

/-- A wait below everything owed is allowed. -/
theorem mayWait {U : Type} [URA U] (c : Dev nD) (sm : SemLoc sig) (l : List Due) (h : ∀ x ∈ l, lv ((c : Thread nD τ), sm) () < x.lvl) :
    (levAts L lv : sProp (MT nD τ sig Unit (Elt F) ℕ U ℕ)) ⊢ MayWait (c : Thread nD τ) sm () (owe c l) :=
  MayOwe.of_cut (L := L) (lev := lv) (lv ((c : Thread nD τ), sm) ()) (fun p hp => by rw [Finset.mem_singleton.mp hp, L_tc]; exact Finset.mem_singleton_self _)
    (fun g u hg => by obtain ⟨x, -, rfl⟩ := owe_pos hg; rw [Due.L_cell]; exact Finset.mem_singleton_self _)
    (fun p hp => by rw [Finset.mem_singleton.mp hp])
    (fun g u hg => by obtain ⟨x, hx, rfl⟩ := owe_pos hg; rw [Due.lv_cell]; exact h x hx)

/-- Everything a device owes, in the order it pays. -/
def transfers : List Due := [.rcv 0 0 0, .rcv 0 1 0, .rcv 0 0 1, .rcv 0 1 1, .rcv 0 0 2, .rcv 0 1 2,
  .rcv 1 0 0, .rcv 1 1 0, .rcv 1 0 1, .rcv 1 1 1, .rcv 1 0 2, .rcv 1 1 2]
def dues : List Due := .bar 1 :: .bar 2 :: .bar 3 :: transfers
theorem dues_late (x : Due) : 4 < x.lvl := by cases x <;> simp only [Due.lvl] <;> omega

end Cert.KernelIdeal.AR

end
-- ==== Proof.KernelIdeal.ArSteps.lean ====
/- The all-reduce kernel's steps, each with what it takes and what it leaves: a barrier unit, the barrier's wait, a send, a pair of
   waits, an accumulation, a store of a block of the result. Everything is stated at a symbolic device. -/
module

public import proofs.«01_k».proof.Proof.KernelIdeal.ArSched

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32)

/-! ## The cells' invariants -/

def barEmb : Dev nD ↪ GSem nD τ sig := ⟨fun c => barCell c, fun _ _ h => congrArg (fun g : GSem nD τ sig => g.1.1) h⟩
def endEmb : Dev nD × End ↪ GSem nD τ sig :=
  ⟨fun x => ((x.1 : Thread nD τ), .dma (xsem x.2)), fun _ _ h =>
    Prod.ext (congrArg (fun g : GSem nD τ sig => g.1.1) h) (xsem_inj (SemLoc.dma.inj (congrArg Prod.snd h)))⟩
abbrev barCells : Finset (GSem nD τ sig) := Finset.univ.map barEmb
abbrev endCells : Finset (GSem nD τ sig) := Finset.univ.map endEmb

/-- Every cell's invariant, at the names `κ`. -/
def Inv (κ : GSem nD τ sig → ℕ) : sProp 𝕄 := bigSep (barCells ∪ endCells) fun g => cellInv E (sched E X) (κ g) g
instance Inv_persistent (κ : GSem nD τ sig → ℕ) : BI.Persistent (Inv E X κ) := by unfold Inv; infer_instance

theorem bar_mem (c : Dev nD) : barCell c ∈ (barCells ∪ endCells : Finset (GSem nD τ sig)) :=
  Finset.mem_union_left _ (Finset.mem_map_of_mem barEmb (Finset.mem_univ c))
theorem end_mem (c : Dev nD) (x : End) : ((c : Thread nD τ), SemLoc.dma (xsem x)) ∈ (barCells ∪ endCells : Finset (GSem nD τ sig)) :=
  Finset.mem_union_right _ (Finset.mem_map_of_mem endEmb (Finset.mem_univ (c, x)))
theorem snd_mem (c : Dev nD) (e d : Fin 2) (k : Fin 3) : sndCell c e d k ∈ (barCells ∪ endCells : Finset (GSem nD τ sig)) := end_mem c (0, e, d, k)
theorem rcv_mem (c : Dev nD) (e d : Fin 2) (k : Fin 3) : rcvCell c e d k ∈ (barCells ∪ endCells : Finset (GSem nD τ sig)) := end_mem c (1, e, d, k)
omit [E.LandsIn (upEmb : UEmb _ 𝕄)] in
theorem inv_at (κ : GSem nD τ sig → ℕ) {g : GSem nD τ sig} (hg : g ∈ (barCells ∪ endCells : Finset (GSem nD τ sig))) :
    Inv E X κ ⊢ cellInv E (sched E X) (κ g) g := bigSep_elim hg

/-! ## What a device holds of a transfer -/

/-- Core `c` owes the list's debts. -/
def Owes (c : Dev nD) (l : List Due) : sProp 𝕄 := iprop(∃ W, owes (c : Thread nD τ) (owe c l) W)
/-- Before transfer `(e, d, k)`: the tokens of both its ends, the own ends at their start, the credit to wait for the arrival. -/
def ready (c : Dev nD) (e d : Fin 2) (k : Fin 3) : sProp 𝕄 :=
  iprop(dutyTok E (sndCell c e d k) 0 0 ∗ dutyTok E (rcvCell (nxt d c) e d k) 0 0 ∗ reached E (sndCell c e d k) 0
    ∗ atPos E (sndCell c e d k) 0 ∅ 0 ∗ atPos E (rcvCell c e d k) 0 ∅ 0 ∗ cred (tallyAt (rcvCell c e d k) () N))
/-- After it was started. -/
def flying (c : Dev nD) (e d : Fin 2) (k : Fin 3) : sProp 𝕄 :=
  iprop(atPos E (sndCell c e d k) 0 ∅ 0 ∗ atPos E (rcvCell c e d k) 0 ∅ 0
    ∗ cred (tallyAt (sndCell c e d k) () N) ∗ cred (tallyAt (rcvCell c e d k) () N))
/-- After both own ends were waited for. -/
def over (c : Dev nD) (e d : Fin 2) (k : Fin 3) : sProp 𝕄 :=
  iprop(atPos E (sndCell c e d k) (0 + 1) ∅ 0 ∗ atPos E (rcvCell c e d k) (0 + 1) ∅ 0)

/-! ## The barrier -/

theorem payload_bar (c : Dev nD) (i : ℕ) : (sched E X).payload (barCell c) 0 i = barPay E c i := rfl

theorem wp_barSignal (κ : GSem nD τ sig → ℕ) (c : Dev nD) (i : Fin 4) (t : Dev nD) (ht : t = up i.val c) (hi : i ≠ 0) (l : List Due) (Kt : PUnit → sProp 𝕄) :
    iprop(Inv E X κ ∗ reached E (barCell t) 0 ∗ dutyTok E (barCell t) 0 i.val ∗ barPay E t i.val ∗ Owes c (.bar i :: l) ∗ (Owes c l -∗ Kt ⟨⟩))
      ⊢ WP c (barSignal t) Kt := by
  subst ht
  unfold barSignal semSignalWord Owes
  iintro ⟨#HI, #HR, Ht, Hp, ⟨%W, HO⟩, Hk⟩
  iapply (Rounds.wp_signal 𝒱₀ E (sched E X) (c : Thread nD τ) none (dst := (up i.val c : Thread nD τ)) (sem := barS) (r := 0) (d := i.val) (κ := κ (barCell (up i.val c)))
      (by rw [duties_bar]; revert i; decide) rfl () (owe c l) (add_comm _ _)) $$ [HO Ht Hp]
  · isplitr; · iapply (inv_at E X κ (bar_mem _)); iexact HI
    isplitl [HO]; · iexact HO
    isplitl [Ht]; · iexact Ht
    isplitl [Hp]; · rw [payload_bar]; iexact Hp
    iexact HR
  iintro HO
  rw [wp_ret]
  imodintro
  iapply Hk
  iexists W; iexact HO

theorem wp_barWait (κ : GSem nD τ sig → ℕ) (c : Dev nD) (l : List Due) (hl : ∀ x ∈ l, 5 < x.lvl) (Kt : PUnit → sProp 𝕄) :
    iprop(Inv E X κ ∗ levAts L lv ∗ atPos E (barCell c) 0 ∅ 0 ∗ cred (tallyAt (barCell c) () 3) ∗ Owes c l
        ∗ (Owes c l -∗ atPos E (barCell c) (0 + 1) ∅ 0 -∗ nbrPay E (nxt 0 c) 0 -∗ nbrPay E (nxt 1 c) 1 -∗ Kt ⟨⟩))
      ⊢ WP c barWait Kt := by
  unfold barWait semWaitWord Owes
  iintro ⟨#HI, #Hlev, Hat, Hc, ⟨%W, HO⟩, Hk⟩
  iapply (Rounds.wp_wait_rest_token 𝒱₀ E (sched E X) (c : Thread nD τ) none (κ := κ (barCell c))
      (wpE_semWait_eq 𝒱₀ (c : Thread nD τ) none Set.univ) (Set.mem_univ _) () (O := owe c l) (W := W) (R := 0) (m := 0) (T := ∅)
      ((Nat.zero_add 3).trans (expect_bar E X c).symm)) $$ [Hc HO Hat]
  · isplitr; · iapply (inv_at E X κ (bar_mem _)); iexact HI
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar E X c)) $$ Hpay
  icases Hp with ⟨H1, -, H0⟩
  rw [wp_ret]
  imodintro
  iapply Hk $$ [HO] [Hat] [H0] [H1]
  · iexists _; iexact HO
  · iexact Hat
  · iexact H0
  · iexact H1

/-! ## Transfers -/

theorem wp_send (κ : GSem nD τ sig → ℕ) (c : Dev nD) (e d : Fin 2) (k : Fin 3) (t : Dev nD) (ht : t = nxt d c)
    (src : Memref sig .tc .vmem S512x512 .bf16) (hs : src.view.WordExact) (hsrc : src = srcOf e c d k) (l : List Due) (Kt : PUnit → sProp 𝕄) :
    iprop(Inv E X κ ∗ ready E c e d k ∗ slotPay E (nxt d c) e d k ∗ sndPay X c e d k ∗ Owes c (.rcv e d k :: l)
        ∗ (flying E c e d k -∗ Owes c l -∗ Kt ⟨⟩))
      ⊢ WP c (send e d k t src hs) Kt := by
  subst ht hsrc
  unfold send Owes ready slotPay sndPay owns
  iintro ⟨#HI, ⟨HtS, HtN, #HrS, HatS, HatR, HcR⟩, ⟨Hslot, #HrN⟩, ⟨%fs, %hfs, Hsrc⟩, ⟨%W, HO⟩, Hk⟩
  ihave Hslot := (pts_of_some _ _) $$ Hslot
  icases Hslot with ⟨%fd, Hslot⟩
  iapply (Rounds.wp_send_pointsTo 𝒱₀ E (sched E X) (c : Thread nD τ) none (c' := (nxt d c : Thread nD τ)) (src := srcOf e c d k) (dst := com e d k)
      (sS := .dma (sndS e d k)) (sem := .dma (rcvS e d k)) (q := fullShare) (fs := fs) (κ₁ := κ (sndCell c e d k)) (κ₂ := κ (rcvCell (nxt d c) e d k))
      (r₁ := 0) (r₂ := 0) (d₁ := 0) (d₂ := 0) (fd := fd)
      (by rw [duties_dma]; exact Finset.mem_singleton_self _) (by rw [duties_dma]; exact Finset.mem_singleton_self _)
      () () N rfl rfl rfl (owe c l) (add_comm _ _) (W := W)
      (by rw [payload_snd]; unfold sndPay; rw [← hfs]; exact owns_intro _ _ _ _)
      (by rw [payload_rcv]; unfold rcvPay; rw [prv_nxt, ← hfs]
          refine (owns_intro _ _ _ _).trans ?_
          rw [View.read_write_univ])) $$ [Hsrc Hslot HO HtS HtN]
  · isplitr; · iapply (inv_at E X κ (snd_mem c e d k)); iexact HI
    isplitr; · iapply (inv_at E X κ (rcv_mem (nxt d c) e d k)); iexact HI
    isplitl [Hsrc]; · iexact Hsrc
    isplitl [Hslot]; · iexact Hslot
    isplitl [HO]; · iexact HO
    isplitl [HtS]; · iexact HtS
    isplitr; · iexact HrS
    isplitl [HtN]; · iexact HtN
    iexact HrN
  iintro ⟨HcS, HO⟩
  rw [wp_ret]
  imodintro
  iapply Hk $$ [HatS HatR HcS HcR] [HO]
  · unfold flying
    isplitl [HatS]; · iexact HatS
    isplitl [HatR]; · iexact HatR
    isplitl [HcS] <;> iassumption
  · iexists W; iexact HO

theorem srcOf_credit (e : Fin 2) (c : Dev nD) (d : Fin 2) (k : Fin 3) : (srcOf e c d k).view.dmaCredit = N := by
  fin_cases e <;> fin_cases k <;> rfl

theorem wp_waits (κ : GSem nD τ sig → ℕ) (c : Dev nD) (e d : Fin 2) (k : Fin 3)
    (src : Memref sig .tc .vmem S512x512 .bf16) (hs : src.view.WordExact) (hsrc : src = srcOf e c d k) (l : List Due) (hl : ∀ x ∈ l, 6 + 3 * e.val + k.val < x.lvl) (Kt : PUnit → sProp 𝕄) :
    iprop(Inv E X κ ∗ levAts L lv ∗ flying E c e d k ∗ Owes c l
        ∗ (Owes c l -∗ over E c e d k -∗ sndPay X c e d k -∗ rcvPay X c e d k -∗ Kt ⟨⟩))
      ⊢ WP c (waits e d k src hs) Kt := by
  have hN : src.view.dmaCredit = N := by rw [hsrc, srcOf_credit]
  have hN' : (com e d k).view.dmaCredit = N := rfl
  unfold waits Owes flying WP
  iintro ⟨#HI, #Hlev, ⟨HatS, HatR, HcS, HcR⟩, ⟨%W, HO⟩, Hk⟩
  rw [wp_bind]
  iapply (Rounds.wp_wait_rest_token 𝒱₀ E (sched E X) (c : Thread nD τ) none (κ := κ (sndCell c e d k))
      (wpE_waitDma2_eq 𝒱₀ (c : Thread nD τ) none Set.univ) (Set.mem_univ _) () (O := owe c l) (W := W) (R := 0) (m := 0) (T := ∅)
      ((Nat.zero_add _).trans (hN.trans (expect_dma E X c _).symm))) $$ [HcS HO HatS]
  · isplitr; · iapply (inv_at E X κ (snd_mem c e d k)); iexact HI
    isplitl [HcS]; · rw [hN]; iexact HcS
    isplitl [HO]; · iexact HO
    isplitr
    · iapply (mayWait c (.dma (sndS e d k)) l (fun x hx => by rw [lv_snd]; exact lt_of_le_of_lt (Nat.zero_le _) (hl x hx))); iexact Hlev
    iexact HatS
  iintro ⟨HO, HatS, -, Hp⟩
  ihave HpS := (Entails.of_eq (rest_snd E X c e d k)) $$ Hp
  rw [wp_ret]
  imodintro
  iapply (Rounds.wp_wait_rest_token 𝒱₀ E (sched E X) (c : Thread nD τ) none (κ := κ (rcvCell c e d k))
      (wpE_waitDma2_eq 𝒱₀ (c : Thread nD τ) none Set.univ) (Set.mem_univ _) () (O := owe c l) (R := 0) (m := 0) (T := ∅)
      ((Nat.zero_add _).trans (hN'.trans (expect_dma E X c _).symm))) $$ [HcR HO HatR]
  · isplitr; · iapply (inv_at E X κ (rcv_mem c e d k)); iexact HI
    isplitl [HcR]; · rw [hN']; iexact HcR
    isplitl [HO]; · iexact HO
    isplitr
    · iapply (mayWait c (.dma (rcvS e d k)) l (fun x hx => by rw [lv_rcv]; exact hl x hx)); iexact Hlev
    iexact HatR
  iintro ⟨HO, HatR, -, Hp⟩
  ihave HpR := (Entails.of_eq (rest_rcv E X c e d k)) $$ Hp
  rw [wp_ret]
  imodintro
  iapply Hk $$ [HO] [HatS HatR] [HpS] [HpR]
  · iexists _; iexact HO
  · unfold over; isplitl [HatS] <;> iassumption
  · iexact HpS
  · iexact HpR

end Cert.KernelIdeal.AR

end
-- ==== Proof.KernelIdeal.ArPieces.lean ====
/- The all-reduce kernel's local pieces: rounding the operand, loading a landing slot, accumulating, staging, writing a block of the
   result; and the three kinds of step built of them. -/
module

public import proofs.«01_k».proof.Proof.KernelIdeal.ArSteps

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

theorem zero_emb (i : S2048x1024.Idx) :
    (Rect.unit (s := S2048x1024) ![0, 0] S2048x1024.size inb_S2048x1024_S2048x1024_0_0).emb i = i := by
  funext a
  refine Fin.ext ?_
  fin_cases a
  · show 0 + 1 * (i 0).val = (i 0).val; omega
  · show 0 + 1 * (i 1).val = (i 1).val; omega

/-! ## The pieces -/

section Pieces

variable (c : Dev nD)

theorem wp_toBf16 {x : FVec F S2048x1024 .f32} {Kt : PUnit → sProp 𝕄} :
    iprop(owns (c : Thread nD τ) inM fullShare x ∗ some' c pbM
        ∗ (owns (c : Thread nD τ) inM fullShare x -∗ owns (c : Thread nD τ) pbM fullShare (truncf .bf16 x bitsLt_bf16_f32) -∗ Kt ⟨⟩))
      ⊢ WP c toBf16 Kt := by
  unfold toBf16
  iintro ⟨Hx, ⟨%y, Hp⟩, Hk⟩
  iapply (wp_load_in c inM _ (Y := x))
  isplitl [Hx]; · iexact Hx
  iintro Hx
  iapply (wp_load_in c pbM _ (Y := y))
  isplitl [Hp]; · iexact Hp
  iintro Hp
  iapply (wp_store_in c pbM _ (Y := y))
  isplitl [Hp]; · iexact Hp
  iintro %y' %hy Hp
  unfold WP
  rw [wp_ret]
  imodintro
  have e : y' = truncf .bf16 x bitsLt_bf16_f32 := by
    funext i
    have h := hy.1 i
    rw [zero_emb, shapeCast_self, shapeCast_self] at h
    rw [h]
    exact congrFun (congrArg (fun z => truncf .bf16 z bitsLt_bf16_f32) (funext fun j => congrArg x (zero_emb j))) i
  subst e
  iapply Hk $$ [Hx] [Hp]
  · iexact Hx
  · iexact Hp

theorem wp_loadCom (e d : Fin 2) (k : Fin 3) {q : PosShare TreeShare} {Y : FVec F S512x512 .bf16} {Kt : FVec F S512x512 .bf16 → sProp 𝕄} :
    iprop(owns (c : Thread nD τ) (com e d k) q Y ∗ (owns (c : Thread nD τ) (com e d k) q Y -∗ Kt Y)) ⊢ WP c (loadCom e d k) Kt := by
  unfold loadCom
  iintro ⟨H, Hk⟩
  iapply (wp_load_slab c (comM e) (comR d k) (fun _ => rfl) squeezes_S1x1x512x512_S512x512 shapeCasts_S1x1x512x512_S512x512 (q := q) (Y := Y))
  isplitl [H]; · iexact H
  iintro %v %hv H
  unfold WP
  simp only [Pure.pure, Prog.bind, wp_ret, hv]
  imodintro
  iapply Hk
  iexact H

/-- A load of block `(r, d)` of the operand. -/
theorem wp_load_blk (r : Fin 4) (d : Fin 2) {hl : inM.view.LoadsAt (blkR r d).toLoadRect} {α : Type} {k : ((blkR r d).shape.Idx → Elt F .f32) → Pr F α} {Q : α → sProp 𝕄}
    {q : PosShare TreeShare} {x : FVec F S2048x1024 .f32} :
    iprop(owns (c : Thread nD τ) inM q x ∗ (owns (c : Thread nD τ) inM q x -∗ WP c (k (blk r d x)) Q))
      ⊢ WP c (.op (.load inM (blkR r d).toLoadRect hl) k) Q := wp_load_in c inM (blkR r d)

theorem wp_accum (d : Fin 2) (k : Fin 3) (off : Fin 2 → Nat) (h : ∀ a, off a + S512x512.size a ≤ S2048x1024.size a) (r : Fin 4)
    (hoff : off = ![512 * r.val, 512 * d.val]) {q : PosShare TreeShare} {Y : FVec F S512x512 .bf16} {x : FVec F S2048x1024 .f32}
    {Kt : FVec F S512x512 .f32 → sProp 𝕄} :
    iprop(owns (c : Thread nD τ) (com 0 d k) q Y ∗ owns (c : Thread nD τ) inM fullShare x
        ∗ (owns (c : Thread nD τ) (com 0 d k) q Y -∗ owns (c : Thread nD τ) inM fullShare x -∗ Kt (addf (extf .f32 Y bitsLt_bf16_f32) (blk r d x))))
      ⊢ WP c (accum d k off h) Kt := by
  subst hoff
  unfold accum WP
  iintro ⟨H, Hx, Hk⟩
  rw [wp_bind]
  iapply (wp_loadCom c 0 d k (q := q) (Y := Y))
  isplitl [H]; · iexact H
  iintro H
  iapply (wp_load_blk c r d (x := x))
  isplitl [Hx]; · iexact Hx
  iintro Hx
  unfold WP
  simp only [Pure.pure, Prog.bind, wp_ret]
  imodintro
  rw [shapeCast_self]
  iapply Hk $$ [H] [Hx]
  · iexact H
  · iexact Hx

theorem wp_putStg (d k : Fin 2) (v : FVec F S512x512 .f32) {Kt : PUnit → sProp 𝕄} :
    iprop(some' c (stg d k) ∗ (owns (c : Thread nD τ) (stg d k) fullShare (truncf .bf16 v bitsLt_bf16_f32) -∗ Kt ⟨⟩)) ⊢ WP c (putStg d k v) Kt := by
  unfold putStg
  iintro ⟨⟨%y, H⟩, Hk⟩
  iapply (wp_load_slab c stgM (stgR d k) (fun _ => rfl) squeezes_S1x1x512x512_S512x512 shapeCasts_S1x1x512x512_S512x512 (q := fullShare) (Y := y))
  isplitl [H]; · iexact H
  iintro %_ - H
  iapply (wp_store_slab c stgM (stgR d k) (fun _ => rfl) squeezes_S1x1x512x512_S512x512 shapeCasts_S512x512_S1x1x512x512)
  isplitl [H]; · iexists _; iexact H
  iintro H
  unfold WP
  rw [wp_ret]
  imodintro
  iapply Hk
  iexact H

theorem wp_putAgs (d : Fin 2) (v : FVec F S512x512 .f32) {Kt : PUnit → sProp 𝕄} :
    iprop(some' c (ags d) ∗ (owns (c : Thread nD τ) (ags d) fullShare (truncf .bf16 v bitsLt_bf16_f32) -∗ Kt ⟨⟩)) ⊢ WP c (putAgs d v) Kt := by
  unfold putAgs
  iintro ⟨⟨%y, H⟩, Hk⟩
  iapply (wp_load_slab c agsM (agsR d) (fun _ => rfl) squeezes_S1x512x512_S512x512 (shapeCasts_S512x512_S1x512x512.symm) (q := fullShare) (Y := y))
  isplitl [H]; · iexact H
  iintro %_ - H
  iapply (wp_store_slab c agsM (agsR d) (fun _ => rfl) squeezes_S1x512x512_S512x512 shapeCasts_S512x512_S1x512x512)
  isplitl [H]; · iexists _; iexact H
  iintro H
  unfold WP
  rw [wp_ret]
  imodintro
  iapply Hk
  iexact H

variable (X : Dev nD → FVec F S2048x1024 .f32)

/-- The result's buffer, right on the blocks of `S`. -/
def outSt (S : Finset (Fin 4 × Fin 2)) : sProp 𝕄 :=
  iprop(∃ f, ⌜∀ p ∈ S, blk p.1 p.2 f = outB X c p.1 p.2⌝ ∗ owns (c : Thread nD τ) outM fullShare f)

theorem blkR_disjoint (p p' : Fin 4 × Fin 2) (h : p ≠ p') : Disjoint (blkR p.1 p.2).set (blkR p'.1 p'.2).set := by
  by_cases h1 : p.1 = p'.1
  · have h2 : p.2.val ≠ p'.2.val := fun e => h (Prod.ext h1 (Fin.ext e))
    refine Rect.unit_disjoint 1 ?_
    show 512 * p.2.val + 512 ≤ 512 * p'.2.val ∨ 512 * p'.2.val + 512 ≤ 512 * p.2.val
    omega
  · have h2 : p.1.val ≠ p'.1.val := fun e => h1 (Fin.ext e)
    refine Rect.unit_disjoint 0 ?_
    show 512 * p.1.val + 512 ≤ 512 * p'.1.val ∨ 512 * p'.1.val + 512 ≤ 512 * p.1.val
    omega

theorem wp_putOut (off : Fin 2 → Nat) (h : ∀ a, off a + S512x512.size a ≤ S2048x1024.size a) (r : Fin 4) (d : Fin 2)
    (hoff : off = ![512 * r.val, 512 * d.val]) (v : FVec F S512x512 .f32) (hv : v = outB X c r d) (S : Finset (Fin 4 × Fin 2)) {Kt : PUnit → sProp 𝕄} :
    iprop(outSt c X S ∗ (outSt c X (insert (r, d) S) -∗ Kt ⟨⟩)) ⊢ WP c (putOut off h v) Kt := by
  subst hoff
  unfold putOut outSt
  iintro ⟨⟨%f, %hf, H⟩, Hk⟩
  iapply (wp_load_in c outM _ (Y := f))
  isplitl [H]; · iexact H
  iintro H
  iapply (wp_store_in c outM _ (Y := f))
  isplitl [H]; · iexact H
  iintro %y' %hy H
  unfold WP
  rw [wp_ret]
  imodintro
  iapply Hk
  iexists y'
  isplitr
  · ipureintro
    intro p hp
    by_cases hpp : p = (r, d)
    · subst hpp
      exact (funext hy.1).trans hv
    · rw [← hf p (Finset.mem_of_mem_insert_of_ne hp hpp)]
      funext x
      refine hy.2 _ fun hm => Finset.disjoint_left.mp (blkR_disjoint p (r, d) hpp)
        ((Rect.map_emb_univ _).le (Finset.mem_map_of_mem _ (Finset.mem_univ x))) ((Rect.map_emb_univ _).le hm)
  · iexact H

end Pieces

/-! ## The steps -/

section Steps

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32)
variable (κ : GSem nD τ sig → ℕ) (c : Dev nD)

theorem wp_mid (d k : Fin 2) (off : Fin 2 → Nat) (h : ∀ a, off a + S512x512.size a ≤ S2048x1024.size a)
    (hoff : off = ![512 * (rowRS d c k.castSucc).val, 512 * d.val])
    (src : Memref sig .tc .vmem S512x512 .bf16) (hs : src.view.WordExact) (hsrc : src = srcOf 0 c d k.castSucc)
    (l : List Due) (hl : ∀ x ∈ l, 6 + 3 * (0 : Fin 2).val + k.castSucc.val < x.lvl) (Kt : PUnit → sProp 𝕄) :
    iprop(Inv E X κ ∗ levAts L lv ∗ flying E c 0 d k.castSucc ∗ Owes c l ∗ owns (c : Thread nD τ) inM fullShare (X c) ∗ some' c (stg d k)
        ∗ (Owes c l -∗ over E c 0 d k.castSucc -∗ sndPay X c 0 d k.castSucc -∗ rcvPay X c 0 d k.castSucc
            -∗ owns (c : Thread nD τ) inM fullShare (X c) -∗ owns (c : Thread nD τ) (stg d k) fullShare (sent X 0 c d k.succ) -∗ Kt ⟨⟩))
      ⊢ WP c (mid d k off h src hs) Kt := by
  unfold mid WP
  iintro ⟨HI, Hlev, Hf, HO, Hx, Hs, Hk⟩
  rw [wp_bind]
  iapply (wp_waits E X κ c 0 d k.castSucc src hs hsrc l hl)
  isplitl [HI]; · iexact HI
  isplitl [Hlev]; · iexact Hlev
  isplitl [Hf]; · iexact Hf
  isplitl [HO]; · iexact HO
  iintro HO Hov HpS HpR
  rw [wp_bind]
  unfold rcvPay
  iapply (wp_accum c d k.castSucc off h _ hoff (x := X c))
  isplitl [HpR]; · iexact HpR
  isplitl [Hx]; · iexact Hx
  iintro HpR Hx
  iapply (wp_putStg c d k _)
  isplitl [Hs]; · iexact Hs
  iintro Hs
  iapply Hk $$ [HO] [Hov] [HpS] [HpR] [Hx] [Hs]
  · iexact HO
  · iexact Hov
  · iexact HpS
  · iexact HpR
  · iexact Hx
  · rw [sent_acc]; iexact Hs

theorem wp_fin (d : Fin 2) (off : Fin 2 → Nat) (h : ∀ a, off a + S512x512.size a ≤ S2048x1024.size a)
    (hoff : off = ![512 * (rowRS d c 2).val, 512 * d.val])
    (src : Memref sig .tc .vmem S512x512 .bf16) (hs : src.view.WordExact) (hsrc : src = srcOf 0 c d 2)
    (l : List Due) (hl : ∀ x ∈ l, 6 + 3 * (0 : Fin 2).val + (2 : Fin 3).val < x.lvl) (S : Finset (Fin 4 × Fin 2)) (Kt : PUnit → sProp 𝕄) :
    iprop(Inv E X κ ∗ levAts L lv ∗ flying E c 0 d 2 ∗ Owes c l ∗ owns (c : Thread nD τ) inM fullShare (X c) ∗ some' c (ags d) ∗ outSt c X S
        ∗ (Owes c l -∗ over E c 0 d 2 -∗ sndPay X c 0 d 2 -∗ rcvPay X c 0 d 2
            -∗ owns (c : Thread nD τ) inM fullShare (X c) -∗ owns (c : Thread nD τ) (ags d) fullShare (sent X 1 c d 0)
            -∗ outSt c X (insert (rowRS d c 2, d) S) -∗ Kt ⟨⟩))
      ⊢ WP c (fin d off h src hs) Kt := by
  unfold fin WP
  iintro ⟨HI, Hlev, Hf, HO, Hx, Hs, Ho, Hk⟩
  rw [wp_bind]
  iapply (wp_waits E X κ c 0 d 2 src hs hsrc l hl)
  isplitl [HI]; · iexact HI
  isplitl [Hlev]; · iexact Hlev
  isplitl [Hf]; · iexact Hf
  isplitl [HO]; · iexact HO
  iintro HO Hov HpS HpR
  rw [wp_bind]
  unfold rcvPay
  iapply (wp_accum c d 2 off h _ hoff (x := X c))
  isplitl [HpR]; · iexact HpR
  isplitl [Hx]; · iexact Hx
  iintro HpR Hx
  rw [wp_bind]
  iapply (wp_putOut c X off h (rowRS d c 2) d hoff _ (outB_own X c d).symm S)
  isplitl [Ho]; · iexact Ho
  iintro Ho
  iapply (wp_putAgs c d _)
  isplitl [Hs]; · iexact Hs
  iintro Hs
  iapply Hk $$ [HO] [Hov] [HpS] [HpR] [Hx] [Hs] [Ho]
  · iexact HO
  · iexact Hov
  · iexact HpS
  · iexact HpR
  · iexact Hx
  · iexact Hs
  · iexact Ho

theorem wp_gat (d : Fin 2) (k : Fin 3) (off : Fin 2 → Nat) (h : ∀ a, off a + S512x512.size a ≤ S2048x1024.size a)
    (hoff : off = ![512 * (rowAG d c k).val, 512 * d.val])
    (src : Memref sig .tc .vmem S512x512 .bf16) (hs : src.view.WordExact) (hsrc : src = srcOf 1 c d k)
    (l : List Due) (hl : ∀ x ∈ l, 6 + 3 * (1 : Fin 2).val + k.val < x.lvl) (S : Finset (Fin 4 × Fin 2)) (Kt : PUnit → sProp 𝕄) :
    iprop(Inv E X κ ∗ levAts L lv ∗ flying E c 1 d k ∗ Owes c l ∗ outSt c X S
        ∗ (Owes c l -∗ over E c 1 d k -∗ sndPay X c 1 d k -∗ rcvPay X c 1 d k -∗ outSt c X (insert (rowAG d c k, d) S) -∗ Kt ⟨⟩))
      ⊢ WP c (gat d k off h src hs) Kt := by
  unfold gat WP
  iintro ⟨HI, Hlev, Hf, HO, Ho, Hk⟩
  rw [wp_bind]
  iapply (wp_waits E X κ c 1 d k src hs hsrc l hl)
  isplitl [HI]; · iexact HI
  isplitl [Hlev]; · iexact Hlev
  isplitl [Hf]; · iexact Hf
  isplitl [HO]; · iexact HO
  iintro HO Hov HpS HpR
  rw [wp_bind]
  unfold rcvPay
  iapply (wp_loadCom c 1 d k)
  isplitl [HpR]; · iexact HpR
  iintro HpR
  iapply (wp_putOut c X off h (rowAG d c k) d hoff _ (outB_recv X c d k).symm S)
  isplitl [Ho]; · iexact Ho
  iintro Ho
  iapply Hk $$ [HO] [Hov] [HpS] [HpR] [Ho]
  · iexact HO
  · iexact Hov
  · iexact HpS
  · iexact HpR
  · iexact Ho

end Steps

end Cert.KernelIdeal.AR

end
-- ==== Proof.KernelIdeal.ArBody.lean ====
/- The all-reduce kernel's body at a symbolic device: the entry barrier, the rounds, and the whole. -/
module

public import proofs.«01_k».proof.Proof.KernelIdeal.ArPieces

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32)
variable (κ : GSem nD τ sig → ℕ) (c : Dev nD)

/-! ## The rounds -/

/-- What a round's transfer of direction `d` takes beside its source, and what it leaves beside it. -/
def tkt (e d : Fin 2) (k : Fin 3) : sProp 𝕄 := iprop(ready E c e d k ∗ slotPay E (nxt d c) e d k)
def got (e d : Fin 2) (k : Fin 3) : sProp 𝕄 := iprop(over E c e d k ∗ sndPay X c e d k)

theorem rs_next (d k : Fin 2) : (owns (c : Thread nD τ) (stg d k) fullShare (sent X 0 c d k.succ) : sProp 𝕄) = sndPay X c 0 d k.succ := by
  unfold sndPay; fin_cases k <;> rfl
theorem ag_first (d : Fin 2) : (owns (c : Thread nD τ) (ags d) fullShare (sent X 1 c d 0) : sProp 𝕄) = sndPay X c 1 d 0 := rfl
theorem ag_next (d k : Fin 2) : (rcvPay X c 1 d k.castSucc : sProp 𝕄) = sndPay X c 1 d k.succ := by
  unfold sndPay rcvPay; fin_cases k <;> rfl

theorem wp_rsRound (k : Fin 2) (t t' : Dev nD) (ht : t = nxt 0 c) (ht' : t' = nxt 1 c)
    (src : Src) (hs : src.view.WordExact) (src' : Src) (hs' : src'.view.WordExact) (hsrc : src = srcOf 0 c 0 k.castSucc) (hsrc' : src' = srcOf 0 c 1 k.castSucc)
    (off : Fin 2 → Nat) (h : ∀ a, off a + S512x512.size a ≤ S2048x1024.size a) (off' : Fin 2 → Nat) (h' : ∀ a, off' a + S512x512.size a ≤ S2048x1024.size a)
    (hoff : off = ![512 * (rowRS 0 c k.castSucc).val, 512 * (0 : Fin 2).val]) (hoff' : off' = ![512 * (rowRS 1 c k.castSucc).val, 512 * (1 : Fin 2).val])
    (l : List Due) (hl : ∀ x ∈ l, 6 + 3 * (0 : Fin 2).val + k.castSucc.val < x.lvl) (Kt : PUnit → sProp 𝕄) :
    iprop(Inv E X κ ∗ levAts L lv ∗ tkt E c 0 0 k.castSucc ∗ tkt E c 0 1 k.castSucc ∗ sndPay X c 0 0 k.castSucc ∗ sndPay X c 0 1 k.castSucc
        ∗ some' c (stg 0 k) ∗ some' c (stg 1 k) ∗ owns (c : Thread nD τ) inM fullShare (X c) ∗ Owes c (.rcv 0 0 k.castSucc :: .rcv 0 1 k.castSucc :: l)
        ∗ (got E X c 0 0 k.castSucc -∗ got E X c 0 1 k.castSucc -∗ rcvPay X c 0 0 k.castSucc -∗ rcvPay X c 0 1 k.castSucc
            -∗ sndPay X c 0 0 k.succ -∗ sndPay X c 0 1 k.succ -∗ owns (c : Thread nD τ) inM fullShare (X c) -∗ Owes c l -∗ Kt ⟨⟩))
      ⊢ WP c (rsRound k t t' src hs src' hs' off h off' h') Kt := by
  unfold rsRound WP tkt got
  iintro ⟨#HI, #Hlev, ⟨HR0, HT0⟩, ⟨HR1, HT1⟩, HS0, HS1, Hg0, Hg1, Hx, HO, Hk⟩
  rw [wp_bind]
  iapply (wp_send E X κ c 0 0 k.castSucc t ht src hs hsrc _)
  isplitr; · iexact HI
  isplitl [HR0]; · iexact HR0
  isplitl [HT0]; · iexact HT0
  isplitl [HS0]; · iexact HS0
  isplitl [HO]; · iexact HO
  iintro HF0 HO
  rw [wp_bind]
  iapply (wp_send E X κ c 0 1 k.castSucc t' ht' src' hs' hsrc' _)
  isplitr; · iexact HI
  isplitl [HR1]; · iexact HR1
  isplitl [HT1]; · iexact HT1
  isplitl [HS1]; · iexact HS1
  isplitl [HO]; · iexact HO
  iintro HF1 HO
  rw [wp_bind]
  iapply (wp_mid E X κ c 0 k off h hoff src hs hsrc l hl)
  isplitr; · iexact HI
  isplitr; · iexact Hlev
  isplitl [HF0]; · iexact HF0
  isplitl [HO]; · iexact HO
  isplitl [Hx]; · iexact Hx
  isplitl [Hg0]; · iexact Hg0
  iintro HO Hv0 HS0 Hr0 Hx Hg0
  iapply (wp_mid E X κ c 1 k off' h' hoff' src' hs' hsrc' l hl)
  isplitr; · iexact HI
  isplitr; · iexact Hlev
  isplitl [HF1]; · iexact HF1
  isplitl [HO]; · iexact HO
  isplitl [Hx]; · iexact Hx
  isplitl [Hg1]; · iexact Hg1
  iintro HO Hv1 HS1 Hr1 Hx Hg1
  iapply Hk $$ [Hv0 HS0] [Hv1 HS1] [Hr0] [Hr1] [Hg0] [Hg1] [Hx] [HO]
  · isplitl [Hv0] <;> iassumption
  · isplitl [Hv1] <;> iassumption
  · iexact Hr0
  · iexact Hr1
  · rw [← rs_next]; iexact Hg0
  · rw [← rs_next]; iexact Hg1
  all_goals iassumption

theorem wp_endRound (t t' : Dev nD) (ht : t = nxt 0 c) (ht' : t' = nxt 1 c)
    (src : Src) (hs : src.view.WordExact) (src' : Src) (hs' : src'.view.WordExact) (hsrc : src = srcOf 0 c 0 2) (hsrc' : src' = srcOf 0 c 1 2)
    (off : Fin 2 → Nat) (h : ∀ a, off a + S512x512.size a ≤ S2048x1024.size a) (off' : Fin 2 → Nat) (h' : ∀ a, off' a + S512x512.size a ≤ S2048x1024.size a)
    (hoff : off = ![512 * (rowRS 0 c 2).val, 512 * (0 : Fin 2).val]) (hoff' : off' = ![512 * (rowRS 1 c 2).val, 512 * (1 : Fin 2).val])
    (l : List Due) (hl : ∀ x ∈ l, 6 + 3 * (0 : Fin 2).val + (2 : Fin 3).val < x.lvl) (S : Finset (Fin 4 × Fin 2)) (Kt : PUnit → sProp 𝕄) :
    iprop(Inv E X κ ∗ levAts L lv ∗ tkt E c 0 0 2 ∗ tkt E c 0 1 2 ∗ sndPay X c 0 0 2 ∗ sndPay X c 0 1 2
        ∗ some' c (ags 0) ∗ some' c (ags 1) ∗ owns (c : Thread nD τ) inM fullShare (X c) ∗ outSt c X S ∗ Owes c (.rcv 0 0 2 :: .rcv 0 1 2 :: l)
        ∗ (got E X c 0 0 2 -∗ got E X c 0 1 2 -∗ rcvPay X c 0 0 2 -∗ rcvPay X c 0 1 2
            -∗ sndPay X c 1 0 0 -∗ sndPay X c 1 1 0 -∗ owns (c : Thread nD τ) inM fullShare (X c)
            -∗ outSt c X (insert (rowRS 1 c 2, 1) (insert (rowRS 0 c 2, 0) S)) -∗ Owes c l -∗ Kt ⟨⟩))
      ⊢ WP c (endRound t t' src hs src' hs' off h off' h') Kt := by
  unfold endRound WP tkt got
  iintro ⟨#HI, #Hlev, ⟨HR0, HT0⟩, ⟨HR1, HT1⟩, HS0, HS1, Hg0, Hg1, Hx, Ho, HO, Hk⟩
  rw [wp_bind]
  iapply (wp_send E X κ c 0 0 2 t ht src hs hsrc _)
  isplitr; · iexact HI
  isplitl [HR0]; · iexact HR0
  isplitl [HT0]; · iexact HT0
  isplitl [HS0]; · iexact HS0
  isplitl [HO]; · iexact HO
  iintro HF0 HO
  rw [wp_bind]
  iapply (wp_send E X κ c 0 1 2 t' ht' src' hs' hsrc' _)
  isplitr; · iexact HI
  isplitl [HR1]; · iexact HR1
  isplitl [HT1]; · iexact HT1
  isplitl [HS1]; · iexact HS1
  isplitl [HO]; · iexact HO
  iintro HF1 HO
  rw [wp_bind]
  iapply (wp_fin E X κ c 0 off h hoff src hs hsrc l hl S)
  isplitr; · iexact HI
  isplitr; · iexact Hlev
  isplitl [HF0]; · iexact HF0
  isplitl [HO]; · iexact HO
  isplitl [Hx]; · iexact Hx
  isplitl [Hg0]; · iexact Hg0
  isplitl [Ho]; · iexact Ho
  iintro HO Hv0 HS0 Hr0 Hx Hg0 Ho
  iapply (wp_fin E X κ c 1 off' h' hoff' src' hs' hsrc' l hl _)
  isplitr; · iexact HI
  isplitr; · iexact Hlev
  isplitl [HF1]; · iexact HF1
  isplitl [HO]; · iexact HO
  isplitl [Hx]; · iexact Hx
  isplitl [Hg1]; · iexact Hg1
  isplitl [Ho]; · iexact Ho
  iintro HO Hv1 HS1 Hr1 Hx Hg1 Ho
  iapply Hk $$ [Hv0 HS0] [Hv1 HS1] [Hr0] [Hr1] [Hg0] [Hg1] [Hx] [Ho] [HO]
  · isplitl [Hv0] <;> iassumption
  · isplitl [Hv1] <;> iassumption
  · iexact Hr0
  · iexact Hr1
  · rw [← ag_first]; iexact Hg0
  · rw [← ag_first]; iexact Hg1
  all_goals iassumption

theorem wp_agRound (k : Fin 3) (t t' : Dev nD) (ht : t = nxt 0 c) (ht' : t' = nxt 1 c)
    (src : Src) (hs : src.view.WordExact) (src' : Src) (hs' : src'.view.WordExact) (hsrc : src = srcOf 1 c 0 k) (hsrc' : src' = srcOf 1 c 1 k)
    (off : Fin 2 → Nat) (h : ∀ a, off a + S512x512.size a ≤ S2048x1024.size a) (off' : Fin 2 → Nat) (h' : ∀ a, off' a + S512x512.size a ≤ S2048x1024.size a)
    (hoff : off = ![512 * (rowAG 0 c k).val, 512 * (0 : Fin 2).val]) (hoff' : off' = ![512 * (rowAG 1 c k).val, 512 * (1 : Fin 2).val])
    (l : List Due) (hl : ∀ x ∈ l, 6 + 3 * (1 : Fin 2).val + k.val < x.lvl) (S : Finset (Fin 4 × Fin 2)) (Kt : PUnit → sProp 𝕄) :
    iprop(Inv E X κ ∗ levAts L lv ∗ tkt E c 1 0 k ∗ tkt E c 1 1 k ∗ sndPay X c 1 0 k ∗ sndPay X c 1 1 k
        ∗ outSt c X S ∗ Owes c (.rcv 1 0 k :: .rcv 1 1 k :: l)
        ∗ (got E X c 1 0 k -∗ got E X c 1 1 k -∗ rcvPay X c 1 0 k -∗ rcvPay X c 1 1 k
            -∗ outSt c X (insert (rowAG 1 c k, 1) (insert (rowAG 0 c k, 0) S)) -∗ Owes c l -∗ Kt ⟨⟩))
      ⊢ WP c (agRound k t t' src hs src' hs' off h off' h') Kt := by
  unfold agRound WP tkt got
  iintro ⟨#HI, #Hlev, ⟨HR0, HT0⟩, ⟨HR1, HT1⟩, HS0, HS1, Ho, HO, Hk⟩
  rw [wp_bind]
  iapply (wp_send E X κ c 1 0 k t ht src hs hsrc _)
  isplitr; · iexact HI
  isplitl [HR0]; · iexact HR0
  isplitl [HT0]; · iexact HT0
  isplitl [HS0]; · iexact HS0
  isplitl [HO]; · iexact HO
  iintro HF0 HO
  rw [wp_bind]
  iapply (wp_send E X κ c 1 1 k t' ht' src' hs' hsrc' _)
  isplitr; · iexact HI
  isplitl [HR1]; · iexact HR1
  isplitl [HT1]; · iexact HT1
  isplitl [HS1]; · iexact HS1
  isplitl [HO]; · iexact HO
  iintro HF1 HO
  rw [wp_bind]
  iapply (wp_gat E X κ c 0 k off h hoff src hs hsrc l hl S)
  isplitr; · iexact HI
  isplitr; · iexact Hlev
  isplitl [HF0]; · iexact HF0
  isplitl [HO]; · iexact HO
  isplitl [Ho]; · iexact Ho
  iintro HO Hv0 HS0 Hr0 Ho
  iapply (wp_gat E X κ c 1 k off' h' hoff' src' hs' hsrc' l hl _)
  isplitr; · iexact HI
  isplitr; · iexact Hlev
  isplitl [HF1]; · iexact HF1
  isplitl [HO]; · iexact HO
  isplitl [Ho]; · iexact Ho
  iintro HO Hv1 HS1 Hr1 Ho
  iapply Hk $$ [Hv0 HS0] [Hv1 HS1] [Hr0] [Hr1] [Ho] [HO]
  · isplitl [Hv0] <;> iassumption
  · isplitl [Hv1] <;> iassumption
  all_goals iassumption

/-! ## The entry barrier -/

/-- Three tokens for the others' barriers, the own barrier at its start, the credit to wait for it. -/
def barStart : sProp 𝕄 :=
  iprop((reached E (barCell (up 1 c)) 0 ∗ dutyTok E (barCell (up 1 c)) 0 1) ∗ (reached E (barCell (up 2 c)) 0 ∗ dutyTok E (barCell (up 2 c)) 0 2)
    ∗ (reached E (barCell (up 3 c)) 0 ∗ dutyTok E (barCell (up 3 c)) 0 3) ∗ atPos E (barCell c) 0 ∅ 0 ∗ cred (tallyAt (barCell c) () 3))

theorem nxt_up (c : Dev nD) : nxt 1 (up 1 c) = c ∧ nxt 0 (up 3 c) = c := by revert c; decide

theorem wp_entry (t₁ t₂ t₃ : Dev nD) (h₁ : t₁ = up 1 c) (h₂ : t₂ = up 2 c) (h₃ : t₃ = up 3 c) (l : List Due) (hl : ∀ x ∈ l, 5 < x.lvl) (Kt : PUnit → sProp 𝕄) :
    iprop(Inv E X κ ∗ levAts L lv ∗ barStart E c ∗ nbrPay E c 0 ∗ nbrPay E c 1 ∗ Owes c (.bar 1 :: .bar 2 :: .bar 3 :: l)
        ∗ (Owes c l -∗ atPos E (barCell c) (0 + 1) ∅ 0 -∗ nbrPay E (nxt 0 c) 0 -∗ nbrPay E (nxt 1 c) 1 -∗ Kt ⟨⟩))
      ⊢ WP c (entry t₁ t₂ t₃) Kt := by
  have e1 : barPay E t₁ (1 : Fin 4).val = (nbrPay E c 1 : sProp 𝕄) := by
    subst h₁; unfold barPay; rw [if_neg (by decide), if_pos (by decide), (nxt_up c).1]
  have e2 : barPay E t₂ (2 : Fin 4).val = (iprop(emp) : sProp 𝕄) := by
    subst h₂; unfold barPay; rw [if_neg (by decide), if_neg (by decide)]
  have e3 : barPay E t₃ (3 : Fin 4).val = (nbrPay E c 0 : sProp 𝕄) := by
    subst h₃; unfold barPay; rw [if_pos (by decide), (nxt_up c).2]
  unfold entry WP barStart
  iintro ⟨#HI, #Hlev, ⟨⟨#Hr1, Ht1⟩, ⟨#Hr2, Ht2⟩, ⟨#Hr3, Ht3⟩, Hat, Hc⟩, Hn0, Hn1, HO, Hk⟩
  rw [wp_bind]
  iapply (wp_barSignal E X κ c 1 t₁ h₁ (by decide) _)
  isplitr; · iexact HI
  isplitr; · rw [h₁]; iexact Hr1
  isplitl [Ht1]; · rw [h₁]; iexact Ht1
  isplitl [Hn1]; · rw [e1]; iexact Hn1
  isplitl [HO]; · iexact HO
  iintro HO
  rw [wp_bind]
  iapply (wp_barSignal E X κ c 2 t₂ h₂ (by decide) _)
  isplitr; · iexact HI
  isplitr; · rw [h₂]; iexact Hr2
  isplitl [Ht2]; · rw [h₂]; iexact Ht2
  isplitr; · rw [e2]; iempintro
  isplitl [HO]; · iexact HO
  iintro HO
  rw [wp_bind]
  iapply (wp_barSignal E X κ c 3 t₃ h₃ (by decide) _)
  isplitr; · iexact HI
  isplitr; · rw [h₃]; iexact Hr3
  isplitl [Ht3]; · rw [h₃]; iexact Ht3
  isplitl [Hn0]; · rw [e3]; iexact Hn0
  isplitl [HO]; · iexact HO
  iintro HO
  iapply (wp_barWait E X κ c l hl)
  isplitr; · iexact HI
  isplitr; · iexact Hlev
  isplitl [Hat]; · iexact Hat
  isplitl [Hc]; · iexact Hc
  isplitl [HO]; · iexact HO
  iexact Hk

end Cert.KernelIdeal.AR

end
-- ==== Proof.KernelIdeal.ArRun.lean ====
/- The all-reduce kernel's body as a whole, at a symbolic device. -/
module

public import proofs.«01_k».proof.Proof.KernelIdeal.ArBody
public import Idealize.ShloMosaic.Lib.Ring.FamCut

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

/-! ## The printed devices and offsets -/

theorem devs (c : Dev nD) : (⟨k1_dev1 c, k1_dev1_lt c⟩ : Dev nD) = up 1 c ∧ (⟨k1_dev2 c, k1_dev2_lt c⟩ : Dev nD) = up 2 c ∧ (⟨k1_dev3 c, k1_dev3_lt c⟩ : Dev nD) = up 3 c := by
  revert c; decide
theorem devs0 (c : Dev nD) : (⟨k1_dev4 c, k1_dev4_lt c⟩ : Dev nD) = nxt 0 c ∧ (⟨k1_dev6 c, k1_dev6_lt c⟩ : Dev nD) = nxt 0 c ∧ (⟨k1_dev8 c, k1_dev8_lt c⟩ : Dev nD) = nxt 0 c
    ∧ (⟨k1_dev10 c, k1_dev10_lt c⟩ : Dev nD) = nxt 0 c ∧ (⟨k1_dev12 c, k1_dev12_lt c⟩ : Dev nD) = nxt 0 c ∧ (⟨k1_dev14 c, k1_dev14_lt c⟩ : Dev nD) = nxt 0 c := by
  revert c; decide
theorem devs1 (c : Dev nD) : (⟨k1_dev5 c, k1_dev5_lt c⟩ : Dev nD) = nxt 1 c ∧ (⟨k1_dev7 c, k1_dev7_lt c⟩ : Dev nD) = nxt 1 c ∧ (⟨k1_dev9 c, k1_dev9_lt c⟩ : Dev nD) = nxt 1 c
    ∧ (⟨k1_dev11 c, k1_dev11_lt c⟩ : Dev nD) = nxt 1 c ∧ (⟨k1_dev13 c, k1_dev13_lt c⟩ : Dev nD) = nxt 1 c ∧ (⟨k1_dev15 c, k1_dev15_lt c⟩ : Dev nD) = nxt 1 c := by
  revert c; decide
theorem off_src (c : Dev nD) : k1_off1 c = ![512 * c.val, 512 * (0 : Fin 2).val] ∧ k1_off2 c = ![512 * c.val, 512 * (1 : Fin 2).val] := by
  revert c; decide
theorem off_rs0 (c : Dev nD) (k : Fin 3) : k1_off3 c (BitVec.ofNat 32 (3 - k.val)) = ![512 * (rowRS 0 c k).val, 512 * (0 : Fin 2).val] := by
  revert c k; decide
theorem off_rs1 (c : Dev nD) (k : Fin 3) : k1_off4 c (BitVec.ofNat 32 (1 + k.val)) = ![512 * (rowRS 1 c k).val, 512 * (1 : Fin 2).val] := by
  revert c k; decide
theorem off_ag0 (c : Dev nD) (k : Fin 3) : k1_off3 c (BitVec.ofNat 32 (4 - k.val)) = ![512 * (rowAG 0 c k).val, 512 * (0 : Fin 2).val] := by
  revert c k; decide
theorem off_ag1 (c : Dev nD) (k : Fin 3) : k1_off4 c (BitVec.ofNat 32 k.val) = ![512 * (rowAG 1 c k).val, 512 * (1 : Fin 2).val] := by
  revert c k; decide

theorem pbAt_congr {off off' : Fin 2 → Nat} (h) (h') (e : off = off') : pbAt off h = pbAt off' h' := by subst e; rfl

/-- The blocks written in the six stores are all the blocks. -/
def wrote (c : Dev nD) : Finset (Fin 4 × Fin 2) :=
  insert (rowAG 1 c 2, 1) (insert (rowAG 0 c 2, 0) (insert (rowAG 1 c 1, 1) (insert (rowAG 0 c 1, 0)
    (insert (rowAG 1 c 0, 1) (insert (rowAG 0 c 0, 0) (insert (rowRS 1 c 2, 1) (insert (rowRS 0 c 2, 0) ∅)))))))
theorem wrote_all (c : Dev nD) : wrote c = Finset.univ := by revert c; decide

/-- What a device still owes after paying for `n` transfers. -/
abbrev left (n : ℕ) : List Due := transfers.drop n

section Whole

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32)
variable (κ : GSem nD τ sig → ℕ) (c : Dev nD)

theorem outSt_all : (outSt c X (wrote c) : sProp 𝕄) ⊢ owns (c : Thread nD τ) outM fullShare (outV X c) := by
  rw [wrote_all]
  unfold outSt
  iintro ⟨%f, %hf, H⟩
  rw [← eq_outV X (f := f) fun r d => hf (r, d) (Finset.mem_univ _)]
  iexact H

/-! ## The operand's buffer, cut into the two blocks sent first and the rest -/

abbrev pbSet (d : Fin 2) : Finset (Idx ((c : Thread nD τ).loc cc1_scratch0)) := (srcOf 0 c d 0).view.set
theorem pbSet_disjoint (d d' : Fin 2) (h : d ≠ d') : Disjoint (pbSet c d) (pbSet c d') := by
  show Disjoint ((pbM.view.slice (blkR c d)).set) ((pbM.view.slice (blkR c d')).set)
  rw [View.set_slice, View.set_slice]
  exact (Finset.disjoint_map _).mpr (blkR_disjoint (c, d) (c, d') fun e => h (congrArg Prod.snd e))
/-- What the two blocks leave of the buffer. -/
def pbRest : sProp 𝕄 := iprop(∃ f, (c : Thread nD τ).loc cc1_scratch0 ↦[Ring.restOf (pbSet c)]{fullShare} f)

theorem pb_read (d : Fin 2) : (pbAt ![512 * c.val, 512 * d.val] (inb_blk c d)).view.read (Elt F) (truncf .bf16 (X c) bitsLt_bf16_f32) = sent X 0 c d 0 := rfl

theorem pb_blk (d : Fin 2) (f : FVec F S2048x1024 .bf16) (hf : f = truncf .bf16 (X c) bitsLt_bf16_f32) :
    ((c : Thread nD τ).loc cc1_scratch0 ↦[pbSet c d]{fullShare} f : sProp 𝕄) ⊢ sndPay X c 0 d 0 := by
  have h := owns_intro (Val := Elt F) (Ix := Unit) (Name := ℕ) (U := U) (Lvl := ℕ) (c : Thread nD τ) (pbAt ![512 * c.val, 512 * d.val] (inb_blk c d)) fullShare f
  have e : (pbAt ![512 * c.val, 512 * d.val] (inb_blk c d)).view.read (Elt F) f = sent X 0 c d 0 := by rw [hf]; exact pb_read X c d
  rw [e] at h
  exact h

theorem pb_split : (owns (c : Thread nD τ) pbM fullShare (truncf .bf16 (X c) bitsLt_bf16_f32) : sProp 𝕄)
    ⊢ iprop(sndPay X c 0 0 0 ∗ sndPay X c 0 1 0 ∗ pbRest c) := by
  rw [owns_whole]
  generalize hf : truncf .bf16 (X c) bitsLt_bf16_f32 = f
  refine (Ring.fam_split (pbSet c) (pbSet_disjoint c) _).trans ?_
  refine (BIClass.sep_mono ((Entails.of_eq (bigSep_fin_two _)).trans (BIClass.sep_mono (pb_blk X c 0 f hf.symm) (pb_blk X c 1 f hf.symm))) Entails.rfl).trans ?_
  iintro ⟨⟨H0, H1⟩, Hr⟩
  isplitl [H0]; · iexact H0
  isplitl [H1]; · iexact H1
  unfold pbRest; iexists _; iexact Hr

/-! ## The body -/

/-- All twelve transfers' tokens, ends and credits. -/
def readyAll : sProp 𝕄 :=
  iprop((ready E c 0 0 0 ∗ ready E c 0 1 0) ∗ (ready E c 0 0 1 ∗ ready E c 0 1 1) ∗ (ready E c 0 0 2 ∗ ready E c 0 1 2)
    ∗ (ready E c 1 0 0 ∗ ready E c 1 1 0) ∗ (ready E c 1 0 1 ∗ ready E c 1 1 1) ∗ (ready E c 1 0 2 ∗ ready E c 1 1 2))
/-- All twelve transfers over, with the sources they gave back. -/
def gotAll : sProp 𝕄 :=
  iprop((got E X c 0 0 0 ∗ got E X c 0 1 0) ∗ (got E X c 0 0 1 ∗ got E X c 0 1 1) ∗ (got E X c 0 0 2 ∗ got E X c 0 1 2)
    ∗ (got E X c 1 0 0 ∗ got E X c 1 1 0) ∗ (got E X c 1 0 1 ∗ got E X c 1 1 1) ∗ (got E X c 1 0 2 ∗ got E X c 1 1 2))
/-- The landing slots that no later transfer sends from. -/
def restAll : sProp 𝕄 :=
  iprop((rcvPay X c 0 0 0 ∗ rcvPay X c 0 1 0) ∗ (rcvPay X c 0 0 1 ∗ rcvPay X c 0 1 1) ∗ (rcvPay X c 0 0 2 ∗ rcvPay X c 0 1 2)
    ∗ (rcvPay X c 1 0 2 ∗ rcvPay X c 1 1 2))

theorem wp_prog (Kt : PUnit → sProp 𝕄) :
    iprop(Inv E X κ ∗ levAts L lv ∗ barStart E c ∗ readyAll E c ∗ nbrPay E c 0 ∗ nbrPay E c 1 ∗ some' c pbM
        ∗ (some' c (stg 0 0) ∗ some' c (stg 1 0) ∗ some' c (stg 0 1) ∗ some' c (stg 1 1)) ∗ (some' c (ags 0) ∗ some' c (ags 1))
        ∗ owns (c : Thread nD τ) inM fullShare (X c) ∗ some' c outM ∗ Owes c dues
        ∗ (atPos E (barCell c) (0 + 1) ∅ 0 -∗ gotAll E X c -∗ restAll X c -∗ pbRest c -∗ owns (c : Thread nD τ) inM fullShare (X c)
            -∗ owns (c : Thread nD τ) outM fullShare (outV X c) -∗ Owes c [] -∗ Kt ⟨⟩))
      ⊢ WP c prog Kt := by
  unfold prog WP readyAll
  iintro ⟨#HI, #Hlev, Hbar, ⟨⟨R000, R010⟩, ⟨R001, R011⟩, ⟨R002, R012⟩, ⟨R100, R110⟩, ⟨R101, R111⟩, ⟨R102, R112⟩⟩, Hn0, Hn1, Hpb, ⟨Hg00, Hg10, Hg01, Hg11⟩,
    ⟨Ha0, Ha1⟩, Hx, Ho, HO, Hk⟩
  rw [wp_bind]
  simp only [Prog.lift, wp_deviceId, wp_ret]
  imodintro
  rw [wp_bind]
  iapply (wp_entry E X κ c _ _ _ (devs c).1 (devs c).2.1 (devs c).2.2 transfers (by decide))
  isplitr; · iexact HI
  isplitr; · iexact Hlev
  isplitl [Hbar]; · iexact Hbar
  isplitl [Hn0]; · iexact Hn0
  isplitl [Hn1]; · iexact Hn1
  isplitl [HO]; · iexact HO
  iintro HO Hbar Hn0 Hn1
  unfold nbrPay
  icases Hn0 with ⟨T000, T001, T002, T100, T101, T102⟩
  icases Hn1 with ⟨T010, T011, T012, T110, T111, T112⟩
  rw [wp_bind]
  iapply (wp_toBf16 c)
  isplitl [Hx]; · iexact Hx
  isplitl [Hpb]; · iexact Hpb
  iintro Hx Hpb
  ihave Hpb := (pb_split X c) $$ Hpb
  icases Hpb with ⟨S0, S1, Hrest⟩
  rw [wp_bind]
  iapply (wp_rsRound E X κ c 0 _ _ (devs0 c).1 (devs1 c).1 _ _ _ _ (pbAt_congr _ _ (off_src c).1) (pbAt_congr _ _ (off_src c).2) _ _ _ _
    (off_rs0 c 0) (off_rs1 c 0) (left 2) (by decide))
  isplitr; · iexact HI
  isplitr; · iexact Hlev
  isplitl [R000 T000]
  · unfold tkt
    isplitl [R000]; · iexact R000
    iexact T000
  isplitl [R010 T010]
  · unfold tkt
    isplitl [R010]; · iexact R010
    iexact T010
  isplitl [S0]; · iexact S0
  isplitl [S1]; · iexact S1
  isplitl [Hg00]; · iexact Hg00
  isplitl [Hg10]; · iexact Hg10
  isplitl [Hx]; · iexact Hx
  isplitl [HO]; · iexact HO
  iintro G000 G010 P000 P010 S0 S1 Hx HO
  rw [wp_bind]
  iapply (wp_rsRound E X κ c 1 _ _ (devs0 c).2.1 (devs1 c).2.1 _ _ _ _ rfl rfl _ _ _ _ (off_rs0 c 1) (off_rs1 c 1) (left 4) (by decide))
  isplitr; · iexact HI
  isplitr; · iexact Hlev
  isplitl [R001 T001]
  · unfold tkt
    isplitl [R001]; · iexact R001
    iexact T001
  isplitl [R011 T011]
  · unfold tkt
    isplitl [R011]; · iexact R011
    iexact T011
  isplitl [S0]; · iexact S0
  isplitl [S1]; · iexact S1
  isplitl [Hg01]; · iexact Hg01
  isplitl [Hg11]; · iexact Hg11
  isplitl [Hx]; · iexact Hx
  isplitl [HO]; · iexact HO
  iintro G001 G011 P001 P011 S0 S1 Hx HO
  rw [wp_bind]
  iapply (wp_endRound E X κ c _ _ (devs0 c).2.2.1 (devs1 c).2.2.1 _ _ _ _ rfl rfl _ _ _ _ (off_rs0 c 2) (off_rs1 c 2) (left 6) (by decide) ∅)
  isplitr; · iexact HI
  isplitr; · iexact Hlev
  isplitl [R002 T002]
  · unfold tkt
    isplitl [R002]; · iexact R002
    iexact T002
  isplitl [R012 T012]
  · unfold tkt
    isplitl [R012]; · iexact R012
    iexact T012
  isplitl [S0]; · iexact S0
  isplitl [S1]; · iexact S1
  isplitl [Ha0]; · iexact Ha0
  isplitl [Ha1]; · iexact Ha1
  isplitl [Hx]; · iexact Hx
  isplitl [Ho]
  · icases Ho with ⟨%f, Ho⟩
    unfold outSt
    iexists f
    isplitr; · ipureintro; exact fun p hp => absurd hp (Finset.notMem_empty p)
    iexact Ho
  isplitl [HO]; · iexact HO
  iintro G002 G012 P002 P012 S0 S1 Hx Ho HO
  rw [wp_bind]
  iapply (wp_agRound E X κ c 0 _ _ (devs0 c).2.2.2.1 (devs1 c).2.2.2.1 _ _ _ _ rfl rfl _ _ _ _ (off_ag0 c 0) (off_ag1 c 0) (left 8) (by decide) _)
  isplitr; · iexact HI
  isplitr; · iexact Hlev
  isplitl [R100 T100]
  · unfold tkt
    isplitl [R100]; · iexact R100
    iexact T100
  isplitl [R110 T110]
  · unfold tkt
    isplitl [R110]; · iexact R110
    iexact T110
  isplitl [S0]; · iexact S0
  isplitl [S1]; · iexact S1
  isplitl [Ho]; · iexact Ho
  isplitl [HO]; · iexact HO
  iintro G100 G110 S0 S1 Ho HO
  rw [wp_bind]
  iapply (wp_agRound E X κ c 1 _ _ (devs0 c).2.2.2.2.1 (devs1 c).2.2.2.2.1 _ _ _ _ rfl rfl _ _ _ _ (off_ag0 c 1) (off_ag1 c 1) (left 10) (by decide) _)
  isplitr; · iexact HI
  isplitr; · iexact Hlev
  isplitl [R101 T101]
  · unfold tkt
    isplitl [R101]; · iexact R101
    iexact T101
  isplitl [R111 T111]
  · unfold tkt
    isplitl [R111]; · iexact R111
    iexact T111
  isplitl [S0]; · iapply (Entails.of_eq (ag_next X c 0 0)); iexact S0
  isplitl [S1]; · iapply (Entails.of_eq (ag_next X c 1 0)); iexact S1
  isplitl [Ho]; · iexact Ho
  isplitl [HO]; · iexact HO
  iintro G101 G111 S0 S1 Ho HO
  iapply (wp_agRound E X κ c 2 _ _ (devs0 c).2.2.2.2.2 (devs1 c).2.2.2.2.2 _ _ _ _ rfl rfl _ _ _ _ (off_ag0 c 2) (off_ag1 c 2) [] (by decide) _)
  isplitr; · iexact HI
  isplitr; · iexact Hlev
  isplitl [R102 T102]
  · unfold tkt
    isplitl [R102]; · iexact R102
    iexact T102
  isplitl [R112 T112]
  · unfold tkt
    isplitl [R112]; · iexact R112
    iexact T112
  isplitl [S0]; · iapply (Entails.of_eq (ag_next X c 0 1)); iexact S0
  isplitl [S1]; · iapply (Entails.of_eq (ag_next X c 1 1)); iexact S1
  isplitl [Ho]; · iexact Ho
  isplitl [HO]; · iexact HO
  iintro G102 G112 P102 P112 Ho HO
  iapply Hk $$ [Hbar] [G000 G010 G001 G011 G002 G012 G100 G110 G101 G111 G102 G112] [P000 P010 P001 P011 P002 P012 P102 P112] [Hrest] [Hx] [Ho] [HO]
  · iexact Hbar
  · unfold gotAll
    isplitl [G000 G010]
    · isplitl [G000]; · iexact G000
      iexact G010
    isplitl [G001 G011]
    · isplitl [G001]; · iexact G001
      iexact G011
    isplitl [G002 G012]
    · isplitl [G002]; · iexact G002
      iexact G012
    isplitl [G100 G110]
    · isplitl [G100]; · iexact G100
      iexact G110
    isplitl [G101 G111]
    · isplitl [G101]; · iexact G101
      iexact G111
    isplitl [G102]; · iexact G102
    iexact G112
  · unfold restAll
    isplitl [P000 P010]
    · isplitl [P000]; · iexact P000
      iexact P010
    isplitl [P001 P011]
    · isplitl [P001]; · iexact P001
      iexact P011
    isplitl [P002 P012]
    · isplitl [P002]; · iexact P002
      iexact P012
    isplitl [P102]; · iexact P102
    iexact P112
  · iexact Hrest
  · iexact Hx
  · iapply (outSt_all X c); unfold wrote; iexact Ho
  · iexact HO

end Whole

end Cert.KernelIdeal.AR

end
-- ==== Proof.KernelIdeal.ArBufs.lean ====
/- The scratch buffers as the kernel's slots: each buffer, whole at some contents, is its slots and a rest; at the end the slots
   come back and the buffers are whole again. Sums over all twelve transfers, written out. -/
module

public import proofs.«01_k».proof.Proof.KernelIdeal.ArRun

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

variable (c : Dev nD)

abbrev Tr : Type := Fin 2 × Fin 3

theorem comR_disjoint (i j : Tr) (h : i ≠ j) : Disjoint (comR i.1 i.2).set (comR j.1 j.2).set := by
  by_cases h1 : i.1 = j.1
  · have h2 : i.2.val ≠ j.2.val := fun e => h (Prod.ext h1 (Fin.ext e))
    refine Rect.unit_disjoint 1 ?_
    show i.2.val + 1 ≤ j.2.val ∨ j.2.val + 1 ≤ i.2.val
    omega
  · have h2 : i.1.val ≠ j.1.val := fun e => h1 (Fin.ext e)
    refine Rect.unit_disjoint 0 ?_
    show i.1.val + 1 ≤ j.1.val ∨ j.1.val + 1 ≤ i.1.val
    omega
theorem stgR_disjoint (i j : Fin 2 × Fin 2) (h : i ≠ j) : Disjoint (stgR i.1 i.2).set (stgR j.1 j.2).set := by
  by_cases h1 : i.1 = j.1
  · have h2 : i.2.val ≠ j.2.val := fun e => h (Prod.ext h1 (Fin.ext e))
    refine Rect.unit_disjoint 1 ?_
    show i.2.val + 1 ≤ j.2.val ∨ j.2.val + 1 ≤ i.2.val
    omega
  · have h2 : i.1.val ≠ j.1.val := fun e => h1 (Fin.ext e)
    refine Rect.unit_disjoint 0 ?_
    show i.1.val + 1 ≤ j.1.val ∨ j.1.val + 1 ≤ i.1.val
    omega
theorem agsR_disjoint (i j : Fin 2) (h : i ≠ j) : Disjoint (agsR i).set (agsR j).set := by
  have h1 : i.val ≠ j.val := fun e => h (Fin.ext e)
  refine Rect.unit_disjoint 0 ?_
  show i.val + 1 ≤ j.val ∨ j.val + 1 ≤ i.val
  omega

/-! ### Slots listed -/

theorem big_tr (Φ : Tr → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
theorem big_four (Φ : Fin 2 × Fin 2 → sProp 𝕄) :
    bigSep Finset.univ Φ = iprop(Φ (0, 0) ∗ Φ (1, 0) ∗ Φ (0, 1) ∗ Φ (1, 1)) :=
  bigSep_univ_eq_bigSepL [(0, 0), (1, 0), (0, 1), (1, 1)] (by decide) (by decide) Φ
theorem big_two (Φ : Fin 2 → sProp 𝕄) : bigSep Finset.univ Φ = iprop(Φ 0 ∗ Φ 1) :=
  bigSep_univ_eq_bigSepL [0, 1] (by decide) (by decide) Φ

/-- The two directions' landing slots of phase `e`, at some contents. -/
def coms (e : Fin 2) : sProp 𝕄 :=
  iprop(some' c (com e 0 0) ∗ some' c (com e 0 1) ∗ some' c (com e 0 2) ∗ some' c (com e 1 0) ∗ some' c (com e 1 1) ∗ some' c (com e 1 2))
abbrev comB : Fin 2 → Ref sig .tc := fun | 0 => cc1_scratch3 | 1 => cc1_scratch4
def comRest : Fin 2 → sProp 𝕄
  | 0 => slotsRest c cc1_scratch3 (fun i : Tr => comR i.1 i.2)
  | 1 => slotsRest c cc1_scratch4 (fun i : Tr => comR i.1 i.2)

theorem coms_split (e : Fin 2) : (buf c (comB e) : sProp 𝕄) ⊢ iprop(coms c e ∗ comRest c e) := by
  match e with
  | 0 => exact (slots_split c cc1_scratch3 (s' := S512x512) (fun i : Tr => comR i.1 i.2) (fun _ _ => rfl) (fun _ => squeezes_S1x1x512x512_S512x512) comR_disjoint).trans
          (BIClass.sep_mono (Entails.of_eq (big_tr _)) Entails.rfl)
  | 1 => exact (slots_split c cc1_scratch4 (s' := S512x512) (fun i : Tr => comR i.1 i.2) (fun _ _ => rfl) (fun _ => squeezes_S1x1x512x512_S512x512) comR_disjoint).trans
          (BIClass.sep_mono (Entails.of_eq (big_tr _)) Entails.rfl)
theorem coms_join (e : Fin 2) : iprop(coms c e ∗ comRest c e) ⊢ (buf c (comB e) : sProp 𝕄) := by
  match e with
  | 0 => exact (BIClass.sep_mono (Entails.of_eq (big_tr _).symm) Entails.rfl).trans
          (slots_join c cc1_scratch3 (s' := S512x512) (fun i : Tr => comR i.1 i.2) (fun _ _ => rfl) (fun _ => squeezes_S1x1x512x512_S512x512) comR_disjoint)
  | 1 => exact (BIClass.sep_mono (Entails.of_eq (big_tr _).symm) Entails.rfl).trans
          (slots_join c cc1_scratch4 (s' := S512x512) (fun i : Tr => comR i.1 i.2) (fun _ _ => rfl) (fun _ => squeezes_S1x1x512x512_S512x512) comR_disjoint)

def stgs : sProp 𝕄 := iprop(some' c (stg 0 0) ∗ some' c (stg 1 0) ∗ some' c (stg 0 1) ∗ some' c (stg 1 1))
def stgRest : sProp 𝕄 := slotsRest c cc1_scratch1 (fun i : Fin 2 × Fin 2 => stgR i.1 i.2)
theorem stgs_split : (buf c cc1_scratch1 : sProp 𝕄) ⊢ iprop(stgs c ∗ stgRest c) :=
  (slots_split c cc1_scratch1 (s' := S512x512) (fun i : Fin 2 × Fin 2 => stgR i.1 i.2) (fun _ _ => rfl) (fun _ => squeezes_S1x1x512x512_S512x512) stgR_disjoint).trans
    (BIClass.sep_mono (Entails.of_eq (big_four _)) Entails.rfl)
theorem stgs_join : iprop(stgs c ∗ stgRest c) ⊢ (buf c cc1_scratch1 : sProp 𝕄) :=
  (BIClass.sep_mono (Entails.of_eq (big_four _).symm) Entails.rfl).trans
    (slots_join c cc1_scratch1 (s' := S512x512) (fun i : Fin 2 × Fin 2 => stgR i.1 i.2) (fun _ _ => rfl) (fun _ => squeezes_S1x1x512x512_S512x512) stgR_disjoint)

def agss : sProp 𝕄 := iprop(some' c (ags 0) ∗ some' c (ags 1))
def agsRest : sProp 𝕄 := slotsRest c cc1_scratch2 agsR
theorem agss_split : (buf c cc1_scratch2 : sProp 𝕄) ⊢ iprop(agss c ∗ agsRest c) :=
  (slots_split c cc1_scratch2 (s' := S512x512) agsR (fun _ _ => rfl) (fun _ => squeezes_S1x512x512_S512x512) agsR_disjoint).trans
    (BIClass.sep_mono (Entails.of_eq (big_two _)) Entails.rfl)
theorem agss_join : iprop(agss c ∗ agsRest c) ⊢ (buf c cc1_scratch2 : sProp 𝕄) :=
  (BIClass.sep_mono (Entails.of_eq (big_two _).symm) Entails.rfl).trans
    (slots_join c cc1_scratch2 (s' := S512x512) agsR (fun _ _ => rfl) (fun _ => squeezes_S1x512x512_S512x512) agsR_disjoint)

theorem pb_some : (buf c cc1_scratch0 : sProp 𝕄) ⊢ some' c pbM := by
  iintro ⟨%f, H⟩
  iexists f
  rw [owns_whole]
  iexact H

section Ends

variable (X : Dev nD → FVec F S2048x1024 .f32)

theorem snd_some (e d : Fin 2) (k : Fin 3) : (sndPay X c e d k : sProp 𝕄) ⊢ some' c (srcOf e c d k) := some_intro c _ _
theorem rcv_some (e d : Fin 2) (k : Fin 3) : (rcvPay X c e d k : sProp 𝕄) ⊢ some' c (com e d k) := some_intro c _ _

theorem pb_join : iprop(sndPay X c 0 0 0 ∗ sndPay X c 0 1 0 ∗ pbRest c) ⊢ (buf c cc1_scratch0 : sProp 𝕄) := by
  unfold pbRest
  iintro ⟨H0, H1, ⟨%f, Hr⟩⟩
  iapply (Ring.fam_join (pbSet c) (pbSet_disjoint c) f)
  isplitl [H0 H1]
  · iapply (Entails.of_eq (big_two (fun d => iprop(∃ f, (c : Thread nD τ).loc cc1_scratch0 ↦[pbSet c d]{fullShare} f))).symm)
    isplitl [H0]
    · iapply (pts_of_some c (srcOf 0 c 0 0)); iapply (snd_some c X 0 0 0); iexact H0
    · iapply (pts_of_some c (srcOf 0 c 1 0)); iapply (snd_some c X 0 1 0); iexact H1
  · iexists f; iexact Hr

end Ends

end Cert.KernelIdeal.AR

end
-- ==== Proof.KernelIdeal.ArEnds.lean ====
/- From what the launch hands a device to what the body starts with, and from what the body ends with to buffers and semaphores at
   rest: the transfers' ends opened and closed, all at once. -/
module

public import proofs.«01_k».proof.Proof.KernelIdeal.ArBufs

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

/-! ## Sums over the twelve transfers -/

abbrev Tr3 : Type := Fin 2 × Fin 2 × Fin 3

/-- Twelve parts in the order in which the body uses them. -/
def all12 (Φ : Fin 2 → Fin 2 → Fin 3 → sProp 𝕄) : sProp 𝕄 :=
  iprop((Φ 0 0 0 ∗ Φ 0 1 0) ∗ (Φ 0 0 1 ∗ Φ 0 1 1) ∗ (Φ 0 0 2 ∗ Φ 0 1 2) ∗ (Φ 1 0 0 ∗ Φ 1 1 0) ∗ (Φ 1 0 1 ∗ Φ 1 1 1) ∗ (Φ 1 0 2 ∗ Φ 1 1 2))

theorem big_12 (Φ : Fin 2 → Fin 2 → Fin 3 → sProp 𝕄) : bigSep Finset.univ (fun x : Tr3 => Φ x.1 x.2.1 x.2.2) = all12 Φ := by
  have h : ∀ P Q R : sProp 𝕄, iprop((P ∗ Q) ∗ R) = iprop(P ∗ Q ∗ R) := fun P Q R => BI.equiv_iff.mp ⟨BI.sep_assoc, BI.sep_assoc'⟩
  refine (bigSep_univ_eq_bigSepL [(0, 0, 0), (0, 1, 0), (0, 0, 1), (0, 1, 1), (0, 0, 2), (0, 1, 2), (1, 0, 0), (1, 1, 0), (1, 0, 1), (1, 1, 1), (1, 0, 2), (1, 1, 2)]
    (by decide) (by decide) _).trans ?_
  unfold all12
  simp only [h]
  rfl

/-- The cell of a transfer's end on a device. -/
abbrev endCell (c : Dev nD) (x : End) : GSem nD τ sig := ((c : Thread nD τ), .dma (xsem x))

theorem big_end (Φ : End → sProp 𝕄) : bigSep Finset.univ Φ
    = iprop(bigSep Finset.univ (fun x : Tr3 => Φ (0, x)) ∗ bigSep Finset.univ (fun x : Tr3 => Φ (1, x))) := by
  rw [bigSep_univ_prod]
  exact bigSep_fin_two _

section Ends

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32)
variable (κ : GSem nD τ sig → ℕ) (c : Dev nD)

/-! ## The ends opened -/

theorem open_ends :
    iprop(Inv E X κ ∗ bigSep Finset.univ (fun x : End => openTok E (endCell c x)) ∗ bigSep Finset.univ (fun x : End => (semVal (endCell c x) 0 : sProp 𝕄)))
      ⊢ |={Set.univ}=> iprop(bigSep Finset.univ (fun x : End => atPos E (endCell c x) 0 ∅ 0) ∗ bigSep Finset.univ (fun x : End => reached E (endCell c x) 0)) := by
  rw [← bigSep_sep', ← bigSep_sep']
  refine (bigSep_with_persistent (R := Inv E X κ) (Ψ := fun x => iprop(|={Set.univ}=> (atPos E (endCell c x) 0 ∅ 0 ∗ reached E (endCell c x) 0))) fun x _ => ?_).trans
    (bigSep_fupd _ _)
  iintro ⟨#HI, Ho, Hv⟩
  iapply (Rounds.cell_open E (sched E X) (g := endCell c x) (Set.mem_univ (κ (endCell c x))))
  isplitr; · iapply (inv_at E X κ (end_mem c x)); iexact HI
  isplitl [Ho]; · iexact Ho
  iexact Hv

theorem close_ends :
    iprop(Inv E X κ ∗ bigSep Finset.univ (fun x : End => atPos E (endCell c x) (0 + 1) ∅ 0))
      ⊢ |={Set.univ}=> bigSep Finset.univ (fun x : End => (semVal (endCell c x) 0 : sProp 𝕄)) := by
  refine (bigSep_with_persistent (R := Inv E X κ) (Ψ := fun x => iprop(|={Set.univ}=> semVal (endCell c x) 0)) fun x _ => ?_).trans (bigSep_fupd _ _)
  iintro ⟨#HI, Ha⟩
  iapply (Rounds.cell_close E (sched E X) (g := endCell c x) (Set.mem_univ (κ (endCell c x))) id (duties_later E X (endCell c x)))
  isplitr; · iapply (inv_at E X κ (end_mem c x)); iexact HI
  iexact Ha

theorem close_bar : iprop(Inv E X κ ∗ atPos E (barCell c) (0 + 1) ∅ 0) ⊢ |={Set.univ}=> (semVal (barCell c) 0 : sProp 𝕄) := by
  iintro ⟨#HI, Ha⟩
  iapply (Rounds.cell_close E (sched E X) (g := barCell c) (Set.mem_univ (κ (barCell c))) id (duties_later E X (barCell c)))
  isplitr; · iapply (inv_at E X κ (bar_mem c)); iexact HI
  iexact Ha

/-! ## What each transfer starts with -/

/-- The token of every transfer end that device `c` pays: its own ends as sender, the neighbours' as receiver. -/
def payee (c : Dev nD) (x : End) : Dev nD := if x.1 = 0 then c else nxt x.2.2.1 c
def endToks : sProp 𝕄 := bigSep Finset.univ fun x : End => dutyTok E (endCell (payee c x) x) 0 0
def endCreds : sProp 𝕄 := bigSep Finset.univ fun x : Tr3 => cred (tallyAt (rcvCell c x.1 x.2.1 x.2.2) () N)

omit [E.LandsIn (upEmb : UEmb _ (MT nD τ sig Unit (Elt F) ℕ U ℕ))] in
theorem ready_all :
    iprop(endToks E c ∗ bigSep Finset.univ (fun x : End => atPos E (endCell c x) 0 ∅ 0) ∗ bigSep Finset.univ (fun x : End => reached E (endCell c x) 0) ∗ endCreds c)
      ⊢ iprop(readyAll E c ∗ bigSep Finset.univ (fun x : Tr3 => reached E (rcvCell c x.1 x.2.1 x.2.2) 0)) := by
  rw [show readyAll E c = all12 (ready E c) from rfl, ← big_12]
  unfold endToks endCreds ready
  rw [big_end, big_end, big_end, bigSep_sep', bigSep_sep', bigSep_sep', bigSep_sep', bigSep_sep']
  iintro ⟨⟨Ts, Tr⟩, ⟨As, Ar⟩, ⟨Rs, Rr⟩, Hc⟩
  isplitr [Rr]
  · isplitl [Ts]; · iexact Ts
    isplitl [Tr]; · iexact Tr
    isplitl [Rs]; · iexact Rs
    isplitl [As]; · iexact As
    isplitl [Ar]; · iexact Ar
    iexact Hc
  · iexact Rr

/-- A device's landing slots handed out in both directions. -/
theorem nbr_pays : iprop(coms c 0 ∗ coms c 1 ∗ bigSep Finset.univ (fun x : Tr3 => reached E (rcvCell c x.1 x.2.1 x.2.2) 0)) ⊢ iprop(nbrPay E c 0 ∗ nbrPay E c 1) := by
  rw [big_12 (fun e d k => reached E (rcvCell c e d k) 0)]
  unfold coms all12 nbrPay slotPay
  iintro ⟨⟨S000, S001, S002, S010, S011, S012⟩, ⟨S100, S101, S102, S110, S111, S112⟩,
    ⟨R000, R010⟩, ⟨R001, R011⟩, ⟨R002, R012⟩, ⟨R100, R110⟩, ⟨R101, R111⟩, R102, R112⟩
  isplitl [S000 S001 S002 S100 S101 S102 R000 R001 R002 R100 R101 R102]
  · isplitl [S000 R000]; · isplitl [S000] <;> iassumption
    isplitl [S001 R001]; · isplitl [S001] <;> iassumption
    isplitl [S002 R002]; · isplitl [S002] <;> iassumption
    isplitl [S100 R100]; · isplitl [S100] <;> iassumption
    isplitl [S101 R101]; · isplitl [S101] <;> iassumption
    isplitl [S102] <;> iassumption
  · isplitl [S010 R010]; · isplitl [S010] <;> iassumption
    isplitl [S011 R011]; · isplitl [S011] <;> iassumption
    isplitl [S012 R012]; · isplitl [S012] <;> iassumption
    isplitl [S110 R110]; · isplitl [S110] <;> iassumption
    isplitl [S111 R111]; · isplitl [S111] <;> iassumption
    isplitl [S112] <;> iassumption

/-! ## What the transfers leave -/

theorem got_all : (gotAll E X c : sProp 𝕄) ⊢ iprop(bigSep Finset.univ (fun x : End => atPos E (endCell c x) (0 + 1) ∅ 0) ∗ all12 (sndPay X c)) := by
  rw [show gotAll E X c = all12 (got E X c) from rfl, ← big_12, ← big_12]
  unfold got over
  rw [bigSep_sep', bigSep_sep', big_end]
  exact Entails.rfl

/-- The scratch buffers are whole again. -/
def bufs5 : sProp 𝕄 := iprop(buf c cc1_scratch0 ∗ buf c cc1_scratch1 ∗ buf c cc1_scratch2 ∗ buf c cc1_scratch3 ∗ buf c cc1_scratch4)
def rests : sProp 𝕄 := iprop(stgRest c ∗ agsRest c ∗ comRest c 0 ∗ comRest c 1)

theorem bufs_split : (bufs5 c : sProp 𝕄) ⊢ iprop(some' c pbM ∗ stgs c ∗ agss c ∗ (coms c 0 ∗ coms c 1) ∗ rests c) := by
  unfold bufs5 rests
  iintro ⟨H0, H1, H2, H3, H4⟩
  ihave H0 := (pb_some c) $$ H0
  ihave H1 := (stgs_split c) $$ H1
  ihave H2 := (agss_split c) $$ H2
  ihave H3 := (coms_split c 0) $$ H3
  ihave H4 := (coms_split c 1) $$ H4
  icases H1 with ⟨H1, R1⟩
  icases H2 with ⟨H2, R2⟩
  icases H3 with ⟨H3, R3⟩
  icases H4 with ⟨H4, R4⟩
  isplitl [H0]; · iexact H0
  isplitl [H1]; · iexact H1
  isplitl [H2]; · iexact H2
  isplitl [H3 H4]; · isplitl [H3] <;> iassumption
  isplitl [R1]; · iexact R1
  isplitl [R2]; · iexact R2
  isplitl [R3] <;> iassumption

theorem bufs_join : iprop(all12 (sndPay X c) ∗ restAll X c ∗ pbRest c ∗ rests c) ⊢ (bufs5 c : sProp 𝕄) := by
  unfold bufs5 rests all12 restAll
  iintro ⟨⟨⟨S000, S010⟩, ⟨S001, S011⟩, ⟨S002, S012⟩, ⟨S100, S110⟩, ⟨S101, S111⟩, S102, S112⟩,
    ⟨⟨P000, P010⟩, ⟨P001, P011⟩, ⟨P002, P012⟩, P102, P112⟩, HR0, R1, R2, R3, R4⟩
  isplitl [S000 S010 HR0]
  · iapply (pb_join c X)
    isplitl [S000]; · iexact S000
    isplitl [S010]; · iexact S010
    iexact HR0
  isplitl [S001 S011 S002 S012 R1]
  · iapply (stgs_join c)
    isplitr [R1]
    · unfold stgs
      isplitl [S001]; · iapply (snd_some c X 0 0 1); iexact S001
      isplitl [S011]; · iapply (snd_some c X 0 1 1); iexact S011
      isplitl [S002]; · iapply (snd_some c X 0 0 2); iexact S002
      iapply (snd_some c X 0 1 2); iexact S012
    · iexact R1
  isplitl [S100 S110 R2]
  · iapply (agss_join c)
    isplitr [R2]
    · unfold agss
      isplitl [S100]; · iapply (snd_some c X 1 0 0); iexact S100
      iapply (snd_some c X 1 1 0); iexact S110
    · iexact R2
  isplitl [P000 P001 P002 P010 P011 P012 R3]
  · iapply (coms_join c 0)
    isplitr [R3]
    · unfold coms
      isplitl [P000]; · iapply (rcv_some c X 0 0 0); iexact P000
      isplitl [P001]; · iapply (rcv_some c X 0 0 1); iexact P001
      isplitl [P002]; · iapply (rcv_some c X 0 0 2); iexact P002
      isplitl [P010]; · iapply (rcv_some c X 0 1 0); iexact P010
      isplitl [P011]; · iapply (rcv_some c X 0 1 1); iexact P011
      iapply (rcv_some c X 0 1 2); iexact P012
    · iexact R3
  · iapply (coms_join c 1)
    isplitr [R4]
    · unfold coms
      isplitl [S101]; · iapply (snd_some c X 1 0 1); iexact S101
      isplitl [S102]; · iapply (snd_some c X 1 0 2); iexact S102
      isplitl [P102]; · iapply (rcv_some c X 1 0 2); iexact P102
      isplitl [S111]; · iapply (snd_some c X 1 1 1); iexact S111
      isplitl [S112]; · iapply (snd_some c X 1 1 2); iexact S112
      iapply (rcv_some c X 1 1 2); iexact P112
    · iexact R4

end Ends

end Cert.KernelIdeal.AR

end
-- ==== Proof.KernelIdeal.ArRegion.lean ====
/- The all-reduce's region: what enters its invariant, what leaves it, and the body's obligation. -/
module

public import proofs.«01_k».proof.Proof.KernelIdeal.ArEnds
public import proofs.«01_k».proof.Proof.Gen.KernelIdeal.Points
public import Idealize.ShloMosaic.Lib.Pipeline.RegionTalk
public import Idealize.ShloMosaic.Lib.Pipeline.FrameBody

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

section Body

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32) (c : Dev nD)

/-- What the region's launch hands device `c`, its own ends not yet opened. -/
def dealt : sProp 𝕄 :=
  iprop(∃ κ, Inv E X κ ∗ barStart E c ∗ bigSep Finset.univ (fun x : End => openTok E (endCell c x)) ∗ endToks E c ∗ endCreds c)
/-- The same with the ends opened. -/
def opened : sProp 𝕄 :=
  iprop(∃ κ, Inv E X κ ∗ barStart E c ∗ (readyAll E c ∗ bigSep Finset.univ (fun x : Tr3 => reached E (rcvCell c x.1 x.2.1 x.2.2) 0)) ∗ levAts L lv)

theorem open_up :
    iprop(dealt E X c ∗ bigSep Finset.univ (fun x : End => (semVal (endCell c x) 0 : sProp 𝕄)) ∗ levAts L lv) ⊢ |={Set.univ}=> opened E X c := by
  unfold dealt opened
  iintro ⟨⟨%κ, #HI, Hb, Ho, Ht, Hc⟩, Hv, #Hl⟩
  imod (open_ends E X κ c) $$ [Ho Hv] with ⟨Ha, Hr⟩
  · isplitr; · iexact HI
    isplitl [Ho] <;> iassumption
  imodintro
  iexists κ
  isplitr; · iexact HI
  isplitl [Hb]; · iexact Hb
  isplitl
  · iapply (ready_all E c)
    isplitl [Ht]; · iexact Ht
    isplitl [Ha]; · iexact Ha
    isplitl [Hr] <;> iassumption
  · iexact Hl

/-- The semaphores at rest. -/
def atRest : sProp 𝕄 := bigSep Finset.univ (fun x : End => (semVal (endCell c x) 0 : sProp 𝕄))

theorem wp_body (Kt : PUnit → sProp 𝕄) :
    iprop(opened E X c ∗ bufs5 c ∗ owns (c : Thread nD τ) inM fullShare (X c) ∗ some' c outM ∗ Owes c dues
        ∗ (semVal (barCell c) 0 -∗ atRest c -∗ bufs5 c -∗ owns (c : Thread nD τ) inM fullShare (X c)
            -∗ owns (c : Thread nD τ) outM fullShare (outV X c) -∗ Owes c [] -∗ Kt ⟨⟩))
      ⊢ WP c prog Kt := by
  unfold opened
  iintro ⟨⟨%κ, #HI, Hbar, ⟨Hready, Hrc⟩, #Hl⟩, Hb, Hx, Ho, HO, Hk⟩
  unfold WP
  iapply wp_fupd
  iapply (wp_prog E X κ c)
  ihave Hb := (bufs_split c) $$ Hb
  icases Hb with ⟨Hpb, Hst, Hag, ⟨Hc0, Hc1⟩, Hrs⟩
  unfold stgs agss
  ihave Hn := (nbr_pays E c) $$ [Hc0 Hc1 Hrc]
  · isplitl [Hc0]; · iexact Hc0
    isplitl [Hc1] <;> iassumption
  icases Hn with ⟨Hn0, Hn1⟩
  isplitr; · iexact HI
  isplitr; · iexact Hl
  isplitl [Hbar]; · iexact Hbar
  isplitl [Hready]; · iexact Hready
  isplitl [Hn0]; · iexact Hn0
  isplitl [Hn1]; · iexact Hn1
  isplitl [Hpb]; · iexact Hpb
  isplitl [Hst]; · iexact Hst
  isplitl [Hag]; · iexact Hag
  isplitl [Hx]; · iexact Hx
  isplitl [Ho]; · iexact Ho
  isplitl [HO]; · iexact HO
  iintro Hbar Hgot Hrest Hpr Hx Ho HO
  ihave Hgot := (got_all E X c) $$ Hgot
  icases Hgot with ⟨Hat, Hs⟩
  imod (close_bar E X κ c) $$ [Hbar] with Hb0
  · isplitr; · iexact HI
    iexact Hbar
  imod (close_ends E X κ c) $$ [Hat] with He
  · isplitr; · iexact HI
    iexact Hat
  imodintro
  iapply Hk $$ [Hb0] [He] [Hs Hrest Hpr Hrs] [Hx] [Ho] [HO]
  · iexact Hb0
  · unfold atRest; iexact He
  · iapply (bufs_join X c)
    isplitl [Hs]; · iexact Hs
    isplitl [Hrest]; · iexact Hrest
    isplitl [Hpr] <;> iassumption
  · iexact Hx
  · iexact Ho
  · iexact HO

end Body

/-! ## The windows -/

section Windows

variable (E : Emb (URounds (GSem nD τ sig) ℕ) (MT nD τ sig Unit (Elt F) ℕ U ℕ)) [E.LandsIn (upEmb : UEmb _ (MT nD τ sig Unit (Elt F) ℕ U ℕ))]
variable (V : (c : Dev nD) → (b : Ref sig .tc) → Buf (Elt F) ((c : Thread nD τ).loc b))

/-- The operand of each device as the region finds it. -/
abbrev opnd (c : Dev nD) : FVec F S2048x1024 .f32 := V c main_v7

/-- The other call's buffers, untouched. -/
def others (c : Dev nD) : sProp 𝕄 := iprop(buf c cc0_stg0_0 ∗ buf c cc0_stg1_0 ∗ buf c cc0_stg2_0 ∗ buf c cc0_stg3_0
  ∗ buf c cc0_scratch0 ∗ buf c cc0_scratch1 ∗ buf c cc0_scratch2 ∗ buf c cc0_scratch3 ∗ buf c cc0_scratch4 ∗ buf c cc0_scratch5 ∗ buf c cc0_scratch6)

def dat (c : Dev nD) : Pipeline.Dat τ (Elt F) Unit ℕ U ℕ cfg1 c where
  A w := V c (Pipeline.arrRef spec1 w)
  after w _ := match w with
    | 0 => opnd V c
    | 1 => outV (opnd V) c
  Φ t := if t.val = 0 then iprop(opened E (opnd V) c ∗ bufs5 c ∗ others c ∗ ∃ r, prngReg c r)
    else iprop(semVal (barCell c) 0 ∗ atRest c ∗ bufs5 c ∗ others c ∗ ∃ r, prngReg c r)
  q _ := fullShare
  owed t := if t.val = 0 then owe c dues else 0

theorem N_one : cfg1.N = 1 := by decide

theorem owed_first (c : Dev nD) : (dat E V c).owed 0 = owe c dues := rfl
theorem owed_last (c : Dev nD) : (dat E V c).owed (Fin.last cfg1.N) = 0 := rfl

/-- Each window's block is its whole array. -/
theorem whole_in (f : FVec F S2048x1024 .f32) : ((cfg1.win 0).blk t1_0).view.read (Elt F) f = f := by
  have h : ∀ n k : ℕ, 0 * k + 1 * n = n := by omega
  funext i
  refine congrArg f (funext fun a => Fin.ext ?_)
  fin_cases a
  · exact h _ 2048
  · exact h _ 1024
theorem whole_out (f : FVec F S2048x1024 .f32) : ((cfg1.win 1).blk t1_0).view.read (Elt F) f = f := by
  have h : ∀ n k : ℕ, 0 * k + 1 * n = n := by omega
  funext i
  refine congrArg f (funext fun a => Fin.ext ?_)
  fin_cases a
  · exact h _ 2048
  · exact h _ 1024

theorem before_in (c : Dev nD) (t : Fin cfg1.N) (d) : (dat E V c).before 0 t d = opnd V c := by
  refine ((dat E V c).before_in_eq_fetched 0 rfl (fun _ => rfl) (fun _ _ _ => rfl) (fun t => ?_) t d).trans ?_
  · obtain rfl := fin_N1 t
    exact (whole_in (opnd V c)).symm
  · obtain rfl := fin_N1 t
    exact whole_in (opnd V c)

theorem arr_in (c : Dev nD) (n : ℕ) : (dat E V c).arrAt 0 n = V c main_v7 := (dat E V c).arrAt_in 0 rfl n
theorem arr_out (c : Dev nD) : (dat E V c).arrAt 1 cfg1.N = outV (F := F) (opnd V) c := by
  have h : (dat E V c).arrAt 1 cfg1.N = ((cfg1.win 1).blk t1_0).view.write (Elt F) (V c main_v8) (outV (opnd V) c) Finset.univ := rfl
  rw [h]
  refine Eq.trans (whole_out (F := F) _).symm ?_
  exact View.read_write_univ _ _

end Windows

/-! ## The body's obligation -/

section Obligation

variable (E : Emb (URounds (GSem nD τ sig) ℕ) (MT nD τ sig Unit (Elt F) ℕ U ℕ)) [E.LandsIn (upEmb : UEmb _ (MT nD τ sig Unit (Elt F) ℕ U ℕ))]
variable (V : (c : Dev nD) → (b : Ref sig .tc) → Buf (Elt F) ((c : Thread nD τ).loc b))

theorem owes_in (c : Dev nD) : ((dat E V c).owesAt () t1_0.castSucc : sProp 𝕄) ⊢ Owes c dues := by
  unfold Pipeline.Dat.owesAt Pipeline.owesWithin Owes
  rw [show (dat E V c).owed t1_0.castSucc = owe c dues from rfl]
  iintro ⟨%W, -, HO⟩; iexists W; iexact HO
theorem owes_out (c : Dev nD) : (Owes c [] : sProp 𝕄) ⊢ (dat E V c).owesAt () t1_0.succ := by
  unfold Pipeline.Dat.owesAt Pipeline.owesWithin Pipeline.Dat.bound Owes
  rw [show (dat E V c).owed t1_0.succ = owe c [] from rfl, show (dat E V c).recorded t1_0.succ = Set.univ from rfl]
  iintro ⟨%W, HO⟩; iexists W; isplitr; · ipureintro; exact fun _ _ => Or.inl trivial
  iexact HO

theorem body_ok (c : Dev nD) : Pipeline.BodyObligation (dat E V c) defs₀ 𝒱₀ () Set.univ := fun t => by
  obtain rfl := fin_N1 t
  rw [bigSep_W1, bigSep_W1]
  rw [show (dat E V c).Φ t1_0.castSucc = iprop(opened E (opnd V) c ∗ bufs5 c ∗ others c ∗ ∃ r, prngReg c r) from rfl,
    show (dat E V c).Φ t1_0.succ = iprop(semVal (barCell c) 0 ∗ atRest c ∗ bufs5 c ∗ others c ∗ ∃ r, prngReg c r) from rfl]
  refine (?_ : _ ⊢ WP (F := F) (U := U) c (bodyAt1 (F := F) t1_0) _)
  rw [body_eq]
  iintro ⟨⟨Hop, Hb, Hz, Hreg⟩, HO, ⟨%d0, Hx⟩, ⟨%d1, Ho⟩⟩
  iapply (wp_body E (opnd V) c)
  isplitl [Hop]; · iexact Hop
  isplitl [Hb]; · iexact Hb
  isplitl [Hx]
  · iapply (Entails.of_eq (congrArg (fun y => owns (c : Thread nD τ) inM fullShare y) (before_in E V c t1_0 d0))); iexact Hx
  isplitl [Ho]; · iexists _; iexact Ho
  isplitl [HO]; · iapply (owes_in E V c); iexact HO
  iintro Hbar He Hb Hx Ho HO
  isplitl [Hbar He Hb Hz Hreg]
  · isplitl [Hbar]; · iexact Hbar
    isplitl [He]; · iexact He
    isplitl [Hb]; · iexact Hb
    isplitl [Hz] <;> iassumption
  isplitl [HO]; · iapply (owes_out E V c); iexact HO
  isplitl [Hx]; · iexact Hx
  iexact Ho

end Obligation

end Cert.KernelIdeal.AR

end
-- ==== Proof.KernelIdeal.ArFund.lean ====
/- The all-reduce's launch: every token, credit and semaphore of the four devices, sorted by the device that uses it. -/
module

public import proofs.«01_k».proof.Proof.KernelIdeal.ArRegion
public import Idealize.ShloMosaic.Harness.Basic

@[expose] public section

noncomputable section

namespace Cert.KernelIdeal.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F] {U : Type} [URA U]

local notation "𝕄" => MT nD τ sig Unit (Elt F) ℕ U ℕ

/-! ## The launch's tokens -/

def endTurn : Dev nD × End ≃ Dev nD × End where
  toFun x := (payee x.1 x.2, x.2)
  invFun x := (if x.2.1 = 0 then x.1 else prv x.2.2.2.1 x.1, x.2)
  left_inv := by
    intro x
    refine Prod.ext ?_ rfl
    dsimp only [payee]
    split
    · rfl
    · exact prv_nxt _ _
  right_inv := by
    intro x
    refine Prod.ext ?_ rfl
    dsimp only [payee]
    split
    · rfl
    · exact nxt_prv _ _

abbrev Tok : Type := Fin 3 ⊕ End
def tokOf (c : Dev nD) : Tok → GSem nD τ sig × ℕ × ℕ
  | .inl i => (barCell c, 0, i.val + 1)
  | .inr x => (endCell c x, 0, 0)
theorem tokOf_inj : Function.Injective fun x : Dev nD × Tok => tokOf x.1 x.2 := by
  rintro ⟨c, t⟩ ⟨c', t'⟩ h
  have h1 : c = c' := by
    have := congrArg (fun g : GSem nD τ sig × ℕ × ℕ => g.1.1.1) h
    cases t <;> cases t' <;> exact this
  subst h1
  have hs := congrArg (fun g : GSem nD τ sig × ℕ × ℕ => g.1.2) h
  have hd := congrArg (fun g : GSem nD τ sig × ℕ × ℕ => g.2.2) h
  cases t with
  | inl i =>
    cases t' with
    | inl j => rw [Fin.ext (Nat.succ.inj hd)]
    | inr y => exact absurd hs (by dsimp only [tokOf]; nofun)
  | inr x =>
    cases t' with
    | inl j => exact absurd hs (by dsimp only [tokOf]; nofun)
    | inr y => rw [xsem_inj (SemLoc.dma.inj hs)]
def toks : Finset (GSem nD τ sig × ℕ × ℕ) := Finset.univ.map ⟨fun x : Dev nD × Tok => tokOf x.1 x.2, tokOf_inj⟩

theorem cells_disjoint : Disjoint (barCells : Finset (GSem nD τ sig)) endCells := by
  rw [Finset.disjoint_left]
  rintro g h₁ h₂
  obtain ⟨c, -, rfl⟩ := Finset.mem_map.mp h₁
  obtain ⟨x, -, h⟩ := Finset.mem_map.mp h₂
  exact absurd (congrArg Prod.snd h) (by dsimp only [endEmb, barCell]; nofun)

section Sorted

variable (E : Emb (URounds (GSem nD τ sig) ℕ) (MT nD τ sig Unit (Elt F) ℕ U ℕ))

def barToks (c : Dev nD) : sProp 𝕄 := bigSep Finset.univ fun i : Fin 3 => dutyTok E (barCell (up (i.val + 1) c)) 0 (i.val + 1)

theorem toks_sorted : bigSep toks (fun x => (dutyTok E x.1 x.2.1 x.2.2 : sProp 𝕄))
    ⊢ iprop(bigSep Finset.univ (fun c : Dev nD => barToks E c) ∗ bigSep Finset.univ (fun c : Dev nD => endToks E c)) := by
  have hb : bigSep Finset.univ (fun c : Dev nD => bigSep Finset.univ fun i : Fin 3 => (dutyTok E (barCell c) 0 (i.val + 1) : sProp 𝕄))
      = bigSep Finset.univ (fun c : Dev nD => barToks E c) := by
    unfold barToks
    rw [← bigSep_univ_prod (fun x : Dev nD × Fin 3 => (dutyTok E (barCell x.1) 0 (x.2.val + 1) : sProp 𝕄)), bigSep_univ_equiv barTurn,
      ← bigSep_univ_prod (fun x : Dev nD × Fin 3 => (dutyTok E (barCell (up (x.2.val + 1) x.1)) 0 (x.2.val + 1) : sProp 𝕄))]
    rfl
  have he : bigSep Finset.univ (fun c : Dev nD => bigSep Finset.univ fun x : End => (dutyTok E (endCell c x) 0 0 : sProp 𝕄))
      = bigSep Finset.univ (fun c : Dev nD => endToks E c) := by
    unfold endToks
    rw [← bigSep_univ_prod (fun x : Dev nD × End => (dutyTok E (endCell x.1 x.2) 0 0 : sProp 𝕄)), bigSep_univ_equiv endTurn,
      ← bigSep_univ_prod (fun x : Dev nD × End => (dutyTok E (endCell (payee x.1 x.2) x.2) 0 0 : sProp 𝕄))]
    rfl
  rw [← hb, ← he, ← bigSep_sep']
  unfold toks
  rw [bigSep_map, bigSep_univ_prod]
  refine bigSep_mono fun c _ => ?_
  exact Entails.of_eq (bigSep_univ_sum _)

/-! ## The launch's credits -/

theorem bar_inj {c d : Dev nD} (h : (barCell c : GSem nD τ sig) = barCell d) : c = d := congrArg (fun g : GSem nD τ sig => g.1.1) h
theorem bar_ne_rcv (c d : Dev nD) (e s : Fin 2) (k : Fin 3) : (barCell c : GSem nD τ sig) ≠ rcvCell d e s k := fun h => by
  cases congrArg Prod.snd h
theorem rcv_inj {c d : Dev nD} {e s e' s' : Fin 2} {k k' : Fin 3} (h : (rcvCell c e s k : GSem nD τ sig) = rcvCell d e' s' k') :
    c = d ∧ e = e' ∧ s = s' ∧ k = k' := by
  refine ⟨congrArg (fun g : GSem nD τ sig => g.1.1) h, ?_⟩
  have hx := xsem_inj (SemLoc.dma.inj (congrArg Prod.snd h) : xsem (1, e, s, k) = xsem (1, e', s', k'))
  cases hx
  exact ⟨rfl, rfl, rfl⟩

theorem owe_bar (d c : Dev nD) (l : List Due) :
    owe d l (barCell c) () = l.countP (fun x => match x with | .bar i => decide (up i.val d = c) | .rcv _ _ _ => false) := by
  induction l with
  | nil => rfl
  | cons x l ih =>
    rw [owe, Pi.add_apply, Finsupp.add_apply, ih, List.countP_cons, Nat.add_comm]
    congr 1
    cases x with
    | bar i =>
      by_cases h : up i.val d = c
      · subst h
        exact (tally_self _ _).trans (if_pos (decide_eq_true rfl)).symm
      · exact (tally_other (fun hh => h (bar_inj hh).symm) _).trans (if_neg fun ht => h (of_decide_eq_true ht)).symm
    | rcv e d' k => exact (tally_other (bar_ne_rcv _ _ _ _ _) _).trans (if_neg Bool.false_ne_true).symm

theorem owe_rcv (d c : Dev nD) (e d' : Fin 2) (k : Fin 3) (l : List Due) :
    owe d l (rcvCell c e d' k) () = l.count (.rcv e d' k) * (if d = prv d' c then N else 0) := by
  induction l with
  | nil => exact (Nat.zero_mul _).symm
  | cons x l ih =>
    rw [owe, Pi.add_apply, Finsupp.add_apply, ih, List.count_cons, Nat.add_mul, Nat.add_comm]
    congr 1
    cases x with
    | bar i =>
      rw [if_neg (by intro h; exact absurd (eq_of_beq h) nofun), Nat.zero_mul]
      exact tally_other (bar_ne_rcv _ _ _ _ _).symm _
    | rcv e₁ d₁ k₁ =>
      by_cases h : Due.rcv e₁ d₁ k₁ = .rcv e d' k
      · obtain ⟨rfl, rfl, rfl⟩ := Due.rcv.inj h
        rw [if_pos (beq_self_eq_true _), Nat.one_mul]
        by_cases hd : d = prv d₁ c
        · rw [if_pos hd]
          obtain rfl : nxt d₁ d = c := by rw [hd, nxt_prv]
          exact tally_self _ _
        · rw [if_neg hd]
          exact tally_other (fun hh => hd (by rw [(rcv_inj hh).1]; exact (prv_nxt _ _).symm)) _
      · rw [if_neg (fun hb => h (eq_of_beq hb)), Nat.zero_mul]
        refine tally_other (fun hh => h ?_) _
        obtain ⟨-, rfl, rfl, rfl⟩ := rcv_inj hh
        rfl

theorem dues_bar (c : Dev nD) : (∑ d : Dev nD, dues.countP (fun x => match x with | .bar i => decide (up i.val d = c) | .rcv _ _ _ => false)) = 3 := by
  revert c; decide
theorem dues_rcv (e d : Fin 2) (k : Fin 3) : dues.count (.rcv e d k) = 1 := by revert e d k; decide

theorem credit_bar (c : Dev nD) :
    tallyOn (barCell c) (launchCredit (Pipeline.owing fun d => owe d dues) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owe_bar d c dues]
  exact dues_bar c
theorem credit_rcv (c : Dev nD) (e d : Fin 2) (k : Fin 3) :
    tallyOn (rcvCell c e d k) (launchCredit (Pipeline.owing fun d => owe d dues) 0 (rcvCell c e d k)) = (tallyAt (rcvCell c e d k) () N : CellTallies nD τ sig Unit) := by
  unfold tallyAt; refine congrArg _ (Finsupp.ext fun u => ?_); cases u
  rw [Pipeline.launchCredit_owing, Finsupp.single_eq_same, Finset.sum_congr rfl fun d' _ => owe_rcv d' c e d k dues, dues_rcv]
  simp only [Nat.one_mul]
  rw [Finset.sum_ite_eq' Finset.univ (prv d c) fun _ => N, if_pos (Finset.mem_univ _)]

def rcvEmb : Tr3 ↪ SemLoc sig := ⟨fun x => .dma (rcvS x.1 x.2.1 x.2.2), fun x y h => congrArg Prod.snd (xsem_inj (SemLoc.dma.inj h : xsem (1, x) = xsem (1, y)))⟩

theorem creds (c : Dev nD) : (Pipeline.launchCred (fun d => owe d dues) c : sProp 𝕄) ⊢ iprop(cred (tallyAt (barCell c) () 3) ∗ endCreds c) := by
  unfold Pipeline.launchCred endCreds
  rw [bigSep_univ_at _ (SemLoc.reg barS), credit_bar]
  refine BIClass.sep_mono Entails.rfl ?_
  have hs : Finset.univ.map rcvEmb ⊆ (Finset.univ.erase (SemLoc.reg barS) : Finset (SemLoc sig)) := by
    intro s hs
    obtain ⟨x, -, rfl⟩ := Finset.mem_map.mp hs
    exact Finset.mem_erase.mpr ⟨by dsimp only [rcvEmb]; nofun, Finset.mem_univ _⟩
  have hm : bigSep Finset.univ (fun x : Tr3 => (cred (tallyOn (rcvCell c x.1 x.2.1 x.2.2)
        (launchCredit (Pipeline.owing fun d => owe d dues) 0 (rcvCell c x.1 x.2.1 x.2.2))) : sProp 𝕄))
      ⊢ bigSep Finset.univ fun x : Tr3 => cred (tallyAt (rcvCell c x.1 x.2.1 x.2.2) () N) := by
    refine bigSep_mono fun x _ => ?_
    rw [credit_rcv]
    exact BI.Entails.refl _
  rw [show bigSep (Finset.univ.erase (SemLoc.reg barS)) _ = iprop(bigSep _ _ ∗ bigSep _ _) from BI.bigSep_sdiff_split hs, bigSep_map]
  iintro ⟨H, -⟩
  iapply hm
  iexact H

end Sorted

/-! ## What each device gets -/

section Deal

variable (E : Emb (URounds (GSem nD τ sig) ℕ) (MT nD τ sig Unit (Elt F) ℕ U ℕ)) [E.LandsIn (upEmb : UEmb _ (MT nD τ sig Unit (Elt F) ℕ U ℕ))]
variable (X : Dev nD → FVec F S2048x1024 .f32)

/-- What the launch's update makes for device `c`. -/
def share (c : Dev nD) : sProp 𝕄 :=
  iprop(atPos E (barCell c) 0 ∅ 0 ∗ bigSep Finset.univ (fun x : End => openTok E (endCell c x)) ∗ barToks E c ∗ endToks E c)

theorem deal (κ : GSem nD τ sig → ℕ) (c : Dev nD) :
    iprop((Inv E X κ ∗ bigSep barCells (fun g => reached E g 0)) ∗ share E c ∗ cred (tallyAt (barCell c) () 3) ∗ endCreds c) ⊢ dealt E X c := by
  have hr : ∀ d : Dev nD, bigSep barCells (fun g => (reached E g 0 : sProp 𝕄)) ⊢ reached E (barCell d) 0 := fun d =>
    bigSep_elim (Finset.mem_map_of_mem barEmb (Finset.mem_univ d))
  have hb : (barToks E c : sProp 𝕄) = iprop(dutyTok E (barCell (up 1 c)) 0 1 ∗ dutyTok E (barCell (up 2 c)) 0 2 ∗ dutyTok E (barCell (up 3 c)) 0 3) :=
    bigSep_univ_eq_bigSepL [0, 1, 2] (by decide) (by decide) _
  unfold share dealt barStart
  rw [hb]
  iintro ⟨⟨#HI, #HR⟩, ⟨Ha, Ho, ⟨H1, H2, H3⟩, Ht⟩, Hb, Hc⟩
  iexists κ
  isplitr; · iexact HI
  isplitr [Ho Ht Hc]
  · isplitl [H1]
    · isplitr; · iapply (hr (up 1 c)); iexact HR
      iexact H1
    isplitl [H2]
    · isplitr; · iapply (hr (up 2 c)); iexact HR
      iexact H2
    isplitl [H3]
    · isplitr; · iapply (hr (up 3 c)); iexact HR
      iexact H3
    isplitl [Ha] <;> iassumption
  isplitl [Ho]; · iexact Ho
  isplitl [Ht] <;> iassumption

/-- The launch's update: the barriers' counters and the launch element become every device's share. -/
theorem fund :
    iprop(bigSep Finset.univ (fun c : Dev nD => (semVal (barCell c) 0 : sProp 𝕄)) ∗ BI.own (E (launchOf barCells endCells toks)))
      ⊢ |={Set.univ}=> ∃ κ : GSem nD τ sig → ℕ, (Inv E X κ ∗ bigSep barCells (fun g => reached E g 0)) ∗ bigSep Finset.univ (fun c : Dev nD => share E c) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos E g 0 ∅ 0 : sProp 𝕄)) ⊢ bigSep Finset.univ (fun c : Dev nD => (atPos E (barCell c) 0 ∅ 0 : sProp 𝕄)) :=
    Entails.of_eq (bigSep_map (s := Finset.univ) barEmb (Φ := fun g : GSem nD τ sig => (atPos E g 0 ∅ 0 : sProp 𝕄)))
  have ho : bigSep endCells (fun g => (openTok E g : sProp 𝕄))
      ⊢ bigSep Finset.univ (fun c : Dev nD => bigSep Finset.univ (fun x : End => openTok E (endCell c x))) :=
    Entails.of_eq (by rw [bigSep_map, bigSep_univ_prod]; rfl)
  iintro ⟨Hv, Hu⟩
  imod (Rounds.fund_launch E (sched E X) cells_disjoint (fun g _ h => h) toks) $$ [Hv Hu] with ⟨%κ, -, #Hinv, #Hr, Hat, Hopen, Htok⟩
  · isplitl [Hv]
    · iapply hv; iexact Hv
    · iexact Hu
  imodintro
  iexists κ
  isplitr
  · isplitr
    · unfold Inv; iexact Hinv
    · iexact Hr
  unfold share
  ihave Htok := (toks_sorted E) $$ Htok
  icases Htok with ⟨Hb, He⟩
  iapply Smoke.bigSep_pair
  isplitl [Hat]; · iapply ha; iexact Hat
  iapply Smoke.bigSep_pair
  isplitl [Hopen]; · iapply ho; iexact Hopen
  iapply Smoke.bigSep_pair
  isplitl [Hb] <;> iassumption

end Deal

end Cert.KernelIdeal.AR

end
-- ==== Proof.KernelIdeal.Launch.lean ====
/- The whole program: the host operations, the two calls one after the other, the launch of the four devices, and what every final state holds. -/
module

public import proofs.«01_k».proof.Proof.KernelIdeal.AtRegion
public import proofs.«01_k».proof.Proof.KernelIdeal.AtFund
public import proofs.«01_k».proof.Proof.KernelIdeal.ArRegion
public import proofs.«01_k».proof.Proof.KernelIdeal.ArFund
public import proofs.«01_k».proof.Proof.Gen.KernelIdeal.Launch
public import Idealize.ShloMosaic.Lib.Pipeline.Regions
public import Idealize.ShloMosaic.Lib.Pipeline.Kit
public import Idealize.ShloMosaic.Lib.StableHlo

@[expose] public section

noncomputable section

namespace Cert.KernelIdeal.All

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts Cert.KernelIdeal.Gen Cert.KernelIdeal.Base

variable {F : FTy → Type} [FloatOps F] [Named F]

abbrev RR : Type := URounds (GSem nD τ sig) ℕ
abbrev UU : Type := UR sig nD τ × (RR × RR)

local notation "𝕄" => MT nD τ sig Unit (Elt F) ℕ UU ℕ

abbrev EP : Emb (UR sig nD τ) (MT nD τ sig Unit (Elt F) ℕ UU ℕ) := embL
/-- The attention call's tokens, and the all-reduce's. -/
abbrev EA : Emb RR (MT nD τ sig Unit (Elt F) ℕ UU ℕ) := (Emb.inl : Emb RR (RR × RR)).trans embR
abbrev ER : Emb RR (MT nD τ sig Unit (Elt F) ℕ UU ℕ) := (Emb.inr : Emb RR (RR × RR)).trans embR

abbrev adm : (p : Fin 2) → (pcfgs (F := F) p).Adm := fun p => (cfgs p).toPCfg_adm

variable (m : (ℓ : Loc nD τ sig) → Buf (Elt F) ℓ) (ρ : Dev nD → PrngReg)

/-! ## What the buffers hold -/

/-- A device's buffers, by reference. -/
abbrev at' (Y : Dev nD → Valuation τ sig (Elt F)) (c : Dev nD) (b : Ref sig .tc) : Buf (Elt F) ((c : Thread nD τ).loc b) := Y c (Proc.devRef .tc b)

abbrev Y₀ (c : Dev nD) : Valuation τ sig (Elt F) := fun b => m ((c : Dev nD), b)
/-- After the host's first operations: the operands of the calls. -/
def Y₁ (c : Dev nD) : Valuation τ sig (Elt F) := StableHlo.after hostOps0 (Y₀ m c)
/-- What the attention call leaves on each device. -/
abbrev part (c : Dev nD) : FVec F S2048x1024 .f32 := AT.partOf (at' (Y₁ m)) c
def Y₂ (c : Dev nD) : Valuation τ sig (Elt F) := Function.update (Y₁ m c) (Proc.devRef .tc main_v7) (part m c)
/-- What the all-reduce leaves. -/
abbrev total (c : Dev nD) : FVec F S2048x1024 .f32 := AR.outV (F := F) (AR.opnd (at' (Y₂ m))) c
def Y₃ (c : Dev nD) : Valuation τ sig (Elt F) := Function.update (Y₂ m c) (Proc.devRef .tc main_v8) (total m c)
def Y₄ (c : Dev nD) : Valuation τ sig (Elt F) := StableHlo.after hostOps2 (Y₃ m c)

theorem off7 (c : Dev nD) {b : DevRef τ sig} (h : b ≠ Proc.devRef .tc main_v7) : Y₂ m c b = Y₁ m c b := Function.update_of_ne h _ _
theorem off8 (c : Dev nD) {b : DevRef τ sig} (h : b ≠ Proc.devRef .tc main_v8) : Y₃ m c b = Y₂ m c b := Function.update_of_ne h _ _
theorem on7 (c : Dev nD) : Y₂ m c (Proc.devRef .tc main_v7) = part m c := Function.update_self ..
theorem on8 (c : Dev nD) : Y₃ m c (Proc.devRef .tc main_v8) = total m c := Function.update_self ..

theorem opnd_part : AR.opnd (at' (Y₂ m)) = part m := by
  funext c; unfold Y₂; exact Function.update_self ..

theorem Y₁_keep (c : Dev nD) (r : Ref sig .tc) (h : r ∉ [main_v1, main_v2, main_v3, main_v4, main_v5, main_v6]) : Y₁ m c (Proc.devRef .tc r) = m ((c : Thread nD τ).loc r) :=
  StableHlo.after_of_writes_sub (W := [main_v1, main_v2, main_v3, main_v4, main_v5, main_v6]) hostOps0 (Y₀ m c) (StableHlo.forall_writes_sub_of_map rfl) h
theorem Y₄_keep (c : Dev nD) (r : Ref sig .tc) (h : r ∉ [main_v1, main_v2, main_v3, main_v4, main_v5, main_v6, main_v7, main_v8, main_v9]) :
    Y₄ m c (Proc.devRef .tc r) = m ((c : Thread nD τ).loc r) := by
  have h7 : r ≠ main_v7 := fun e => h (by rw [e]; decide)
  have h8 : r ≠ main_v8 := fun e => h (by rw [e]; decide)
  refine (StableHlo.after_of_writes_sub (W := [main_v9]) hostOps2 (Y₃ m c) (StableHlo.forall_writes_sub_of_map rfl) fun e => h (by rw [List.mem_singleton.mp e]; decide)).trans ?_
  unfold Y₃ Y₂
  rw [Function.update_of_ne fun e => h8 (Proc.devRef_injective _ e), Function.update_of_ne fun e => h7 (Proc.devRef_injective _ e)]
  refine Y₁_keep m c r fun e => h ?_
  exact List.mem_append_left [main_v7, main_v8, main_v9] e

/-- The program's result on each device. -/
def result (c : Dev nD) : FVec F S1x2048x1024 .f32 := shapeCast S1x2048x1024 (AR.outV (F := F) (part m) c) shapeCasts_S2048x1024_S1x2048x1024
theorem Y₄_out (c : Dev nD) : Y₄ m c (Proc.devRef .tc main_v9) = result m c := by
  have h : Y₃ m c (Proc.devRef .tc main_v8) = AR.outV (F := F) (part m) c := by
    unfold Y₃; rw [Function.update_self]; unfold total; rw [opnd_part]
  unfold result
  rw [← h]
  unfold Y₄
  simp only [StableHlo.after_cons, StableHlo.after_nil]
  rfl

/-! ## The two calls' data -/

/-- What a device still owes while the attention call runs: the all-reduce's debts. -/
abbrev later (c : Dev nD) : CellTallies nD τ sig Unit := AR.owe c AR.dues

theorem later_ok (c : Dev nD) : AT.Later (later c) := fun g u h => by
  obtain ⟨x, -, rfl⟩ := AR.owe_pos h
  exact ⟨AR.Due.L_cell c x, by rw [AR.Due.lv_cell]; exact AR.dues_late x⟩

abbrev pdats : (p : Fin 2) → (c : Dev nD) → Pipeline.Dat τ (Elt F) Unit ℕ UU ℕ (Pipeline.pin (pcfgs (F := F)) adm p) c :=
  fun | 0 => fun c => AT.dat EA (at' (Y₁ m)) later c | 1 => fun c => AR.dat ER (at' (Y₂ m)) c

abbrev uc : Finset (DevRef τ sig) := Pipeline.ucRefs τ sig
/-- The arrays the attention call reads itself. -/
abbrev kvRefs : Finset (DevRef τ sig) := {Proc.devRef .tc main_v5, Proc.devRef .tc main_v6}
abbrev arr0 : Finset (DevRef τ sig) := Pipeline.arrRefs (τ := τ) spec0
abbrev arr1 : Finset (DevRef τ sig) := Pipeline.arrRefs (τ := τ) spec1

theorem arr0_sub : arr0 ⊆ uc := by decide
theorem arr1_sub : arr1 ⊆ uc := by decide
theorem kv_sub : kvRefs ⊆ uc \ arr0 := by decide

theorem held_kv (c : Dev nD) (Y : Valuation τ sig (Elt F)) : (StableHlo.held (c.tc : Thread nD τ) kvRefs Y : sProp 𝕄)
    = iprop((((c : Thread nD τ).loc main_v5) ↦{fullShare} Y (Proc.devRef .tc main_v5)) ∗ (((c : Thread nD τ).loc main_v6) ↦{fullShare} Y (Proc.devRef .tc main_v6))) := by
  unfold StableHlo.held
  rw [bigSep_eq_bigSepL_of_eq [Proc.devRef .tc main_v5, Proc.devRef .tc main_v6] (by decide) (by decide)]
  rfl
theorem held_none (c : Dev nD) (Y : Valuation τ sig (Elt F)) : (StableHlo.held (c.tc : Thread nD τ) ∅ Y : sProp 𝕄) = BI.emp := by
  unfold StableHlo.held; exact BI.bigSep_empty

abbrev osem0 : AT.End → SemLoc sig := fun x => .dma (AT.xsem x)
abbrev osem1 : AR.End → SemLoc sig := fun x => .dma (AR.xsem x)

def kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
def kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem stage_levels0 : ∀ (c : Dev nD) (w : Fin 4) (s : Fin (spec0 w).nbuf), dmaLvl c ((spec0 w).sem s).val ≤ 0 := by decide +kernel
theorem stage_levels1 : ∀ (c : Dev nD) (w : Fin 2) (s : Fin (spec1 w).nbuf), dmaLvl c ((spec1 w).sem s).val ≤ 0 := by decide +kernel

theorem at_levels : ∀ c : Dev nD, ∀ x ∈ AT.dues c, 0 < x.lvl := by decide +kernel

theorem later_levels (c : Dev nD) (g : GSem nD τ sig) (i : Unit) (h : 0 < later c g i) : i ∈ L g ∧ 0 < lv g i :=
  ⟨by rw [(later_ok c g i h).1]; exact Finset.mem_singleton_self _, lt_trans (by decide) (later_ok c g i h).2⟩
theorem due_levels0 (c : Dev nD) (t : Fin (cfg0.N + 1)) (g : GSem nD τ sig) (i : Unit) (h : 0 < (AT.dat (EA (F := F)) (at' (Y₁ m)) later c).owed t g i) :
    i ∈ L g ∧ 0 < lv g i := by
  have h' : 0 < (if t.val = 0 then later c + AT.owe (AT.dues c) else later c : CellTallies nD τ sig Unit) g i := h
  split at h'
  · rw [Pi.add_apply, Finsupp.add_apply] at h'
    rcases Nat.add_pos_iff_pos_or_pos.mp h' with h' | h'
    · exact later_levels c g i h'
    · obtain ⟨x, hx, rfl⟩ := AT.owe_pos h'
      exact ⟨by rw [AT.Due.L_cell]; exact Finset.mem_singleton_self _, by rw [show lv x.cell i = x.lvl from AT.Due.lv_cell x]; exact at_levels c x hx⟩
  · exact later_levels c g i h'
theorem due_levels1 (c : Dev nD) (t : Fin (cfg1.N + 1)) (g : GSem nD τ sig) (i : Unit) (h : 0 < (AR.dat (ER (F := F)) (at' (Y₂ m)) c).owed t g i) :
    i ∈ L g ∧ 0 < lv g i := by
  have h' : 0 < (if t.val = 0 then later c else 0 : CellTallies nD τ sig Unit) g i := h
  split at h'
  · exact later_levels c g i h'
  · exact absurd h' (Nat.lt_irrefl 0)

/-! ## The attention call -/

/-- What the launch keeps for each call. -/
abbrev kept0 (c : Dev nD) : sProp 𝕄 := AT.dealt EA (AT.opY (at' (Y₁ m)) 0) c
abbrev kept1 (c : Dev nD) : sProp 𝕄 := AR.dealt ER (AR.opnd (at' (Y₂ m))) c

theorem enter0 (c : Dev nD) :
    iprop(Pipeline.scopedRest (Pipeline.pin (pcfgs (F := F)) adm 0).spec c ∗ (∃ r, prngReg c r) ∗ StableHlo.held (c.tc : Thread nD τ) kvRefs (Y₁ m c)
      ∗ AT.opened EA (AT.opY (at' (Y₁ m)) 0) c) ⊢ (pdats m 0 c).Φ 0 := by
  show iprop(Pipeline.scopedRest spec0 c ∗ (∃ r, prngReg c r) ∗ StableHlo.held (c.tc : Thread nD τ) kvRefs (Y₁ m c) ∗ AT.opened EA (AT.opY (at' (Y₁ m)) 0) c)
    ⊢ iprop(AT.opened EA (AT.opY (at' (Y₁ m)) 0) c ∗ AT.scr c ∗ AT.arrs c (AT.opY (at' (Y₁ m)) c) ∗ AT.others c ∗ ∃ r, prngReg c r)
  rw [scopedRest0_eq, held_kv]
  unfold AT.scr AT.others AT.arrs
  iintro ⟨⟨H0, H1, H2, H3, H4, H5, H6, Hs⟩, Hp, Hh, Ho⟩
  isplitl [Ho]; · iexact Ho
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [Hh]; · iexact Hh
  isplitl [Hs] <;> iassumption

theorem leave0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) kvRefs (Y₂ m c)
      ∗ Pipeline.ownSems0 osem0 c ∗ semVal (AT.barCell c) 0) := by
  show iprop(semVal (AT.barCell c) 0 ∗ AT.atRest c ∗ AT.scr c ∗ AT.arrs c (AT.opY (at' (Y₁ m)) c) ∗ AT.others c ∗ ∃ r, prngReg c r)
    ⊢ iprop(Pipeline.scopedRest spec0 c ∗ (∃ r, prngReg c r) ∗ StableHlo.held (c.tc : Thread nD τ) kvRefs (Y₂ m c) ∗ Pipeline.ownSems0 osem0 c ∗ semVal (AT.barCell c) 0)
  rw [show (StableHlo.held (c.tc : Thread nD τ) kvRefs (Y₂ m c) : sProp 𝕄) = StableHlo.held (c.tc : Thread nD τ) kvRefs (Y₁ m c) from
    StableHlo.held_congr _ fun b hb => off7 m c fun e => absurd (e ▸ hb) (by decide)]
  rw [scopedRest0_eq, held_kv]
  unfold AT.scr AT.others AT.arrs
  iintro ⟨Hv, Hr, ⟨H0, H1, H2, H3, H4, H5, H6⟩, Hh, Hs, Hp⟩
  isplitl [H0 H1 H2 H3 H4 H5 H6 Hs]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Hp]; · iexact Hp
  isplitl [Hh]; · iexact Hh
  isplitl [Hr]; · unfold AT.atRest Pipeline.ownSems0; iexact Hr
  iexact Hv

theorem own0 : Pipeline.OwnSemFacts spec0 osem0 := by decide
theorem own1 : Pipeline.OwnSemFacts spec1 osem1 := by decide

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 own0
    kvRefs (uc \ arr0) kv_sub kit0 rfl (fun c => (AT.body_ok EA (at' (Y₁ m)) later later_ok c).loose)
    later (fun c => AT.owe (AT.dues c)) (AT.owed_first EA (at' (Y₁ m)) later) (AT.owed_last EA (at' (Y₁ m)) later) (fun _ => rfl) (fun c w => by fin_cases w <;> rfl)
    (Y₁ m) (Y₂ m) (fun c b hb => off7 m c fun e => absurd (e ▸ hb) (by decide))
    (kept0 m) (fun c => semVal (AT.barCell c) 0) (fun c => AT.opened EA (AT.opY (at' (Y₁ m)) 0) c) (fun c => semVal (AT.barCell c) 0)
    (fun c => AT.open_up EA (AT.opY (at' (Y₁ m)) 0) c) (enter0 m) (leave0 m)
    (fun c => by iintro H; imodintro; iexact H)
    (fun _ => 0)
    ⟨fun c w s => by rw [L_tc]; exact Finset.mem_univ _, fun c w s => stage_levels0 c w s, fun c t g i h => due_levels0 m c t g i h⟩
    (kept1 m)
    (fun c w => by fin_cases w <;> rfl)
    (fun c w => by
      fin_cases w
      · exact ((AT.dat EA (at' (Y₁ m)) later c).arrAt_in 0 rfl _).trans (off7 m c (b := Proc.devRef .tc main_v2) (by decide)).symm
      · exact ((AT.dat EA (at' (Y₁ m)) later c).arrAt_in 1 rfl _).trans (off7 m c (b := Proc.devRef .tc main_v3) (by decide)).symm
      · exact ((AT.dat EA (at' (Y₁ m)) later c).arrAt_in 2 rfl _).trans (off7 m c (b := Proc.devRef .tc main_v4) (by decide)).symm
      · exact (AT.arr_out EA (at' (Y₁ m)) later c).trans (on7 m c).symm)

/-! ## The all-reduce -/

theorem enter1 (c : Dev nD) :
    iprop(Pipeline.scopedRest (Pipeline.pin (pcfgs (F := F)) adm 1).spec c ∗ (∃ r, prngReg c r) ∗ StableHlo.held (c.tc : Thread nD τ) ∅ (Y₂ m c)
      ∗ AR.opened ER (AR.opnd (at' (Y₂ m))) c) ⊢ (pdats m 1 c).Φ 0 := by
  show iprop(Pipeline.scopedRest spec1 c ∗ (∃ r, prngReg c r) ∗ StableHlo.held (c.tc : Thread nD τ) ∅ (Y₂ m c) ∗ AR.opened ER (AR.opnd (at' (Y₂ m))) c)
    ⊢ iprop(AR.opened ER (AR.opnd (at' (Y₂ m))) c ∗ AR.bufs5 c ∗ AR.others c ∗ ∃ r, prngReg c r)
  rw [scopedRest1_eq]
  unfold AR.bufs5 AR.others
  iintro ⟨⟨G0, G1, G2, G3, H0, H1, H2, H3, H4, H5, H6, Hs⟩, Hp, -, Ho⟩
  isplitl [Ho]; · iexact Ho
  isplitl [Hs]; · iexact Hs
  isplitr [Hp]
  · isplitl [G0]; · iexact G0
    isplitl [G1]; · iexact G1
    isplitl [G2]; · iexact G2
    isplitl [G3]; · iexact G3
    isplitl [H0]; · iexact H0
    isplitl [H1]; · iexact H1
    isplitl [H2]; · iexact H2
    isplitl [H3]; · iexact H3
    isplitl [H4]; · iexact H4
    isplitl [H5] <;> iassumption
  iexact Hp

theorem leave1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) ∅ (Y₃ m c)
      ∗ Pipeline.ownSems0 osem1 c ∗ semVal (AR.barCell c) 0) := by
  show iprop(semVal (AR.barCell c) 0 ∗ AR.atRest c ∗ AR.bufs5 c ∗ AR.others c ∗ ∃ r, prngReg c r)
    ⊢ iprop(Pipeline.scopedRest spec1 c ∗ (∃ r, prngReg c r) ∗ StableHlo.held (c.tc : Thread nD τ) ∅ (Y₃ m c) ∗ Pipeline.ownSems0 osem1 c ∗ semVal (AR.barCell c) 0)
  rw [scopedRest1_eq, held_none]
  unfold AR.bufs5 AR.others
  iintro ⟨Hv, Hr, Hs, ⟨G0, G1, G2, G3, H0, H1, H2, H3, H4, H5, H6⟩, Hp⟩
  isplitl [G0 G1 G2 G3 H0 H1 H2 H3 H4 H5 H6 Hs]
  · isplitl [G0]; · iexact G0
    isplitl [G1]; · iexact G1
    isplitl [G2]; · iexact G2
    isplitl [G3]; · iexact G3
    isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Hp]; · iexact Hp
  isplitr; · iempintro
  isplitl [Hr]; · unfold AR.atRest Pipeline.ownSems0; iexact Hr
  iexact Hv

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 own1
    ∅ (uc \ arr1) (Finset.empty_subset _) kit1 rfl (fun c => (AR.body_ok ER (at' (Y₂ m)) c).loose)
    (fun _ => 0) later (fun c => (AR.owed_first ER (at' (Y₂ m)) c).trans (zero_add _).symm) (AR.owed_last ER (at' (Y₂ m))) (fun _ => rfl) (fun c w => by fin_cases w <;> rfl)
    (Y₂ m) (Y₃ m) (fun c b hb => off8 m c fun e => absurd (e ▸ hb) (by decide))
    (kept1 m) (fun c => semVal (AR.barCell c) 0) (fun c => AR.opened ER (AR.opnd (at' (Y₂ m))) c) (fun c => semVal (AR.barCell c) 0)
    (fun c => AR.open_up ER (AR.opnd (at' (Y₂ m))) c) (enter1 m) (leave1 m)
    (fun c => by iintro H; imodintro; iexact H)
    (fun _ => 0)
    ⟨fun c w s => by rw [L_tc]; exact Finset.mem_univ _, fun c w s => stage_levels1 c w s, fun c t g i h => due_levels1 m c t g i h⟩
    (fun c => semVal (AT.barCell c) 0)
    (fun c w => by fin_cases w <;> rfl)
    (fun c w => by
      fin_cases w
      · exact (AR.arr_in ER (at' (Y₂ m)) c _).trans (off8 m c (b := Proc.devRef .tc main_v7) (by decide)).symm
      · exact (AR.arr_out ER (at' (Y₂ m)) c).trans (on8 m c).symm)

/-! ## The host's operations and the chain -/

abbrev started (c : Dev nD) : sProp 𝕄 :=
  iprop(kept0 m c ∗ kept1 m c ∗ (∃ r, prngReg c r) ∗ ∃ Wd, owes (c : Thread nD τ) (later c + AT.owe (AT.dues c)) Wd)
abbrev ended (c : Dev nD) : sProp 𝕄 :=
  iprop((semVal (AT.barCell c) 0 ∗ semVal (AR.barCell c) 0) ∗ ∃ Wd, owes (c : Thread nD τ) (0 : CellTallies nD τ sig Unit) Wd)

theorem fresh0 : ∀ op ∈ (hostOps0 : List (HloOp τ sig (Elt F))), op.fresh = ∅ := List.forall_iff_forall_mem.mp ⟨rfl, rfl, rfl, rfl, rfl, rfl⟩
theorem fresh2 : ∀ op ∈ (hostOps2 : List (HloOp τ sig (Elt F))), op.fresh = ∅ := List.forall_iff_forall_mem.mp (rfl : _ = _)

set_option backward.isDefEq.respectTransparency.types false in
def host0 : Pipeline.HostSeg (Ix := Unit) (Name := ℕ) (U := UU) (Lvl := ℕ) (pcfgs (F := F)) defs₀ 𝒱₀ L lv :=
  Pipeline.HostSeg.ofOps (pcfgs (F := F)) defs₀ 𝒱₀ L lv uc hostOps0 (fun op h => Pipeline.sub_ucRefs op ((List.forall_iff_forall_mem.mp hostOps0_sub) op h)) fresh0 (Y₀ m) (started m)
set_option backward.isDefEq.respectTransparency.types false in
def host2 : Pipeline.HostSeg (Ix := Unit) (Name := ℕ) (U := UU) (Lvl := ℕ) (pcfgs (F := F)) defs₀ 𝒱₀ L lv :=
  Pipeline.HostSeg.ofOps (pcfgs (F := F)) defs₀ 𝒱₀ L lv uc hostOps2 (fun op h => Pipeline.sub_ucRefs op ((List.forall_iff_forall_mem.mp hostOps2_sub) op h)) fresh2 (Y₃ m) ended

theorem link0 (c : Dev nD) : (host0 m).post c ⊢ (reg0 m).pre c := by
  show iprop(StableHlo.held (c.tc : Thread nD τ) uc (Y₁ m c) ∗ started m c) ⊢ iprop(StableHlo.held (c.tc : Thread nD τ) arr0 (Y₁ m c) ∗ (∃ r, prngReg c r)
    ∗ (StableHlo.held (c.tc : Thread nD τ) (uc \ arr0) (Y₁ m c) ∗ kept1 m c) ∗ kept0 m c ∗ ∃ Wd, owes (c : Thread nD τ) (later c + AT.owe (AT.dues c)) Wd)
  rw [StableHlo.held_sub_split (c.tc : Thread nD τ) arr0_sub (Y₁ m c)]
  iintro ⟨⟨Ha, Hr⟩, H0, H1, Hp, HO⟩
  isplitl [Ha]; · iexact Ha
  isplitl [Hp]; · iexact Hp
  isplitl [Hr H1]; · isplitl [Hr] <;> iassumption
  isplitl [H0] <;> iassumption

theorem link1 (c : Dev nD) : (reg0 m).post c ⊢ (reg1 m).pre c := by
  show iprop(StableHlo.held (c.tc : Thread nD τ) arr0 (Y₂ m c) ∗ (∃ r, prngReg c r)
    ∗ (StableHlo.held (c.tc : Thread nD τ) (uc \ arr0) (Y₂ m c) ∗ kept1 m c) ∗ semVal (AT.barCell c) 0 ∗ ∃ Wd, owes (c : Thread nD τ) (later c) Wd)
    ⊢ iprop(StableHlo.held (c.tc : Thread nD τ) arr1 (Y₂ m c) ∗ (∃ r, prngReg c r)
    ∗ (StableHlo.held (c.tc : Thread nD τ) (uc \ arr1) (Y₂ m c) ∗ semVal (AT.barCell c) 0) ∗ kept1 m c ∗ ∃ Wd, owes (c : Thread nD τ) (0 + later c) Wd)
  rw [zero_add]
  have h : iprop(StableHlo.held (c.tc : Thread nD τ) arr0 (Y₂ m c) ∗ StableHlo.held (c.tc : Thread nD τ) (uc \ arr0) (Y₂ m c))
      ⊢ (iprop(StableHlo.held (c.tc : Thread nD τ) arr1 (Y₂ m c) ∗ StableHlo.held (c.tc : Thread nD τ) (uc \ arr1) (Y₂ m c)) : sProp 𝕄) :=
    Entails.of_eq ((StableHlo.held_sub_split (c.tc : Thread nD τ) arr0_sub (Y₂ m c)).symm.trans (StableHlo.held_sub_split (c.tc : Thread nD τ) arr1_sub (Y₂ m c)))
  iintro ⟨Ha, Hp, ⟨Hr, H1⟩, Hb, HO⟩
  ihave Hh := h $$ [Ha Hr]
  · isplitl [Ha] <;> iassumption
  icases Hh with ⟨Ha, Hr⟩
  isplitl [Ha]; · iexact Ha
  isplitl [Hp]; · iexact Hp
  isplitl [Hr Hb]; · isplitl [Hr] <;> iassumption
  isplitl [H1] <;> iassumption

theorem link2 (c : Dev nD) : (reg1 m).post c ⊢ (host2 m).pre c := by
  show iprop(StableHlo.held (c.tc : Thread nD τ) arr1 (Y₃ m c) ∗ (∃ r, prngReg c r)
    ∗ (StableHlo.held (c.tc : Thread nD τ) (uc \ arr1) (Y₃ m c) ∗ semVal (AT.barCell c) 0) ∗ semVal (AR.barCell c) 0 ∗ ∃ Wd, owes (c : Thread nD τ) (0 : CellTallies nD τ sig Unit) Wd)
    ⊢ iprop(StableHlo.held (c.tc : Thread nD τ) uc (Y₃ m c) ∗ ended c)
  rw [StableHlo.held_sub_split (c.tc : Thread nD τ) arr1_sub (Y₃ m c)]
  iintro ⟨Ha, -, ⟨Hr, Hb⟩, Hc, HO⟩
  isplitl [Ha Hr]; · isplitl [Ha] <;> iassumption
  isplitl [Hb Hc]; · isplitl [Hb] <;> iassumption
  iexact HO

abbrev Tₙ (c : Dev nD) : sProp 𝕄 := iprop(StableHlo.held (c.tc : Thread nD τ) uc (Y₄ m c) ∗ semVal (AT.barCell c) 0 ∗ semVal (AR.barCell c) 0)

theorem link3 (c : Dev nD) : (host2 m).post c ⊢ iprop(Tₙ m c ∗ ∃ Wd, owes (c : Thread nD τ) (0 : CellTallies nD τ sig Unit) Wd) := by
  show iprop(StableHlo.held (c.tc : Thread nD τ) uc (Y₄ m c) ∗ ended c) ⊢ _
  iintro ⟨Hh, Hb, HO⟩
  isplitr [HO]
  · isplitl [Hh] <;> iassumption
  iexact HO

def segs : List (Pipeline.Seg (pcfgs (F := F)) adm (pdats m) () defs₀ 𝒱₀ L lv) := [.host (host0 m), .region (reg0 m), .region (reg1 m), .host (host2 m)]

/-! ## The launch -/

def u₀ : UU :=
  (initOf (Pipeline.cells (Pipeline.pin (pcfgs (F := F)) adm) cellOf_inj) (Pipeline.launchToks (Pipeline.pin (pcfgs (F := F)) adm) cellOf_inj),
    (launchOf AT.barCells AT.endCells AT.toks, launchOf AR.barCells AR.endCells AR.toks))

abbrev ghost0 : sProp 𝕄 := BI.own (EA (F := F) (launchOf AT.barCells AT.endCells AT.toks))
abbrev ghost1 : sProp 𝕄 := BI.own (ER (F := F) (launchOf AR.barCells AR.endCells AR.toks))
def ghost : Dev nD → sProp 𝕄 := parked iprop(ghost0 (F := F) ∗ ghost1 (F := F))

abbrev T₀ (c : Dev nD) : sProp 𝕄 := iprop(StableHlo.held (c.tc : Thread nD τ) uc (Y₀ m c) ∗ started m c)

abbrev purse (c : Dev nD) : sProp 𝕄 :=
  iprop(StableHlo.held (c.tc : Thread nD τ) uc (Y₀ m c) ∗ (cred (tallyAt (AT.barCell c) () 3) ∗ AT.crdAll c) ∗ (cred (tallyAt (AR.barCell c) () 3) ∗ AR.endCreds c)
    ∗ owes (c : Thread nD τ) (later c + AT.owe (AT.dues c)) ∅ ∗ prngReg c (ρ c))

abbrev given (c : Dev nD) : sProp 𝕄 :=
  iprop(unscopedBufs c (fun b => m ((c : Thread nD τ).loc b)) ∗ unscopedSems0 c ∗ owes (c : Thread nD τ) (later c + AT.owe (AT.dues c)) ∅
    ∗ Pipeline.launchCred (fun d => later d + AT.owe (AT.dues d)) c ∗ prngReg c (ρ c) ∗ ghost c)

theorem unscoped_two : ∀ sm : SemLoc sig, sm.isScoped .tc = false → sm = .reg AT.barS ∨ sm = .reg AR.barS := by decide
theorem unscopedSems_two (c : Dev nD) : (unscopedSems0 c : sProp 𝕄) = iprop(semVal (AT.barCell c) 0 ∗ semVal (AR.barCell c) 0) := by
  unfold unscopedSems0
  rw [show (Finset.univ.filter fun sm : SemLoc sig => ¬ sm.isScoped .tc) = {SemLoc.reg AT.barS, SemLoc.reg AR.barS} from by decide,
    BI.bigSep_insert (by decide), BI.bigSep_singleton]
  rfl

theorem given_split (c : Dev nD) : given m ρ c ⊢ iprop(purse m ρ c ∗ (semVal (AT.barCell c) 0 ∗ semVal (AR.barCell c) 0 ∗ ghost c)) := by
  unfold given
  rw [show unscopedBufs c (fun b => m ((c : Thread nD τ).loc b)) = StableHlo.held (c.tc : Thread nD τ) uc (Y₀ m c) from
    Pipeline.unscopedBufs_held c (Y₀ m c), unscopedSems_two, Pipeline.launchCred_add]
  unfold purse
  iintro ⟨Hh, ⟨Hv, Hv'⟩, HO, ⟨Hd, Hc⟩, Hp, HG⟩
  ihave Hc := (AT.creds (F := F) c) $$ Hc
  ihave Hd := (AR.creds (F := F) c) $$ Hd
  isplitr [Hv Hv' HG]
  · isplitl [Hh]; · iexact Hh
    isplitl [Hc]; · iexact Hc
    isplitl [Hd]; · iexact Hd
    isplitl [HO] <;> iassumption
  isplitl [Hv]; · iexact Hv
  isplitl [Hv'] <;> iassumption

abbrev known0 (κ : GSem nD τ sig → ℕ) : sProp 𝕄 := iprop(AT.Inv EA (AT.opY (at' (Y₁ m)) 0) κ ∗ bigSep AT.barCells (fun g => reached (EA (F := F)) g 0))
abbrev known1 (κ : GSem nD τ sig → ℕ) : sProp 𝕄 := iprop(AR.Inv ER (AR.opnd (at' (Y₂ m))) κ ∗ bigSep AR.barCells (fun g => reached (ER (F := F)) g 0))

theorem start_of (κ κ' : GSem nD τ sig → ℕ) (c : Dev nD) :
    iprop((known0 m κ ∗ known1 m κ') ∗ AT.share EA c ∗ AR.share ER c ∗ purse m ρ c) ⊢ T₀ m c := by
  unfold purse T₀ started
  iintro ⟨⟨#HR, #HR'⟩, Hs, Hs', Hh, ⟨Hb, Hc⟩, ⟨Hb', Hc'⟩, HO, Hp⟩
  isplitl [Hh]; · iexact Hh
  isplitl [Hs Hb Hc]
  · iapply (AT.deal EA (AT.opY (at' (Y₁ m)) 0) κ c)
    isplitr; · iexact HR
    isplitl [Hs]; · iexact Hs
    isplitl [Hb] <;> iassumption
  isplitl [Hs' Hb' Hc']
  · iapply (AR.deal ER (AR.opnd (at' (Y₂ m))) κ' c)
    isplitr; · iexact HR'
    isplitl [Hs']; · iexact Hs'
    isplitl [Hb'] <;> iassumption
  isplitl [Hp]; · iexists _; iexact Hp
  iexists ∅; iexact HO

theorem init : iprop((bigSep Finset.univ fun c : Dev nD => given m ρ c) ∗ levAts L lv) ⊢ (|={Set.univ}=> bigSep Finset.univ (T₀ m) : sProp 𝕄) := by
  iintro ⟨H, -⟩
  ihave H := (show (bigSep Finset.univ fun c : Dev nD => given m ρ c)
      ⊢ bigSep Finset.univ fun c : Dev nD => iprop(purse m ρ c ∗ (semVal (AT.barCell c) 0 ∗ semVal (AR.barCell c) 0 ∗ ghost c)) from bigSep_mono fun c _ => given_split m ρ c) $$ H
  ihave H := Smoke.bigSep_unpair $$ H; icases H with ⟨HB, H⟩
  ihave H := Smoke.bigSep_unpair $$ H; icases H with ⟨Hv, H⟩
  ihave H := Smoke.bigSep_unpair $$ H; icases H with ⟨Hv', HG⟩
  ihave Hu := (show bigSep Finset.univ (ghost (F := F)) ⊢ iprop(ghost0 (F := F) ∗ ghost1 (F := F)) from Entails.of_eq (parked_eq _)) $$ HG
  icases Hu with ⟨Hu, Hu'⟩
  imod (AT.fund EA (AT.opY (at' (Y₁ m)) 0)) $$ [Hv Hu] with ⟨%κ, #HR, Hs⟩
  · isplitl [Hv] <;> iassumption
  imod (AR.fund ER (AR.opnd (at' (Y₂ m)))) $$ [Hv' Hu'] with ⟨%κ', #HR', Hs'⟩
  · isplitl [Hv'] <;> iassumption
  imodintro
  iapply (bigSep_with_persistent (R := iprop(known0 m κ ∗ known1 m κ'))
    (Φ := fun c => iprop(AT.share EA c ∗ AR.share ER c ∗ purse m ρ c)) fun c _ => start_of m ρ κ κ' c)
  isplitr
  · isplitr; · iexact HR
    iexact HR'
  iapply Smoke.bigSep_pair
  isplitl [Hs]; · iexact Hs
  iapply Smoke.bigSep_pair
  isplitl [Hs'] <;> iassumption

abbrev seen : Finset (DevRef τ sig) := {Proc.devRef .tc main_arg0, Proc.devRef .tc main_arg1, Proc.devRef .tc main_arg2, Proc.devRef .tc main_arg3, Proc.devRef .tc main_arg4, Proc.devRef .tc main_v9}
theorem seen_sub : seen ⊆ uc := by decide
theorem held_seen (c : Dev nD) (Y : Valuation τ sig (Elt F)) : (StableHlo.held (c.tc : Thread nD τ) seen Y : sProp 𝕄)
    = iprop((((c : Thread nD τ).loc main_arg0) ↦{fullShare} Y (Proc.devRef .tc main_arg0)) ∗ (((c : Thread nD τ).loc main_arg1) ↦{fullShare} Y (Proc.devRef .tc main_arg1))
      ∗ (((c : Thread nD τ).loc main_arg2) ↦{fullShare} Y (Proc.devRef .tc main_arg2)) ∗ (((c : Thread nD τ).loc main_arg3) ↦{fullShare} Y (Proc.devRef .tc main_arg3))
      ∗ (((c : Thread nD τ).loc main_arg4) ↦{fullShare} Y (Proc.devRef .tc main_arg4)) ∗ (((c : Thread nD τ).loc main_v9) ↦{fullShare} Y (Proc.devRef .tc main_v9))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v9] (by decide) (by decide)]
  rfl

/-- A memory whose arguments on device `c` are those of `m`. -/
def Same (mem : (ℓ : Loc nD τ sig) → Buf (Elt F) ℓ) (c : Dev nD) : Prop :=
  mem ((c : Thread nD τ).loc main_arg0) = m ((c : Thread nD τ).loc main_arg0) ∧ mem ((c : Thread nD τ).loc main_arg1) = m ((c : Thread nD τ).loc main_arg1)
    ∧ mem ((c : Thread nD τ).loc main_arg2) = m ((c : Thread nD τ).loc main_arg2) ∧ mem ((c : Thread nD τ).loc main_arg3) = m ((c : Thread nD τ).loc main_arg3)
    ∧ mem ((c : Thread nD τ).loc main_arg4) = m ((c : Thread nD τ).loc main_arg4)

set_option backward.isDefEq.respectTransparency.types false in
/-- From any memory with zero counters the program ends on every device, its arguments unchanged, its result the attention of the four devices summed,
    and every counter of the machine at zero. -/
theorem run : θ_run defs (onTc (τ := τ) (main (F := F))) ⟨m, fun _ => 0, ρ⟩
    (fun r => (∀ c : Dev nD, Same m r.2.mem c ∧ r.2.mem ((c : Thread nD τ).loc main_v9) = result m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host0 m) (host2 m) (reg0 m) (reg1 m) rfl rfl c]; rfl)
    (by simp only [segs, Pipeline.Seg.pipes_host, Pipeline.Seg.pipes_region, Pipeline.Seg.pipes_nil]; decide)
    (O₀ := fun c => later c + AT.owe (AT.dues c)) (hL := L_of_ne) (G := ghost) (u₀ := u₀ (F := F))
    (hu₀ := by
      unfold u₀ ghost
      iintro Hu
      ihave H := (ownU_pair _ _) $$ Hu
      icases H with ⟨HP, HX⟩
      ihave HX := (own_pair_emb embR _ _) $$ HX
      imodintro
      isplitl [HP]; · iexact HP
      rw [parked_eq]; iexact HX)
    (T₀ := T₀ m) (Tₙ := Tₙ m)
    (hch := ⟨fun c => Entails.of_eq rfl, fun c => link0 m c, fun c => link1 m c, fun c => link2 m c, fun c => link3 m c⟩)
    (hinit := init m ρ)
    (QY := fun c s => (Same m s.mem c ∧ s.mem ((c : Thread nD τ).loc main_v9) = result m c) ∧ s.sem (AT.barCell c) = 0 ∧ s.sem (AR.barCell c) = 0)
    (hfin := fun c s' => by
      dsimp only [Tₙ]; rw [StableHlo.held_sub_split (c.tc : Thread nD τ) seen_sub (Y₄ m c), held_seen, Y₄_out,
        Y₄_keep m c main_arg0 (by decide), Y₄_keep m c main_arg1 (by decide), Y₄_keep m c main_arg2 (by decide), Y₄_keep m c main_arg3 (by decide), Y₄_keep m c main_arg4 (by decide)]
      iintro ⟨⟨⟨⟨H0, H1, H2, H3, H4, Hy⟩, -⟩, Hb, Hc⟩, HSI⟩
      icombine HSI H0 gives %h0
      icombine HSI H1 gives %h1
      icombine HSI H2 gives %h2
      icombine HSI H3 gives %h3
      icombine HSI H4 gives %h4
      icombine HSI Hy gives %hy
      icombine HSI Hb gives %hb
      icombine HSI Hc gives %hc
      imodintro
      isplitr
      · ipureintro
        exact ⟨⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ hy⟩, by simpa using hb, by simpa using hc⟩
      iexact HSI)
    (hQ := fun s h hs => ⟨fun c => (h c).1,
      sem_eq_zero hs fun c sm hsm => by
        rcases unscoped_two sm hsm with rfl | rfl
        · exact (h c).2.1
        · exact (h c).2.2⟩)

end Cert.KernelIdeal.All

end
-- ==== Proof.Common.Soft.lean ====
/- A row of attention over the extended reals, and that keys which are not seen may be left out. -/
module

public import Idealize.ShloMosaic.PureOps.Ideal

@[expose] public section

noncomputable section

namespace Cert.Soft

open Idealize.ShloMosaic

/-- Query `i`'s block of 64 is not before key `j`'s. -/
def sees (i j : ℕ) : Prop := j / 64 ≤ i / 64
instance (i j : ℕ) : Decidable (sees i j) := by unfold sees; infer_instance

/-- The scale of the scores, as its word has it. -/
def scale : EReal := Ideal.ofBits .f32 0x3DB504F3#32
/-- The mask's word is the least extended real. -/
theorem ofBits_neg_inf : Ideal.ofBits .f32 0xFF800000#32 = ⊥ := by simp [Ideal.ofBits, Ideal.ieee]

/-- The score of query `i` and key `j`, from the query's and the keys' rows. -/
def score {n : ℕ} (i : ℕ) (a : Fin 128 → EReal) (b : Fin n → Fin 128 → EReal) (j : Fin n) : EReal :=
  if sees i j.val then (∑ d, a d * b j d) * scale else ⊥

/-- The largest score. -/
def top {n : ℕ} (s : Fin n → EReal) : EReal := Finset.univ.fold max ⊥ s
/-- The exponentials of the scores less the largest. -/
def ex {n : ℕ} (s : Fin n → EReal) (j : Fin n) : EReal := Ideal.exp (s j - top s)
/-- The values weighted by the exponentials over their sum. -/
def att {n : ℕ} (s v : Fin n → EReal) : EReal := ∑ j, Ideal.div (ex s j) (∑ k, ex s k) * v j

theorem top_sup {n : ℕ} (s : Fin n → EReal) : top s = Finset.univ.sup s := rfl

/-- A sum whose terms vanish from `n` on. -/
theorem sum_cut {n N : ℕ} (h : n ≤ N) (f : Fin N → EReal) (hf : ∀ j, n ≤ j.val → f j = 0) :
    ∑ j, f j = ∑ j : Fin n, f (Fin.castLE h j) := by
  refine Eq.trans ?_ (Finset.sum_map Finset.univ (Fin.castLEEmb h) f)
  refine (Finset.sum_subset (Finset.subset_univ _) fun j _ hj => hf j ?_).symm
  by_contra hlt
  exact hj (Finset.mem_map.mpr ⟨⟨j.val, by omega⟩, Finset.mem_univ _, Fin.ext rfl⟩)

theorem top_cut {n N : ℕ} (h : n ≤ N) (s : Fin N → EReal) (hs : ∀ j, n ≤ j.val → s j = ⊥) :
    top s = top fun j : Fin n => s (Fin.castLE h j) := by
  rw [top_sup, top_sup]
  refine le_antisymm (Finset.sup_le fun j _ => ?_) (Finset.sup_le fun j _ => Finset.le_sup (f := s) (Finset.mem_univ _))
  by_cases hj : n ≤ j.val
  · rw [hs j hj]; exact bot_le
  · exact Finset.le_sup (f := fun j : Fin n => s (Fin.castLE h j)) (Finset.mem_univ (⟨j.val, by omega⟩ : Fin n))

theorem exp_nonneg (x : EReal) : 0 ≤ Ideal.exp x := by
  induction x with
  | bot => exact le_refl _
  | top => exact le_top
  | coe r => exact EReal.coe_nonneg.mpr (Real.exp_pos r).le
theorem exp_ne_zero (x : EReal) (h : x ≠ ⊥) : Ideal.exp x ≠ 0 := by
  induction x with
  | bot => exact absurd rfl h
  | top => exact EReal.top_ne_zero
  | coe r => exact (EReal.coe_pos.mpr (Real.exp_pos r)).ne'

/-- Where some score is a number and none is infinite, the exponentials do not sum to zero. -/
theorem den_ne_zero {n : ℕ} (s : Fin n → EReal) (i : Fin n) (hi : s i ≠ ⊥) (ht : ∀ j, s j ≠ ⊤) : ∑ k, ex s k ≠ 0 := by
  have htop : top s ≠ ⊤ := by
    rw [top_sup]
    exact ((Finset.sup_lt_iff (bot_lt_top)).mpr fun j _ => lt_top_iff_ne_top.mpr (ht j)).ne
  have hx : ex s i ≠ 0 := exp_ne_zero _ (by
    rw [sub_eq_add_neg]
    exact fun h => (EReal.add_eq_bot_iff.mp h).elim hi fun h => htop (EReal.neg_eq_bot_iff.mp h))
  exact fun h => hx ((Finset.sum_eq_zero_iff_of_nonneg fun k _ => exp_nonneg _).mp h i (Finset.mem_univ _))

theorem ex_bot {n : ℕ} (s : Fin n → EReal) (j : Fin n) (h : s j = ⊥) : ex s j = 0 := by
  unfold ex
  rw [h, sub_eq_add_neg, EReal.bot_add]
  rfl

/-- Keys from `n` on that are not seen may be left out. -/
theorem att_cut {n N : ℕ} (h : n ≤ N) (s v : Fin N → EReal) (hs : ∀ j, n ≤ j.val → s j = ⊥)
    (i : Fin N) (hi : s i ≠ ⊥) (ht : ∀ j, s j ≠ ⊤) :
    att s v = att (fun j : Fin n => s (Fin.castLE h j)) fun j => v (Fin.castLE h j) := by
  have hex : ∀ j : Fin n, ex s (Fin.castLE h j) = ex (fun j : Fin n => s (Fin.castLE h j)) j := fun j => by
    unfold ex
    rw [top_cut h s hs]
  have hden : ∑ k, ex s k = ∑ k, ex (fun j : Fin n => s (Fin.castLE h j)) k := by
    rw [sum_cut h _ fun j hj => ex_bot s j (hs j hj)]
    exact Finset.sum_congr rfl fun j _ => hex j
  have hd := den_ne_zero s i hi ht
  unfold att
  rw [sum_cut h _ fun j hj => by rw [ex_bot s j (hs j hj), Ideal.div, if_neg hd, zero_mul, zero_mul]]
  refine Finset.sum_congr rfl fun j _ => ?_
  rw [hex, hden]

end Cert.Soft

end
-- ==== Proof.ReferenceIdeal.RefStage.lean ====
/- The reference's result over the extended reals, element by element. -/
module

public import proofs.«01_k».proof.Proof.Gen.ReferenceIdeal.Run
public import proofs.«01_k».proof.Proof.Common.Soft
public import Idealize.ShloMosaic.Lib.Pointwise
public import Idealize.ShloMosaic.Lib.MatmulPlain
public import Idealize.ShloMosaic.Lib.KernelVsHost

@[expose] public section

noncomputable section

namespace Cert.ReferenceIdeal.Ref

open Idealize.ShloMosaic Idealize.ShloMosaic.TcCoe Cert.ReferenceIdeal Cert.ReferenceIdeal.Gen Cert.Soft

/-! ## The mask -/

/-- The block of 64 that holds each position. -/
def qBlk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))
def kBlk : IVec S8192 32 :=
  select (andi (cmpi .ne (signi (iotaInDim S8192 32 0)) (broadcastInDim S8192 ![] bcast_S_S8192 (signi (id (constantI S_ 32 64#32)))))
      (cmpi .ne (Host.remsi (iotaInDim S8192 32 0) (broadcastInDim S8192 ![] bcast_S_S8192 (id (constantI S_ 32 64#32)))) (broadcastInDim S8192 ![] bcast_S_S8192 (constantI S_ 32 0#32))))
    (subi (Host.divsi (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))
/-- Which keys each query sees. -/
def mask : IVec S2048x8192 1 :=
  cmpi .sle (broadcastInDim S2048x8192 ![0, 1] bcast_S1x8192_S2048x8192_0_1 (broadcastInDim S1x8192 ![1] bcast_S8192_S1x8192_1 kBlk))
    (broadcastInDim S2048x8192 ![0, 1] bcast_S2048x1_S2048x8192_0_1 (broadcastInDim S2048x1 ![0] bcast_S2048_S2048x1_0 qBlk))

/-- The block of one position. -/
def blk1 (x : BitVec 32) : BitVec 32 :=
  select (s := S_) (andi (cmpi .ne (signi fun _ => x) (signi (constantI S_ 32 64#32))) (cmpi .ne (Host.remsi (fun _ => x) (constantI S_ 32 64#32)) (constantI S_ 32 0#32)))
    (subi (Host.divsi (fun _ => x) (constantI S_ 32 64#32)) (constantI S_ 32 1#32)) (Host.divsi (fun _ => x) (constantI S_ 32 64#32)) (fun a => a.elim0)
theorem blk1_eq : ∀ n : Fin 8192, blk1 (BitVec.ofNat 32 n.val) = BitVec.ofNat 32 (n.val / 64) := by decide +kernel
theorem sle_eq : ∀ (a : Fin 128) (b : Fin 32), IntOp.cmpi .sle (BitVec.ofNat 32 a.val) (BitVec.ofNat 32 b.val) = if a.val ≤ b.val then 1#1 else 0#1 := by decide +kernel

theorem mask_apply (i : Fin 2048) (j : Fin 8192) : mask (ix2 i j) = if sees i.val j.val then 1#1 else 0#1 := by
  have h : mask (ix2 i j) = IntOp.cmpi .sle (blk1 (BitVec.ofNat 32 j.val)) (blk1 (BitVec.ofNat 32 i.val)) := rfl
  rw [h, blk1_eq j, blk1_eq ⟨i.val, by omega⟩, sle_eq ⟨j.val / 64, by omega⟩ ⟨i.val / 64, by omega⟩]
  rfl

/-! ## The stages -/

/-- Some key is seen. -/
def any : IVec S1x1x2048x1 1 :=
  broadcastInDim S1x1x2048x1 ![2] bcast_S2048_S1x1x2048x1_2 (Host.reduce IntOp.ori mask (constantI S_ 1 0#1) reducesTo_S2048x8192_S2048_d1 h_S_)
def queries (x : FVec Ideal S1x2048x1024 .f32) (wq : FVec Ideal S1024x4096 .f32) : FVec Ideal S1x2048x32x128 .f32 :=
  shapeCast S1x2048x32x128 (Host.dotGeneral dot_S1x2048x1024_S1024x4096_S1x2048x4096_2_0_01_1_n_n none x wq) shapeCasts_S1x2048x4096_S1x2048x32x128
def scores (q : FVec Ideal S1x2048x32x128 .f32) (k : FVec Ideal S1x8192x32x128 .f32) : FVec Ideal S1x32x2048x8192 .f32 :=
  select (broadcastInDim S1x32x2048x8192 ![0, 1, 2, 3] bcast_S1x1x2048x8192_S1x32x2048x8192_0_1_2_3 (broadcastInDim S1x1x2048x8192 ![2, 3] bcast_S2048x8192_S1x1x2048x8192_2_3 mask))
    (mulf (Host.dotGeneral dot_S1x2048x32x128_S1x8192x32x128_S1x32x2048x8192_3_3_1_1_02_02 none q k) (broadcastInDim S1x32x2048x8192 ![] bcast_S_S1x32x2048x8192 (constant S_ .f32 0x3DB504F3#32)))
    (broadcastInDim S1x32x2048x8192 ![] bcast_S_S1x32x2048x8192 (id (constant S_ .f32 0xFF800000#32)))
def expo (s : FVec Ideal S1x32x2048x8192 .f32) : FVec Ideal S1x32x2048x8192 .f32 :=
  Host.exp (subf s (broadcastInDim S1x32x2048x8192 ![0, 1, 2, 3] bcast_S1x32x2048x1_S1x32x2048x8192_0_1_2_3
    (broadcastInDim S1x32x2048x1 ![0, 1, 2] bcast_S1x32x2048_S1x32x2048x1_0_1_2 (Host.reduce FloatOps.maximumf s (constant S_ .f32 0xFF800000#32) reducesTo_S1x32x2048x8192_S1x32x2048_d3 h_S_))))
def norm (e : FVec Ideal S1x32x2048x8192 .f32) : FVec Ideal S1x32x2048x8192 .f32 :=
  select (broadcastInDim S1x32x2048x8192 ![0, 1, 2, 3] bcast_S1x1x2048x1_S1x32x2048x8192_0_1_2_3 any)
    (Host.divf e (broadcastInDim S1x32x2048x8192 ![0, 1, 2, 3] bcast_S1x32x2048x1_S1x32x2048x8192_0_1_2_3
      (select (broadcastInDim S1x32x2048x1 ![0, 1, 2, 3] bcast_S1x1x2048x1_S1x32x2048x1_0_1_2_3 any)
        (broadcastInDim S1x32x2048x1 ![0, 1, 2] bcast_S1x32x2048_S1x32x2048x1_0_1_2 (Host.reduceAdd e (constant S_ .f32 0x00000000#32) reducesTo_S1x32x2048x8192_S1x32x2048_d3 h_S_))
        (broadcastInDim S1x32x2048x1 ![] bcast_S_S1x32x2048x1 (id (constant S_ .f32 0x3F800000#32))))))
    (broadcastInDim S1x32x2048x8192 ![] bcast_S_S1x32x2048x8192 (id (constant S_ .f32 0x00000000#32)))
def joined (p : FVec Ideal S1x32x2048x8192 .f32) (v : FVec Ideal S1x8192x32x128 .f32) : FVec Ideal S1x2048x4096 .f32 :=
  shapeCast S1x2048x4096 (transpose S1x2048x32x128 [0, 3, 1, 2] (Host.dotGeneral dot_S1x8192x32x128_S1x32x2048x8192_S1x32x128x2048_1_3_3_2_02_01 none v p) transposes_S1x32x128x2048_S1x2048x32x128_0_3_1_2)
    shapeCasts_S1x2048x32x128_S1x2048x4096
def out (x : FVec Ideal S1x2048x1024 .f32) (wq : FVec Ideal S1024x4096 .f32) (k v : FVec Ideal S1x8192x32x128 .f32) (wo : FVec Ideal S4096x1024 .f32) : FVec Ideal S1x2048x1024 .f32 :=
  Host.dotGeneral dot_S1x2048x4096_S4096x1024_S1x2048x1024_2_0_01_1_n_n none (joined (norm (expo (scores (queries x wq) k))) v) wo

theorem res_eq (m : (ℓ : Loc nD τ sig) → Buf (Elt Ideal) ℓ) (c : Dev nD) :
    Value.res_main_v33 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem expo_apply (s : FVec Ideal S1x32x2048x8192 .f32) (h : Fin 32) (i : Fin 2048) (j : Fin 8192) :
    expo s (ix4 0 h i j) = ex (fun k : Fin 8192 => s (ix4 0 h i k)) j := by
  pointwise [expo]
  rw [ofBits_neg_inf]
  rfl

theorem joined_apply (p : FVec Ideal S1x32x2048x8192 .f32) (v : FVec Ideal S1x8192x32x128 .f32) (i : Fin 2048) (h : Fin 32) (d : Fin 128) :
    joined p v (ix3 0 i ⟨128 * h.val + d.val, by omega⟩) = ∑ j : Fin 8192, v (ix4 0 j h d) * p (ix4 0 h i j) := by
  pointwise [joined]

end Cert.ReferenceIdeal.Ref

end
-- ==== Proof.ReferenceIdeal.RefValue.lean ====
/- The reference's result over the extended reals, element by element. -/
module

public import proofs.«01_k».proof.Proof.ReferenceIdeal.RefStage
public import Idealize.ShloMosaic.Lib.Pointwise
public import Idealize.ShloMosaic.Lib.MatmulPlain
public import Idealize.ShloMosaic.Lib.KernelVsHost

@[expose] public section

noncomputable section

namespace Cert.ReferenceIdeal.Ref

open Idealize.ShloMosaic Idealize.ShloMosaic.TcCoe Cert.ReferenceIdeal Cert.ReferenceIdeal.Gen Cert.Soft

theorem or_one (b : BitVec 1) : IntOp.ori 1#1 b = 1#1 := by revert b; decide

theorem any_apply (i : Fin 2048) : any (ix4 0 0 i 0) = 1#1 := by
  unfold any
  pointwise
  rw [← Finset.insert_erase (Finset.mem_univ (0 : Fin 8192)), Finset.fold_insert (Finset.notMem_erase _ _), mask_apply, if_pos (by unfold sees; exact Nat.zero_le _)]
  exact or_one _

theorem queries_apply (x : FVec Ideal S1x2048x1024 .f32) (wq : FVec Ideal S1024x4096 .f32) (i : Fin 2048) (h : Fin 32) (d : Fin 128) :
    queries x wq (ix4 0 i h d) = ∑ k : Fin 1024, x (ix3 0 i k) * wq (ix2 k ⟨h.val * 128 + d.val, by omega⟩) := by
  pointwise [queries]

theorem scores_apply (q : FVec Ideal S1x2048x32x128 .f32) (k : FVec Ideal S1x8192x32x128 .f32) (h : Fin 32) (i : Fin 2048) (j : Fin 8192) :
    scores q k (ix4 0 h i j) = score i.val (fun d => q (ix4 0 i h d)) (fun (j : Fin 8192) d => k (ix4 0 j h d)) j := by
  unfold scores score
  rw [ValueIdx.select_apply]
  pointwise
  rw [mask_apply]
  by_cases hs : sees i.val j.val
  · rw [if_pos hs, if_pos hs, ValueIdx.select_one]
    rfl
  · rw [if_neg hs, if_neg hs, ValueIdx.select_zero]
    exact ofBits_neg_inf

theorem sum_apply (e : FVec Ideal S1x32x2048x8192 .f32) (h : Fin 32) (i : Fin 2048) :
    Host.reduceAdd e (constant S_ .f32 0x00000000#32) reducesTo_S1x32x2048x8192_S1x32x2048_d3 h_S_ (ix3 0 h i) = ∑ k : Fin 8192, e (ix4 0 h i k) := by
  pointwise

theorem all_apply (h : Fin 32) (i : Fin 2048) (j : Fin 8192) :
    broadcastInDim S1x32x2048x8192 ![0, 1, 2, 3] bcast_S1x1x2048x1_S1x32x2048x8192_0_1_2_3 any (ix4 0 h i j) = 1#1 := by
  refine Eq.trans ?_ (any_apply i)
  generalize any = a
  pointwise
theorem one_apply (h : Fin 32) (i : Fin 2048) :
    broadcastInDim S1x32x2048x1 ![0, 1, 2, 3] bcast_S1x1x2048x1_S1x32x2048x1_0_1_2_3 any (ix4 0 h i 0) = 1#1 := by
  refine Eq.trans ?_ (any_apply i)
  generalize any = a
  pointwise

/-- The sums, with one in place of a sum over no key. -/
def sums (r : FVec Ideal S1x32x2048 .f32) : FVec Ideal S1x32x2048x1 .f32 :=
  select (broadcastInDim S1x32x2048x1 ![0, 1, 2, 3] bcast_S1x1x2048x1_S1x32x2048x1_0_1_2_3 any)
    (broadcastInDim S1x32x2048x1 ![0, 1, 2] bcast_S1x32x2048_S1x32x2048x1_0_1_2 r)
    (broadcastInDim S1x32x2048x1 ![] bcast_S_S1x32x2048x1 (id (constant S_ .f32 0x3F800000#32)))
theorem sums_apply (r : FVec Ideal S1x32x2048 .f32) (h : Fin 32) (i : Fin 2048) : sums r (ix4 0 h i 0) = r (ix3 0 h i) := by
  unfold sums
  rw [ValueIdx.select_apply, one_apply, ValueIdx.select_one]
  pointwise
theorem quot_apply (e : FVec Ideal S1x32x2048x8192 .f32) (r : FVec Ideal S1x32x2048x1 .f32) (h : Fin 32) (i : Fin 2048) (j : Fin 8192) :
    Host.divf e (broadcastInDim S1x32x2048x8192 ![0, 1, 2, 3] bcast_S1x32x2048x1_S1x32x2048x8192_0_1_2_3 r) (ix4 0 h i j) = Ideal.div (e (ix4 0 h i j)) (r (ix4 0 h i 0)) := by
  pointwise

theorem norm_apply (e : FVec Ideal S1x32x2048x8192 .f32) (h : Fin 32) (i : Fin 2048) (j : Fin 8192) :
    norm e (ix4 0 h i j) = Ideal.div (e (ix4 0 h i j)) (∑ k : Fin 8192, e (ix4 0 h i k)) := by
  unfold norm
  rw [ValueIdx.select_apply, all_apply, ValueIdx.select_one]
  refine (quot_apply e (sums _) h i j).trans ?_
  rw [sums_apply, sum_apply]

/-- The scores of query `i` under head `h`. -/
def row (x : FVec Ideal S1x2048x1024 .f32) (wq : FVec Ideal S1024x4096 .f32) (k : FVec Ideal S1x8192x32x128 .f32) (h : Fin 32) (i : Fin 2048) : Fin 8192 → EReal :=
  score i.val (fun d => ∑ n : Fin 1024, x (ix3 0 i n) * wq (ix2 n ⟨h.val * 128 + d.val, by omega⟩)) (fun (j : Fin 8192) d => k (ix4 0 j h d))

theorem weights_apply (x : FVec Ideal S1x2048x1024 .f32) (wq : FVec Ideal S1024x4096 .f32) (k : FVec Ideal S1x8192x32x128 .f32) (h : Fin 32) (i : Fin 2048) (j : Fin 8192) :
    norm (expo (scores (queries x wq) k)) (ix4 0 h i j) = Ideal.div (ex (row x wq k h i) j) (∑ n, ex (row x wq k h i) n) := by
  have hr : (fun n : Fin 8192 => scores (queries x wq) k (ix4 0 h i n)) = row x wq k h i := funext fun n => by
    rw [scores_apply]
    exact congrArg (fun a => score i.val a (fun (j : Fin 8192) d => k (ix4 0 j h d)) n) (funext fun d => queries_apply x wq i h d)
  have hs : ∀ n : Fin 8192, expo (scores (queries x wq) k) (ix4 0 h i n) = ex (row x wq k h i) n := fun n =>
    (expo_apply _ h i n).trans (congrArg (fun s => ex s n) hr)
  rw [norm_apply, hs]
  exact congrArg _ (Finset.sum_congr rfl fun n _ => hs n)

theorem joined_att (x : FVec Ideal S1x2048x1024 .f32) (wq : FVec Ideal S1024x4096 .f32) (k v : FVec Ideal S1x8192x32x128 .f32) (i : Fin 2048) (h : Fin 32) (d : Fin 128) :
    joined (norm (expo (scores (queries x wq) k))) v (ix3 0 i ⟨128 * h.val + d.val, by omega⟩) = att (row x wq k h i) (fun j => v (ix4 0 j h d)) := by
  rw [joined_apply]
  exact Finset.sum_congr rfl fun j _ => by rw [weights_apply]; exact mul_comm _ _

/-- Column `d` of head `h`, among all the columns. -/
def column (p : Fin 32 × Fin 128) : Fin 4096 := ⟨128 * p.1.val + p.2.val, by omega⟩
theorem sum_columns (f : Fin 4096 → EReal) : ∑ n, f n = ∑ h : Fin 32, ∑ d : Fin 128, f (column (h, d)) := by
  rw [← Fintype.sum_prod_type' fun (h : Fin 32) (d : Fin 128) => f (column (h, d))]
  exact (Fintype.sum_equiv (finProdFinEquiv (m := 32) (n := 128)) _ _ fun p => congrArg f (Fin.ext (Nat.add_comm _ _))).symm

theorem last_apply (a : FVec Ideal S1x2048x4096 .f32) (wo : FVec Ideal S4096x1024 .f32) (i : Fin 2048) (n : Fin 1024) :
    Host.dotGeneral dot_S1x2048x4096_S4096x1024_S1x2048x1024_2_0_01_1_n_n none a wo (ix3 0 i n) = ∑ k : Fin 4096, a (ix3 0 i k) * wo (ix2 k n) := by
  pointwise

theorem out_apply (x : FVec Ideal S1x2048x1024 .f32) (wq : FVec Ideal S1024x4096 .f32) (k v : FVec Ideal S1x8192x32x128 .f32) (wo : FVec Ideal S4096x1024 .f32)
    (i : Fin 2048) (n : Fin 1024) :
    out x wq k v wo (ix3 0 i n) = ∑ h : Fin 32, ∑ d : Fin 128, att (row x wq k h i) (fun j => v (ix4 0 j h d)) * wo (ix2 (column (h, d)) n) := by
  unfold out
  rw [last_apply, sum_columns]
  exact Finset.sum_congr rfl fun h _ => Finset.sum_congr rfl fun d _ => congrArg (· * wo (ix2 (column (h, d)) n)) (joined_att x wq k v i h d)

end Cert.ReferenceIdeal.Ref

end
-- ==== Proof.Common.Num.lean ====
/- Numbers among the extended reals: sums and products of them, the scores they give, and the test for them. -/
module

public import proofs.«01_k».proof.Proof.Common.Soft
public import Idealize.ShloMosaic.PureOps.Ideal.Laws
public import Idealize.ShloMosaic.Lib.ReduceAll

@[expose] public section

noncomputable section

namespace Cert.Soft

open Idealize.ShloMosaic

/-- Neither infinity. -/
def IsNum (x : EReal) : Prop := ∃ r : ℝ, x = r

theorem IsNum.mul {x y : EReal} : IsNum x → IsNum y → IsNum (x * y)
  | ⟨r, hr⟩, ⟨s, hs⟩ => ⟨r * s, by rw [hr, hs, EReal.coe_mul]⟩
theorem IsNum.add {x y : EReal} : IsNum x → IsNum y → IsNum (x + y)
  | ⟨r, hr⟩, ⟨s, hs⟩ => ⟨r + s, by rw [hr, hs, EReal.coe_add]⟩
theorem IsNum.sum {ι : Type} (t : Finset ι) (f : ι → EReal) (h : ∀ i, IsNum (f i)) : IsNum (∑ i ∈ t, f i) :=
  Finset.sum_induction f IsNum (fun _ _ => IsNum.add) ⟨0, EReal.coe_zero.symm⟩ fun i _ => h i
theorem IsNum.ne_bot {x : EReal} : IsNum x → x ≠ ⊥ | ⟨r, hr⟩ => hr ▸ EReal.coe_ne_bot r
theorem IsNum.ne_top {x : EReal} : IsNum x → x ≠ ⊤ | ⟨r, hr⟩ => hr ▸ EReal.coe_ne_top r

theorem scale_num : IsNum scale := by
  unfold scale
  simp only [Ideal.ofBits, Ideal.ieee]
  exact ⟨_, rfl⟩

theorem score_num {n : ℕ} (i : ℕ) (a : Fin 128 → EReal) (b : Fin n → Fin 128 → EReal) (j : Fin n) (ha : ∀ d, IsNum (a d)) (hb : ∀ d, IsNum (b j d))
    (hs : sees i j.val) : IsNum (score i a b j) := by
  unfold score
  rw [if_pos hs]
  exact (IsNum.sum _ _ fun d => (ha d).mul (hb d)).mul scale_num

/-- A value whose magnitude is below the largest extended real. -/
theorem num_of_lt (x : EReal) (h : FloatOps.cmpf (F := Ideal) (φ := .f32) .olt (FloatOps.hostAbsf (F := Ideal) (φ := .f32) x) (Ideal.ofBits .f32 0x7F800000#32) = 1#1) : IsNum x := by
  have ht : Ideal.ofBits .f32 0x7F800000#32 = ⊤ := by simp [Ideal.ofBits, Ideal.ieee]
  have hlt : max x (-x) < ⊤ := by
    by_contra hn
    rw [ht] at h
    have h0 : FloatOps.cmpf (F := Ideal) (φ := .f32) .olt (FloatOps.hostAbsf (F := Ideal) (φ := .f32) x) (⊤ : EReal) = 0#1 := by
      show Ideal.cmp .olt (max x (-x)) ⊤ = 0#1
      simp only [Ideal.cmp, hn]
      decide
    rw [h0] at h
    exact absurd h (by decide)
  induction x with
  | bot => exact absurd hlt (by simp)
  | top => exact absurd hlt (by simp)
  | coe r => exact ⟨r, rfl⟩

end Cert.Soft

end
-- ==== Proof.KernelIdeal.AtValue.lean ====
/- The attention call's result over the extended reals, element by element. -/
module

public import proofs.«01_k».proof.Proof.KernelIdeal.AtEnds
public import proofs.«01_k».proof.Proof.Common.Soft
public import Idealize.ShloMosaic.Lib.Pointwise
public import Idealize.ShloMosaic.Lib.MatmulPlain

@[expose] public section

noncomputable section

namespace Cert.KernelIdeal.AT

open Idealize.ShloMosaic Cert.KernelIdeal Cert.KernelIdeal.Gen Cert.Soft

/-! ## The mask -/

/-- `div64` of one word. -/
def d64 (x : BitVec 32) : BitVec 32 := div64 (s := S_) (fun _ => x) (fun a => a.elim0)
theorem d64_eq : ∀ n : Fin 2048, d64 (BitVec.ofNat 32 n.val) = BitVec.ofNat 32 (n.val / 64) := by decide +kernel
theorem sle_eq : ∀ (q : Fin 4) (a : Fin 32) (b : Fin 8), IntOp.cmpi .sle (BitVec.ofNat 32 a.val) (BitVec.ofNat 32 b.val + BitVec.ofNat 32 (8 * q.val))
    = if a.val ≤ 8 * q.val + b.val then 1#1 else 0#1 := by decide +kernel

theorem cond_eq (q : Fin 4) (i : Fin 512) (j : Fin (wd q)) :
    cmpi .sle (div64 (iota .tc (sqk q) 32 [1] (iota_1 q))) (addi (div64 (iota .tc (sqk q) 32 [0] (iota_0 q))) (broadcast (sqk q) (BitVec.ofNat 32 (8 * q.val)))) (ix2 i j)
      = if sees (512 * q.val + i.val) j.val then 1#1 else 0#1 := by
  have hj : j.val < 2048 := lt_of_lt_of_le j.isLt (by have := q.isLt; show 512 * (q.val + 1) ≤ 2048; omega)
  have h : cmpi .sle (div64 (iota .tc (sqk q) 32 [1] (iota_1 q))) (addi (div64 (iota .tc (sqk q) 32 [0] (iota_0 q))) (broadcast (sqk q) (BitVec.ofNat 32 (8 * q.val)))) (ix2 i j)
      = IntOp.cmpi .sle (d64 (BitVec.ofNat 32 (0 * wd q + j.val))) (d64 (BitVec.ofNat 32 (0 * 512 + i.val)) + BitVec.ofNat 32 (8 * q.val)) := rfl
  rw [h, Nat.zero_mul, Nat.zero_add, Nat.zero_mul, Nat.zero_add, d64_eq ⟨j.val, hj⟩, d64_eq ⟨i.val, by omega⟩,
    sle_eq q ⟨j.val / 64, by omega⟩ ⟨i.val / 64, by omega⟩]
  have e : (512 * q.val + i.val) / 64 = 8 * q.val + i.val / 64 := by omega
  exact if_congr (by unfold sees; rw [e]) rfl rfl

/-! ## One head's share -/

theorem scores_apply (q : Fin 4) (qb : FVec Ideal S2048x128 .bf16) (kc : FVec Ideal (s1k q) .bf16) (i : Fin 512) (j : Fin (wd q)) :
    scores q qb kc (ix2 i j) = score (512 * q.val + i.val) (fun d => qb (ix2 ⟨512 * q.val + i.val, by omega⟩ d)) (fun (j : Fin (wd q)) d => kc (ix3 0 j d)) j := by
  unfold scores score
  rw [ValueIdx.select_apply, cond_eq]
  by_cases h : sees (512 * q.val + i.val) j.val
  · rw [if_pos h, if_pos h, ValueIdx.select_one]
    refine congrArg (· * scale) ?_
    refine (Ideal.matmul_transposedRhs_apply (M := 512) (K := 128) (N := wd q) none _ _ _ i j).trans ?_
    rw [show (constant (F := Ideal) (sqk q) .f32 0x00000000#32) (ValueIdx.ix2 i j) = (0 : EReal) from Ideal.ofBits_zero_f32, zero_add]
    refine Finset.sum_congr rfl fun d _ => ?_
    congr 1
    · refine congrArg qb (funext fun a => Fin.ext ?_)
      match a with
      | 0 => rfl
      | 1 => exact Nat.zero_add _
    · refine shapeCast_apply _ _ _ _ ?_
      rw [Shape.rowMajor_val_two, Shape.rowMajor_val_three]
      show (0 * wd q + j.val) * 128 + d.val = j.val * 128 + d.val
      omega
  · rw [if_neg h, if_neg h, ValueIdx.select_zero]
    rfl

theorem norm_apply (q : Fin 4) (e : FVec Ideal (sqk q) .f32) (i : Fin 512) (j : Fin (wd q)) :
    norm q e (ix2 i j) = Ideal.div (e (ix2 i j)) (∑ k : Fin (wd q), e (ix2 i k)) := by
  pointwise [norm]

theorem expo_apply (q : Fin 4) (s : FVec Ideal (sqk q) .f32) (i : Fin 512) (j : Fin (wd q)) :
    expo q s (ix2 i j) = ex (fun k : Fin (wd q) => s (ix2 i k)) j := by
  pointwise [expo]
  rw [ofBits_neg_inf]
  rfl

/-- The two products after the weights `p`. -/
theorem weigh_apply (q : Fin 4) (p : FVec Ideal (sqk q) .f32) (wo : FVec Ideal S128x1024 .bf16) (vc : FVec Ideal (s1k q) .bf16) (i : Fin 512) (n : Fin 1024) :
    matmul dot_S512x128_S128x1024_S512x1024_1_0_0_1_n_n none
        (truncf .bf16 (matmul (dpv q) none (truncf .bf16 p bitsLt_bf16_f32) (shapeCast (sk q) vc (casts_k q)) (constant S512x128 .f32 0x00000000#32)) bitsLt_bf16_f32)
        wo (constant S512x1024 .f32 0x00000000#32) (ix2 i n)
      = ∑ d : Fin 128, (∑ j : Fin (wd q), p (ix2 i j) * vc (ix3 0 j d)) * wo (ix2 d n) := by
  refine (Ideal.matmul_plain_apply (M := 512) (K := 128) (N := 1024) none _ _ _ i n).trans ?_
  rw [show (constant (F := Ideal) S512x1024 .f32 0x00000000#32) (ValueIdx.ix2 i n) = (0 : EReal) from Ideal.ofBits_zero_f32, zero_add]
  refine Finset.sum_congr rfl fun d _ => congrArg (· * wo (ix2 d n)) ?_
  refine (Ideal.matmul_plain_apply (M := 512) (K := wd q) (N := 128) none _ _ _ i d).trans ?_
  rw [show (constant (F := Ideal) S512x128 .f32 0x00000000#32) (ValueIdx.ix2 i d) = (0 : EReal) from Ideal.ofBits_zero_f32, zero_add]
  refine Finset.sum_congr rfl fun j _ => congrArg (p (ix2 i j) * ·) ?_
  refine shapeCast_apply _ _ _ _ ?_
  rw [Shape.rowMajor_val_two, Shape.rowMajor_val_three]
  show (0 * wd q + j.val) * 128 + d.val = j.val * 128 + d.val
  omega

/-- The scores of row `i` of block `q`. -/
def row (q : Fin 4) (qb : FVec Ideal S2048x128 .bf16) (kc : FVec Ideal (s1k q) .bf16) (i : Fin 512) : Fin (wd q) → EReal :=
  score (512 * q.val + i.val) (fun d => qb (ix2 ⟨512 * q.val + i.val, by omega⟩ d)) (fun (j : Fin (wd q)) d => kc (ix3 0 j d))

theorem weights_apply (q : Fin 4) (qb : FVec Ideal S2048x128 .bf16) (kc : FVec Ideal (s1k q) .bf16) (i : Fin 512) (j : Fin (wd q)) :
    norm q (expo q (scores q qb kc)) (ix2 i j) = Ideal.div (ex (row q qb kc i) j) (∑ k, ex (row q qb kc i) k) := by
  have hs : ∀ k : Fin (wd q), expo q (scores q qb kc) (ix2 i k) = ex (row q qb kc i) k := fun k =>
    (expo_apply q (scores q qb kc) i k).trans (congrArg (fun s => ex s k) (funext fun k => scores_apply q qb kc i k))
  rw [norm_apply, hs]
  exact congrArg _ (Finset.sum_congr rfl fun k _ => hs k)

theorem contrib_apply (q : Fin 4) (qb : FVec Ideal S2048x128 .bf16) (wo : FVec Ideal S128x1024 .bf16) (kc vc : FVec Ideal (s1k q) .bf16)
    (i : Fin 512) (n : Fin 1024) :
    contrib q qb wo kc vc (ix2 i n) = ∑ d : Fin 128, att (row q qb kc i) (fun j => vc (ix3 0 j d)) * wo (ix2 d n) :=
  (weigh_apply q _ wo vc i n).trans (Finset.sum_congr rfl fun d _ => congrArg (· * wo (ix2 d n))
    (Finset.sum_congr rfl fun j _ => congrArg (· * vc (ix3 0 j d)) (weights_apply q qb kc i j)))

theorem queries_apply (x : FVec Ideal S2048x1024 .bf16) (w : FVec Ideal S1024x128 .bf16) (i : Fin 2048) (d : Fin 128) :
    queries x w (ix2 i d) = ∑ k : Fin 1024, x (ix2 i k) * w (ix2 k d) := by
  pointwise [queries]

end Cert.KernelIdeal.AT

end
-- ==== Proof.KernelIdeal.ArValue.lean ====
/- What the all-reduce leaves, read with exact operations: on every device the sum of the four operands. -/
module

public import proofs.«01_k».proof.Proof.KernelIdeal.ArSched
public import Idealize.ShloMosaic.PureOps.Ideal

@[expose] public section

noncomputable section

namespace Cert.KernelIdeal.AR

open Idealize.ShloMosaic Idealize.ShloMosaic.TcCoe
open Cert.KernelIdeal.Facts Cert.KernelIdeal.Gen Cert.KernelIdeal.Base

/-- A device and the three that come before it in a ring are all four. -/
theorem ring_sum (f : Dev nD → EReal) (d : Fin 2) (o : Dev nD) :
    ((f (prv d (prv d (prv d o))) + f (prv d (prv d o))) + f (prv d o)) + f o = ∑ c : Dev nD, f c := by
  have h : (Finset.univ : Finset (Dev nD)) = {prv d (prv d (prv d o)), prv d (prv d o), prv d o, o} := by revert d o; decide
  have h1 : prv d (prv d (prv d o)) ∉ ({prv d (prv d o), prv d o, o} : Finset (Dev nD)) := by revert d o; decide
  have h2 : prv d (prv d o) ∉ ({prv d o, o} : Finset (Dev nD)) := by revert d o; decide
  have h3 : prv d o ∉ ({o} : Finset (Dev nD)) := by revert d o; decide
  rw [h, Finset.sum_insert h1, Finset.sum_insert h2, Finset.sum_insert h3, Finset.sum_singleton, add_assoc, add_assoc]

variable (X : Dev nD → FVec Ideal S2048x1024 .f32)

theorem rows_at (d : Fin 2) (r : Fin 4) : rowRS d (owner d r) 2 = r ∧ rowRS d (prv d (owner d r)) 1 = r
    ∧ rowRS d (prv d (prv d (owner d r))) 0 = r ∧ prv d (prv d (prv d (owner d r))) = (r : Dev nD) := by
  revert d r; decide

theorem acc_sum (d : Fin 2) (r : Fin 4) (y : S512x512.Idx) :
    acc X (owner d r) d 2 y = ∑ c : Dev nD, X c ((blkR r d).emb y) := by
  obtain ⟨h2, h1, h0, h⟩ := rows_at d r
  rw [← ring_sum (fun c => X c ((blkR r d).emb y)) d (owner d r)]
  show ((blk (prv d (prv d (prv d (owner d r)))) d (X (prv d (prv d (prv d (owner d r))))) y
      + blk (rowRS d (prv d (prv d (owner d r))) 0) d (X (prv d (prv d (owner d r)))) y)
      + blk (rowRS d (prv d (owner d r)) 1) d (X (prv d (owner d r))) y)
      + blk (rowRS d (owner d r) 2) d (X (owner d r)) y = _
  rw [h2, h1, h0]
  have hb : blk (prv d (prv d (prv d (owner d r)))) d (X (prv d (prv d (prv d (owner d r))))) y
      = blk r d (X (prv d (prv d (prv d (owner d r))))) y := congrArg (fun q : Fin 4 => blk q d (X (prv d (prv d (prv d (owner d r))))) y) h
  rw [hb]
  rfl

theorem outB_sum (c : Dev nD) (r : Fin 4) (d : Fin 2) : outB X c r d = blk r d fun i => ∑ c' : Dev nD, X c' i := by
  funext y
  show _ = ∑ c' : Dev nD, X c' ((blkR r d).emb y)
  rw [← acc_sum]
  unfold outB
  split
  · next h => rw [h]
  · rfl

theorem outV_sum (c : Dev nD) : outV X c = fun i => ∑ c' : Dev nD, X c' i :=
  (eq_outV X fun r d => (outB_sum X c r d).symm).symm

end Cert.KernelIdeal.AR

end
-- ==== Proof.KernelIdeal.AtSum.lean ====
/- The attention call's whole result over the extended reals: the sum of the heads' shares, from the program's arguments. -/
module

public import proofs.«01_k».proof.Proof.KernelIdeal.AtValue
public import proofs.«01_k».proof.Proof.KernelIdeal.ArValue
public import proofs.«01_k».proof.Proof.KernelIdeal.Launch

@[expose] public section

noncomputable section

namespace Cert.KernelIdeal.AT

open Idealize.ShloMosaic Cert.KernelIdeal Cert.KernelIdeal.Gen Cert.Soft

/-- The block of 512 rows that holds row `i`. -/
def blk (i : Fin 2048) : Fin 4 := ⟨i.val / 512, by omega⟩
/-- Column `d` of head `h`, among a device's columns. -/
def col (h : Fin 8) (d : Fin 128) : Fin 1024 := ⟨128 * h.val + d.val, by omega⟩
/-- Key `j` of those that block `q` reads. -/
def key (q : Fin 4) (j : Fin (wd q)) : Fin 2048 := ⟨j.val, lt_of_lt_of_le j.isLt (by have := q.isLt; show 512 * (q.val + 1) ≤ 2048; omega)⟩

section Sum

variable (x : FVec Ideal S2048x1024 .bf16) (wq wo : FVec Ideal S1024x1024 .bf16) (K V : Fin 8 → FVec Ideal S2048x128 .bf16)

theorem upd_zero (o c : FVec Ideal S512x1024 .f32) : upd 0 o c = c := if_pos rfl
theorem upd_apply (h : Fin 8) (hh : h ≠ 0) (o c : FVec Ideal S512x1024 .f32) (i : Fin 512) (n : Fin 1024) : upd h o c (ix2 i n) = o (ix2 i n) + c (ix2 i n) := by
  unfold upd
  rw [if_neg hh]
  refine congrArg (· + c (ix2 i n)) ?_
  exact shapeCast_apply _ _ _ _ rfl

theorem accB_apply (q : Fin 4) (i : Fin 512) (n : Fin 1024) : ∀ k : ℕ, k < 8 →
    accB x wq wo K V (k + 1) q (ix2 i n) = ∑ h ∈ Finset.range (k + 1), headC x wq wo K V (h8 h) q (ix2 i n)
  | 0, _ => by
    rw [Finset.sum_range_one]
    exact congrFun (upd_zero _ _) _
  | k + 1, hk => by
    rw [Finset.sum_range_succ, ← accB_apply q i n k (by omega)]
    exact upd_apply (h8 (k + 1)) (fun e => by have := congrArg Fin.val e; change (k + 1) % 8 = 0 at this; omega) _ _ i n

theorem kcut_apply (q : Fin 4) (Y : FVec Ideal S2048x128 .bf16) (j : Fin (wd q)) (d : Fin 128) : kcut q Y (ix3 0 j d) = Y (ix2 (key q j) d) := by
  refine shapeCast_apply _ _ _ _ ?_
  rw [Shape.rowMajor_val_two, Shape.rowMajor_val_three]
  show j.val * 128 + d.val = (0 * 2048 + j.val) * 128 + d.val
  omega

theorem qOf_apply (h : Fin 8) (i : Fin 2048) (d : Fin 128) : qOf x wq h (ix2 i d) = ∑ k : Fin 1024, x (ix2 i k) * wq (ix2 k (col h d)) := by
  refine (queries_apply x _ i d).trans (Finset.sum_congr rfl fun k _ => congrArg (x (ix2 i k) * ·) (congrArg wq (funext fun a => Fin.ext ?_)))
  match a with
  | 0 => show 0 + 1 * k.val = k.val; omega
  | 1 => show 128 * h.val + 1 * d.val = 128 * h.val + d.val; omega

theorem woOf_apply (h : Fin 8) (d : Fin 128) (n : Fin 1024) : woOf wo h (ix2 d n) = wo (ix2 (col h d) n) := by
  refine (shapeCast_apply _ _ _ (ix2 d n) rfl).trans (congrArg wo (funext fun a => Fin.ext ?_))
  match a with
  | 0 => show 128 * h.val + 1 * d.val = 128 * h.val + d.val; omega
  | 1 => show 0 + 1 * n.val = n.val; omega

/-- The call's result at row `i` and column `n`. -/
theorem attnV_apply (i : Fin 2048) (n : Fin 1024) :
    attnV x wq wo K V (ix2 i n) = ∑ h : Fin 8, ∑ d : Fin 128,
      att (score i.val (fun e => ∑ k : Fin 1024, x (ix2 i k) * wq (ix2 k (col h e))) (fun (j : Fin (wd (blk i))) e => K h (ix2 (key (blk i) j) e)))
        (fun j => V h (ix2 (key (blk i) j) d)) * wo (ix2 (col h d) n) := by
  have hr : attnV x wq wo K V (ix2 i n) = accB x wq wo K V (7 + 1) (blk i) (ix2 ⟨i.val % 512, Nat.mod_lt _ (by decide)⟩ n) := by
    refine congrArg (accB x wq wo K V 8 (blk i)) (funext fun a => ?_)
    match a with
    | 0 => rfl
    | 1 => rfl
  have hi : 512 * (blk i).val + i.val % 512 = i.val := by unfold blk; exact Nat.div_add_mod _ _
  have h8e : ∀ h : Fin 8, h8 h.val = h := fun h => Fin.ext (Nat.mod_eq_of_lt h.isLt)
  rw [hr, accB_apply x wq wo K V _ _ n 7 (by omega), Finset.sum_range]
  refine Finset.sum_congr rfl fun h _ => ?_
  rw [h8e]
  refine (contrib_apply (blk i) _ _ _ _ ⟨i.val % 512, Nat.mod_lt _ (by decide)⟩ n).trans (Finset.sum_congr rfl fun d _ => ?_)
  have hrow : row (blk i) (qOf x wq h) (kcut (blk i) (K h)) ⟨i.val % 512, Nat.mod_lt _ (by decide)⟩
      = score i.val (fun e => ∑ k : Fin 1024, x (ix2 i k) * wq (ix2 k (col h e))) (fun (j : Fin (wd (blk i))) e => K h (ix2 (key (blk i) j) e)) := by
    unfold row
    have hq : (fun d => qOf x wq h (ix2 (⟨512 * (blk i).val + i.val % 512, by rw [hi]; exact i.isLt⟩ : Fin 2048) d)) = fun e => ∑ k : Fin 1024, x (ix2 i k) * wq (ix2 k (col h e)) :=
      funext fun d => by
        rw [show (⟨512 * (blk i).val + i.val % 512, by rw [hi]; exact i.isLt⟩ : Fin 2048) = i from Fin.ext hi]
        exact qOf_apply x wq h i d
    exact congr (congr (congrArg score hi) hq) (funext fun j => funext fun e => kcut_apply (blk i) (K h) j e)
  rw [hrow, woOf_apply]
  exact congrArg (· * wo (ix2 (col h d) n)) (congrArg (att _) (funext fun j => kcut_apply (blk i) (V h) j d))

end Sum

end Cert.KernelIdeal.AT

end
-- ==== Proof.KernelIdeal.Result.lean ====
/- The program's result over the extended reals, from its arguments. -/
module

public import proofs.«01_k».proof.Proof.KernelIdeal.AtSum

@[expose] public section

noncomputable section

namespace Cert.KernelIdeal.All

open Idealize.ShloMosaic Idealize.ShloMosaic.TcCoe Cert.KernelIdeal Cert.KernelIdeal.Gen Cert.Soft Cert.KernelIdeal.AT

variable (m : (ℓ : Loc nD τ sig) → Buf (Elt Ideal) ℓ)

/-- The arguments as device `c` holds them. -/
abbrev argX (c : Dev nD) : S1x2048x1024.Idx → EReal := m ((c.tc : Thread nD τ).loc main_arg0)
abbrev argQ (c : Dev nD) : S1024x1024.Idx → EReal := m ((c.tc : Thread nD τ).loc main_arg1)
abbrev argK (c : Dev nD) : S1x2048x32x128.Idx → EReal := m ((c.tc : Thread nD τ).loc main_arg2)
abbrev argV (c : Dev nD) : S1x2048x32x128.Idx → EReal := m ((c.tc : Thread nD τ).loc main_arg3)
abbrev argO (c : Dev nD) : S1024x1024.Idx → EReal := m ((c.tc : Thread nD τ).loc main_arg4)

theorem opX_eq (c : Dev nD) : opX (at' (Y₁ m)) c = shapeCast S2048x1024 (argX m c) shapeCasts_S1x2048x1024_S2048x1024 := by
  change Y₁ m c (Proc.devRef .tc main_v2) = _
  unfold Y₁
  simp only [StableHlo.after_cons, StableHlo.after_nil]
  rfl
theorem opQ_eq (c : Dev nD) : opQ (at' (Y₁ m)) c = argQ m c := by
  change Y₁ m c (Proc.devRef .tc main_v3) = _
  unfold Y₁
  simp only [StableHlo.after_cons, StableHlo.after_nil]
  rfl
theorem opO_eq (c : Dev nD) : opO (at' (Y₁ m)) c = argO m c := by
  change Y₁ m c (Proc.devRef .tc main_v4) = _
  unfold Y₁
  simp only [StableHlo.after_cons, StableHlo.after_nil]
  rfl
theorem opK_eq (c : Dev nD) : opY (at' (Y₁ m)) c 0 = shapeCast S2048x32x128 (argK m c) shapeCasts_S1x2048x32x128_S2048x32x128 := by
  change Y₁ m c (Proc.devRef .tc main_v5) = _
  unfold Y₁
  simp only [StableHlo.after_cons, StableHlo.after_nil]
  rfl
theorem opV_eq (c : Dev nD) : opY (at' (Y₁ m)) c 1 = shapeCast S2048x32x128 (argV m c) shapeCasts_S1x2048x32x128_S2048x32x128 := by
  change Y₁ m c (Proc.devRef .tc main_v6) = _
  unfold Y₁
  simp only [StableHlo.after_cons, StableHlo.after_nil]
  rfl

theorem opX_apply (c : Dev nD) (i : Fin 2048) (k : Fin 1024) : opX (at' (Y₁ m)) c (ix2 i k) = argX m c (ix3 0 i k) := by
  rw [opX_eq]
  refine shapeCast_apply _ _ _ _ ?_
  rw [Shape.rowMajor_val_two, Shape.rowMajor_val_three]
  show (0 * 2048 + i.val) * 1024 + k.val = i.val * 1024 + k.val
  omega

/-- Head `g` of keys or values held as one array of four axes. -/
theorem raw_apply (A : Fin 2 → FVec Ideal S2048x32x128 .f32) (v : Fin 2) (Y : S1x2048x32x128.Idx → EReal)
    (h : A v = shapeCast S2048x32x128 Y shapeCasts_S1x2048x32x128_S2048x32x128) (c : Dev nD) (g : Fin 8) (j : Fin 2048) (d : Fin 128) :
    kvV A c v g (ix2 j d) = Y (ix4 0 j (hd c g) d) := by
  have h1 : kvV A c v g (ix2 j d) = A v (ix3 j (hd c g) d) := by
    have h0 : kvV A c v g (ix2 j d) = shapeCast S2048x128 (fun x : (srcR (hd c g)).shape.Idx => A v ((srcR (hd c g)).emb x)) (by rfl) (ix2 j d) := rfl
    refine h0.trans ((shapeCast_apply _ _ (ix2 j d) (ix3 j 0 d) ?_).trans (congrArg (A v) (funext fun a => Fin.ext ?_)))
    · rw [Shape.rowMajor_val_two, Shape.rowMajor_val_three]
      show (j.val * 1 + 0) * 128 + d.val = j.val * 128 + d.val
      omega
    · match a with
      | 0 => show 0 + 1 * j.val = j.val; omega
      | 1 => show (hd c g).val + 1 * 0 = (hd c g).val; omega
      | 2 => show 0 + 1 * d.val = d.val; omega
  rw [h1, h]
  refine shapeCast_apply _ _ _ _ ?_
  rw [Shape.rowMajor_val_three, Shape.rowMajor_val_four]
  show ((0 * 2048 + j.val) * 32 + (hd c g).val) * 128 + d.val = (j.val * 32 + (hd c g).val) * 128 + d.val
  omega

/-- Query row `i` of device `c`'s head `h`. -/
def qry (c : Dev nD) (h : Fin 8) (i : Fin 2048) (e : Fin 128) : EReal := ∑ k : Fin 1024, argX m c (ix3 0 i k) * argQ m c (ix2 k (col h e))

theorem part_apply (c : Dev nD) (i : Fin 2048) (n : Fin 1024) :
    part m c (ix2 i n) = ∑ h : Fin 8, ∑ d : Fin 128,
      att (score i.val (qry m c h i) (fun (j : Fin (wd (blk i))) e => argK m 0 (ix4 0 (key (blk i) j) (hd c h) e)))
        (fun j => argV m 0 (ix4 0 (key (blk i) j) (hd c h) d)) * argO m c (ix2 (col h d) n) := by
  refine (attnV_apply _ _ _ _ _ i n).trans (Finset.sum_congr rfl fun h _ => Finset.sum_congr rfl fun d _ => ?_)
  have hq : (fun e => ∑ k : Fin 1024, opX (at' (Y₁ m)) c (ix2 i k) * opQ (at' (Y₁ m)) c (ix2 k (col h e))) = qry m c h i :=
    funext fun e => Finset.sum_congr rfl fun k _ => by rw [opX_apply, opQ_eq]
  rw [hq, opO_eq]
  refine congrArg (· * argO m c (ix2 (col h d) n)) (congr (congrArg att (congrArg (score i.val _) ?_)) ?_)
  · exact funext fun j => funext fun e => raw_apply _ 0 _ (opK_eq m 0) c h _ e
  · exact funext fun j => raw_apply _ 1 _ (opV_eq m 0) c h _ d

theorem result_apply (c : Dev nD) (i : Fin 2048) (n : Fin 1024) : result m c (ix3 0 i n) = ∑ c' : Dev nD, part m c' (ix2 i n) := by
  unfold result
  refine (shapeCast_apply _ _ (ix3 0 i n) (ix2 i n) ?_).trans (congrFun (AR.outV_sum (part m) c) _)
  rw [Shape.rowMajor_val_two, Shape.rowMajor_val_three]
  show i.val * 1024 + n.val = (0 * 2048 + i.val) * 1024 + n.val
  omega

end Cert.KernelIdeal.All

end
-- ==== Proof.Value.Same.lean ====
/- The kernel's result is the reference's, where the inputs, the query weights and the keys are numbers. -/
module

public import proofs.«01_k».proof.Defs
public import proofs.«01_k».proof.Proof.Gen.Pre_finite_KernelIdeal
public import proofs.«01_k».proof.Proof.Common.Num
public import proofs.«01_k».proof.Proof.KernelIdeal.Result
public import proofs.«01_k».proof.Proof.ReferenceIdeal.RefValue

@[expose] public section

noncomputable section

namespace Cert.Same

open Idealize.ShloMosaic Idealize.ShloMosaic.TcCoe Cert.Soft
open Cert.KernelIdeal (nD τ sig)
open Cert.KernelIdeal.AT (blk col key hd wd)
open Cert.KernelIdeal.All (argX argQ argK argV argO qry part)
open Cert.ReferenceIdeal.Ref (column row out)

variable (m : (ℓ : Loc nD τ sig) → Buf (Elt Ideal) ℓ)

/-! ## What the precondition says -/

theorem nums (h : Pre_KernelIdeal_finite_KernelIdeal (hPre_finite_KernelIdeal := Cert.Pre_finite_KernelIdeal.Gen.facts) m) (c : Dev nD) :
    (∀ i, IsNum (argX m c i)) ∧ (∀ i, IsNum (argQ m c i)) ∧ ∀ i, IsNum (argK m c i) := by
  have h0 := congrFun (h c) (fun a => a.elim0)
  have h1 := IntOp.andi_eq_one.mp h0
  have h2 := IntOp.andi_eq_one.mp h1.1
  have : Subsingleton (⟨0, ![]⟩ : Shape).Idx := ⟨fun a b => funext fun x => x.elim0⟩
  exact ⟨fun i => num_of_lt _ (Host.reduce_andi_all _ _ _ _ _ h2.1 i), fun i => num_of_lt _ (Host.reduce_andi_all _ _ _ _ _ h2.2 i),
    fun i => num_of_lt _ (Host.reduce_andi_all _ _ _ _ _ h1.2 i)⟩

/-! ## The reference's arrays, and the devices' blocks of them -/

variable (x : (⟨3, ![1, 2048, 1024]⟩ : Shape).Idx → EReal) (wq : (⟨2, ![1024, 4096]⟩ : Shape).Idx → EReal)
  (k v : (⟨4, ![1, 8192, 32, 128]⟩ : Shape).Idx → EReal) (wo : (⟨2, ![4096, 1024]⟩ : Shape).Idx → EReal)

/-- Every device holds its blocks. -/
structure Holds : Prop where
  x : ∀ c : Dev nD, argX m c = x
  q : ∀ c : Dev nD, argQ m c = Layout.block ⟨2, ![1024, 1024]⟩ ⟨2, ![1024, 4096]⟩ 1 4 c wq
  k : ∀ c : Dev nD, argK m c = Layout.block ⟨4, ![1, 2048, 32, 128]⟩ ⟨4, ![1, 8192, 32, 128]⟩ 1 4 c k
  v : ∀ c : Dev nD, argV m c = Layout.block ⟨4, ![1, 2048, 32, 128]⟩ ⟨4, ![1, 8192, 32, 128]⟩ 1 4 c v
  o : ∀ c : Dev nD, argO m c = Layout.block ⟨2, ![1024, 1024]⟩ ⟨2, ![4096, 1024]⟩ 0 4 c wo

variable {m x wq k v wo} (H : Holds m x wq k v wo)
include H

theorem q_apply (c : Dev nD) (h : Fin 8) (n : Fin 1024) (e : Fin 128) : argQ m c (ix2 n (col h e)) = wq (ix2 n ⟨(hd c h).val * 128 + e.val, by have := (hd c h).isLt; omega⟩) := by
  rw [H.q c]
  refine congrArg wq (funext fun a => Fin.ext ?_)
  match a with
  | 0 => rfl
  | 1 => show c.val * 1024 + (128 * h.val + e.val) = (8 * c.val + h.val) * 128 + e.val; omega
theorem o_apply (c : Dev nD) (h : Fin 8) (d : Fin 128) (n : Fin 1024) : argO m c (ix2 (col h d) n) = wo (ix2 (column (hd c h, d)) n) := by
  rw [H.o c]
  refine congrArg wo (funext fun a => Fin.ext ?_)
  match a with
  | 0 => show c.val * 1024 + (128 * h.val + d.val) = 128 * (8 * c.val + h.val) + d.val; omega
  | 1 => rfl
theorem k_apply (j : Fin 2048) (g : Fin 32) (d : Fin 128) : argK m 0 (ix4 0 j g d) = k (ix4 0 ⟨j.val, by omega⟩ g d) := by
  rw [H.k 0]
  refine congrArg k (funext fun a => Fin.ext ?_)
  match a with
  | 0 => rfl
  | 1 => show 0 * 2048 + j.val = j.val; omega
  | 2 => rfl
  | 3 => rfl
theorem v_apply (j : Fin 2048) (g : Fin 32) (d : Fin 128) : argV m 0 (ix4 0 j g d) = v (ix4 0 ⟨j.val, by omega⟩ g d) := by
  rw [H.v 0]
  refine congrArg v (funext fun a => Fin.ext ?_)
  match a with
  | 0 => rfl
  | 1 => show 0 * 2048 + j.val = j.val; omega
  | 2 => rfl
  | 3 => rfl

theorem qry_eq (c : Dev nD) (h : Fin 8) (i : Fin 2048) :
    qry m c h i = fun e => ∑ n : Fin 1024, x (ix3 0 i n) * wq (ix2 n ⟨(hd c h).val * 128 + e.val, by have := (hd c h).isLt; omega⟩) :=
  funext fun e => Finset.sum_congr rfl fun n _ => by rw [H.x c, q_apply H c h n e]

/-! ## One head -/

variable (hn : ∀ c : Dev nD, (∀ i, IsNum (argX m c i)) ∧ (∀ i, IsNum (argQ m c i)) ∧ ∀ i, IsNum (argK m c i))
include hn

theorem qry_num (c : Dev nD) (h : Fin 8) (i : Fin 2048) (e : Fin 128) : IsNum (qry m c h i e) :=
  IsNum.sum _ _ fun n => ((hn c).1 _).mul ((hn c).2.1 _)

theorem row_num (c : Dev nD) (h : Fin 8) (i : Fin 2048) (j : Fin 8192) (hs : sees i.val j.val) : IsNum (row x wq k (hd c h) i j) := by
  unfold row
  rw [← qry_eq H c h i]
  have hj : j.val < 2048 := by unfold sees at hs; omega
  refine score_num _ _ _ _ (qry_num H hn c h i) (fun d => ?_) hs
  have := (hn 0).2.2 (ix4 0 ⟨j.val, hj⟩ (hd c h) d)
  rw [k_apply H] at this
  exact this

theorem row_unseen (c : Dev nD) (h : Fin 8) (i : Fin 2048) (j : Fin 8192) (hs : ¬ sees i.val j.val) : row x wq k (hd c h) i j = ⊥ := by
  unfold row score
  exact if_neg hs

theorem wd_le (q : Fin 4) : wd q ≤ 8192 := by have := q.isLt; show 512 * (q.val + 1) ≤ 8192; omega

/-- A head's attention over the keys its block of queries reads is its attention over all the keys. -/
theorem att_eq (c : Dev nD) (h : Fin 8) (i : Fin 2048) (d : Fin 128) :
    att (score i.val (qry m c h i) (fun (j : Fin (wd (blk i))) e => argK m 0 (ix4 0 (key (blk i) j) (hd c h) e)))
        (fun j => argV m 0 (ix4 0 (key (blk i) j) (hd c h) d))
      = att (row x wq k (hd c h) i) (fun j => v (ix4 0 j (hd c h) d)) := by
  refine Eq.symm ((att_cut (wd_le H hn (blk i)) _ _ (fun j hj => row_unseen H hn c h i j ?_) 0 (row_num H hn c h i 0 ?_).ne_bot fun j => ?_).trans ?_)
  · unfold sees
    change 512 * (i.val / 512 + 1) ≤ j.val at hj
    omega
  · unfold sees
    exact Nat.zero_le _
  · by_cases hs : sees i.val j.val
    · exact (row_num H hn c h i j hs).ne_top
    · rw [row_unseen H hn c h i j hs]
      exact bot_ne_top
  · refine congr (congrArg att (funext fun j => ?_)) (funext fun j => (v_apply H (key (blk i) j) (hd c h) d).symm)
    unfold row score
    rw [← qry_eq H c h i]
    exact if_congr Iff.rfl (congrArg (· * scale) (Finset.sum_congr rfl fun e _ => congrArg (qry m c h i e * ·) (k_apply H (key (blk i) j) (hd c h) e).symm)) rfl

/-! ## All the heads -/

omit H hn in
theorem sum_heads (f : Fin 32 → EReal) : ∑ g, f g = ∑ c : Dev nD, ∑ h : Fin 8, f (hd c h) := by
  rw [← Fintype.sum_prod_type' fun (c : Dev nD) (h : Fin 8) => f (hd c h)]
  exact (Fintype.sum_equiv (finProdFinEquiv (m := 4) (n := 8)) _ _ fun p => congrArg f (Fin.ext (Nat.add_comm _ _))).symm

theorem result_eq (c : Dev nD) : Cert.KernelIdeal.All.result m c = out x wq k v wo := by
  funext i
  obtain ⟨a, r, n, rfl⟩ : ∃ (a : Fin 1) (r : Fin 2048) (n : Fin 1024), i = ix3 a r n := ⟨i 0, i 1, i 2, funext fun b => by match b with | 0 => rfl | 1 => rfl | 2 => rfl⟩
  obtain rfl := Subsingleton.elim a 0
  refine (Cert.KernelIdeal.All.result_apply m c r n).trans (Eq.symm ((Cert.ReferenceIdeal.Ref.out_apply x wq k v wo r n).trans ?_))
  rw [sum_heads]
  refine Finset.sum_congr rfl fun c' _ => Eq.symm ((Cert.KernelIdeal.All.part_apply m c' r n).trans (Finset.sum_congr rfl fun h _ => Finset.sum_congr rfl fun d _ => ?_))
  rw [att_eq H hn c' h r d, o_apply H c' h d n]

end Cert.Same

end
-- ==== Proof.Value.Words.lean ====
/- The kernel at the machine's words is the ideal program's text read at them, the mask at its own word; so it ends as that text ends at any values. -/
module

public import proofs.«01_k».proof.Defs
public import proofs.«01_k».proof.Proof.Gen.Kernel
public import proofs.«01_k».proof.Proof.KernelIdeal.Launch

@[expose] public section

noncomputable section

namespace Cert.Words

open Idealize.ShloMosaic Idealize.SL.Sem

/-- A named constant at the words: the word that the program carries for it. -/
@[reducible] def atWord : Named Bits := ⟨fun _ _ {φ} b => Scalar.ofBits φ b⟩

attribute [local instance] atWord Cert.Kernel.Gen.facts Cert.KernelIdeal.Gen.facts

/-! The two programs are printed alike but for the mask, so part by part they unfold to the same term. -/

set_option maxRecDepth 100000 in
theorem main_same : @Cert.Kernel.main Bits _ _ = @Cert.KernelIdeal.main Bits _ _ := rfl
set_option maxRecDepth 100000 in
theorem attn_same : @Cert.Kernel.cc0__attn_body Bits _ _ = @Cert.KernelIdeal.cc0__attn_body Bits _ _ _ := rfl
set_option maxRecDepth 100000 in
theorem ar_same : @Cert.Kernel.cc1__ar_body Bits _ _ = @Cert.KernelIdeal.cc1__ar_body Bits _ _ := rfl

set_option maxRecDepth 100000 in
theorem bodies_same : @Cert.Kernel.defs₀ Bits _ _ = @Cert.KernelIdeal.defs₀ Bits _ _ _ := by
  unfold Cert.Kernel.defs₀ Cert.KernelIdeal.defs₀
  rw [attn_same, ar_same]
  refine congrArg Defs.onTc ?_
  funext l a
  match l with
  | 0 => rfl
  | 1 => rfl

set_option maxRecDepth 100000 in
theorem defs_same : @Cert.Kernel.defs Bits _ _ = @Cert.KernelIdeal.defs Bits _ _ _ := congrArg (Pipeline.defs Cert.KernelIdeal.pcfgs) bodies_same

set_option maxRecDepth 100000 in
theorem ends : quiescent_Kernel := fun m g _ => by
  rw [defs_same, main_same]
  exact (θ_run Cert.KernelIdeal.defs _ _).mono (fun _ h => ⟨fun c => (h.1 c).1, h.2⟩) (Cert.KernelIdeal.All.run (F := Bits) m g)

end Cert.Words

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.KernelIdeal.Launch
public import proofs.«01_k».proof.Proof.ReferenceIdeal.RefValue
public import proofs.«01_k».proof.Proof.Value.Same
public import proofs.«01_k».proof.Proof.Value.Words
public import Idealize.ShloMosaic.Adequacy
public import Idealize.ShloMosaic.Init

@[expose] public section

noncomputable section

namespace Cert.Proof

open Idealize.ShloMosaic Idealize.SL.Sem

theorem kernel_ends : quiescent_Kernel := Cert.Words.ends

theorem kernelIdeal_ends : quiescent_KernelIdeal := fun m g _ =>
  (θ_run Cert.KernelIdeal.defs _ _).mono (fun _ h => ⟨fun c => (h.1 c).1, h.2⟩) (Cert.KernelIdeal.All.run (F := Ideal) m g)

/-- The reference has no semaphore. -/
theorem reference_quiet (s : GSem Cert.ReferenceIdeal.nD Cert.ReferenceIdeal.τ Cert.ReferenceIdeal.sig → ℤ) : s = fun _ => 0 :=
  funext fun g => by
    obtain ⟨t, l⟩ := g
    cases l with
    | reg a => exact a.elim0
    | dma a => exact a.elim0

theorem referenceIdeal_ends : quiescent_ReferenceIdeal := fun m g _ =>
  (θ_run Cert.ReferenceIdeal.defs _ _).mono (fun _ h => ⟨fun c => (h c).2, reference_quiet _⟩) (Cert.ReferenceIdeal.Value.run (F := Ideal) m g)

/-- The ideal kernel's mask is the least extended real. -/
theorem mask_named : preserves_Kernel_KernelIdeal :=
  IdealRules.named_const.statement Cert.KernelIdeal.κ "mask" .f32 _ _ rfl

/-- Every device's result is the reference's. -/
theorem same_value : algebraic_KernelIdeal_ReferenceIdeal_pre_finite_KernelIdeal (hPre_finite_KernelIdeal := Cert.Pre_finite_KernelIdeal.Gen.facts) := fun m g m' g' hp hm =>
  ⟨Cert.ReferenceIdeal.Value.res_main_v33 m' 0,
    (θ_run Cert.KernelIdeal.defs _ _).mono (fun _ h c => ⟨(h.1 c).2.trans ((Cert.Same.result_eq
        ⟨fun c => (hm c).1, fun c => (hm c).2.1, fun c => (hm c).2.2.1, fun c => (hm c).2.2.2.1, fun c => (hm c).2.2.2.2⟩ (Cert.Same.nums m hp) c).trans
        (Cert.ReferenceIdeal.Ref.res_eq m' 0).symm), (h.1 c).1⟩) (Cert.KernelIdeal.All.run (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    kernel_ends, kernelIdeal_ends, fun m g _ => kernelIdeal_ends m g trivial, referenceIdeal_ends, fun m g _ => referenceIdeal_ends m g trivial, mask_named, same_value⟩

end Cert.Proof

end
